-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74_5) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v40_0)) (v1 : (c : Dev Cert.Kernel8Ideal.nD) → Buf (Elt Ideal) ((c.tc : Thread Cert.Kernel8Ideal.nD Cert.Kernel8Ideal.τ).loc Cert.Kernel8Ideal.main_v40_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v40_0) = v0 c
          ∧ r.2.mem ((c.tc : Thread Cert.Kernel8Ideal.nD Cert.Kernel8Ideal.τ).loc Cert.Kernel8Ideal.main_v40_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v74_5) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2x8192x14336 : Shape := ⟨3, ![2, 8192, 14336]⟩
abbrev S4x2816 : Shape := ⟨2, ![4, 2816]⟩
abbrev S2816 : Shape := ⟨1, ![2816]⟩
abbrev S16x176x352 : Shape := ⟨3, ![16, 176, 352]⟩
abbrev S16x352 : Shape := ⟨2, ![16, 352]⟩
abbrev S2x2816 : Shape := ⟨2, ![2, 2816]⟩
abbrev S4x8x352 : Shape := ⟨3, ![4, 8, 352]⟩
abbrev S_ : Shape := ⟨0, ![]⟩
abbrev S4x8x384 : Shape := ⟨3, ![4, 8, 384]⟩
abbrev S4x3072 : Shape := ⟨2, ![4, 3072]⟩
abbrev S1x2816 : Shape := ⟨2, ![1, 2816]⟩
abbrev S1x8x352 : Shape := ⟨3, ![1, 8, 352]⟩
abbrev S1x8x384 : Shape := ⟨3, ![1, 8, 384]⟩
abbrev S1x3072 : Shape := ⟨2, ![1, 3072]⟩
abbrev S8x2x176x2x176 : Shape := ⟨5, ![8, 2, 176, 2, 176]⟩
abbrev S8x384x2x384 : Shape := ⟨4, ![8, 384, 2, 384]⟩
abbrev S8x1x176x2x176 : Shape := ⟨5, ![8, 1, 176, 2, 176]⟩
abbrev S8x176x2x176 : Shape := ⟨4, ![8, 176, 2, 176]⟩
abbrev S1 : Shape := ⟨1, ![1]⟩
abbrev S2 : Shape := ⟨1, ![2]⟩
abbrev S8x2x2x176 : Shape := ⟨4, ![8, 2, 2, 176]⟩
abbrev S8x2x352 : Shape := ⟨3, ![8, 2, 352]⟩
abbrev S8x2x384 : Shape := ⟨3, ![8, 2, 384]⟩
abbrev S8x384x768 : Shape := ⟨3, ![8, 384, 768]⟩
abbrev S8x1x768 : Shape := ⟨3, ![8, 1, 768]⟩
abbrev S2x1x2816 : Shape := ⟨3, ![2, 1, 2816]⟩
abbrev S2x1x8x352 : Shape := ⟨4, ![2, 1, 8, 352]⟩
abbrev S2x1x8x384 : Shape := ⟨4, ![2, 1, 8, 384]⟩
abbrev S2x1x3072 : Shape := ⟨3, ![2, 1, 3072]⟩
abbrev S2x8192x3072 : Shape := ⟨3, ![2, 8192, 3072]⟩
abbrev S1x512x384 : Shape := ⟨3, ![1, 512, 384]⟩
abbrev S1x16x384 : Shape := ⟨3, ![1, 16, 384]⟩
abbrev S4x384 : Shape := ⟨2, ![4, 384]⟩
abbrev S1x384 : Shape := ⟨2, ![1, 384]⟩
abbrev S1x384x768 : Shape := ⟨3, ![1, 384, 768]⟩
abbrev S1x1x768 : Shape := ⟨3, ![1, 1, 768]⟩
abbrev S1x1x384 : Shape := ⟨3, ![1, 1, 384]⟩
abbrev S544x384 : Shape := ⟨2, ![544, 384]⟩
abbrev S3x64x8x128 : Shape := ⟨4, ![3, 64, 8, 128]⟩
abbrev S16x384 : Shape := ⟨2, ![16, 384]⟩
abbrev S512x384 : Shape := ⟨2, ![512, 384]⟩
abbrev S64x384 : Shape := ⟨2, ![64, 384]⟩
abbrev S384x768 : Shape := ⟨2, ![384, 768]⟩
abbrev S64x768 : Shape := ⟨2, ![64, 768]⟩
abbrev S1x768 : Shape := ⟨2, ![1, 768]⟩
abbrev S64x128 : Shape := ⟨2, ![64, 128]⟩
abbrev S1x64x1x128 : Shape := ⟨4, ![1, 64, 1, 128]⟩
abbrev S8x128 : Shape := ⟨2, ![8, 128]⟩
abbrev S1x1x8x128 : Shape := ⟨4, ![1, 1, 8, 128]⟩
abbrev S1x128 : Shape := ⟨2, ![1, 128]⟩
abbrev S1x64x128 : Shape := ⟨3, ![1, 64, 128]⟩

abbrev nBuf : Space → Nat
  | .hbm => 78
  | .vmem => 26
  | .smem => 0
  | _ => 0

abbrev bufTy : (tb : Table) → Fin (tcTables nBuf tb) → BufTy
  | .hbm, ⟨0, _⟩ => ⟨S2x8192x14336, .bf16⟩
  | .hbm, ⟨1, _⟩ => ⟨S4x2816, .f32⟩
  | .hbm, ⟨2, _⟩ => ⟨S2816, .f32⟩
  | .hbm, ⟨3, _⟩ => ⟨S16x176x352, .f32⟩
  | .hbm, ⟨4, _⟩ => ⟨S16x352, .f32⟩
  | .hbm, ⟨5, _⟩ => ⟨S2816, .f32⟩
  | .hbm, ⟨6, _⟩ => ⟨S2x2816, .f32⟩
  | .hbm, ⟨7, _⟩ => ⟨S4x8x352, .f32⟩
  | .hbm, ⟨8, _⟩ => ⟨S_, .i32⟩
  | .hbm, ⟨9, _⟩ => ⟨S_, .f32⟩
  | .hbm, ⟨10, _⟩ => ⟨S4x8x384, .f32⟩
  | .hbm, ⟨11, _⟩ => ⟨S4x3072, .f32⟩
  | .hbm, ⟨12, _⟩ => ⟨S1x2816, .f32⟩
  | .hbm, ⟨13, _⟩ => ⟨S1x8x352, .f32⟩
  | .hbm, ⟨14, _⟩ => ⟨S_, .i32⟩
  | .hbm, ⟨15, _⟩ => ⟨S_, .f32⟩
  | .hbm, ⟨16, _⟩ => ⟨S1x8x384, .f32⟩
  | .hbm, ⟨17, _⟩ => ⟨S1x3072, .f32⟩
  | .hbm, ⟨18, _⟩ => ⟨S1x2816, .f32⟩
  | .hbm, ⟨19, _⟩ => ⟨S1x2816, .f32⟩
  | .hbm, ⟨20, _⟩ => ⟨S_, .f32⟩
  | .hbm, ⟨21, _⟩ => ⟨S1x2816, .f32⟩
  | .hbm, ⟨22, _⟩ => ⟨S1x2816, .f32⟩
  | .hbm, ⟨23, _⟩ => ⟨S1x2816, .f32⟩
  | .hbm, ⟨24, _⟩ => ⟨S1x2816, .f32⟩
  | .hbm, ⟨25, _⟩ => ⟨S1x2816, .i1⟩
  | .hbm, ⟨26, _⟩ => ⟨S1x2816, .f32⟩
  | .hbm, ⟨27, _⟩ => ⟨S1x2816, .f32⟩
  | .hbm, ⟨28, _⟩ => ⟨S1x2816, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S1x2816, .f32⟩
  | .hbm, ⟨33, _⟩ => ⟨S1x2816, .f32⟩
  | .hbm, ⟨34, _⟩ => ⟨S_, .f32⟩
  | .hbm, ⟨35, _⟩ => ⟨S1x2816, .f32⟩
  | .hbm, ⟨36, _⟩ => ⟨S1x2816, .f32⟩
  | .hbm, ⟨37, _⟩ => ⟨S1x8x352, .f32⟩
  | .hbm, ⟨38, _⟩ => ⟨S_, .i32⟩
  | .hbm, ⟨39, _⟩ => ⟨S_, .f32⟩
  | .hbm, ⟨40, _⟩ => ⟨S1x8x384, .f32⟩
  | .hbm, ⟨41, _⟩ => ⟨S1x3072, .f32⟩
  | .hbm, ⟨42, _⟩ => ⟨S8x2x176x2x176, .f32⟩
  | .hbm, ⟨43, _⟩ => ⟨S_, .f32⟩
  | .hbm, ⟨44, _⟩ => ⟨S8x384x2x384, .f32⟩
  | .hbm, ⟨45, _⟩ => ⟨S8x1x176x2x176, .f32⟩
  | .hbm, ⟨46, _⟩ => ⟨S8x176x2x176, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S8x384x2x384, .f32⟩
  | .hbm, ⟨53, _⟩ => ⟨S8x1x176x2x176, .f32⟩
  | .hbm, ⟨54, _⟩ => ⟨S8x176x2x176, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S8x384x2x384, .f32⟩
  | .hbm, ⟨61, _⟩ => ⟨S8x2x2x176, .f32⟩
  | .hbm, ⟨62, _⟩ => ⟨S8x2x2x176, .f32⟩
  | .hbm, ⟨63, _⟩ => ⟨S8x2x352, .f32⟩
  | .hbm, ⟨64, _⟩ => ⟨S_, .i32⟩
  | .hbm, ⟨65, _⟩ => ⟨S_, .f32⟩
  | .hbm, ⟨66, _⟩ => ⟨S8x2x384, .f32⟩
  | .hbm, ⟨67, _⟩ => ⟨S8x384x768, .f32⟩
  | .hbm, ⟨68, _⟩ => ⟨S8x384x768, .bf16⟩
  | .hbm, ⟨69, _⟩ => ⟨S8x1x768, .f32⟩
  | .hbm, ⟨70, _⟩ => ⟨S2x1x2816, .f32⟩
  | .hbm, ⟨71, _⟩ => ⟨S2x1x8x352, .f32⟩
  | .hbm, ⟨72, _⟩ => ⟨S_, .i32⟩
  | .hbm, ⟨73, _⟩ => ⟨S_, .f32⟩
  | .hbm, ⟨74, _⟩ => ⟨S2x1x8x384, .f32⟩
  | .hbm, ⟨75, _⟩ => ⟨S2x1x3072, .f32⟩
  | .hbm, ⟨76, _⟩ => ⟨S2x8192x3072, .bf16⟩
  | .hbm, ⟨77, _⟩ => ⟨S2x1x3072, .f32⟩
  | .local _ .vmem, ⟨0, _⟩ => ⟨S1x512x384, .bf16⟩
  | .local _ .vmem, ⟨1, _⟩ => ⟨S1x512x384, .bf16⟩
  | .local _ .vmem, ⟨2, _⟩ => ⟨S1x16x384, .bf16⟩
  | .local _ .vmem, ⟨3, _⟩ => ⟨S1x16x384, .bf16⟩
  | .local _ .vmem, ⟨4, _⟩ => ⟨S1x16x384, .bf16⟩
  | .local _ .vmem, ⟨5, _⟩ => ⟨S1x16x384, .bf16⟩
  | .local _ .vmem, ⟨6, _⟩ => ⟨S4x384, .f32⟩
  | .local _ .vmem, ⟨7, _⟩ => ⟨S4x384, .f32⟩
  | .local _ .vmem, ⟨8, _⟩ => ⟨S1x384, .f32⟩
  | .local _ .vmem, ⟨9, _⟩ => ⟨S1x384, .f32⟩
  | .local _ .vmem, ⟨10, _⟩ => ⟨S1x384x768, .bf16⟩
  | .local _ .vmem, ⟨11, _⟩ => ⟨S1x384x768, .bf16⟩
  | .local _ .vmem, ⟨12, _⟩ => ⟨S1x1x768, .f32⟩
  | .local _ .vmem, ⟨13, _⟩ => ⟨S1x1x768, .f32⟩
  | .local _ .vmem, ⟨14, _⟩ => ⟨S1x384, .f32⟩
  | .local _ .vmem, ⟨15, _⟩ => ⟨S1x384, .f32⟩
  | .local _ .vmem, ⟨16, _⟩ => ⟨S1x1x384, .f32⟩
  | .local _ .vmem, ⟨17, _⟩ => ⟨S1x1x384, .f32⟩
  | .local _ .vmem, ⟨18, _⟩ => ⟨S1x512x384, .bf16⟩
  | .local _ .vmem, ⟨19, _⟩ => ⟨S1x512x384, .bf16⟩
  | .local _ .vmem, ⟨20, _⟩ => ⟨S1x1x384, .f32⟩
  | .local _ .vmem, ⟨21, _⟩ => ⟨S1x1x384, .f32⟩
  | .local _ .vmem, ⟨22, _⟩ => ⟨S544x384, .f32⟩
  | .local _ .vmem, ⟨23, _⟩ => ⟨S3x64x8x128, .f32⟩
  | .local _ .vmem, ⟨24, _⟩ => ⟨S3x64x8x128, .f32⟩
  | .local _ .vmem, ⟨25, _⟩ => ⟨S1x384, .f32⟩
  | _, _ => ⟨S2x8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call2_cst : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_call3_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_5 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_7 : Ref sig .tc := ⟨.hbm, 64, rfl⟩
abbrev main_call4_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_call5_v0 : Ref sig .tc := ⟨.hbm, 73, rfl⟩
abbrev main_v38 : Ref sig .tc := ⟨.hbm, 74, rfl⟩
abbrev main_v39 : Ref sig .tc := ⟨.hbm, 75, rfl⟩
abbrev main_v40_0 : Ref sig .tc := ⟨.hbm, 76, rfl⟩
abbrev main_v40_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_407 : BitVec 32 := 0#32
  let c64_i32 : BitVec 32 := 64#32
  let v657 : BitVec 32 := Scalar.addi c0_i32_407 c64_i32
  let c1_i32 : BitVec 32 := 1#32
  ⟨c0_i32_407, v657, c1_i32⟩
def k0_off1 (k0_t1 : Fin k0_t1_loop.trips) : Fin 4 → Nat :=
  let c0_609 : Index := 0#32
  let c0_i32_407 : BitVec 32 := 0#32
  let c1_i32 : BitVec 32 := 1#32
  let arg18 : BitVec 32 := Scf.iv c0_i32_407 c1_i32 k0_t1
  let v1039 : Index := Scalar.indexCast arg18
  let c0_610 : Index := 0#32
  let c0_611 : Index := 0#32
  ![0, v1039.toNat, 0, 0]
def k0_off2 (k0_t1 : Fin k0_t1_loop.trips) : Fin 4 → Nat :=
  let c1_621 : Index := 1#32
  let c0_i32_407 : BitVec 32 := 0#32
  let c1_i32 : BitVec 32 := 1#32
  let arg18 : BitVec 32 := Scf.iv c0_i32_407 c1_i32 k0_t1
  let v1056 : Index := Scalar.indexCast arg18
  let c0_622 : Index := 0#32
  let c0_623 : Index := 0#32
  ![1, v1056.toNat, 0, 0]
def k0_off3 (k0_t1 : Fin k0_t1_loop.trips) : Fin 4 → Nat :=
  let c2_633 : Index := 2#32
  let c0_i32_407 : BitVec 32 := 0#32
  let c1_i32 : BitVec 32 := 1#32
  let arg18 : BitVec 32 := Scf.iv c0_i32_407 c1_i32 k0_t1
  let v1073 : Index := Scalar.indexCast arg18
  let c0_634 : Index := 0#32
  let c0_635 : Index := 0#32
  ![2, v1073.toNat, 0, 0]
@[reducible] def k0_t2_loop : Scf.Loop 32 :=
  let c0_i32_440 : BitVec 32 := 0#32
  let c64_i32_441 : BitVec 32 := 64#32
  let v891 : BitVec 32 := Scalar.addi c0_i32_440 c64_i32_441
  let c1_i32_442 : BitVec 32 := 1#32
  ⟨c0_i32_440, v891, c1_i32_442⟩
def k0_off4 (k0_t2 : Fin k0_t2_loop.trips) : Fin 4 → Nat :=
  let c0_609 : Index := 0#32
  let c0_i32_440 : BitVec 32 := 0#32
  let c1_i32_442 : BitVec 32 := 1#32
  let arg18 : BitVec 32 := Scf.iv c0_i32_440 c1_i32_442 k0_t2
  let v1039 : Index := Scalar.indexCast arg18
  let c0_610 : Index := 0#32
  let c0_611 : Index := 0#32
  ![0, v1039.toNat, 0, 0]
def k0_off5 (k0_t2 : Fin k0_t2_loop.trips) : Fin 4 → Nat :=
  let c1_618 : Index := 1#32
  let c0_i32_440 : BitVec 32 := 0#32
  let c1_i32_442 : BitVec 32 := 1#32
  let arg18 : BitVec 32 := Scf.iv c0_i32_440 c1_i32_442 k0_t2
  let v1051 : Index := Scalar.indexCast arg18
  let c0_619 : Index := 0#32
  let c0_620 : Index := 0#32
  ![1, v1051.toNat, 0, 0]
def k0_off6 (k0_t2 : Fin k0_t2_loop.trips) : Fin 4 → Nat :=
  let c2_627 : Index := 2#32
  let c0_i32_440 : BitVec 32 := 0#32
  let c1_i32_442 : BitVec 32 := 1#32
  let arg18 : BitVec 32 := Scf.iv c0_i32_440 c1_i32_442 k0_t2
  let v1063 : Index := Scalar.indexCast arg18
  let c0_628 : Index := 0#32
  let c0_629 : Index := 0#32
  ![2, v1063.toNat, 0, 0]
def k0_cond2 (i : grid0.Coords) : BitVec 1 :=
  let arg2 : BitVec 32 := BitVec.ofNat 32 (i 2).val
  let c15_i32_607 : BitVec 32 := 15#32
  let v1036 : BitVec 1 := Scalar.cmpi .eq arg2 c15_i32_607
  let v1037 : BitVec 32 := Scalar.extui v1036
  let c0_i32_608 : BitVec 32 := 0#32
  let v1038 : BitVec 1 := Scalar.cmpi .ne v1037 c0_i32_608
  v1038

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![arg0.toNat, v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x384x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S2x8192x14336 : Shape := ⟨3, ![2, 8192, 14336]⟩
abbrev S4x2816 : Shape := ⟨2, ![4, 2816]⟩
abbrev S2816 : Shape := ⟨1, ![2816]⟩
abbrev S16x176x352 : Shape := ⟨3, ![16, 176, 352]⟩
abbrev S16x352 : Shape := ⟨2, ![16, 352]⟩
abbrev S2x2816 : Shape := ⟨2, ![2, 2816]⟩
abbrev S2x8192x3072 : Shape := ⟨3, ![2, 8192, 3072]⟩
abbrev S2x8192x8x384 : Shape := ⟨4, ![2, 8192, 8, 384]⟩
abbrev S2x8192x8x352 : Shape := ⟨4, ![2, 8192, 8, 352]⟩
abbrev S2x8192x2816 : Shape := ⟨3, ![2, 8192, 2816]⟩
abbrev S_ : Shape := ⟨0, ![]⟩
abbrev S2x8195x2816 : Shape := ⟨3, ![2, 8195, 2816]⟩
abbrev S1x2816 : Shape := ⟨2, ![1, 2816]⟩
abbrev S1x1x2816 : Shape := ⟨3, ![1, 1, 2816]⟩
abbrev S2x8192x16x176 : Shape := ⟨4, ![2, 8192, 16, 176]⟩
abbrev S16x352x2x8192 : Shape := ⟨4, ![16, 352, 2, 8192]⟩
abbrev S2x8192x16x352 : Shape := ⟨4, ![2, 8192, 16, 352]⟩
abbrev S1x1x16x352 : Shape := ⟨4, ![1, 1, 16, 352]⟩
abbrev S2x1x2816 : Shape := ⟨3, ![2, 1, 2816]⟩
abbrev S2x8x352 : Shape := ⟨3, ![2, 8, 352]⟩
abbrev S2x8x384 : Shape := ⟨3, ![2, 8, 384]⟩
abbrev S2x3072 : Shape := ⟨2, ![2, 3072]⟩
abbrev S2x1x3072 : Shape := ⟨3, ![2, 1, 3072]⟩

abbrev nBuf : Space → Nat
  | .hbm => 161
  | .vmem => 0
  | .smem => 0
  | _ => 0

abbrev hbmTy0_0 (i : Nat) : BufTy := match i % 128 with
  | 0 => ⟨S2x8192x14336, .bf16⟩
  | 1 => ⟨S4x2816, .f32⟩
  | 2 => ⟨S2816, .f32⟩
  | 3 => ⟨S16x176x352, .f32⟩
  | 4 => ⟨S16x352, .f32⟩
  | 5 => ⟨S2816, .f32⟩
  | 6 => ⟨S2x2816, .f32⟩
  | 7 => ⟨S2x8192x3072, .bf16⟩
  | 8 => ⟨S2x8192x3072, .f32⟩
  | 9 => ⟨S2x8192x8x384, .f32⟩
  | 10 => ⟨S2x8192x8x352, .f32⟩
  | 11 => ⟨S2x8192x2816, .f32⟩
  | 12 => ⟨S_, .i32⟩
  | 13 => ⟨S_, .f32⟩
  | 14 => ⟨S2x8195x2816, .f32⟩
  | 15 => ⟨S1x2816, .f32⟩
  | 16 => ⟨S2816, .f32⟩
  | 17 => ⟨S2x8192x2816, .f32⟩
  | 18 => ⟨S1x1x2816, .f32⟩
  | 19 => ⟨S2x8192x2816, .f32⟩
  | 20 => ⟨S2x8192x2816, .f32⟩
  | 21 => ⟨S1x2816, .f32⟩
  | 22 => ⟨S2816, .f32⟩
  | 23 => ⟨S2x8192x2816, .f32⟩
  | 24 => ⟨S1x1x2816, .f32⟩
  | 25 => ⟨S2x8192x2816, .f32⟩
  | 26 => ⟨S2x8192x2816, .f32⟩
  | 27 => ⟨S2x8192x2816, .f32⟩
  | 28 => ⟨S1x2816, .f32⟩
  | 29 => ⟨S2816, .f32⟩
  | 30 => ⟨S2x8192x2816, .f32⟩
  | 31 => ⟨S1x1x2816, .f32⟩
  | 32 => ⟨S2x8192x2816, .f32⟩
  | 33 => ⟨S2x8192x2816, .f32⟩
  | 34 => ⟨S2x8192x2816, .f32⟩
  | 35 => ⟨S1x2816, .f32⟩
  | 36 => ⟨S2816, .f32⟩
  | 37 => ⟨S2x8192x2816, .f32⟩
  | 38 => ⟨S1x1x2816, .f32⟩
  | 39 => ⟨S2x8192x2816, .f32⟩
  | 40 => ⟨S2x8192x2816, .f32⟩
  | 41 => ⟨S2x8192x2816, .f32⟩
  | 42 => ⟨S1x1x2816, .f32⟩
  | 43 => ⟨S2x8192x2816, .f32⟩
  | 44 => ⟨S2x8192x2816, .f32⟩
  | 45 => ⟨S2x8192x16x176, .f32⟩
  | 46 => ⟨S16x352x2x8192, .f32⟩
  | 47 => ⟨S2x8192x16x352, .f32⟩
  | 48 => ⟨S1x1x16x352, .f32⟩
  | 49 => ⟨S2x8192x16x352, .f32⟩
  | 50 => ⟨S2x8192x16x352, .f32⟩
  | 51 => ⟨S2x8192x16x176, .f32⟩
  | 52 => ⟨S2x8192x16x176, .f32⟩
  | 53 => ⟨S2x8192x16x176, .f32⟩
  | 54 => ⟨S_, .f32⟩
  | 55 => ⟨S2x8192x16x176, .f32⟩
  | 56 => ⟨S2x8192x16x176, .f32⟩
  | 57 => ⟨S_, .f32⟩
  | 58 => ⟨S2x8192x16x176, .f32⟩
  | 59 => ⟨S2x8192x16x176, .f32⟩
  | 60 => ⟨S2x8192x2816, .f32⟩
  | 61 => ⟨S2x8192x16x176, .f32⟩
  | 62 => ⟨S2x8192x16x176, .f32⟩
  | 63 => ⟨S2x8192x16x176, .f32⟩
  | 64 => ⟨S_, .f32⟩
  | 65 => ⟨S2x8192x16x176, .f32⟩
  | 66 => ⟨S2x8192x16x176, .f32⟩
  | 67 => ⟨S_, .f32⟩
  | 68 => ⟨S2x8192x16x176, .f32⟩
  | 69 => ⟨S2x8192x16x176, .f32⟩
  | 70 => ⟨S2x8192x2816, .f32⟩
  | 71 => ⟨S_, .f32⟩
  | 72 => ⟨S2x8192x2816, .f32⟩
  | 73 => ⟨S2x8192x2816, .f32⟩
  | 74 => ⟨S2816, .f32⟩
  | 75 => ⟨S_, .f32⟩
  | 76 => ⟨S2816, .f32⟩
  | 77 => ⟨S2816, .f32⟩
  | 78 => ⟨S2816, .f32⟩
  | 79 => ⟨S2816, .f32⟩
  | 80 => ⟨S2816, .i1⟩
  | 81 => ⟨S2816, .f32⟩
  | 82 => ⟨S2816, .f32⟩
  | 83 => ⟨S2816, .f32⟩
  | 84 => ⟨S2816, .f32⟩
  | 85 => ⟨S2816, .f32⟩
  | 86 => ⟨S2816, .f32⟩
  | 87 => ⟨S2816, .f32⟩
  | 88 => ⟨S2816, .f32⟩
  | 89 => ⟨S1x1x2816, .f32⟩
  | 90 => ⟨S2x8192x2816, .f32⟩
  | 91 => ⟨S2x8192x2816, .f32⟩
  | 92 => ⟨S2x8192x2816, .f32⟩
  | 93 => ⟨S_, .f32⟩
  | 94 => ⟨S2x8192x2816, .f32⟩
  | 95 => ⟨S2x8192x2816, .f32⟩
  | 96 => ⟨S2x8192x2816, .f32⟩
  | 97 => ⟨S2x8192x2816, .f32⟩
  | 98 => ⟨S2x8192x2816, .f32⟩
  | 99 => ⟨S2x8192x2816, .f32⟩
  | 100 => ⟨S2x8192x2816, .f32⟩
  | 101 => ⟨S_, .bf16⟩
  | 102 => ⟨S2x8192x3072, .bf16⟩
  | 103 => ⟨S_, .i32⟩
  | 104 => ⟨S_, .i32⟩
  | 105 => ⟨S2x8192x2816, .f32⟩
  | 106 => ⟨S2x8192x2816, .f32⟩
  | 107 => ⟨S_, .i32⟩
  | 108 => ⟨S_, .i32⟩
  | 109 => ⟨S2x2816, .f32⟩
  | 110 => ⟨S2x8192x3072, .bf16⟩
  | 111 => ⟨S_, .i32⟩
  | 112 => ⟨S_, .i1⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S2x1x2816, .f32⟩
  | 124 => ⟨S2x2816, .f32⟩
  | 125 => ⟨S2x2816, .f32⟩
  | 126 => ⟨S_, .i32⟩
  | 127 => ⟨S_, .i1⟩
  | _ => ⟨S2x8192x14336, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S2x1x2816, .f32⟩
  | 7 => ⟨S2x2816, .f32⟩
  | 8 => ⟨S2x2816, .f32⟩
  | 9 => ⟨S2x8x352, .f32⟩
  | 10 => ⟨S_, .i32⟩
  | 11 => ⟨S_, .f32⟩
  | 12 => ⟨S2x8x384, .f32⟩
  | 13 => ⟨S2x3072, .f32⟩
  | 14 => ⟨S2x3072, .bf16⟩
  | 15 => ⟨S2x1x3072, .bf16⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S2x8192x3072, .bf16⟩
  | 25 => ⟨S_, .i32⟩
  | 26 => ⟨S_, .i32⟩
  | 27 => ⟨S2x8x352, .f32⟩
  | 28 => ⟨S_, .i32⟩
  | 29 => ⟨S_, .f32⟩
  | 30 => ⟨S2x8x384, .f32⟩
  | 31 => ⟨S2x3072, .f32⟩
  | 32 => ⟨S2x1x3072, .f32⟩
  | _ => ⟨S2x8192x14336, .bf16⟩

abbrev hbmTy (i : Nat) : BufTy := match i / 128 with
  | 0 => hbmTy0_0 i
  | 1 => hbmTy0_1 i
  | _ => ⟨S2x8192x14336, .bf16⟩

abbrev bufTy : (tb : Table) → Fin (tcTables nBuf tb) → BufTy
  | .hbm, ⟨i, _⟩ => hbmTy i
  | _, _ => ⟨S2x8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst : Ref sig .tc := ⟨.hbm, 54, rfl⟩
abbrev main_v45 : Ref sig .tc := ⟨.hbm, 55, rfl⟩
abbrev main_v46 : Ref sig .tc := ⟨.hbm, 56, rfl⟩
abbrev main_cst_0 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_5 : Ref sig .tc := ⟨.hbm, 101, rfl⟩
abbrev main_v73 : Ref sig .tc := ⟨.hbm, 102, rfl⟩
abbrev main_c_6 : Ref sig .tc := ⟨.hbm, 103, rfl⟩
abbrev main_c_7 : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_v74_3 : Ref sig .tc := ⟨.hbm, 108, rfl⟩
abbrev main_v74_4 : Ref sig .tc := ⟨.hbm, 109, rfl⟩
abbrev main_v74_5 : Ref sig .tc := ⟨.hbm, 110, rfl⟩
abbrev main_while0c_c_14 : Ref sig .tc := ⟨.hbm, 111, rfl⟩
abbrev main_while0c_v79 : Ref sig .tc := ⟨.hbm, 112, rfl⟩
abbrev main_while0b_c_14 : Ref sig .tc := ⟨.hbm, 113, rfl⟩
abbrev main_while0b_v79 : Ref sig .tc := ⟨.hbm, 114, rfl⟩
abbrev main_while0b_call2_c : Ref sig .tc := ⟨.hbm, 115, rfl⟩
abbrev main_while0b_call2_v0 : Ref sig .tc := ⟨.hbm, 116, rfl⟩
abbrev main_while0b_call2_v1 : Ref sig .tc := ⟨.hbm, 117, rfl⟩
abbrev main_while0b_call2_c_0 : Ref sig .tc := ⟨.hbm, 118, rfl⟩
abbrev main_while0b_call2_v2 : Ref sig .tc := ⟨.hbm, 119, rfl⟩
abbrev main_while0b_call2_v3 : Ref sig .tc := ⟨.hbm, 120, rfl⟩
abbrev main_while0b_call2_c_1 : Ref sig .tc := ⟨.hbm, 121, rfl⟩
abbrev main_while0b_call2_c_2 : Ref sig .tc := ⟨.hbm, 122, rfl⟩
abbrev main_while0b_call2_v4 : Ref sig .tc := ⟨.hbm, 123, rfl⟩
abbrev main_while0b_v80 : Ref sig .tc := ⟨.hbm, 124, rfl⟩
abbrev main_while0b_v81 : Ref sig .tc := ⟨.hbm, 125, rfl⟩
abbrev main_while0b_call3_c : Ref sig .tc := ⟨.hbm, 126, rfl⟩
abbrev main_while0b_call3_v0 : Ref sig .tc := ⟨.hbm, 127, rfl⟩
abbrev main_while0b_call3_v1 : Ref sig .tc := ⟨.hbm, 128, rfl⟩
abbrev main_while0b_call3_c_0 : Ref sig .tc := ⟨.hbm, 129, rfl⟩
abbrev main_while0b_call3_v2 : Ref sig .tc := ⟨.hbm, 130, rfl⟩
abbrev main_while0b_call3_v3 : Ref sig .tc := ⟨.hbm, 131, rfl⟩
abbrev main_while0b_call3_c_1 : Ref sig .tc := ⟨.hbm, 132, rfl⟩
abbrev main_while0b_call3_c_2 : Ref sig .tc := ⟨.hbm, 133, rfl⟩
abbrev main_while0b_call3_v4 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_c_15 : Ref sig .tc := ⟨.hbm, 138, rfl⟩
abbrev main_while0b_call4_v0 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_call5_v0 : Ref sig .tc := ⟨.hbm, 143, rfl⟩
abbrev main_while0b_call5_c : Ref sig .tc := ⟨.hbm, 144, rfl⟩
abbrev main_while0b_call5_v1 : Ref sig .tc := ⟨.hbm, 145, rfl⟩
abbrev main_while0b_call5_v2 : Ref sig .tc := ⟨.hbm, 146, rfl⟩
abbrev main_while0b_call5_c_0 : Ref sig .tc := ⟨.hbm, 147, rfl⟩
abbrev main_while0b_call5_v3 : Ref sig .tc := ⟨.hbm, 148, rfl⟩
abbrev main_while0b_call5_v4 : Ref sig .tc := ⟨.hbm, 149, rfl⟩
abbrev main_while0b_call5_c_1 : Ref sig .tc := ⟨.hbm, 150, rfl⟩
abbrev main_while0b_call5_c_2 : Ref sig .tc := ⟨.hbm, 151, rfl⟩
abbrev main_while0b_v88 : Ref sig .tc := ⟨.hbm, 152, rfl⟩
abbrev main_while0b_c_16 : Ref sig .tc := ⟨.hbm, 153, rfl⟩
abbrev main_while0b_v89 : Ref sig .tc := ⟨.hbm, 154, rfl⟩
abbrev main_v75 : Ref sig .tc := ⟨.hbm, 155, rfl⟩
abbrev main_c_8 : Ref sig .tc := ⟨.hbm, 156, rfl⟩
abbrev main_call6_v0 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x2048 : Shape := ⟨3, ![2, 8192, 2048]⟩
abbrev S2048 : Shape := ⟨1, ![2048]⟩
abbrev S2x1x2048 : Shape := ⟨3, ![2, 1, 2048]⟩
abbrev S2048x11264 : Shape := ⟨2, ![2048, 11264]⟩
abbrev S5632x2048 : Shape := ⟨2, ![5632, 2048]⟩
abbrev S1x2048 : Shape := ⟨2, ![1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S2048x11264, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x8192x2048 : Shape := ⟨3, ![2, 8192, 2048]⟩
abbrev S2048 : Shape := ⟨1, ![2048]⟩
abbrev S2x1x2048 : Shape := ⟨3, ![2, 1, 2048]⟩
abbrev S2048x11264 : Shape := ⟨2, ![2048, 11264]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8192x5632 : Shape := ⟨3, ![2, 8192, 5632]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x11264, .f32⟩
  | .hbm, ⟨32, _⟩ => ⟨S2x8192x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S_, .f32⟩
  | .hbm, ⟨37, _⟩ => ⟨S2x8192x5632, .f32⟩
  | .hbm, ⟨38, _⟩ => ⟨S2x8192x5632, .f32⟩
  | .hbm, ⟨39, _⟩ => ⟨S_, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x2048, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x2048, .f32⟩
  | .hbm, ⟨60, _⟩ => ⟨S2x8192x2048, .f32⟩
  | .hbm, ⟨61, _⟩ => ⟨S1x1x2048, .f32⟩
  | .hbm, ⟨62, _⟩ => ⟨S2x8192x2048, .f32⟩
  | .hbm, ⟨63, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S2x8192x2048 : Shape := ⟨3, ![2, 8192, 2048]⟩
abbrev S2048 : Shape := ⟨1, ![2048]⟩
abbrev S2x1x2048 : Shape := ⟨3, ![2, 1, 2048]⟩
abbrev S2048x22144 : Shape := ⟨2, ![2048, 22144]⟩
abbrev S2048x2816 : Shape := ⟨2, ![2048, 2816]⟩
abbrev S2048x8192 : Shape := ⟨2, ![2048, 8192]⟩
abbrev S2048x4096 : Shape := ⟨2, ![2048, 4096]⟩
abbrev S2048x64 : Shape := ⟨2, ![2048, 64]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S2048x14336 : Shape := ⟨2, ![2048, 14336]⟩
abbrev S1x2048 : Shape := ⟨2, ![1, 2048]⟩
abbrev S2x8192x14336 : Shape := ⟨3, ![2, 8192, 14336]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩

abbrev nBuf : Space → Nat
  | .hbm => 26
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x22144, .f32⟩
  | .hbm, ⟨5, _⟩ => ⟨S2048x2816, .f32⟩
  | .hbm, ⟨6, _⟩ => ⟨S2048x2816, .f32⟩
  | .hbm, ⟨7, _⟩ => ⟨S2048x8192, .f32⟩
  | .hbm, ⟨8, _⟩ => ⟨S2048x4096, .f32⟩
  | .hbm, ⟨9, _⟩ => ⟨S2048x64, .f32⟩
  | .hbm, ⟨10, _⟩ => ⟨S2048x64, .f32⟩
  | .hbm, ⟨11, _⟩ => ⟨S2048x4096, .f32⟩
  | .hbm, ⟨12, _⟩ => ⟨S2048x8x352, .f32⟩
  | .hbm, ⟨13, _⟩ => ⟨S_, .i32⟩
  | .hbm, ⟨14, _⟩ => ⟨S_, .f32⟩
  | .hbm, ⟨15, _⟩ => ⟨S2048x8x384, .f32⟩
  | .hbm, ⟨16, _⟩ => ⟨S2048x3072, .f32⟩
  | .hbm, ⟨17, _⟩ => ⟨S2048x8x352, .f32⟩
  | .hbm, ⟨18, _⟩ => ⟨S_, .i32⟩
  | .hbm, ⟨19, _⟩ => ⟨S_, .f32⟩
  | .hbm, ⟨20, _⟩ => ⟨S2048x8x384, .f32⟩
  | .hbm, ⟨21, _⟩ => ⟨S2048x3072, .f32⟩
  | .hbm, ⟨22, _⟩ => ⟨S2048x14336, .f32⟩
  | .hbm, ⟨23, _⟩ => ⟨S2048x14336, .bf16⟩
  | .hbm, ⟨24, _⟩ => ⟨S1x2048, .f32⟩
  | .hbm, ⟨25, _⟩ => ⟨S2x8192x14336, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 28], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S2x8192x2048 : Shape := ⟨3, ![2, 8192, 2048]⟩
abbrev S2048 : Shape := ⟨1, ![2048]⟩
abbrev S2x1x2048 : Shape := ⟨3, ![2, 1, 2048]⟩
abbrev S2048x22144 : Shape := ⟨2, ![2048, 22144]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x22144 : Shape := ⟨3, ![2, 8192, 22144]⟩
abbrev S2x8192x2816 : Shape := ⟨3, ![2, 8192, 2816]⟩
abbrev S2x8192x8192 : Shape := ⟨3, ![2, 8192, 8192]⟩
abbrev S2x8192x4096 : Shape := ⟨3, ![2, 8192, 4096]⟩
abbrev S2x8192x64 : Shape := ⟨3, ![2, 8192, 64]⟩
abbrev S2x8192x8x352 : Shape := ⟨4, ![2, 8192, 8, 352]⟩
abbrev S2x8192x8x384 : Shape := ⟨4, ![2, 8192, 8, 384]⟩
abbrev S2x8192x3072 : Shape := ⟨3, ![2, 8192, 3072]⟩
abbrev S2x8192x14336 : Shape := ⟨3, ![2, 8192, 14336]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x22144, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x22144, .f32⟩
  | .hbm, ⟨29, _⟩ => ⟨S2x8192x2816, .f32⟩
  | .hbm, ⟨30, _⟩ => ⟨S2x8192x2816, .f32⟩
  | .hbm, ⟨31, _⟩ => ⟨S2x8192x8192, .f32⟩
  | .hbm, ⟨32, _⟩ => ⟨S2x8192x4096, .f32⟩
  | .hbm, ⟨33, _⟩ => ⟨S2x8192x64, .f32⟩
  | .hbm, ⟨34, _⟩ => ⟨S2x8192x64, .f32⟩
  | .hbm, ⟨35, _⟩ => ⟨S2x8192x4096, .f32⟩
  | .hbm, ⟨36, _⟩ => ⟨S2x8192x8x352, .f32⟩
  | .hbm, ⟨37, _⟩ => ⟨S_, .i32⟩
  | .hbm, ⟨38, _⟩ => ⟨S_, .f32⟩
  | .hbm, ⟨39, _⟩ => ⟨S2x8192x8x384, .f32⟩
  | .hbm, ⟨40, _⟩ => ⟨S2x8192x3072, .f32⟩
  | .hbm, ⟨41, _⟩ => ⟨S2x8192x8x352, .f32⟩
  | .hbm, ⟨42, _⟩ => ⟨S_, .i32⟩
  | .hbm, ⟨43, _⟩ => ⟨S_, .f32⟩
  | .hbm, ⟨44, _⟩ => ⟨S2x8192x8x384, .f32⟩
  | .hbm, ⟨45, _⟩ => ⟨S2x8192x3072, .f32⟩
  | .hbm, ⟨46, _⟩ => ⟨S2x8192x14336, .f32⟩
  | .hbm, ⟨47, _⟩ => ⟨S2x8192x14336, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel4.lean ====
abbrev S2x8192x2048 : Shape := ⟨3, ![2, 8192, 2048]⟩
abbrev S2048 : Shape := ⟨1, ![2048]⟩
abbrev S2x1x2048 : Shape := ⟨3, ![2, 1, 2048]⟩
abbrev S2048x22144 : Shape := ⟨2, ![2048, 22144]⟩
abbrev S2048x2816 : Shape := ⟨2, ![2048, 2816]⟩
abbrev S2048x8192 : Shape := ⟨2, ![2048, 8192]⟩
abbrev S2048x4096 : Shape := ⟨2, ![2048, 4096]⟩
abbrev S2048x64 : Shape := ⟨2, ![2048, 64]⟩
abbrev S_ : Shape := ⟨0, ![]⟩
abbrev S2048x384 : Shape := ⟨2, ![2048, 384]⟩
abbrev S2048x8704 : Shape := ⟨2, ![2048, 8704]⟩
abbrev S1x2048 : Shape := ⟨2, ![1, 2048]⟩
abbrev S2x128x64x2048 : Shape := ⟨4, ![2, 128, 64, 2048]⟩
abbrev S2x8192x8704 : Shape := ⟨3, ![2, 8192, 8704]⟩
abbrev S1x128x8x2048 : Shape := ⟨4, ![1, 128, 8, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1x128x1x2048 : Shape := ⟨4, ![1, 128, 1, 2048]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x22144, .f32⟩
  | .hbm, ⟨5, _⟩ => ⟨S2048x2816, .f32⟩
  | .hbm, ⟨6, _⟩ => ⟨S2048x2816, .f32⟩
  | .hbm, ⟨7, _⟩ => ⟨S2048x8192, .f32⟩
  | .hbm, ⟨8, _⟩ => ⟨S2048x4096, .f32⟩
  | .hbm, ⟨9, _⟩ => ⟨S2048x64, .f32⟩
  | .hbm, ⟨10, _⟩ => ⟨S2048x64, .f32⟩
  | .hbm, ⟨11, _⟩ => ⟨S2048x4096, .f32⟩
  | .hbm, ⟨12, _⟩ => ⟨S_, .f32⟩
  | .hbm, ⟨13, _⟩ => ⟨S2048x384, .f32⟩
  | .hbm, ⟨14, _⟩ => ⟨S2048x8704, .f32⟩
  | .hbm, ⟨15, _⟩ => ⟨S2048x8704, .bf16⟩
  | .hbm, ⟨16, _⟩ => ⟨S1x2048, .f32⟩
  | .hbm, ⟨17, _⟩ => ⟨S2x128x64x2048, .f32⟩
  | .hbm, ⟨18, _⟩ => ⟨S2x8192x8704, .f32⟩
  | .local _ .vmem, ⟨0, _⟩ => ⟨S1x128x8x2048, .f32⟩
  | .local _ .vmem, ⟨1, _⟩ => ⟨S1x128x8x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 17], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S2x8192x2048 : Shape := ⟨3, ![2, 8192, 2048]⟩
abbrev S2048 : Shape := ⟨1, ![2048]⟩
abbrev S2x1x2048 : Shape := ⟨3, ![2, 1, 2048]⟩
abbrev S2048x22144 : Shape := ⟨2, ![2048, 22144]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x22144 : Shape := ⟨3, ![2, 8192, 22144]⟩
abbrev S2x8192x2816 : Shape := ⟨3, ![2, 8192, 2816]⟩
abbrev S2x8192x8192 : Shape := ⟨3, ![2, 8192, 8192]⟩
abbrev S2x8192x4096 : Shape := ⟨3, ![2, 8192, 4096]⟩
abbrev S2x8192x64 : Shape := ⟨3, ![2, 8192, 64]⟩
abbrev S2x128x64x8192 : Shape := ⟨4, ![2, 128, 64, 8192]⟩
abbrev S2x64x128x8192 : Shape := ⟨4, ![2, 64, 128, 8192]⟩
abbrev S2x128x64x64 : Shape := ⟨4, ![2, 128, 64, 64]⟩
abbrev S2x64x128x64 : Shape := ⟨4, ![2, 64, 128, 64]⟩
abbrev S2x8192x8320 : Shape := ⟨3, ![2, 8192, 8320]⟩
abbrev S2x8192x8704 : Shape := ⟨3, ![2, 8192, 8704]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x22144, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x22144, .f32⟩
  | .hbm, ⟨29, _⟩ => ⟨S2x8192x2816, .f32⟩
  | .hbm, ⟨30, _⟩ => ⟨S2x8192x2816, .f32⟩
  | .hbm, ⟨31, _⟩ => ⟨S2x8192x8192, .f32⟩
  | .hbm, ⟨32, _⟩ => ⟨S2x8192x4096, .f32⟩
  | .hbm, ⟨33, _⟩ => ⟨S2x8192x64, .f32⟩
  | .hbm, ⟨34, _⟩ => ⟨S2x8192x64, .f32⟩
  | .hbm, ⟨35, _⟩ => ⟨S2x8192x4096, .f32⟩
  | .hbm, ⟨36, _⟩ => ⟨S2x128x64x8192, .f32⟩
  | .hbm, ⟨37, _⟩ => ⟨S2x64x128x8192, .f32⟩
  | .hbm, ⟨38, _⟩ => ⟨S2x8192x8192, .f32⟩
  | .hbm, ⟨39, _⟩ => ⟨S2x128x64x64, .f32⟩
  | .hbm, ⟨40, _⟩ => ⟨S2x64x128x64, .f32⟩
  | .hbm, ⟨41, _⟩ => ⟨S2x8192x64, .f32⟩
  | .hbm, ⟨42, _⟩ => ⟨S2x128x64x64, .f32⟩
  | .hbm, ⟨43, _⟩ => ⟨S2x64x128x64, .f32⟩
  | .hbm, ⟨44, _⟩ => ⟨S2x8192x64, .f32⟩
  | .hbm, ⟨45, _⟩ => ⟨S2x8192x8320, .f32⟩
  | .hbm, ⟨46, _⟩ => ⟨S_, .i32⟩
  | .hbm, ⟨47, _⟩ => ⟨S_, .f32⟩
  | .hbm, ⟨48, _⟩ => ⟨S2x8192x8704, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c : Ref sig .tc := ⟨.hbm, 46, rfl⟩
abbrev main_call0_v0 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel5.lean ====
abbrev S2x8192x3072 : Shape := ⟨3, ![2, 8192, 3072]⟩
abbrev S2x8192x14336 : Shape := ⟨3, ![2, 8192, 14336]⟩
abbrev S2816x2048 : Shape := ⟨2, ![2816, 2048]⟩
abbrev S8x352x2048 : Shape := ⟨3, ![8, 352, 2048]⟩
abbrev S_ : Shape := ⟨0, ![]⟩
abbrev S8x384x2048 : Shape := ⟨3, ![8, 384, 2048]⟩
abbrev S3072x2048 : Shape := ⟨2, ![3072, 2048]⟩
abbrev S2x8192x2048 : Shape := ⟨3, ![2, 8192, 2048]⟩
abbrev S1x512x3072 : Shape := ⟨3, ![1, 512, 3072]⟩
abbrev S3072x512 : Shape := ⟨2, ![3072, 512]⟩
abbrev S1x512x512 : Shape := ⟨3, ![1, 512, 512]⟩
abbrev S512x3072 : Shape := ⟨2, ![512, 3072]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x3072, .bf16⟩
  | .hbm, ⟨2, _⟩ => ⟨S2x8192x14336, .bf16⟩
  | .hbm, ⟨3, _⟩ => ⟨S2816x2048, .f32⟩
  | .hbm, ⟨4, _⟩ => ⟨S8x352x2048, .f32⟩
  | .hbm, ⟨5, _⟩ => ⟨S_, .i32⟩
  | .hbm, ⟨6, _⟩ => ⟨S_, .f32⟩
  | .hbm, ⟨7, _⟩ => ⟨S8x384x2048, .f32⟩
  | .hbm, ⟨8, _⟩ => ⟨S3072x2048, .f32⟩
  | .hbm, ⟨9, _⟩ => ⟨S3072x2048, .bf16⟩
  | .hbm, ⟨10, _⟩ => ⟨S2x8192x2048, .f32⟩
  | .local _ .vmem, ⟨0, _⟩ => ⟨S1x512x3072, .bf16⟩
  | .local _ .vmem, ⟨1, _⟩ => ⟨S1x512x3072, .bf16⟩
  | .local _ .vmem, ⟨2, _⟩ => ⟨S1x512x3072, .bf16⟩
  | .local _ .vmem, ⟨3, _⟩ => ⟨S1x512x3072, .bf16⟩
  | .local _ .vmem, ⟨4, _⟩ => ⟨S1x512x3072, .bf16⟩
  | .local _ .vmem, ⟨5, _⟩ => ⟨S1x512x3072, .bf16⟩
  | .local _ .vmem, ⟨6, _⟩ => ⟨S3072x512, .bf16⟩
  | .local _ .vmem, ⟨7, _⟩ => ⟨S3072x512, .bf16⟩
  | .local _ .vmem, ⟨8, _⟩ => ⟨S1x512x512, .f32⟩
  | .local _ .vmem, ⟨9, _⟩ => ⟨S1x512x512, .f32⟩
  | .local _ .vmem, ⟨10, _⟩ => ⟨S512x3072, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S2x8192x3072 : Shape := ⟨3, ![2, 8192, 3072]⟩
abbrev S2x8192x14336 : Shape := ⟨3, ![2, 8192, 14336]⟩
abbrev S2816x2048 : Shape := ⟨2, ![2816, 2048]⟩
abbrev S2x8192x8x384 : Shape := ⟨4, ![2, 8192, 8, 384]⟩
abbrev S2x8192x8x352 : Shape := ⟨4, ![2, 8192, 8, 352]⟩
abbrev S2x8192x2816 : Shape := ⟨3, ![2, 8192, 2816]⟩
abbrev S_ : Shape := ⟨0, ![]⟩
abbrev S2x8192x2048 : Shape := ⟨3, ![2, 8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x3072, .bf16⟩
  | .hbm, ⟨2, _⟩ => ⟨S2x8192x14336, .bf16⟩
  | .hbm, ⟨3, _⟩ => ⟨S2816x2048, .f32⟩
  | .hbm, ⟨4, _⟩ => ⟨S2x8192x3072, .f32⟩
  | .hbm, ⟨5, _⟩ => ⟨S2x8192x8x384, .f32⟩
  | .hbm, ⟨6, _⟩ => ⟨S2x8192x8x352, .f32⟩
  | .hbm, ⟨7, _⟩ => ⟨S2x8192x2816, .f32⟩
  | .hbm, ⟨8, _⟩ => ⟨S2x8192x3072, .f32⟩
  | .hbm, ⟨9, _⟩ => ⟨S2x8192x8x384, .f32⟩
  | .hbm, ⟨10, _⟩ => ⟨S2x8192x8x352, .f32⟩
  | .hbm, ⟨11, _⟩ => ⟨S2x8192x2816, .f32⟩
  | .hbm, ⟨12, _⟩ => ⟨S2x8192x2816, .f32⟩
  | .hbm, ⟨13, _⟩ => ⟨S2x8192x3072, .bf16⟩
  | .hbm, ⟨14, _⟩ => ⟨S2x8192x3072, .f32⟩
  | .hbm, ⟨15, _⟩ => ⟨S2x8192x8x384, .f32⟩
  | .hbm, ⟨16, _⟩ => ⟨S2x8192x8x352, .f32⟩
  | .hbm, ⟨17, _⟩ => ⟨S2x8192x2816, .f32⟩
  | .hbm, ⟨18, _⟩ => ⟨S2x8192x2816, .f32⟩
  | .hbm, ⟨19, _⟩ => ⟨S2x8192x2816, .f32⟩
  | .hbm, ⟨20, _⟩ => ⟨S_, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2048, .f32⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel6.lean ====
abbrev S2x32x8192x128 : Shape := ⟨4, ![2, 32, 8192, 128]⟩
abbrev S2x8192x14336 : Shape := ⟨3, ![2, 8192, 14336]⟩
abbrev S128 : Shape := ⟨1, ![128]⟩
abbrev S2x8192x2048 : Shape := ⟨3, ![2, 8192, 2048]⟩
abbrev S4096x2048 : Shape := ⟨2, ![4096, 2048]⟩
abbrev S1x128 : Shape := ⟨2, ![1, 128]⟩
abbrev S1x32x256x128 : Shape := ⟨4, ![1, 32, 256, 128]⟩
abbrev S1x256x2048 : Shape := ⟨3, ![1, 256, 2048]⟩
abbrev S1x256x512 : Shape := ⟨3, ![1, 256, 512]⟩
abbrev S4096x512 : Shape := ⟨2, ![4096, 512]⟩
abbrev S256x4096 : Shape := ⟨2, ![256, 4096]⟩
abbrev S1x1x256x128 : Shape := ⟨4, ![1, 1, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 20
  | .smem => 0
  | _ => 0

abbrev bufTy : (tb : Table) → Fin (tcTables nBuf tb) → BufTy
  | .hbm, ⟨0, _⟩ => ⟨S2x32x8192x128, .f32⟩
  | .hbm, ⟨1, _⟩ => ⟨S2x32x8192x128, .f32⟩
  | .hbm, ⟨2, _⟩ => ⟨S2x8192x14336, .bf16⟩
  | .hbm, ⟨3, _⟩ => ⟨S128, .f32⟩
  | .hbm, ⟨4, _⟩ => ⟨S2x8192x2048, .f32⟩
  | .hbm, ⟨5, _⟩ => ⟨S4096x2048, .f32⟩
  | .hbm, ⟨6, _⟩ => ⟨S4096x2048, .bf16⟩
  | .hbm, ⟨7, _⟩ => ⟨S1x128, .f32⟩
  | .hbm, ⟨8, _⟩ => ⟨S2x8192x2048, .bf16⟩
  | .local _ .vmem, ⟨0, _⟩ => ⟨S1x32x256x128, .f32⟩
  | .local _ .vmem, ⟨1, _⟩ => ⟨S1x32x256x128, .f32⟩
  | .local _ .vmem, ⟨2, _⟩ => ⟨S1x32x256x128, .f32⟩
  | .local _ .vmem, ⟨3, _⟩ => ⟨S1x32x256x128, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x128, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S4096x512, .bf16⟩
  | .local _ .vmem, ⟨16, _⟩ => ⟨S4096x512, .bf16⟩
  | .local _ .vmem, ⟨17, _⟩ => ⟨S1x256x512, .bf16⟩
  | .local _ .vmem, ⟨18, _⟩ => ⟨S1x256x512, .bf16⟩
  | .local _ .vmem, ⟨19, _⟩ => ⟨S256x4096, .bf16⟩
  | _, _ => ⟨S2x32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 32, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference6Ideal.lean ====
abbrev S2x32x8192x128 : Shape := ⟨4, ![2, 32, 8192, 128]⟩
abbrev S2x8192x14336 : Shape := ⟨3, ![2, 8192, 14336]⟩
abbrev S128 : Shape := ⟨1, ![128]⟩
abbrev S2x8192x2048 : Shape := ⟨3, ![2, 8192, 2048]⟩
abbrev S4096x2048 : Shape := ⟨2, ![4096, 2048]⟩
abbrev S2x8192x32x128 : Shape := ⟨4, ![2, 8192, 32, 128]⟩
abbrev S2x8192x4096 : Shape := ⟨3, ![2, 8192, 4096]⟩
abbrev S_ : Shape := ⟨0, ![]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S2x32x8192x128, .f32⟩
  | .hbm, ⟨1, _⟩ => ⟨S2x32x8192x128, .f32⟩
  | .hbm, ⟨2, _⟩ => ⟨S2x8192x14336, .bf16⟩
  | .hbm, ⟨3, _⟩ => ⟨S128, .f32⟩
  | .hbm, ⟨4, _⟩ => ⟨S2x8192x2048, .f32⟩
  | .hbm, ⟨5, _⟩ => ⟨S4096x2048, .f32⟩
  | .hbm, ⟨6, _⟩ => ⟨S2x32x8192x128, .f32⟩
  | .hbm, ⟨7, _⟩ => ⟨S2x8192x32x128, .f32⟩
  | .hbm, ⟨8, _⟩ => ⟨S2x8192x4096, .bf16⟩
  | .hbm, ⟨9, _⟩ => ⟨S2x8192x4096, .f32⟩
  | .hbm, ⟨10, _⟩ => ⟨S2x8192x4096, .bf16⟩
  | .hbm, ⟨11, _⟩ => ⟨S2x8192x4096, .f32⟩
  | .hbm, ⟨12, _⟩ => ⟨S2x8192x32x128, .f32⟩
  | .hbm, ⟨13, _⟩ => ⟨S2x8192x32x128, .f32⟩
  | .hbm, ⟨14, _⟩ => ⟨S_, .f32⟩
  | .hbm, ⟨15, _⟩ => ⟨S2x8192x32, .f32⟩
  | .hbm, ⟨16, _⟩ => ⟨S2x8192x32x1, .f32⟩
  | .hbm, ⟨17, _⟩ => ⟨S_, .f32⟩
  | .hbm, ⟨18, _⟩ => ⟨S2x8192x32x1, .f32⟩
  | .hbm, ⟨19, _⟩ => ⟨S2x8192x32x1, .f32⟩
  | .hbm, ⟨20, _⟩ => ⟨S_, .f32⟩
  | .hbm, ⟨21, _⟩ => ⟨S2x8192x32x1, .f32⟩
  | .hbm, ⟨22, _⟩ => ⟨S2x8192x32x1, .f32⟩
  | .hbm, ⟨23, _⟩ => ⟨S2x8192x32x1, .f32⟩
  | .hbm, ⟨24, _⟩ => ⟨S2x8192x32x128, .f32⟩
  | .hbm, ⟨25, _⟩ => ⟨S2x8192x32x128, .f32⟩
  | .hbm, ⟨26, _⟩ => ⟨S1x1x1x128, .f32⟩
  | .hbm, ⟨27, _⟩ => ⟨S2x8192x32x128, .f32⟩
  | .hbm, ⟨28, _⟩ => ⟨S2x8192x32x128, .f32⟩
  | .hbm, ⟨29, _⟩ => ⟨S2x8192x32x128, .f32⟩
  | .hbm, ⟨30, _⟩ => ⟨S2x8192x32x128, .f32⟩
  | .hbm, ⟨31, _⟩ => ⟨S_, .f32⟩
  | .hbm, ⟨32, _⟩ => ⟨S2x8192x32x128, .f32⟩
  | .hbm, ⟨33, _⟩ => ⟨S2x8192x32x128, .f32⟩
  | .hbm, ⟨34, _⟩ => ⟨S_, .f32⟩
  | .hbm, ⟨35, _⟩ => ⟨S2x8192x32x128, .f32⟩
  | .hbm, ⟨36, _⟩ => ⟨S2x8192x32x128, .f32⟩
  | .hbm, ⟨37, _⟩ => ⟨S2x8192x32x128, .f32⟩
  | .hbm, ⟨38, _⟩ => ⟨S2x8192x32x128, .f32⟩
  | .hbm, ⟨39, _⟩ => ⟨S2x8192x4096, .f32⟩
  | .hbm, ⟨40, _⟩ => ⟨S2x8192x2048, .f32⟩
  | .hbm, ⟨41, _⟩ => ⟨S2x8192x4096, .f32⟩
  | .hbm, ⟨42, _⟩ => ⟨S2x8192x4096, .f32⟩
  | .hbm, ⟨43, _⟩ => ⟨S_, .f32⟩
  | .hbm, ⟨44, _⟩ => ⟨S2x8192x4096, .f32⟩
  | .hbm, ⟨45, _⟩ => ⟨S2x8192x4096, .f32⟩
  | .hbm, ⟨46, _⟩ => ⟨S_, .f32⟩
  | .hbm, ⟨47, _⟩ => ⟨S2x8192x4096, .f32⟩
  | .hbm, ⟨48, _⟩ => ⟨S2x8192x4096, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .bf16⟩
  | _, _ => ⟨S2x32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel7.lean ====
abbrev S2x8192x2048 : Shape := ⟨3, ![2, 8192, 2048]⟩
abbrev S2x1x2048 : Shape := ⟨3, ![2, 1, 2048]⟩
abbrev S2048x2048 : Shape := ⟨2, ![2048, 2048]⟩
abbrev S1x1024x2048 : Shape := ⟨3, ![1, 1024, 2048]⟩
abbrev S1x1024x512 : Shape := ⟨3, ![1, 1024, 512]⟩
abbrev S1x1x512 : Shape := ⟨3, ![1, 1, 512]⟩
abbrev S2048x512 : Shape := ⟨2, ![2048, 512]⟩
abbrev S1024x512 : Shape := ⟨2, ![1024, 512]⟩
abbrev S1x512 : Shape := ⟨2, ![1, 512]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .f32⟩
  | .hbm, ⟨2, _⟩ => ⟨S2x1x2048, .f32⟩
  | .hbm, ⟨3, _⟩ => ⟨S2048x2048, .f32⟩
  | .hbm, ⟨4, _⟩ => ⟨S2048x2048, .bf16⟩
  | .hbm, ⟨5, _⟩ => ⟨S2x8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S2x8192x2048 : Shape := ⟨3, ![2, 8192, 2048]⟩
abbrev S2x1x2048 : Shape := ⟨3, ![2, 1, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .f32⟩
  | .hbm, ⟨2, _⟩ => ⟨S2x1x2048, .f32⟩
  | .hbm, ⟨3, _⟩ => ⟨S2048x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S2x8192x14336 : Shape := ⟨3, ![2, 8192, 14336]⟩
abbrev S4x2816 : Shape := ⟨2, ![4, 2816]⟩
abbrev S2816 : Shape := ⟨1, ![2816]⟩
abbrev S16x176x352 : Shape := ⟨3, ![16, 176, 352]⟩
abbrev S16x352 : Shape := ⟨2, ![16, 352]⟩
abbrev S2x2816 : Shape := ⟨2, ![2, 2816]⟩
abbrev S4x8x352 : Shape := ⟨3, ![4, 8, 352]⟩
abbrev S_ : Shape := ⟨0, ![]⟩
abbrev S4x8x384 : Shape := ⟨3, ![4, 8, 384]⟩
abbrev S4x3072 : Shape := ⟨2, ![4, 3072]⟩
abbrev S1x2816 : Shape := ⟨2, ![1, 2816]⟩
abbrev S1x8x352 : Shape := ⟨3, ![1, 8, 352]⟩
abbrev S1x8x384 : Shape := ⟨3, ![1, 8, 384]⟩
abbrev S1x3072 : Shape := ⟨2, ![1, 3072]⟩
abbrev S8x2x176x2x176 : Shape := ⟨5, ![8, 2, 176, 2, 176]⟩
abbrev S8x384x2x384 : Shape := ⟨4, ![8, 384, 2, 384]⟩
abbrev S8x1x176x2x176 : Shape := ⟨5, ![8, 1, 176, 2, 176]⟩
abbrev S8x176x2x176 : Shape := ⟨4, ![8, 176, 2, 176]⟩
abbrev S1 : Shape := ⟨1, ![1]⟩
abbrev S2 : Shape := ⟨1, ![2]⟩
abbrev S8x2x2x176 : Shape := ⟨4, ![8, 2, 2, 176]⟩
abbrev S8x2x352 : Shape := ⟨3, ![8, 2, 352]⟩
abbrev S8x2x384 : Shape := ⟨3, ![8, 2, 384]⟩
abbrev S8x384x768 : Shape := ⟨3, ![8, 384, 768]⟩
abbrev S8x1x768 : Shape := ⟨3, ![8, 1, 768]⟩
abbrev S2x1x2816 : Shape := ⟨3, ![2, 1, 2816]⟩
abbrev S2x1x8x352 : Shape := ⟨4, ![2, 1, 8, 352]⟩
abbrev S2x1x8x384 : Shape := ⟨4, ![2, 1, 8, 384]⟩
abbrev S2x1x3072 : Shape := ⟨3, ![2, 1, 3072]⟩
abbrev S2x8192x3072 : Shape := ⟨3, ![2, 8192, 3072]⟩
abbrev S1x512x384 : Shape := ⟨3, ![1, 512, 384]⟩
abbrev S1x16x384 : Shape := ⟨3, ![1, 16, 384]⟩
abbrev S4x384 : Shape := ⟨2, ![4, 384]⟩
abbrev S1x384 : Shape := ⟨2, ![1, 384]⟩
abbrev S1x384x768 : Shape := ⟨3, ![1, 384, 768]⟩
abbrev S1x1x768 : Shape := ⟨3, ![1, 1, 768]⟩
abbrev S1x1x384 : Shape := ⟨3, ![1, 1, 384]⟩
abbrev S544x384 : Shape := ⟨2, ![544, 384]⟩
abbrev S3x64x8x128 : Shape := ⟨4, ![3, 64, 8, 128]⟩
abbrev S16x384 : Shape := ⟨2, ![16, 384]⟩
abbrev S512x384 : Shape := ⟨2, ![512, 384]⟩
abbrev S64x384 : Shape := ⟨2, ![64, 384]⟩
abbrev S384x768 : Shape := ⟨2, ![384, 768]⟩
abbrev S64x768 : Shape := ⟨2, ![64, 768]⟩
abbrev S1x768 : Shape := ⟨2, ![1, 768]⟩
abbrev S64x128 : Shape := ⟨2, ![64, 128]⟩
abbrev S1x64x1x128 : Shape := ⟨4, ![1, 64, 1, 128]⟩
abbrev S8x128 : Shape := ⟨2, ![8, 128]⟩
abbrev S1x1x8x128 : Shape := ⟨4, ![1, 1, 8, 128]⟩
abbrev S1x128 : Shape := ⟨2, ![1, 128]⟩
abbrev S1x64x128 : Shape := ⟨3, ![1, 64, 128]⟩

abbrev nBuf : Space → Nat
  | .hbm => 78
  | .vmem => 26
  | .smem => 0
  | _ => 0

abbrev bufTy : (tb : Table) → Fin (tcTables nBuf tb) → BufTy
  | .hbm, ⟨0, _⟩ => ⟨S2x8192x14336, .bf16⟩
  | .hbm, ⟨1, _⟩ => ⟨S4x2816, .f32⟩
  | .hbm, ⟨2, _⟩ => ⟨S2816, .f32⟩
  | .hbm, ⟨3, _⟩ => ⟨S16x176x352, .f32⟩
  | .hbm, ⟨4, _⟩ => ⟨S16x352, .f32⟩
  | .hbm, ⟨5, _⟩ => ⟨S2816, .f32⟩
  | .hbm, ⟨6, _⟩ => ⟨S2x2816, .f32⟩
  | .hbm, ⟨7, _⟩ => ⟨S4x8x352, .f32⟩
  | .hbm, ⟨8, _⟩ => ⟨S_, .i32⟩
  | .hbm, ⟨9, _⟩ => ⟨S_, .f32⟩
  | .hbm, ⟨10, _⟩ => ⟨S4x8x384, .f32⟩
  | .hbm, ⟨11, _⟩ => ⟨S4x3072, .f32⟩
  | .hbm, ⟨12, _⟩ => ⟨S1x2816, .f32⟩
  | .hbm, ⟨13, _⟩ => ⟨S1x8x352, .f32⟩
  | .hbm, ⟨14, _⟩ => ⟨S_, .i32⟩
  | .hbm, ⟨15, _⟩ => ⟨S_, .f32⟩
  | .hbm, ⟨16, _⟩ => ⟨S1x8x384, .f32⟩
  | .hbm, ⟨17, _⟩ => ⟨S1x3072, .f32⟩
  | .hbm, ⟨18, _⟩ => ⟨S1x2816, .f32⟩
  | .hbm, ⟨19, _⟩ => ⟨S1x2816, .f32⟩
  | .hbm, ⟨20, _⟩ => ⟨S_, .f32⟩
  | .hbm, ⟨21, _⟩ => ⟨S1x2816, .f32⟩
  | .hbm, ⟨22, _⟩ => ⟨S1x2816, .f32⟩
  | .hbm, ⟨23, _⟩ => ⟨S1x2816, .f32⟩
  | .hbm, ⟨24, _⟩ => ⟨S1x2816, .f32⟩
  | .hbm, ⟨25, _⟩ => ⟨S1x2816, .i1⟩
  | .hbm, ⟨26, _⟩ => ⟨S1x2816, .f32⟩
  | .hbm, ⟨27, _⟩ => ⟨S1x2816, .f32⟩
  | .hbm, ⟨28, _⟩ => ⟨S1x2816, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S1x2816, .f32⟩
  | .hbm, ⟨33, _⟩ => ⟨S1x2816, .f32⟩
  | .hbm, ⟨34, _⟩ => ⟨S_, .f32⟩
  | .hbm, ⟨35, _⟩ => ⟨S1x2816, .f32⟩
  | .hbm, ⟨36, _⟩ => ⟨S1x2816, .f32⟩
  | .hbm, ⟨37, _⟩ => ⟨S1x8x352, .f32⟩
  | .hbm, ⟨38, _⟩ => ⟨S_, .i32⟩
  | .hbm, ⟨39, _⟩ => ⟨S_, .f32⟩
  | .hbm, ⟨40, _⟩ => ⟨S1x8x384, .f32⟩
  | .hbm, ⟨41, _⟩ => ⟨S1x3072, .f32⟩
  | .hbm, ⟨42, _⟩ => ⟨S8x2x176x2x176, .f32⟩
  | .hbm, ⟨43, _⟩ => ⟨S_, .f32⟩
  | .hbm, ⟨44, _⟩ => ⟨S8x384x2x384, .f32⟩
  | .hbm, ⟨45, _⟩ => ⟨S8x1x176x2x176, .f32⟩
  | .hbm, ⟨46, _⟩ => ⟨S8x176x2x176, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S8x384x2x384, .f32⟩
  | .hbm, ⟨53, _⟩ => ⟨S8x1x176x2x176, .f32⟩
  | .hbm, ⟨54, _⟩ => ⟨S8x176x2x176, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S8x384x2x384, .f32⟩
  | .hbm, ⟨61, _⟩ => ⟨S8x2x2x176, .f32⟩
  | .hbm, ⟨62, _⟩ => ⟨S8x2x2x176, .f32⟩
  | .hbm, ⟨63, _⟩ => ⟨S8x2x352, .f32⟩
  | .hbm, ⟨64, _⟩ => ⟨S_, .i32⟩
  | .hbm, ⟨65, _⟩ => ⟨S_, .f32⟩
  | .hbm, ⟨66, _⟩ => ⟨S8x2x384, .f32⟩
  | .hbm, ⟨67, _⟩ => ⟨S8x384x768, .f32⟩
  | .hbm, ⟨68, _⟩ => ⟨S8x384x768, .bf16⟩
  | .hbm, ⟨69, _⟩ => ⟨S8x1x768, .f32⟩
  | .hbm, ⟨70, _⟩ => ⟨S2x1x2816, .f32⟩
  | .hbm, ⟨71, _⟩ => ⟨S2x1x8x352, .f32⟩
  | .hbm, ⟨72, _⟩ => ⟨S_, .i32⟩
  | .hbm, ⟨73, _⟩ => ⟨S_, .f32⟩
  | .hbm, ⟨74, _⟩ => ⟨S2x1x8x384, .f32⟩
  | .hbm, ⟨75, _⟩ => ⟨S2x1x3072, .f32⟩
  | .hbm, ⟨76, _⟩ => ⟨S2x8192x3072, .bf16⟩
  | .hbm, ⟨77, _⟩ => ⟨S2x1x3072, .f32⟩
  | .local _ .vmem, ⟨0, _⟩ => ⟨S1x512x384, .bf16⟩
  | .local _ .vmem, ⟨1, _⟩ => ⟨S1x512x384, .bf16⟩
  | .local _ .vmem, ⟨2, _⟩ => ⟨S1x16x384, .bf16⟩
  | .local _ .vmem, ⟨3, _⟩ => ⟨S1x16x384, .bf16⟩
  | .local _ .vmem, ⟨4, _⟩ => ⟨S1x16x384, .bf16⟩
  | .local _ .vmem, ⟨5, _⟩ => ⟨S1x16x384, .bf16⟩
  | .local _ .vmem, ⟨6, _⟩ => ⟨S4x384, .f32⟩
  | .local _ .vmem, ⟨7, _⟩ => ⟨S4x384, .f32⟩
  | .local _ .vmem, ⟨8, _⟩ => ⟨S1x384, .f32⟩
  | .local _ .vmem, ⟨9, _⟩ => ⟨S1x384, .f32⟩
  | .local _ .vmem, ⟨10, _⟩ => ⟨S1x384x768, .bf16⟩
  | .local _ .vmem, ⟨11, _⟩ => ⟨S1x384x768, .bf16⟩
  | .local _ .vmem, ⟨12, _⟩ => ⟨S1x1x768, .f32⟩
  | .local _ .vmem, ⟨13, _⟩ => ⟨S1x1x768, .f32⟩
  | .local _ .vmem, ⟨14, _⟩ => ⟨S1x384, .f32⟩
  | .local _ .vmem, ⟨15, _⟩ => ⟨S1x384, .f32⟩
  | .local _ .vmem, ⟨16, _⟩ => ⟨S1x1x384, .f32⟩
  | .local _ .vmem, ⟨17, _⟩ => ⟨S1x1x384, .f32⟩
  | .local _ .vmem, ⟨18, _⟩ => ⟨S1x512x384, .bf16⟩
  | .local _ .vmem, ⟨19, _⟩ => ⟨S1x512x384, .bf16⟩
  | .local _ .vmem, ⟨20, _⟩ => ⟨S1x1x384, .f32⟩
  | .local _ .vmem, ⟨21, _⟩ => ⟨S1x1x384, .f32⟩
  | .local _ .vmem, ⟨22, _⟩ => ⟨S544x384, .f32⟩
  | .local _ .vmem, ⟨23, _⟩ => ⟨S3x64x8x128, .f32⟩
  | .local _ .vmem, ⟨24, _⟩ => ⟨S3x64x8x128, .f32⟩
  | .local _ .vmem, ⟨25, _⟩ => ⟨S1x384, .f32⟩
  | _, _ => ⟨S2x8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call2_cst : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_call3_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_5 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_7 : Ref sig .tc := ⟨.hbm, 64, rfl⟩
abbrev main_call4_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_call5_v0 : Ref sig .tc := ⟨.hbm, 73, rfl⟩
abbrev main_v38 : Ref sig .tc := ⟨.hbm, 74, rfl⟩
abbrev main_v39 : Ref sig .tc := ⟨.hbm, 75, rfl⟩
abbrev main_v40_0 : Ref sig .tc := ⟨.hbm, 76, rfl⟩
abbrev main_v40_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_408 : BitVec 32 := 0#32
  let c64_i32 : BitVec 32 := 64#32
  let v658 : BitVec 32 := Scalar.addi c0_i32_408 c64_i32
  let c1_i32 : BitVec 32 := 1#32
  ⟨c0_i32_408, v658, c1_i32⟩
def k0_off1 (k0_t1 : Fin k0_t1_loop.trips) : Fin 4 → Nat :=
  let c0_610 : Index := 0#32
  let c63_i32 : BitVec 32 := 63#32
  let c0_i32_408 : BitVec 32 := 0#32
  let c1_i32 : BitVec 32 := 1#32
  let arg18 : BitVec 32 := Scf.iv c0_i32_408 c1_i32 k0_t1
  let v1040 : BitVec 32 := Scalar.subi c63_i32 arg18
  let v1041 : Index := Scalar.indexCast v1040
  let c0_611 : Index := 0#32
  let c0_612 : Index := 0#32
  ![0, v1041.toNat, 0, 0]
def k0_off2 (k0_t1 : Fin k0_t1_loop.trips) : Fin 4 → Nat :=
  let c1_622 : Index := 1#32
  let c63_i32 : BitVec 32 := 63#32
  let c0_i32_408 : BitVec 32 := 0#32
  let c1_i32 : BitVec 32 := 1#32
  let arg18 : BitVec 32 := Scf.iv c0_i32_408 c1_i32 k0_t1
  let v1040 : BitVec 32 := Scalar.subi c63_i32 arg18
  let v1058 : Index := Scalar.indexCast v1040
  let c0_623 : Index := 0#32
  let c0_624 : Index := 0#32
  ![1, v1058.toNat, 0, 0]
def k0_off3 (k0_t1 : Fin k0_t1_loop.trips) : Fin 4 → Nat :=
  let c2_634 : Index := 2#32
  let c63_i32 : BitVec 32 := 63#32
  let c0_i32_408 : BitVec 32 := 0#32
  let c1_i32 : BitVec 32 := 1#32
  let arg18 : BitVec 32 := Scf.iv c0_i32_408 c1_i32 k0_t1
  let v1040 : BitVec 32 := Scalar.subi c63_i32 arg18
  let v1075 : Index := Scalar.indexCast v1040
  let c0_635 : Index := 0#32
  let c0_636 : Index := 0#32
  ![2, v1075.toNat, 0, 0]
@[reducible] def k0_t2_loop : Scf.Loop 32 :=
  let c0_i32_441 : BitVec 32 := 0#32
  let c64_i32_442 : BitVec 32 := 64#32
  let v892 : BitVec 32 := Scalar.addi c0_i32_441 c64_i32_442
  let c1_i32_443 : BitVec 32 := 1#32
  ⟨c0_i32_441, v892, c1_i32_443⟩
def k0_off4 (k0_t2 : Fin k0_t2_loop.trips) : Fin 4 → Nat :=
  let c0_610 : Index := 0#32
  let c0_i32_441 : BitVec 32 := 0#32
  let c1_i32_443 : BitVec 32 := 1#32
  let arg18 : BitVec 32 := Scf.iv c0_i32_441 c1_i32_443 k0_t2
  let v1040 : Index := Scalar.indexCast arg18
  let c0_611 : Index := 0#32
  let c0_612 : Index := 0#32
  ![0, v1040.toNat, 0, 0]
def k0_off5 (k0_t2 : Fin k0_t2_loop.trips) : Fin 4 → Nat :=
  let c1_619 : Index := 1#32
  let c0_i32_441 : BitVec 32 := 0#32
  let c1_i32_443 : BitVec 32 := 1#32
  let arg18 : BitVec 32 := Scf.iv c0_i32_441 c1_i32_443 k0_t2
  let v1052 : Index := Scalar.indexCast arg18
  let c0_620 : Index := 0#32
  let c0_621 : Index := 0#32
  ![1, v1052.toNat, 0, 0]
def k0_off6 (k0_t2 : Fin k0_t2_loop.trips) : Fin 4 → Nat :=
  let c2_628 : Index := 2#32
  let c0_i32_441 : BitVec 32 := 0#32
  let c1_i32_443 : BitVec 32 := 1#32
  let arg18 : BitVec 32 := Scf.iv c0_i32_441 c1_i32_443 k0_t2
  let v1064 : Index := Scalar.indexCast arg18
  let c0_629 : Index := 0#32
  let c0_630 : Index := 0#32
  ![2, v1064.toNat, 0, 0]
def k0_cond2 (i : grid0.Coords) : BitVec 1 :=
  let arg2 : BitVec 32 := BitVec.ofNat 32 (i 2).val
  let c15_i32_608 : BitVec 32 := 15#32
  let v1037 : BitVec 1 := Scalar.cmpi .eq arg2 c15_i32_608
  let v1038 : BitVec 32 := Scalar.extui v1037
  let c0_i32_609 : BitVec 32 := 0#32
  let v1039 : BitVec 1 := Scalar.cmpi .ne v1038 c0_i32_609
  v1039

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![arg0.toNat, v3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  ![arg0.toNat, v3.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x384x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference8Ideal.lean ====
abbrev S2x8192x14336 : Shape := ⟨3, ![2, 8192, 14336]⟩
abbrev S4x2816 : Shape := ⟨2, ![4, 2816]⟩
abbrev S2816 : Shape := ⟨1, ![2816]⟩
abbrev S16x176x352 : Shape := ⟨3, ![16, 176, 352]⟩
abbrev S16x352 : Shape := ⟨2, ![16, 352]⟩
abbrev S2x2816 : Shape := ⟨2, ![2, 2816]⟩
abbrev S2x8192x3072 : Shape := ⟨3, ![2, 8192, 3072]⟩
abbrev S2x8192x8x384 : Shape := ⟨4, ![2, 8192, 8, 384]⟩
abbrev S2x8192x8x352 : Shape := ⟨4, ![2, 8192, 8, 352]⟩
abbrev S2x8192x2816 : Shape := ⟨3, ![2, 8192, 2816]⟩
abbrev S_ : Shape := ⟨0, ![]⟩
abbrev S2x8195x2816 : Shape := ⟨3, ![2, 8195, 2816]⟩
abbrev S1x2816 : Shape := ⟨2, ![1, 2816]⟩
abbrev S1x1x2816 : Shape := ⟨3, ![1, 1, 2816]⟩
abbrev S2x8192x16x176 : Shape := ⟨4, ![2, 8192, 16, 176]⟩
abbrev S16x352x2x8192 : Shape := ⟨4, ![16, 352, 2, 8192]⟩
abbrev S2x8192x16x352 : Shape := ⟨4, ![2, 8192, 16, 352]⟩
abbrev S1x1x16x352 : Shape := ⟨4, ![1, 1, 16, 352]⟩
abbrev S2x1x2816 : Shape := ⟨3, ![2, 1, 2816]⟩
abbrev S2x8x352 : Shape := ⟨3, ![2, 8, 352]⟩
abbrev S2x8x384 : Shape := ⟨3, ![2, 8, 384]⟩
abbrev S2x3072 : Shape := ⟨2, ![2, 3072]⟩
abbrev S2x1x3072 : Shape := ⟨3, ![2, 1, 3072]⟩

abbrev nBuf : Space → Nat
  | .hbm => 163
  | .vmem => 0
  | .smem => 0
  | _ => 0

abbrev hbmTy0_0 (i : Nat) : BufTy := match i % 128 with
  | 0 => ⟨S2x8192x14336, .bf16⟩
  | 1 => ⟨S4x2816, .f32⟩
  | 2 => ⟨S2816, .f32⟩
  | 3 => ⟨S16x176x352, .f32⟩
  | 4 => ⟨S16x352, .f32⟩
  | 5 => ⟨S2816, .f32⟩
  | 6 => ⟨S2x2816, .f32⟩
  | 7 => ⟨S2x8192x3072, .bf16⟩
  | 8 => ⟨S2x8192x3072, .f32⟩
  | 9 => ⟨S2x8192x8x384, .f32⟩
  | 10 => ⟨S2x8192x8x352, .f32⟩
  | 11 => ⟨S2x8192x2816, .f32⟩
  | 12 => ⟨S_, .i32⟩
  | 13 => ⟨S_, .f32⟩
  | 14 => ⟨S2x8195x2816, .f32⟩
  | 15 => ⟨S1x2816, .f32⟩
  | 16 => ⟨S2816, .f32⟩
  | 17 => ⟨S2x8192x2816, .f32⟩
  | 18 => ⟨S1x1x2816, .f32⟩
  | 19 => ⟨S2x8192x2816, .f32⟩
  | 20 => ⟨S2x8192x2816, .f32⟩
  | 21 => ⟨S1x2816, .f32⟩
  | 22 => ⟨S2816, .f32⟩
  | 23 => ⟨S2x8192x2816, .f32⟩
  | 24 => ⟨S1x1x2816, .f32⟩
  | 25 => ⟨S2x8192x2816, .f32⟩
  | 26 => ⟨S2x8192x2816, .f32⟩
  | 27 => ⟨S2x8192x2816, .f32⟩
  | 28 => ⟨S1x2816, .f32⟩
  | 29 => ⟨S2816, .f32⟩
  | 30 => ⟨S2x8192x2816, .f32⟩
  | 31 => ⟨S1x1x2816, .f32⟩
  | 32 => ⟨S2x8192x2816, .f32⟩
  | 33 => ⟨S2x8192x2816, .f32⟩
  | 34 => ⟨S2x8192x2816, .f32⟩
  | 35 => ⟨S1x2816, .f32⟩
  | 36 => ⟨S2816, .f32⟩
  | 37 => ⟨S2x8192x2816, .f32⟩
  | 38 => ⟨S1x1x2816, .f32⟩
  | 39 => ⟨S2x8192x2816, .f32⟩
  | 40 => ⟨S2x8192x2816, .f32⟩
  | 41 => ⟨S2x8192x2816, .f32⟩
  | 42 => ⟨S1x1x2816, .f32⟩
  | 43 => ⟨S2x8192x2816, .f32⟩
  | 44 => ⟨S2x8192x2816, .f32⟩
  | 45 => ⟨S2x8192x16x176, .f32⟩
  | 46 => ⟨S16x352x2x8192, .f32⟩
  | 47 => ⟨S2x8192x16x352, .f32⟩
  | 48 => ⟨S1x1x16x352, .f32⟩
  | 49 => ⟨S2x8192x16x352, .f32⟩
  | 50 => ⟨S2x8192x16x352, .f32⟩
  | 51 => ⟨S2x8192x16x176, .f32⟩
  | 52 => ⟨S2x8192x16x176, .f32⟩
  | 53 => ⟨S2x8192x16x176, .f32⟩
  | 54 => ⟨S_, .f32⟩
  | 55 => ⟨S2x8192x16x176, .f32⟩
  | 56 => ⟨S2x8192x16x176, .f32⟩
  | 57 => ⟨S_, .f32⟩
  | 58 => ⟨S2x8192x16x176, .f32⟩
  | 59 => ⟨S2x8192x16x176, .f32⟩
  | 60 => ⟨S2x8192x2816, .f32⟩
  | 61 => ⟨S2x8192x16x176, .f32⟩
  | 62 => ⟨S2x8192x16x176, .f32⟩
  | 63 => ⟨S2x8192x16x176, .f32⟩
  | 64 => ⟨S_, .f32⟩
  | 65 => ⟨S2x8192x16x176, .f32⟩
  | 66 => ⟨S2x8192x16x176, .f32⟩
  | 67 => ⟨S_, .f32⟩
  | 68 => ⟨S2x8192x16x176, .f32⟩
  | 69 => ⟨S2x8192x16x176, .f32⟩
  | 70 => ⟨S2x8192x2816, .f32⟩
  | 71 => ⟨S_, .f32⟩
  | 72 => ⟨S2x8192x2816, .f32⟩
  | 73 => ⟨S2x8192x2816, .f32⟩
  | 74 => ⟨S2816, .f32⟩
  | 75 => ⟨S_, .f32⟩
  | 76 => ⟨S2816, .f32⟩
  | 77 => ⟨S2816, .f32⟩
  | 78 => ⟨S2816, .f32⟩
  | 79 => ⟨S2816, .f32⟩
  | 80 => ⟨S2816, .i1⟩
  | 81 => ⟨S2816, .f32⟩
  | 82 => ⟨S2816, .f32⟩
  | 83 => ⟨S2816, .f32⟩
  | 84 => ⟨S2816, .f32⟩
  | 85 => ⟨S2816, .f32⟩
  | 86 => ⟨S2816, .f32⟩
  | 87 => ⟨S2816, .f32⟩
  | 88 => ⟨S2816, .f32⟩
  | 89 => ⟨S1x1x2816, .f32⟩
  | 90 => ⟨S2x8192x2816, .f32⟩
  | 91 => ⟨S2x8192x2816, .f32⟩
  | 92 => ⟨S2x8192x2816, .f32⟩
  | 93 => ⟨S_, .f32⟩
  | 94 => ⟨S2x8192x2816, .f32⟩
  | 95 => ⟨S2x8192x2816, .f32⟩
  | 96 => ⟨S2x8192x2816, .f32⟩
  | 97 => ⟨S2x8192x2816, .f32⟩
  | 98 => ⟨S2x8192x2816, .f32⟩
  | 99 => ⟨S2x8192x2816, .f32⟩
  | 100 => ⟨S2x8192x2816, .f32⟩
  | 101 => ⟨S_, .bf16⟩
  | 102 => ⟨S2x8192x3072, .bf16⟩
  | 103 => ⟨S_, .i32⟩
  | 104 => ⟨S_, .i32⟩
  | 105 => ⟨S2x8192x2816, .f32⟩
  | 106 => ⟨S2x8192x2816, .f32⟩
  | 107 => ⟨S_, .i32⟩
  | 108 => ⟨S_, .i32⟩
  | 109 => ⟨S2x2816, .f32⟩
  | 110 => ⟨S2x8192x3072, .bf16⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S2x1x2816, .f32⟩
  | 126 => ⟨S2x2816, .f32⟩
  | 127 => ⟨S2x2816, .f32⟩
  | _ => ⟨S2x8192x14336, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S2x1x2816, .f32⟩
  | 9 => ⟨S2x2816, .f32⟩
  | 10 => ⟨S2x2816, .f32⟩
  | 11 => ⟨S2x8x352, .f32⟩
  | 12 => ⟨S_, .i32⟩
  | 13 => ⟨S_, .f32⟩
  | 14 => ⟨S2x8x384, .f32⟩
  | 15 => ⟨S2x3072, .f32⟩
  | 16 => ⟨S2x3072, .bf16⟩
  | 17 => ⟨S2x1x3072, .bf16⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S2x8192x3072, .bf16⟩
  | 27 => ⟨S_, .i32⟩
  | 28 => ⟨S_, .i32⟩
  | 29 => ⟨S2x8x352, .f32⟩
  | 30 => ⟨S_, .i32⟩
  | 31 => ⟨S_, .f32⟩
  | 32 => ⟨S2x8x384, .f32⟩
  | 33 => ⟨S2x3072, .f32⟩
  | 34 => ⟨S2x1x3072, .f32⟩
  | _ => ⟨S2x8192x14336, .bf16⟩

abbrev hbmTy (i : Nat) : BufTy := match i / 128 with
  | 0 => hbmTy0_0 i
  | 1 => hbmTy0_1 i
  | _ => ⟨S2x8192x14336, .bf16⟩

abbrev bufTy : (tb : Table) → Fin (tcTables nBuf tb) → BufTy
  | .hbm, ⟨i, _⟩ => hbmTy i
  | _, _ => ⟨S2x8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst : Ref sig .tc := ⟨.hbm, 54, rfl⟩
abbrev main_v45 : Ref sig .tc := ⟨.hbm, 55, rfl⟩
abbrev main_v46 : Ref sig .tc := ⟨.hbm, 56, rfl⟩
abbrev main_cst_0 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_5 : Ref sig .tc := ⟨.hbm, 101, rfl⟩
abbrev main_v73 : Ref sig .tc := ⟨.hbm, 102, rfl⟩
abbrev main_c_6 : Ref sig .tc := ⟨.hbm, 103, rfl⟩
abbrev main_c_7 : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_v74_3 : Ref sig .tc := ⟨.hbm, 108, rfl⟩
abbrev main_v74_4 : Ref sig .tc := ⟨.hbm, 109, rfl⟩
abbrev main_v74_5 : Ref sig .tc := ⟨.hbm, 110, rfl⟩
abbrev main_while0c_c_14 : Ref sig .tc := ⟨.hbm, 111, rfl⟩
abbrev main_while0c_v79 : Ref sig .tc := ⟨.hbm, 112, rfl⟩
abbrev main_while0b_c_14 : Ref sig .tc := ⟨.hbm, 113, rfl⟩
abbrev main_while0b_v79 : Ref sig .tc := ⟨.hbm, 114, rfl⟩
abbrev main_while0b_c_15 : Ref sig .tc := ⟨.hbm, 115, rfl⟩
abbrev main_while0b_v80 : Ref sig .tc := ⟨.hbm, 116, rfl⟩
abbrev main_while0b_call2_c : Ref sig .tc := ⟨.hbm, 117, rfl⟩
abbrev main_while0b_call2_v0 : Ref sig .tc := ⟨.hbm, 118, rfl⟩
abbrev main_while0b_call2_v1 : Ref sig .tc := ⟨.hbm, 119, rfl⟩
abbrev main_while0b_call2_c_0 : Ref sig .tc := ⟨.hbm, 120, rfl⟩
abbrev main_while0b_call2_v2 : Ref sig .tc := ⟨.hbm, 121, rfl⟩
abbrev main_while0b_call2_v3 : Ref sig .tc := ⟨.hbm, 122, rfl⟩
abbrev main_while0b_call2_c_1 : Ref sig .tc := ⟨.hbm, 123, rfl⟩
abbrev main_while0b_call2_c_2 : Ref sig .tc := ⟨.hbm, 124, rfl⟩
abbrev main_while0b_call2_v4 : Ref sig .tc := ⟨.hbm, 125, rfl⟩
abbrev main_while0b_v81 : Ref sig .tc := ⟨.hbm, 126, rfl⟩
abbrev main_while0b_v82 : Ref sig .tc := ⟨.hbm, 127, rfl⟩
abbrev main_while0b_call3_c : Ref sig .tc := ⟨.hbm, 128, rfl⟩
abbrev main_while0b_call3_v0 : Ref sig .tc := ⟨.hbm, 129, rfl⟩
abbrev main_while0b_call3_v1 : Ref sig .tc := ⟨.hbm, 130, rfl⟩
abbrev main_while0b_call3_c_0 : Ref sig .tc := ⟨.hbm, 131, rfl⟩
abbrev main_while0b_call3_v2 : Ref sig .tc := ⟨.hbm, 132, rfl⟩
abbrev main_while0b_call3_v3 : Ref sig .tc := ⟨.hbm, 133, rfl⟩
abbrev main_while0b_call3_c_1 : Ref sig .tc := ⟨.hbm, 134, rfl⟩
abbrev main_while0b_call3_c_2 : Ref sig .tc := ⟨.hbm, 135, rfl⟩
abbrev main_while0b_call3_v4 : Ref sig .tc := ⟨.hbm, 136, rfl⟩
abbrev main_while0b_v83 : Ref sig .tc := ⟨.hbm, 137, rfl⟩
abbrev main_while0b_v84 : Ref sig .tc := ⟨.hbm, 138, rfl⟩
abbrev main_while0b_v85 : Ref sig .tc := ⟨.hbm, 139, rfl⟩
abbrev main_while0b_c_16 : Ref sig .tc := ⟨.hbm, 140, rfl⟩
abbrev main_while0b_call4_v0 : Ref sig .tc := ⟨.hbm, 141, rfl⟩
abbrev main_while0b_v86 : Ref sig .tc := ⟨.hbm, 142, rfl⟩
abbrev main_while0b_v87 : Ref sig .tc := ⟨.hbm, 143, rfl⟩
abbrev main_while0b_v88 : Ref sig .tc := ⟨.hbm, 144, rfl⟩
abbrev main_while0b_call5_v0 : Ref sig .tc := ⟨.hbm, 145, rfl⟩
abbrev main_while0b_call5_c : Ref sig .tc := ⟨.hbm, 146, rfl⟩
abbrev main_while0b_call5_v1 : Ref sig .tc := ⟨.hbm, 147, rfl⟩
abbrev main_while0b_call5_v2 : Ref sig .tc := ⟨.hbm, 148, rfl⟩
abbrev main_while0b_call5_c_0 : Ref sig .tc := ⟨.hbm, 149, rfl⟩
abbrev main_while0b_call5_v3 : Ref sig .tc := ⟨.hbm, 150, rfl⟩
abbrev main_while0b_call5_v4 : Ref sig .tc := ⟨.hbm, 151, rfl⟩
abbrev main_while0b_call5_c_1 : Ref sig .tc := ⟨.hbm, 152, rfl⟩
abbrev main_while0b_call5_c_2 : Ref sig .tc := ⟨.hbm, 153, rfl⟩
abbrev main_while0b_v89 : Ref sig .tc := ⟨.hbm, 154, rfl⟩
abbrev main_while0b_c_17 : Ref sig .tc := ⟨.hbm, 155, rfl⟩
abbrev main_while0b_v90 : Ref sig .tc := ⟨.hbm, 156, rfl⟩
abbrev main_v75 : Ref sig .tc := ⟨.hbm, 157, rfl⟩
abbrev main_c_8 : Ref sig .tc := ⟨.hbm, 158, rfl⟩
abbrev main_call6_v0 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩

abbrev nD : Nat := 1
abbrev τ : Topo := Topo.v7x

variable {F : FTy → Type} [FloatOps F]

abbrev main_while0_count : Scf.Loop 32 := ⟨0#32, 8192#32, 1#32⟩
-- ==== Proof.Blocks.lean ====
/- The blocks of the arguments a grid point reads, as parts of the argument arrays. -/
module

public import proofs.«01_k».proof.Proof.Gen.KernelIdeal.Value
public import Idealize.ShloMosaic.Lib.Pointwise

@[expose] public section

set_option maxRecDepth 16384
set_option maxHeartbeats 1000000

noncomputable section

namespace Cert.Lru

open Idealize.ShloMosaic Idealize.ShloMosaic.TcCoe Cert.KernelIdeal Cert.KernelIdeal.Gen

theorem lt256 (t : Fin cfg0.N) : t.val < 256 := Nat.lt_of_lt_of_eq t.isLt N_0

/-- The sequence a grid point works on. -/
def bOf (t : Fin cfg0.N) : Fin 2 := ⟨t.val / 128, by have := lt256 t; omega⟩
/-- The group of channels a grid point works on. -/
def gOf (t : Fin cfg0.N) : Fin 8 := ⟨t.val / 16 % 8, by omega⟩
/-- The tile of the sequence a grid point works on. -/
def tOf (t : Fin cfg0.N) : Fin 16 := ⟨t.val % 16, by omega⟩
/-- Lane `l` of group `g`. -/
abbrev col (g : Fin 8) (l : Fin 384) : Fin 3072 := ⟨384 * g.val + l.val, by omega⟩

theorem coords2 : ∀ t : Fin cfg0.N, (grid0.coords t 2).val = t.val % 16 := by decide +kernel

theorem index0 : ∀ t : Fin cfg0.N, win0_0.index t 0 = t.val / 128 ∧ win0_0.index t 1 = t.val % 16 ∧ win0_0.index t 2 = t.val / 16 % 8 := by decide +kernel
theorem index1 : ∀ t : Fin cfg0.N, win0_1.index t 0 = t.val / 128 ∧ win0_1.index t 1 = t.val % 16 * 32 - 1 ∧ win0_1.index t 2 = t.val / 16 % 8 := by decide +kernel
theorem index2 : ∀ t : Fin cfg0.N, win0_2.index t 0 = t.val / 128 ∧ win0_2.index t 1 = min ((t.val % 16 + 1) * 32) 511 ∧ win0_2.index t 2 = t.val / 16 % 8 := by decide +kernel
theorem index3 : ∀ t : Fin cfg0.N, win0_3.index t 0 = 0 ∧ win0_3.index t 1 = t.val / 16 % 8 := by decide +kernel
theorem index4 : ∀ t : Fin cfg0.N, win0_4.index t 0 = 0 ∧ win0_4.index t 1 = t.val / 16 % 8 := by decide +kernel
theorem index5 : ∀ t : Fin cfg0.N, win0_5.index t 0 = t.val / 16 % 8 ∧ win0_5.index t 1 = 0 ∧ win0_5.index t 2 = 0 := by decide +kernel
theorem index6 : ∀ t : Fin cfg0.N, win0_6.index t 0 = t.val / 16 % 8 ∧ win0_6.index t 1 = 0 ∧ win0_6.index t 2 = 0 := by decide +kernel
theorem index7 : ∀ t : Fin cfg0.N, win0_7.index t 0 = 0 ∧ win0_7.index t 1 = t.val / 16 % 8 := by decide +kernel
theorem index8 : ∀ t : Fin cfg0.N, win0_8.index t 0 = t.val / 128 ∧ win0_8.index t 1 = 0 ∧ win0_8.index t 2 = t.val / 16 % 8 := by decide +kernel
theorem index9 : ∀ t : Fin cfg0.N, win0_9.index t 0 = t.val / 128 ∧ win0_9.index t 1 = t.val % 16 ∧ win0_9.index t 2 = t.val / 16 % 8 := by decide +kernel
theorem index10 : ∀ t : Fin cfg0.N, win0_10.index t 0 = t.val / 128 ∧ win0_10.index t 1 = 0 ∧ win0_10.index t 2 = t.val / 16 % 8 := by decide +kernel

variable (m : (ℓ : Loc nD τ sig) → Buf (Elt Ideal) ℓ) (c : Dev nD) (t : Fin cfg0.N)

/-- A row of the tile's own block. -/
theorem X0_at (r : Fin 512) (l : Fin 384) :
    X0_0 m c t (ix3 0 r l) = V m c main_arg0 (ix3 (bOf t) (⟨512 * (tOf t).val + r.val, by omega⟩ : Fin 8192) (⟨384 * (gOf t).val + l.val, by omega⟩ : Fin 14336)) := by
  unfold X0_0 Pipeline.Window.fill
  rw [dif_pos (moved0_0 t _)]
  show V m c main_arg0 (((cfg0.win 0).blk t).view.emb _) = _
  refine congrArg (V m c main_arg0) ?_
  obtain ⟨e0, e1, e2⟩ := index0 t
  funext a
  apply Fin.ext
  match a with
  | ⟨0, _⟩ => show win0_0.index t 0 * 1 + 1 * 0 = t.val / 128; omega
  | ⟨1, _⟩ => show win0_0.index t 1 * 512 + 1 * r.val = 512 * (t.val % 16) + r.val; omega
  | ⟨2, _⟩ => show win0_0.index t 2 * 384 + 1 * l.val = 384 * (t.val / 16 % 8) + l.val; omega

/-- A row of the block before the tile. -/
theorem X1_at (r : Fin 16) (l : Fin 384) (h : (tOf t).val ≠ 0) :
    X0_1 m c t (ix3 0 r l) = V m c main_arg0 (ix3 (bOf t) (⟨512 * (tOf t).val + r.val - 16, by omega⟩ : Fin 8192) (⟨384 * (gOf t).val + l.val, by omega⟩ : Fin 14336)) := by
  unfold X0_1 Pipeline.Window.fill
  rw [dif_pos (moved0_1 t _)]
  show V m c main_arg0 (((cfg0.win 1).blk t).view.emb _) = _
  refine congrArg (V m c main_arg0) ?_
  obtain ⟨e0, e1, e2⟩ := index1 t
  have h' : t.val % 16 ≠ 0 := h
  funext a
  apply Fin.ext
  match a with
  | ⟨0, _⟩ => show win0_1.index t 0 * 1 + 1 * 0 = t.val / 128; omega
  | ⟨1, _⟩ => show win0_1.index t 1 * 16 + 1 * r.val = 512 * (t.val % 16) + r.val - 16; omega
  | ⟨2, _⟩ => show win0_1.index t 2 * 384 + 1 * l.val = 384 * (t.val / 16 % 8) + l.val; omega

/-- A row of the block after the tile. -/
theorem X2_at (r : Fin 16) (l : Fin 384) (h : (tOf t).val ≠ 15) :
    X0_2 m c t (ix3 0 r l) = V m c main_arg0 (ix3 (bOf t) (⟨512 * (tOf t).val + 512 + r.val, by omega⟩ : Fin 8192) (⟨384 * (gOf t).val + l.val, by omega⟩ : Fin 14336)) := by
  unfold X0_2 Pipeline.Window.fill
  rw [dif_pos (moved0_2 t _)]
  show V m c main_arg0 (((cfg0.win 2).blk t).view.emb _) = _
  refine congrArg (V m c main_arg0) ?_
  obtain ⟨e0, e1, e2⟩ := index2 t
  have h' : t.val % 16 ≠ 15 := h
  funext a
  apply Fin.ext
  match a with
  | ⟨0, _⟩ => show win0_2.index t 0 * 1 + 1 * 0 = t.val / 128; omega
  | ⟨1, _⟩ => show win0_2.index t 1 * 16 + 1 * r.val = 512 * (t.val % 16) + 512 + r.val; omega
  | ⟨2, _⟩ => show win0_2.index t 2 * 384 + 1 * l.val = 384 * (t.val / 16 % 8) + l.val; omega

theorem X3_at (k : Fin 4) (l : Fin 384) : iblk m c 3 t (ix2 k l) = V m c main_v2 (ix2 k (col (gOf t) l)) := by
  show V m c main_v2 (((cfg0.win 3).blk t).view.emb _) = _
  refine congrArg (V m c main_v2) ?_
  obtain ⟨e0, e1⟩ := index3 t
  funext a
  apply Fin.ext
  match a with
  | ⟨0, _⟩ => show win0_3.index t 0 * 4 + 1 * k.val = k.val; omega
  | ⟨1, _⟩ => show win0_3.index t 1 * 384 + 1 * l.val = 384 * (t.val / 16 % 8) + l.val; omega

theorem X4_at (l : Fin 384) : iblk m c 4 t (ix2 0 l) = V m c main_v6 (ix2 0 (col (gOf t) l)) := by
  show V m c main_v6 (((cfg0.win 4).blk t).view.emb _) = _
  refine congrArg (V m c main_v6) ?_
  obtain ⟨e0, e1⟩ := index4 t
  funext a
  apply Fin.ext
  match a with
  | ⟨0, _⟩ => show win0_4.index t 0 * 1 + 1 * 0 = 0; omega
  | ⟨1, _⟩ => show win0_4.index t 1 * 384 + 1 * l.val = 384 * (t.val / 16 % 8) + l.val; omega

theorem X5_at (k : Fin 384) (l : Fin 768) : iblk m c 5 t (ix3 0 k l) = V m c main_v34 (ix3 (gOf t) k l) := by
  show V m c main_v34 (((cfg0.win 5).blk t).view.emb _) = _
  refine congrArg (V m c main_v34) ?_
  obtain ⟨e0, e1, e2⟩ := index5 t
  funext a
  apply Fin.ext
  match a with
  | ⟨0, _⟩ => show win0_5.index t 0 * 1 + 1 * 0 = t.val / 16 % 8; omega
  | ⟨1, _⟩ => show win0_5.index t 1 * 384 + 1 * k.val = k.val; omega
  | ⟨2, _⟩ => show win0_5.index t 2 * 768 + 1 * l.val = l.val; omega

theorem X6_at (l : Fin 768) : iblk m c 6 t (ix3 0 0 l) = V m c main_v35 (ix3 (gOf t) 0 l) := by
  show V m c main_v35 (((cfg0.win 6).blk t).view.emb _) = _
  refine congrArg (V m c main_v35) ?_
  obtain ⟨e0, e1, e2⟩ := index6 t
  funext a
  apply Fin.ext
  match a with
  | ⟨0, _⟩ => show win0_6.index t 0 * 1 + 1 * 0 = t.val / 16 % 8; omega
  | ⟨1, _⟩ => show win0_6.index t 1 * 1 + 1 * 0 = 0; omega
  | ⟨2, _⟩ => show win0_6.index t 2 * 768 + 1 * l.val = l.val; omega

theorem X7_at (l : Fin 384) : iblk m c 7 t (ix2 0 l) = V m c main_v14 (ix2 0 (col (gOf t) l)) := by
  show V m c main_v14 (((cfg0.win 7).blk t).view.emb _) = _
  refine congrArg (V m c main_v14) ?_
  obtain ⟨e0, e1⟩ := index7 t
  funext a
  apply Fin.ext
  match a with
  | ⟨0, _⟩ => show win0_7.index t 0 * 1 + 1 * 0 = 0; omega
  | ⟨1, _⟩ => show win0_7.index t 1 * 384 + 1 * l.val = 384 * (t.val / 16 % 8) + l.val; omega

theorem X8_at (l : Fin 384) : iblk m c 8 t (ix3 0 0 l) = V m c main_v39 (ix3 (bOf t) 0 (col (gOf t) l)) := by
  show V m c main_v39 (((cfg0.win 8).blk t).view.emb _) = _
  refine congrArg (V m c main_v39) ?_
  obtain ⟨e0, e1, e2⟩ := index8 t
  funext a
  apply Fin.ext
  match a with
  | ⟨0, _⟩ => show win0_8.index t 0 * 1 + 1 * 0 = t.val / 128; omega
  | ⟨1, _⟩ => show win0_8.index t 1 * 1 + 1 * 0 = 0; omega
  | ⟨2, _⟩ => show win0_8.index t 2 * 384 + 1 * l.val = 384 * (t.val / 16 % 8) + l.val; omega

end Cert.Lru
-- ==== Proof.Tile.lean ====
/- The kernel's body at one tile, put together from the values it works with: the padded block, the two fills of the
   scratch buffers, the scan of the eight segments, their combination and the stores of the result; and that each of
   the three kinds of grid point (first, middle, last tile of a sequence) stores exactly these pieces. -/
module

public import proofs.«01_k».proof.Proof.Gen.KernelIdeal.Value
public import Idealize.ShloMosaic.Lib.Pointwise

@[expose] public section

set_option maxRecDepth 16384
set_option maxHeartbeats 4000000

noncomputable section

namespace Cert.Lru

open Idealize.ShloMosaic Idealize.ShloMosaic.TcCoe Cert.KernelIdeal Cert.KernelIdeal.Gen

/-- The padded block: sixteen rows from the block before, the tile's rows, sixteen rows from the block after. -/
def padL (i : grid0.Coords) (X0 : Vec Ideal S1x512x384 .bf16) (X1 X2 : Vec Ideal S1x16x384 .bf16) :
    List (View.Piece (Elt Ideal) S544x384 .f32) :=
  [⟨Rect.unit ![528, 0] S16x384.size inb_S544x384_S16x384_528_0, k0_pay18 i X2⟩,
   ⟨Rect.unit ![16, 0] S512x384.size inb_S544x384_S512x384_16_0, k0_pay17 X0⟩,
   ⟨Rect.unit ![0, 0] S16x384.size inb_S544x384_S16x384_0_0, k0_pay16 i X1⟩]

theorem inbPad (s : Fin 8) (k : Fin 4) : ∀ a, (![15 + 64 * s.val + k.val, 0] : Fin 2 → ℕ) a + S64x384.size a ≤ S544x384.size a := by
  intro a; fin_cases a <;> simp <;> omega

/-- The rows of the padded block tap `k` of the convolution reads for segment `s`. -/
def padRows (arg14 : Memref sig .tc .vmem S544x384 .f32) (L14 : List (View.Piece (Elt Ideal) S544x384 .f32))
    (s : Fin 8) (k : Fin 4) : Vec Ideal S64x384 .f32 :=
  arg14.view.readCov L14 (Rect.unit (s := S544x384) ![15 + 64 * s.val + k.val, 0] S64x384.size (inbPad s k)).toLoadRect

section gates

variable (w0 w1 w2 w3 cb nla : Vec Ideal S1x384 .f32) (wg : Vec Ideal S1x384x768 .bf16) (bg : Vec Ideal S1x1x768 .f32)
  (x : Fin 4 → Vec Ideal S64x384 .f32)

/-- A segment's factors. -/
def segA : FVec Ideal S64x384 .f32 :=
  k0_pay25 (k0_pay22 (k0_pay19 w0) (x 0) w1 (x 1) w2 (x 2) w3 (x 3) cb wg bg) nla

/-- A segment's inputs. -/
def segB : FVec Ideal S64x384 .f32 :=
  k0_pay26 (k0_pay20 (k0_pay19 w0) (x 0) w1 (x 1) w2 (x 2) w3 (x 3) cb)
    (k0_pay22 (k0_pay19 w0) (x 0) w1 (x 1) w2 (x 2) w3 (x 3) cb wg bg)
    (k0_pay23 (k0_pay19 w0) (x 0) w1 (x 1) w2 (x 2) w3 (x 3) cb wg bg) nla

end gates

theorem inbFill (n : Fin 3) (s : Fin 8) : ∀ a, (![n.val, 0, s.val, 0] : Fin 4 → ℕ) a + S1x64x1x128.size a ≤ S3x64x8x128.size a := by
  intro a; fin_cases a <;> simp <;> omega

theorem slcFill (n : Fin 3) : S64x384.Slices ![0, 128 * n.val] S64x128 := by
  revert n; decide

/-- A lane block of a segment's rows, in the scratch buffer's order. -/
def cut (n : Fin 3) (v : FVec Ideal S64x384 .f32) : FVec Ideal S1x64x1x128 .f32 :=
  shapeCast S1x64x1x128 (extractStridedSlice S64x128 ![0, 128 * n.val] v (slcFill n)) shapeCasts_S64x128_S1x64x1x128

/-- The store of one lane block of one segment. -/
def fillPiece (n : Fin 3) (s : Fin 8) (v : FVec Ideal S64x384 .f32) : View.Piece (Elt Ideal) S3x64x8x128 .f32 :=
  ⟨Rect.unit (s := S3x64x8x128) ![n.val, 0, s.val, 0] S1x64x1x128.size (inbFill n s), cut n v⟩

/-- The fill of a scratch buffer, newest store first. -/
def fill (V : Fin 8 → FVec Ideal S64x384 .f32) : List (View.Piece (Elt Ideal) S3x64x8x128 .f32) :=
  [fillPiece 2 7 (V 7), fillPiece 1 7 (V 7), fillPiece 0 7 (V 7), fillPiece 2 6 (V 6), fillPiece 1 6 (V 6), fillPiece 0 6 (V 6), fillPiece 2 5 (V 5), fillPiece 1 5 (V 5), fillPiece 0 5 (V 5), fillPiece 2 4 (V 4), fillPiece 1 4 (V 4), fillPiece 0 4 (V 4), fillPiece 2 3 (V 3), fillPiece 1 3 (V 3), fillPiece 0 3 (V 3), fillPiece 2 2 (V 2), fillPiece 1 2 (V 2), fillPiece 0 2 (V 2), fillPiece 2 1 (V 1), fillPiece 1 1 (V 1), fillPiece 0 1 (V 1), fillPiece 2 0 (V 0), fillPiece 1 0 (V 0), fillPiece 0 0 (V 0)]

/-- The values the eight segments of a lane block start from. -/
def starts (h p : FVec Ideal S8x128 .f32) (o : Vec Ideal S1x128 .f32) : FVec Ideal S8x128 .f32 :=
  k0_pay150 h p (iota .tc S8x128 32 [0] iota_S8x128_d0_w32) (k0_pay141 h p o) (k0_pay142 h p o) k0_pay143 (k0_pay144 h p o)

/-- The value a lane block's last segment ends with. -/
def ending (h p : FVec Ideal S8x128 .f32) (o : Vec Ideal S1x128 .f32) : FVec Ideal S1x128 .f32 :=
  k0_pay151 h p (k0_pay142 h p o)

theorem inbY (n : Fin 3) (s : Fin 8) : ∀ a, (![0, 64 * s.val, 128 * n.val] : Fin 3 → ℕ) a + S1x64x128.size a ≤ S1x512x384.size a := by
  intro a; fin_cases a <;> simp <;> omega

/-- The store of one lane block of one segment of the result. -/
def yPiece (n : Fin 3) (s : Fin 8) (v : Vec Ideal S1x64x1x128 .f32) : View.Piece (Elt Ideal) S1x512x384 .bf16 :=
  ⟨Rect.unit (s := S1x512x384) ![0, 64 * s.val, 128 * n.val] S1x64x128.size (inbY n s), k0_pay1 v⟩

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole) (v626 : FVec Ideal S64x384 .f32) (v643 : FVec Ideal S64x128 .f32)

/-- The scan of the segments: the states and products carried out of it and what it stores. -/
def scan (L15 L16 : List (View.Piece (Elt Ideal) S3x64x8x128 .f32)) :=
  st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (arg15.view.writes (Elt Ideal) arg15.view.junk L15)
    (arg16.view.writes (Elt Ideal) arg16.view.junk L16)
    (k0_pay128, k0_pay129, k0_pay130, k0_pay131, k0_pay132, k0_pay133) (Scf.trips k0_t1_loop.lb k0_t1_loop.ub k0_t1_loop.st)

/-- All stores into the buffer of inputs: the fill, the scan's states, and the states moved by their starts. -/
def states (L15 L16 : List (View.Piece (Elt Ideal) S3x64x8x128 .f32)) (c0 c1 c2 : FVec Ideal S8x128 .f32)
    (v887 : FVec Ideal S1x128 .f32) (v888 : Vec Ideal S1x128 .f32) : List (View.Piece (Elt Ideal) S3x64x8x128 .f32) :=
  pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 c0 c1 c2 v887 v888
    (arg15.view.writes (Elt Ideal) arg15.view.junk ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.1 ++ L15))
    (arg16.view.writes (Elt Ideal) arg16.view.junk ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.2 ++ L16))
    (Scf.trips k0_t2_loop.lb k0_t2_loop.ub k0_t2_loop.st) ++ ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.2 ++ L16)

/-- A lane block of a segment's states, as the result's store reads it. -/
def yRead (L : List (View.Piece (Elt Ideal) S3x64x8x128 .f32)) (n : Fin 3) (s : Fin 8) : Vec Ideal S1x64x1x128 .f32 :=
  arg16.view.readCov L (Rect.unit (s := S3x64x8x128) ![n.val, 0, s.val, 0] S1x64x1x128.size (inbFill n s)).toLoadRect

/-- The stores of the result, newest first, over the stores into the buffer of inputs. -/
def yOf (L : List (View.Piece (Elt Ideal) S3x64x8x128 .f32)) : List (View.Piece (Elt Ideal) S1x512x384 .bf16) :=
  [yPiece 2 7 (yRead arg16 L 2 7), yPiece 1 7 (yRead arg16 L 1 7), yPiece 0 7 (yRead arg16 L 0 7), yPiece 2 6 (yRead arg16 L 2 6), yPiece 1 6 (yRead arg16 L 1 6), yPiece 0 6 (yRead arg16 L 0 6), yPiece 2 5 (yRead arg16 L 2 5), yPiece 1 5 (yRead arg16 L 1 5), yPiece 0 5 (yRead arg16 L 0 5), yPiece 2 4 (yRead arg16 L 2 4), yPiece 1 4 (yRead arg16 L 1 4), yPiece 0 4 (yRead arg16 L 0 4), yPiece 2 3 (yRead arg16 L 2 3), yPiece 1 3 (yRead arg16 L 1 3), yPiece 0 3 (yRead arg16 L 0 3), yPiece 2 2 (yRead arg16 L 2 2), yPiece 1 2 (yRead arg16 L 1 2), yPiece 0 2 (yRead arg16 L 0 2), yPiece 2 1 (yRead arg16 L 2 1), yPiece 1 1 (yRead arg16 L 1 1), yPiece 0 1 (yRead arg16 L 0 1), yPiece 2 0 (yRead arg16 L 2 0), yPiece 1 0 (yRead arg16 L 1 0), yPiece 0 0 (yRead arg16 L 0 0)]

/-- The stores of a tile whose segments have factors `A` and inputs `B` and whose lane blocks start from `o0 o1 o2`. -/
def tileY (A B : Fin 8 → FVec Ideal S64x384 .f32) (o0 o1 o2 : Vec Ideal S1x128 .f32)
    (v887 : FVec Ideal S1x128 .f32) (v888 : Vec Ideal S1x128 .f32) : List (View.Piece (Elt Ideal) S1x512x384 .bf16) :=
  let S := (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1
  yOf arg16 (states c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B) (starts S.1 S.2.1 o0) (starts S.2.2.1 S.2.2.2.1 o1)
    (starts S.2.2.2.2.1 S.2.2.2.2.2 o2) v887 v888)

/-- The three lane blocks' values after a tile. -/
def tileC (A B : Fin 8 → FVec Ideal S64x384 .f32) (o : Fin 3 → Vec Ideal S1x128 .f32) (n : Fin 3) : FVec Ideal S1x128 .f32 :=
  let S := (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1
  (![ending S.1 S.2.1 (o 0), ending S.2.2.1 S.2.2.2.1 (o 1), ending S.2.2.2.2.1 S.2.2.2.2.2 (o 2)] : Fin 3 → FVec Ideal S1x128 .f32) n

end

section points

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)

/-- A row of the taps' weights, loaded. -/
def ldW (x3 : Vec Ideal S4x384 .f32) (k : Fin 4) : Vec Ideal S1x384 .f32 :=
  arg6.view.readAt (Elt Ideal) (Rect.unit (s := S4x384) ![k.val, 0] S1x384.size (by intro a; fin_cases a <;> simp <;> omega)).toLoadRect (harg6.unread x3)

end points

end Cert.Lru
-- ==== Proof.TileRun.lean ====
/- At each of the three kinds of grid point (first, middle, last tile of a sequence) the body's stores are the pieces
   of `Proof.Tile`, over the blocks of the arguments it loads. -/
module

public import proofs.«01_k».proof.Proof.Tile

@[expose] public section

set_option maxRecDepth 16384
set_option maxHeartbeats 4000000

noncomputable section

namespace Cert.Lru

open Idealize.ShloMosaic Idealize.ShloMosaic.TcCoe Cert.KernelIdeal Cert.KernelIdeal.Gen

/-- The stores of the three lane blocks' carried values, newest first. -/
def carryL (C : Fin 3 → FVec Ideal S1x128 .f32) : List (View.Piece (Elt Ideal) S1x384 .f32) :=
  [⟨Rect.unit ![0, 256] S1x128.size inb_S1x384_S1x128_0_256, C 2⟩,
   ⟨Rect.unit ![0, 128] S1x128.size inb_S1x384_S1x128_0_128, C 1⟩,
   ⟨Rect.unit ![0, 0] S1x128.size inb_S1x384_S1x128_0_0, C 0⟩]

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
  (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)
  (x8 : Vec Ideal S1x1x384 .f32) (xs3 : Vec Ideal S1x384 .f32)

/-- A tile's stores: those of the result `Y`, and `C` the values carried to the next tile, where lane block `n` starts
    from `o n`. -/
def IsTile (o : Fin 3 → Vec Ideal S1x128 .f32) (Y : List (View.Piece (Elt Ideal) S1x512x384 .bf16)) (C : Fin 3 → FVec Ideal S1x128 .f32) : Prop :=
  ∃ (v626 : FVec Ideal S64x384 .f32) (v643 : FVec Ideal S64x128 .f32) (v887 : FVec Ideal S1x128 .f32) (v888 : Vec Ideal S1x128 .f32)
    (w0 w1 w2 w3 : Vec Ideal S1x384 .f32),
    (∀ l, w0 (ix2 0 l) = x3 (ix2 0 l)) ∧ (∀ l, w1 (ix2 0 l) = x3 (ix2 1 l)) ∧ (∀ l, w2 (ix2 0 l) = x3 (ix2 2 l))
    ∧ (∀ l, w3 (ix2 0 l) = x3 (ix2 3 l))
    ∧ Y = tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA w0 w1 w2 w3 x4 x7 x5 x6 (padRows arg14 (padL i x0 x1 x2) s))
        (fun s => segB w0 w1 w2 w3 x4 x7 x5 x6 (padRows arg14 (padL i x0 x1 x2) s)) (o 0) (o 1) (o 2) v887 v888
    ∧ C = tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA w0 w1 w2 w3 x4 x7 x5 x6 (padRows arg14 (padL i x0 x1 x2) s))
        (fun s => segB w0 w1 w2 w3 x4 x7 x5 x6 (padRows arg14 (padL i x0 x1 x2) s)) o

/-- A row of the taps, loaded. -/
theorem ld_tap (k : Fin 4) (inb : ∀ a, (![k.val, 0] : Fin 2 → ℕ) a + S1x384.size a ≤ S4x384.size a) (l : Fin 384) :
    arg6.view.readAt (Elt Ideal) (Rect.unit (s := S4x384) ![k.val, 0] S1x384.size inb).toLoadRect (harg6.unread x3) (ix2 0 l) = x3 (ix2 k l) := by
  rw [View.readAt_apply, Memref.IsWhole.read_unread]
  congr 1
  funext a
  apply Fin.ext
  fin_cases a <;> simp [LoadRect.idx, Rect.toLoadRect, Rect.unit, ix2]

/-- A whole block, loaded. -/
theorem ld_whole {s : Shape} {e : EltTy} (m : Memref sig .tc .vmem s e) (h : m.IsWhole) (x : Vec Ideal s e) (off : Fin s.rank → ℕ)
    (hoff : ∀ a, off a = 0) (inb : ∀ a, off a + s.size a ≤ s.size a) :
    m.view.readAt (Elt Ideal) (Rect.unit (s := s) off s.size inb).toLoadRect (h.unread x) = x := by
  funext y
  rw [View.readAt_apply, Memref.IsWhole.read_unread]
  congr 1
  funext a
  apply Fin.ext
  simp [LoadRect.idx, Rect.toLoadRect, Rect.unit, hoff]

/-- A lane block of the carried values, loaded. -/
theorem ld_carry (n : Fin 3) (off : ℕ) (hoff : off = 128 * n.val)
    (inb : ∀ a, (![0, off] : Fin 2 → ℕ) a + S1x128.size a ≤ S1x384.size a) (l : Fin 128) :
    arg17.view.readAt (Elt Ideal) (Rect.unit (s := S1x384) ![0, off] S1x128.size inb).toLoadRect (harg17.unread xs3) (ix2 0 l)
      = xs3 (ix2 0 (⟨128 * n.val + l.val, by omega⟩ : Fin 384)) := by
  subst hoff
  rw [View.readAt_apply, Memref.IsWhole.read_unread]
  congr 1
  funext a
  apply Fin.ext
  fin_cases a <;> simp [LoadRect.idx, Rect.toLoadRect, Rect.unit, ix2]

theorem zero3 : ∀ a : Fin 3, (![0, 0, 0] : Fin 3 → ℕ) a = 0 := by decide
theorem zero2 : ∀ a : Fin 2, (![0, 0] : Fin 2 → ℕ) a = 0 := by decide

theorem run_B (hc0 : ¬cond0_0 i) (hc1 : ¬cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 C
      ∧ (∀ n l, o n (ix2 0 l) = xs3 (ix2 0 (⟨128 * n.val + l.val, by omega⟩ : Fin 384)))
      ∧ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL C := by
  have key : ∃ (v626 : FVec Ideal S64x384 .f32) (v643 : FVec Ideal S64x128 .f32) (v887 : FVec Ideal S1x128 .f32) (v888 : Vec Ideal S1x128 .f32),
      (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (arg17.view.readAt (Elt Ideal) (Rect.unit (s := S1x384) ![0, 0] S1x128.size inb_S1x384_S1x128_0_0).toLoadRect (harg17.unread xs3)) (arg17.view.readAt (Elt Ideal) (Rect.unit (s := S1x384) ![0, 128] S1x128.size inb_S1x384_S1x128_0_128).toLoadRect (harg17.unread xs3)) (arg17.view.readAt (Elt Ideal) (Rect.unit (s := S1x384) ![0, 256] S1x128.size inb_S1x384_S1x128_0_256).toLoadRect (harg17.unread xs3)) v887 v888
      ∧ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)]) := by
    unfold kernelRun0_B
    exact ⟨_, _, _, _, rfl, rfl⟩
  obtain ⟨v626, v643, v887, v888, h1, h2⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2] at h1 h2
  refine ⟨![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)], _, ⟨v626, v643, v887, v888, _, _, _, _, ?_, ?_, ?_, ?_, h1, rfl⟩, ?_, h2⟩
  · exact ld_tap arg6 harg6 x3 0 _
  · exact ld_tap arg6 harg6 x3 1 _
  · exact ld_tap arg6 harg6 x3 2 _
  · exact ld_tap arg6 harg6 x3 3 _
  · intro n l
    fin_cases n
    · exact ld_carry arg17 harg17 xs3 0 0 rfl _ l
    · exact ld_carry arg17 harg17 xs3 1 128 rfl _ l
    · exact ld_carry arg17 harg17 xs3 2 256 rfl _ l

theorem run_C (hc0 : ¬cond0_0 i) (hc1 : cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 C
      ∧ (∀ n l, o n (ix2 0 l) = xs3 (ix2 0 (⟨128 * n.val + l.val, by omega⟩ : Fin 384)))
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL C
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.1 = [⟨Rect.unit ![0, 0, 0] S1x1x384.size inb_S1x1x384_S1x1x384_0_0_0, k0_pay2 (arg17.view.readCov ((kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1) (Rect.unit (s := S1x384) ![0, 0] S1x384.size inb_S1x384_S1x384_0_0).toLoadRect)⟩] := by
  have key : ∃ (v626 : FVec Ideal S64x384 .f32) (v643 : FVec Ideal S64x128 .f32) (v887 : FVec Ideal S1x128 .f32) (v888 : Vec Ideal S1x128 .f32),
      (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (arg17.view.readAt (Elt Ideal) (Rect.unit (s := S1x384) ![0, 0] S1x128.size inb_S1x384_S1x128_0_0).toLoadRect (harg17.unread xs3)) (arg17.view.readAt (Elt Ideal) (Rect.unit (s := S1x384) ![0, 128] S1x128.size inb_S1x384_S1x128_0_128).toLoadRect (harg17.unread xs3)) (arg17.view.readAt (Elt Ideal) (Rect.unit (s := S1x384) ![0, 256] S1x128.size inb_S1x384_S1x128_0_256).toLoadRect (harg17.unread xs3)) v887 v888
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)])
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.1 = [⟨Rect.unit ![0, 0, 0] S1x1x384.size inb_S1x1x384_S1x1x384_0_0_0, k0_pay2 (arg17.view.readCov ((kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1) (Rect.unit (s := S1x384) ![0, 0] S1x384.size inb_S1x384_S1x384_0_0).toLoadRect)⟩] := by
    unfold kernelRun0_C
    exact ⟨_, _, _, _, rfl, rfl, rfl⟩
  obtain ⟨v626, v643, v887, v888, h1, h2, h3⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2] at h1 h2
  refine ⟨![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)], _, ⟨v626, v643, v887, v888, _, _, _, _, ?_, ?_, ?_, ?_, h1, rfl⟩, ?_, h2, h3⟩
  · exact ld_tap arg6 harg6 x3 0 _
  · exact ld_tap arg6 harg6 x3 1 _
  · exact ld_tap arg6 harg6 x3 2 _
  · exact ld_tap arg6 harg6 x3 3 _
  · intro n l
    fin_cases n
    · exact ld_carry arg17 harg17 xs3 0 0 rfl _ l
    · exact ld_carry arg17 harg17 xs3 1 128 rfl _ l
    · exact ld_carry arg17 harg17 xs3 2 256 rfl _ l

/-- The stores of the first tile's start. -/
def h0L (x : Vec Ideal S1x1x384 .f32) : List (View.Piece (Elt Ideal) S1x384 .f32) :=
  [⟨Rect.unit ![0, 0] S1x384.size inb_S1x384_S1x384_0_0, k0_pay15 x⟩]

theorem inbC (n : Fin 3) : ∀ a, (![0, 128 * n.val] : Fin 2 → ℕ) a + S1x128.size a ≤ S1x384.size a := by
  intro a; fin_cases a <;> simp <;> omega

/-- The store of one lane block's carried value. -/
def carryPiece (n : Fin 3) (v : FVec Ideal S1x128 .f32) : View.Piece (Elt Ideal) S1x384 .f32 :=
  ⟨Rect.unit (s := S1x384) ![0, 128 * n.val] S1x128.size (inbC n), v⟩

/-- One lane block of the carried values, read back. -/
def carryRead (n : Fin 3) (L : List (View.Piece (Elt Ideal) S1x384 .f32)) : Vec Ideal S1x128 .f32 :=
  arg17.view.readCov L (Rect.unit (s := S1x384) ![0, 128 * n.val] S1x128.size (inbC n)).toLoadRect

theorem carryRead_at (n : Fin 3) (L : List (View.Piece (Elt Ideal) S1x384 .f32)) (l : Fin 128) :
    carryRead arg17 n L (ix2 0 l) = View.canon L (ix2 0 (⟨128 * n.val + l.val, by omega⟩ : Fin 384)) := by
  unfold carryRead
  rw [View.readCov_eq_canon']
  dsimp only
  congr 1
  funext a
  apply Fin.ext
  fin_cases a <;> simp [LoadRect.idx, Rect.toLoadRect, Rect.unit, ix2]

/-- A carried value stored, read at its own lane. -/
theorem canon_carry_same (n : Fin 3) (v : FVec Ideal S1x128 .f32) (L : List (View.Piece (Elt Ideal) S1x384 .f32)) (l : Fin 128) :
    View.canon (carryPiece n v :: L) (ix2 0 (⟨128 * n.val + l.val, by omega⟩ : Fin 384)) = v (ix2 0 l) := by
  have e : (ix2 0 (⟨128 * n.val + l.val, by omega⟩ : Fin 384)) = (Rect.unit (s := S1x384) ![0, 128 * n.val] S1x128.size (inbC n)).emb (ix2 0 l) := by
    funext a
    apply Fin.ext
    rw [Rect.emb_apply]
    fin_cases a <;> simp [Rect.unit, ix2]
  rw [e]
  exact View.canon_cons_emb ..

/-- A carried value stored, read at another lane block. -/
theorem canon_carry_ne (n m : Fin 3) (h : n ≠ m) (v : FVec Ideal S1x128 .f32) (L : List (View.Piece (Elt Ideal) S1x384 .f32)) (l : Fin 128) :
    View.canon (carryPiece n v :: L) (ix2 0 (⟨128 * m.val + l.val, by omega⟩ : Fin 384))
      = View.canon L (ix2 0 (⟨128 * m.val + l.val, by omega⟩ : Fin 384)) := by
  apply View.canon_cons_of_not_mem
  unfold carryPiece
  rw [Rect.mem_set_unit]
  intro hm
  have m1 := hm 1
  simp [ix2] at m1
  apply h
  apply Fin.ext
  omega

theorem canon_h0L (x : Vec Ideal S1x1x384 .f32) (l : Fin 384) : View.canon (h0L x) (ix2 0 l) = x (ix3 0 0 l) := by
  have e : (ix2 0 l) = (Rect.unit (s := S1x384) ![0, 0] S1x384.size inb_S1x384_S1x384_0_0).emb (ix2 0 l) := by
    funext a
    apply Fin.ext
    fin_cases a <;> simp [Rect.emb_apply, ix2]
  refine (congrArg _ e).trans ((View.canon_cons_emb ..).trans ?_)
  unfold k0_pay15
  pointwise

/-- The three stores of a tile's carried values, read back. -/
theorem canon_carryL (C : Fin 3 → FVec Ideal S1x128 .f32) (L : List (View.Piece (Elt Ideal) S1x384 .f32)) (n : Fin 3) (l : Fin 128) :
    View.canon (carryL C ++ L) (ix2 0 (⟨128 * n.val + l.val, by omega⟩ : Fin 384)) = C n (ix2 0 l) := by
  have e : carryL C ++ L = carryPiece 2 (C 2) :: carryPiece 1 (C 1) :: carryPiece 0 (C 0) :: L := rfl
  rw [e]
  fin_cases n
  · exact (canon_carry_ne 2 0 (by decide) _ _ l).trans ((canon_carry_ne 1 0 (by decide) _ _ l).trans (canon_carry_same 0 _ _ l))
  · exact (canon_carry_ne 2 1 (by decide) _ _ l).trans (canon_carry_same 1 _ _ l)
  · exact canon_carry_same 2 _ _ l

theorem run_A (hc0 : cond0_0 i) (hc1 : ¬cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).1 C
      ∧ (∀ n l, o n (ix2 0 l) = x8 (ix3 0 0 (⟨128 * n.val + l.val, by omega⟩ : Fin 384)))
      ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.1 = carryL C ++ h0L x8 := by
  have key : ∃ (v626 : FVec Ideal S64x384 .f32) (v643 : FVec Ideal S64x128 .f32) (v887 : FVec Ideal S1x128 .f32) (v888 : Vec Ideal S1x128 .f32)
      (C0 C1 : FVec Ideal S1x128 .f32),
      (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (carryRead arg17 0 (h0L (arg11.view.readAt (Elt Ideal) (Rect.unit (s := S1x1x384) ![0, 0, 0] S1x1x384.size inb_S1x1x384_S1x1x384_0_0_0).toLoadRect (harg11.unread x8)))) (carryRead arg17 1 (carryPiece 0 C0 :: h0L (arg11.view.readAt (Elt Ideal) (Rect.unit (s := S1x1x384) ![0, 0, 0] S1x1x384.size inb_S1x1x384_S1x1x384_0_0_0).toLoadRect (harg11.unread x8)))) (carryRead arg17 2 (carryPiece 1 C1 :: carryPiece 0 C0 :: h0L (arg11.view.readAt (Elt Ideal) (Rect.unit (s := S1x1x384) ![0, 0, 0] S1x1x384.size inb_S1x1x384_S1x1x384_0_0_0).toLoadRect (harg11.unread x8)))) v887 v888
      ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![(carryRead arg17 0 (h0L (arg11.view.readAt (Elt Ideal) (Rect.unit (s := S1x1x384) ![0, 0, 0] S1x1x384.size inb_S1x1x384_S1x1x384_0_0_0).toLoadRect (harg11.unread x8)))), (carryRead arg17 1 (carryPiece 0 C0 :: h0L (arg11.view.readAt (Elt Ideal) (Rect.unit (s := S1x1x384) ![0, 0, 0] S1x1x384.size inb_S1x1x384_S1x1x384_0_0_0).toLoadRect (harg11.unread x8)))), (carryRead arg17 2 (carryPiece 1 C1 :: carryPiece 0 C0 :: h0L (arg11.view.readAt (Elt Ideal) (Rect.unit (s := S1x1x384) ![0, 0, 0] S1x1x384.size inb_S1x1x384_S1x1x384_0_0_0).toLoadRect (harg11.unread x8))))]) ++ h0L (arg11.view.readAt (Elt Ideal) (Rect.unit (s := S1x1x384) ![0, 0, 0] S1x1x384.size inb_S1x1x384_S1x1x384_0_0_0).toLoadRect (harg11.unread x8)) := by
    unfold kernelRun0_A
    exact ⟨_, _, _, _, _, _, rfl, rfl⟩
  obtain ⟨v626, v643, v887, v888, C0, C1, h1, h2⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2, ld_whole arg11 harg11 x8 _ zero3] at h1 h2
  refine ⟨![(carryRead arg17 0 (h0L (x8))), (carryRead arg17 1 (carryPiece 0 C0 :: h0L (x8))), (carryRead arg17 2 (carryPiece 1 C1 :: carryPiece 0 C0 :: h0L (x8)))], _, ⟨v626, v643, v887, v888, _, _, _, _, ?_, ?_, ?_, ?_, h1, rfl⟩, ?_, h2⟩
  · exact ld_tap arg6 harg6 x3 0 _
  · exact ld_tap arg6 harg6 x3 1 _
  · exact ld_tap arg6 harg6 x3 2 _
  · exact ld_tap arg6 harg6 x3 3 _
  · intro n l
    fin_cases n
    · exact (carryRead_at arg17 0 _ l).trans (canon_h0L x8 _)
    · exact (carryRead_at arg17 1 _ l).trans ((canon_carry_ne 0 1 (by decide) _ _ l).trans (canon_h0L x8 _))
    · exact (carryRead_at arg17 2 _ l).trans ((canon_carry_ne 1 2 (by decide) _ _ l).trans
        ((canon_carry_ne 0 2 (by decide) _ _ l).trans (canon_h0L x8 _)))

end

end Cert.Lru
-- ==== Proof.Scan.lean ====
/- The recurrence `h ← a · h + b` over the extended reals, and the two facts a blocked scan of it needs: a run from
   any start is the run from zero plus the product of the factors times the start, and a run of `m + n` steps is a run
   of `n` steps from where the first `m` end. Also the identity between the two spellings of the input gate's
   normaliser, `1 - e^(2x)` as `-tanh x · (e^x · e^x + 1)` and as `-(e^(2x) - 1)`. -/
module

public import Idealize.ShloMosaic.PureOps.Ideal

@[expose] public section

noncomputable section

namespace Cert.Lru

open Idealize.ShloMosaic

/-- The state after `n` steps of `h ← a · h + b` started at `c`. -/
def rec (a b : ℕ → EReal) (c : EReal) : ℕ → EReal
  | 0 => c
  | n + 1 => a n * rec a b c n + b n

/-- The product of the first `n` factors, newest in front. -/
def fac (a : ℕ → EReal) : ℕ → EReal
  | 0 => 1
  | n + 1 => a n * fac a n

/-- Factors of the recurrence that are nonnegative and finite: multiplying by one distributes over any sum. -/
def Tame (a : ℕ → EReal) : Prop := ∀ n, 0 ≤ a n ∧ a n ≠ ⊤

theorem rec_eq (a b : ℕ → EReal) (ha : Tame a) (c : EReal) :
    ∀ n, rec a b c n = rec a b 0 n + fac a n * c
  | 0 => by simp [rec, fac]
  | n + 1 => by
    simp only [rec, fac]
    rw [rec_eq a b ha c n, EReal.left_distrib_of_nonneg_of_ne_top (ha n).1 (ha n).2, mul_assoc (a n) (fac a n) c]
    exact add_right_comm _ _ _

theorem rec_add (a b : ℕ → EReal) (c : EReal) (m : ℕ) :
    ∀ n, rec a b c (m + n) = rec (fun k => a (m + k)) (fun k => b (m + k)) (rec a b c m) n
  | 0 => rfl
  | n + 1 => by
    show a (m + n) * rec a b c (m + n) + b (m + n) = _
    rw [rec_add a b c m n]; rfl

theorem rec_congr {a a' b b' : ℕ → EReal} {c c' : EReal} (hc : c = c') :
    ∀ n, (∀ k, k < n → a k = a' k) → (∀ k, k < n → b k = b' k) → rec a b c n = rec a' b' c' n
  | 0, _, _ => hc
  | n + 1, ha, hb => by
    simp only [rec]
    rw [rec_congr hc n (fun k h => ha k (h.trans n.lt_succ_self)) (fun k h => hb k (h.trans n.lt_succ_self)),
      ha n n.lt_succ_self, hb n n.lt_succ_self]

theorem fac_congr {a a' : ℕ → EReal} : ∀ n, (∀ k, k < n → a k = a' k) → fac a n = fac a' n
  | 0, _ => rfl
  | n + 1, ha => by
    simp only [fac]
    rw [fac_congr n (fun k h => ha k (h.trans n.lt_succ_self)), ha n n.lt_succ_self]

theorem tanh_mul_exp (r : ℝ) : (0 - Real.tanh r) * (Real.exp r * Real.exp r + 1) = -(Real.exp (2 * r) - 1) := by
  have h : Real.exp r * Real.exp (-r) = 1 := by rw [← Real.exp_add]; simp
  have e : Real.exp (2 * r) = Real.exp r * Real.exp r := by rw [two_mul, Real.exp_add]
  have p := Real.exp_pos r
  have q := Real.exp_pos (-r)
  rw [e, Real.tanh_eq_sinh_div_cosh, Real.sinh_eq, Real.cosh_eq]
  field_simp
  linear_combination (2 * Real.exp r) * h

/-- The normaliser's two spellings agree at every extended real. -/
theorem normaliser (x : EReal) :
    (0 - Ideal.tanh x) * (Ideal.exp x * Ideal.exp x + 1) = -(Ideal.exp (2 * x) - 1) := by
  induction x using EReal.rec with
  | bot =>
    rw [EReal.mul_bot_of_pos (by norm_num)]
    simp
  | top =>
    rw [EReal.mul_top_of_pos (by norm_num)]
    simp only [Ideal.tanh_top, Ideal.exp_top, EReal.top_mul_top]
    rw [EReal.top_add_of_ne_bot (by exact EReal.coe_ne_bot 1)]
    have : (0 - 1 : EReal) = ((-1 : ℝ) : EReal) := by norm_num
    rw [this, EReal.coe_mul_top_of_neg (by norm_num)]
    rw [show (⊤ - 1 : EReal) = ⊤ from EReal.top_sub_coe 1]; rfl
  | coe r =>
    rw [show (2 : EReal) = ((2 : ℝ) : EReal) from rfl, ← EReal.coe_mul]
    simp only [Ideal.tanh_coe, Ideal.exp_coe]
    have := tanh_mul_exp r
    exact_mod_cast congrArg (fun z : ℝ => (z : EReal)) this

theorem logistic_nonneg (x : EReal) : 0 ≤ Ideal.logistic x := by
  induction x using EReal.rec with
  | bot => simp
  | top => simp
  | coe r =>
    rw [Ideal.logistic_coe]
    exact_mod_cast inv_nonneg.mpr (by positivity)

theorem exp_nonneg (x : EReal) : 0 ≤ Ideal.exp x := by
  induction x using EReal.rec with
  | bot => simp
  | top => simp
  | coe r => rw [Ideal.exp_coe]; exact_mod_cast (Real.exp_pos r).le

theorem exp_ne_top {x : EReal} (h : x ≤ 0) : Ideal.exp x ≠ ⊤ := by
  induction x using EReal.rec with
  | bot => simp
  | top => simp at h
  | coe r => rw [Ideal.exp_coe]; exact EReal.coe_ne_top _

end Cert.Lru

end
-- ==== Proof.Gates.lean ====
/- A tile's padded block, convolution, gates, factors and inputs, read at a row and a lane. -/
module

public import proofs.«01_k».proof.Proof.TileRun
public import proofs.«01_k».proof.Proof.Scan

@[expose] public section

set_option maxRecDepth 16384
set_option maxHeartbeats 1000000

noncomputable section

namespace Cert.Lru

open Idealize.ShloMosaic Idealize.ShloMosaic.TcCoe Cert.KernelIdeal Cert.KernelIdeal.Gen

/-- The padded block at a row and a lane: the rows before and after the tile, zero outside the sequence. -/
def pad (i : grid0.Coords) (X0 : Vec Ideal S1x512x384 .bf16) (X1 X2 : Vec Ideal S1x16x384 .bf16) (r : ℕ) (l : Fin 384) : EReal :=
  if h : r < 16 then (if (i 2).val = 0 then 0 else X1 (ix3 0 ⟨r, h⟩ l))
  else if h : r < 528 then X0 (ix3 0 ⟨r - 16, by omega⟩ l)
  else if h : r < 544 then (if (i 2).val = 15 then 0 else X2 (ix3 0 ⟨r - 528, by omega⟩ l))
  else 0

theorem sel_eq {α : Type} (n : ℕ) (hn : n < 16) (m : ℕ) (hm : m < 16) (a b : α) :
    Scalar.select (Scalar.cmpi .eq (BitVec.ofNat 32 n) (BitVec.ofNat 32 m)) a b = if n = m then a else b := by
  interval_cases n <;> interval_cases m <;> rfl

theorem pay16_at (i : grid0.Coords) (x : Vec Ideal S1x16x384 .bf16) (r : Fin 16) (l : Fin 384) :
    k0_pay16 i x (ix2 r l) = if (i 2).val = 0 then 0 else x (ix3 0 r l) := by
  unfold k0_pay16
  have h := sel_eq (i 2).val (i 2).isLt 0 (by decide) (broadcast S16x384 (Scalar.ofBits (F := Ideal) .f32 0x00000000#32))
    (extf .f32 (shapeCast S16x384 x shapeCasts_S1x16x384_S16x384) bitsLt_bf16_f32)
  dsimp only
  rw [shapeCast_self, show (0#32 : BitVec 32) = BitVec.ofNat 32 0 from rfl, h]
  split <;> pointwise

theorem pay18_at (i : grid0.Coords) (x : Vec Ideal S1x16x384 .bf16) (r : Fin 16) (l : Fin 384) :
    k0_pay18 i x (ix2 r l) = if (i 2).val = 15 then 0 else x (ix3 0 r l) := by
  unfold k0_pay18
  have h := sel_eq (i 2).val (i 2).isLt 15 (by decide) (broadcast S16x384 (Scalar.ofBits (F := Ideal) .f32 0x00000000#32))
    (extf .f32 (shapeCast S16x384 x shapeCasts_S1x16x384_S16x384) bitsLt_bf16_f32)
  dsimp only
  rw [shapeCast_self, show (15#32 : BitVec 32) = BitVec.ofNat 32 15 from rfl, h]
  split <;> pointwise

theorem pay17_at (x : Vec Ideal S1x512x384 .bf16) (r : Fin 512) (l : Fin 384) : k0_pay17 x (ix2 r l) = x (ix3 0 r l) := by
  unfold k0_pay17
  pointwise

theorem canon_padL (i : grid0.Coords) (X0 : Vec Ideal S1x512x384 .bf16) (X1 X2 : Vec Ideal S1x16x384 .bf16) (r : Fin 544) (l : Fin 384) :
    View.canon (padL i X0 X1 X2) (ix2 r l) = pad i X0 X1 X2 r.val l := by
  unfold padL pad
  by_cases h1 : r.val < 16
  · rw [dif_pos h1, View.canon_cons_of_not_mem, View.canon_cons_of_not_mem]
    · have e : (ix2 r l) = (Rect.unit (s := S544x384) ![0, 0] S16x384.size inb_S544x384_S16x384_0_0).emb (ix2 ⟨r.val, h1⟩ l) := by
        funext a
        apply Fin.ext
        rw [Rect.emb_apply]
        fin_cases a <;> simp [Rect.unit, ix2]
      rw [e]
      exact (View.canon_cons_emb ..).trans (pay16_at i X1 _ l)
    · rw [Rect.mem_set_unit]
      intro hm
      have m0 := hm 0
      simp [ix2] at m0
      omega
    · rw [Rect.mem_set_unit]
      intro hm
      have m0 := hm 0
      simp [ix2] at m0
      omega
  · rw [dif_neg h1]
    by_cases h2 : r.val < 528
    · rw [dif_pos h2, View.canon_cons_of_not_mem]
      · have e : (ix2 r l) = (Rect.unit (s := S544x384) ![16, 0] S512x384.size inb_S544x384_S512x384_16_0).emb (ix2 ⟨r.val - 16, by omega⟩ l) := by
          funext a
          apply Fin.ext
          rw [Rect.emb_apply]
          fin_cases a <;> simp [Rect.unit, ix2]
          omega
        refine (congrArg _ e).trans ?_
        exact (View.canon_cons_emb ..).trans (pay17_at X0 _ l)
      · rw [Rect.mem_set_unit]
        intro hm
        have m0 := hm 0
        simp [ix2] at m0
        omega
    · rw [dif_neg h2, dif_pos r.isLt]
      have e : (ix2 r l) = (Rect.unit (s := S544x384) ![528, 0] S16x384.size inb_S544x384_S16x384_528_0).emb (ix2 ⟨r.val - 528, by omega⟩ l) := by
        funext a
        apply Fin.ext
        rw [Rect.emb_apply]
        fin_cases a <;> simp [Rect.unit, ix2]
        omega
      refine (congrArg _ e).trans ?_
      exact (View.canon_cons_emb ..).trans (pay18_at i X2 _ l)

theorem padRows_at (arg14 : Memref sig .tc .vmem S544x384 .f32) (i : grid0.Coords) (X0 : Vec Ideal S1x512x384 .bf16)
    (X1 X2 : Vec Ideal S1x16x384 .bf16) (s : Fin 8) (k : Fin 4) (j : Fin 64) (l : Fin 384) :
    padRows arg14 (padL i X0 X1 X2) s k (ix2 j l) = pad i X0 X1 X2 (15 + (64 * s.val + j.val) + k.val) l := by
  unfold padRows
  rw [View.readCov_eq_canon']
  have e : (Rect.unit (s := S544x384) ![15 + 64 * s.val + k.val, 0] S64x384.size (inbPad s k)).toLoadRect.idx (ix2 j l)
      = ix2 (⟨15 + (64 * s.val + j.val) + k.val, by omega⟩ : Fin 544) l := by
    funext a
    apply Fin.ext
    fin_cases a <;> simp [LoadRect.idx, Rect.toLoadRect, Rect.unit, ix2]
    omega
  exact (congrArg _ e).trans (canon_padL i X0 X1 X2 _ l)

section gates

variable (w0 w1 w2 w3 cb nla : Vec Ideal S1x384 .f32) (wg : Vec Ideal S1x384x768 .bf16) (bg : Vec Ideal S1x1x768 .f32)
  (x : Fin 4 → Vec Ideal S64x384 .f32)

/-- The convolution at a row and a lane. -/
def xcRow (j : Fin 64) (l : Fin 384) : EReal :=
  (((w0 (ix2 0 l) * x 0 (ix2 j l) + w1 (ix2 0 l) * x 1 (ix2 j l)) + w2 (ix2 0 l) * x 2 (ix2 j l)) + w3 (ix2 0 l) * x 3 (ix2 j l))
    + cb (ix2 0 l)

/-- The two gates before their logistic, side by side. -/
def gateRow (j : Fin 64) (l : Fin 768) : EReal :=
  (∑ k : Fin 384, xcRow w0 w1 w2 w3 cb x j k * wg (ix3 0 k l)) + bg (ix3 0 0 l)

theorem pay20_at (j : Fin 64) (l : Fin 384) :
    k0_pay20 (k0_pay19 w0) (x 0) w1 (x 1) w2 (x 2) w3 (x 3) cb (ix2 j l) = xcRow w0 w1 w2 w3 cb x j l := by
  unfold k0_pay20 k0_pay19 xcRow
  pointwise

theorem pay21_at (j : Fin 64) (l : Fin 768) :
    k0_pay21 (k0_pay19 w0) (x 0) w1 (x 1) w2 (x 2) w3 (x 3) cb wg bg (ix2 j l) = gateRow w0 w1 w2 w3 cb wg bg x j l := by
  unfold k0_pay21 gateRow
  have h := fun k => pay20_at w0 w1 w2 w3 cb x j k
  generalize k0_pay20 (k0_pay19 w0) (x 0) w1 (x 1) w2 (x 2) w3 (x 3) cb = X at h ⊢
  pointwise
  simp only [h, zero_add]

theorem pay22_at (j : Fin 64) (l : Fin 384) :
    k0_pay22 (k0_pay19 w0) (x 0) w1 (x 1) w2 (x 2) w3 (x 3) cb wg bg (ix2 j l)
      = Ideal.logistic (gateRow w0 w1 w2 w3 cb wg bg x j ⟨l.val, by omega⟩) := by
  unfold k0_pay22
  rw [← pay21_at]
  generalize k0_pay21 (k0_pay19 w0) (x 0) w1 (x 1) w2 (x 2) w3 (x 3) cb wg bg = X
  pointwise

theorem pay23_at (j : Fin 64) (l : Fin 384) :
    k0_pay23 (k0_pay19 w0) (x 0) w1 (x 1) w2 (x 2) w3 (x 3) cb wg bg (ix2 j l)
      = Ideal.logistic (gateRow w0 w1 w2 w3 cb wg bg x j ⟨384 + l.val, by omega⟩) := by
  unfold k0_pay23
  rw [← pay21_at]
  generalize k0_pay21 (k0_pay19 w0) (x 0) w1 (x 1) w2 (x 2) w3 (x 3) cb wg bg = X
  pointwise

theorem segA_at (j : Fin 64) (l : Fin 384) :
    segA w0 w1 w2 w3 cb nla wg bg x (ix2 j l)
      = Ideal.exp (nla (ix2 0 l) * Ideal.logistic (gateRow w0 w1 w2 w3 cb wg bg x j ⟨l.val, by omega⟩)) := by
  unfold segA
  rw [← pay22_at]
  generalize k0_pay22 (k0_pay19 w0) (x 0) w1 (x 1) w2 (x 2) w3 (x 3) cb wg bg = X
  unfold k0_pay25 k0_pay24
  pointwise

theorem segB_at (j : Fin 64) (l : Fin 384) :
    segB w0 w1 w2 w3 cb nla wg bg x (ix2 j l)
      = Ideal.sqrt ((0 - Ideal.tanh (nla (ix2 0 l) * Ideal.logistic (gateRow w0 w1 w2 w3 cb wg bg x j ⟨l.val, by omega⟩)))
          * (Ideal.exp (nla (ix2 0 l) * Ideal.logistic (gateRow w0 w1 w2 w3 cb wg bg x j ⟨l.val, by omega⟩))
            * Ideal.exp (nla (ix2 0 l) * Ideal.logistic (gateRow w0 w1 w2 w3 cb wg bg x j ⟨l.val, by omega⟩)) + 1))
        * (Ideal.logistic (gateRow w0 w1 w2 w3 cb wg bg x j ⟨384 + l.val, by omega⟩) * xcRow w0 w1 w2 w3 cb x j l) := by
  unfold segB
  rw [← pay22_at, ← pay23_at, ← pay20_at]
  generalize k0_pay22 (k0_pay19 w0) (x 0) w1 (x 1) w2 (x 2) w3 (x 3) cb wg bg = X
  generalize k0_pay23 (k0_pay19 w0) (x 0) w1 (x 1) w2 (x 2) w3 (x 3) cb wg bg = Y
  generalize k0_pay20 (k0_pay19 w0) (x 0) w1 (x 1) w2 (x 2) w3 (x 3) cb = Z
  unfold k0_pay26 k0_pay25 k0_pay24
  pointwise

end gates

end Cert.Lru
-- ==== Proof.ScanPays.lean ====
/- What one trip of the kernel's two counted loops stores and carries, read at an index. -/
module

public import proofs.«01_k».proof.Proof.Gen.KernelIdeal.Value
public import Idealize.ShloMosaic.Lib.Pointwise

@[expose] public section

set_option maxRecDepth 8192
set_option maxHeartbeats 4000000

noncomputable section

namespace Cert.Lru

open Idealize.ShloMosaic Idealize.ShloMosaic.TcCoe Cert.KernelIdeal Cert.KernelIdeal.Gen

section pays

variable (h p : FVec Ideal S8x128 .f32) (a b : Vec Ideal S1x1x8x128 .f32) (s : Fin 8) (l : Fin 128)

theorem pay4_at : k0_pay4 h a b (ix2 s l) = a (ix4 0 0 s l) * h (ix2 s l) + b (ix4 0 0 s l) := by
  unfold k0_pay4 k0_pay3
  pointwise

theorem pay9_at : k0_pay9 h a b (ix2 s l) = a (ix4 0 0 s l) * h (ix2 s l) + b (ix4 0 0 s l) := by
  unfold k0_pay9 k0_pay8
  pointwise

theorem pay136_at : k0_pay136 h a b (ix2 s l) = a (ix4 0 0 s l) * h (ix2 s l) + b (ix4 0 0 s l) := by
  unfold k0_pay136 k0_pay135
  pointwise

theorem pay5_at : k0_pay5 p a (ix2 s l) = a (ix4 0 0 s l) * p (ix2 s l) := by
  unfold k0_pay5 k0_pay3
  pointwise

theorem pay10_at : k0_pay10 p a (ix2 s l) = a (ix4 0 0 s l) * p (ix2 s l) := by
  unfold k0_pay10 k0_pay8
  pointwise

theorem pay137_at : k0_pay137 p a (ix2 s l) = a (ix4 0 0 s l) * p (ix2 s l) := by
  unfold k0_pay137 k0_pay135
  pointwise

theorem pay6_at : k0_pay6 h a b (ix4 0 0 s l) = k0_pay4 h a b (ix2 s l) := by
  unfold k0_pay6
  pointwise

theorem pay11_at : k0_pay11 h a b (ix4 0 0 s l) = k0_pay9 h a b (ix2 s l) := by
  unfold k0_pay11
  pointwise

theorem pay138_at : k0_pay138 h a b (ix4 0 0 s l) = k0_pay136 h a b (ix2 s l) := by
  unfold k0_pay138
  pointwise

theorem pay7_at : k0_pay7 p a (ix4 0 0 s l) = k0_pay5 p a (ix2 s l) := by
  unfold k0_pay7
  pointwise

theorem pay139_at : k0_pay139 p a (ix4 0 0 s l) = k0_pay137 p a (ix2 s l) := by
  unfold k0_pay139
  pointwise

theorem pay134_at : k0_pay134 p (ix4 0 0 s l) = p (ix2 s l) := by
  unfold k0_pay134
  pointwise

theorem pay176_at : k0_pay176 p (ix4 0 0 s l) = p (ix2 s l) := by
  unfold k0_pay176
  pointwise

theorem pay12_at : k0_pay12 h b a (ix4 0 0 s l) = b (ix4 0 0 s l) + a (ix4 0 0 s l) * h (ix2 s l) := by
  unfold k0_pay12
  pointwise

theorem pay13_at : k0_pay13 h b a (ix4 0 0 s l) = b (ix4 0 0 s l) + a (ix4 0 0 s l) * h (ix2 s l) := by
  unfold k0_pay13
  pointwise

theorem pay14_at : k0_pay14 h b a (ix2 s l) = b (ix4 0 0 s l) + a (ix4 0 0 s l) * h (ix2 s l) := by
  unfold k0_pay14
  pointwise

end pays

end Cert.Lru
-- ==== Proof.ScanLoop.lean ====
/- The two counted loops of the kernel's body as recurrences. The first walks the 64 rows of the eight row segments
   side by side: it carries the state of each segment started from zero and the product of its factors, and leaves
   both behind in place of the factors and inputs it read. The second adds to every state the product times the value
   the segment starts from. Both are read here at an index (lane block, row, segment, lane). -/
module

public import proofs.«01_k».proof.Proof.Gen.KernelIdeal.Value
public import proofs.«01_k».proof.Proof.Scan
public import proofs.«01_k».proof.Proof.ScanPays
public import Idealize.ShloMosaic.Lib.Pointwise

@[expose] public section

set_option maxRecDepth 8192
set_option maxHeartbeats 4000000

noncomputable section

namespace Cert.Lru

open Idealize.ShloMosaic Idealize.ShloMosaic.TcCoe Cert.KernelIdeal Cert.KernelIdeal.Gen

/-- Reading behind one store of a row of all segments: the row's own payload at that row of that lane block, what was
   there before elsewhere. -/
theorem read_row {κ : Kind} {sp : Space} (v : View sig κ sp S3x64x8x128 .f32) (f : BufTy.Contents (Elt Ideal) v.ty)
    (L : List (View.Piece (Elt Ideal) S3x64x8x128 .f32)) (n k : ℕ) (off : Fin 4 → ℕ) (hoff : off = ![n, k, 0, 0])
    (inb : ∀ a, off a + S1x1x8x128.size a ≤ S3x64x8x128.size a) (P : Vec Ideal S1x1x8x128 .f32)
    (c : Fin 3) (j : Fin 64) (s : Fin 8) (l : Fin 128) :
    v.read (Elt Ideal) (v.writes (Elt Ideal) f (⟨Rect.unit (s := S3x64x8x128) off S1x1x8x128.size inb, P⟩ :: L)) (ix4 c j s l)
      = if c.val = n ∧ j.val = k then P (ix4 0 0 s l) else v.read (Elt Ideal) (v.writes (Elt Ideal) f L) (ix4 c j s l) := by
  subst hoff
  split
  · next h =>
    obtain ⟨h1, h2⟩ := h
    have e : ix4 c j s l = (Rect.unit (s := S3x64x8x128) ![n, k, 0, 0] S1x1x8x128.size inb).emb (ix4 0 0 s l) := by
      subst h1 h2
      funext a
      apply Fin.ext
      fin_cases a <;> simp [Rect.emb_apply, ix4]
    rw [e]
    exact View.read_writes_cons_emb ..
  · next h =>
    rw [View.writes_cons]
    apply View.read_slice_write_of_not_mem
    rw [Rect.map_emb_univ, Rect.mem_set_unit]
    intro hm
    apply h
    have m0 := hm 0
    have m1 := hm 1
    simp [ix4] at m0 m1
    omega

/-- The states and products one trip carries, per lane block. -/
abbrev Acc := FVec Ideal S8x128 .f32 × FVec Ideal S8x128 .f32 × FVec Ideal S8x128 .f32 × FVec Ideal S8x128 .f32
  × FVec Ideal S8x128 .f32 × FVec Ideal S8x128 .f32

/-- The segments' states of a lane block. -/
def hOf (a : Acc) : Fin 3 → FVec Ideal S8x128 .f32 := ![a.1, a.2.2.1, a.2.2.2.2.1]

/-- The segments' products of a lane block. -/
def pOf (a : Acc) : Fin 3 → FVec Ideal S8x128 .f32 := ![a.2.1, a.2.2.2.1, a.2.2.2.2.2]

/-- The row a trip of the first loop reads. -/
abbrev row1 (k : Fin k0_t1_loop.trips) : Fin 64 := ⟨k.val, Nat.lt_of_lt_of_le k.isLt k0_t1_abs.2.1⟩

/-- The row a trip of the second loop reads. -/
abbrev row2 (k : Fin k0_t2_loop.trips) : Fin 64 := ⟨k.val, Nat.lt_of_lt_of_le k.isLt k0_t2_abs.2.1⟩

/-- A row of all segments, loaded from the buffer. -/
theorem ld_row {κ : Kind} {sp : Space} (v : View sig κ sp S3x64x8x128 .f32) (f : BufTy.Contents (Elt Ideal) v.ty)
    (n : Fin 3) (k : Fin 64) (off : Fin 4 → ℕ) (hoff : off = ![n.val, k.val, 0, 0])
    (inb : ∀ a, off a + S1x1x8x128.size a ≤ S3x64x8x128.size a) (s : Fin 8) (l : Fin 128) :
    v.readAt (Elt Ideal) (Rect.unit (s := S3x64x8x128) off S1x1x8x128.size inb).toLoadRect f (ix4 0 0 s l)
      = v.read (Elt Ideal) f (ix4 n k s l) := by
  subst hoff
  rw [View.readAt_apply]
  congr 1
  funext a
  apply Fin.ext
  fin_cases a <;> simp [LoadRect.idx, Rect.toLoadRect, Rect.unit, ix4]

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)

section first

variable (v626 : FVec Ideal S64x384 .f32) (v643 : FVec Ideal S64x128 .f32)

/-- One trip's new states. -/
theorem trip_h (k : Fin k0_t1_loop.trips) (acc : Acc) (f15 : BufTy.Contents (Elt Ideal) arg15.view.ty)
    (f16 : BufTy.Contents (Elt Ideal) arg16.view.ty) (n : Fin 3) (s : Fin 8) (l : Fin 128) :
    hOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
      = arg15.view.read (Elt Ideal) f15 (ix4 n (row1 k) s l) * hOf acc n (ix2 s l)
        + arg16.view.read (Elt Ideal) f16 (ix4 n (row1 k) s l) := by
  unfold tripR_k0_t1
  unfold trip_k0_t1
  fin_cases n
  · refine (pay4_at _ _ _ s l).trans ?_
    rw [ld_row _ _ 0 (row1 k) _ (k0_off1_eq k), ld_row _ _ 0 (row1 k) _ (k0_off1_eq k)]
    rfl
  · refine (pay9_at _ _ _ s l).trans ?_
    refine (congrArg₂ (fun x y => x * _ + y) (ld_row _ _ 1 (row1 k) _ (k0_off2_eq k) _ s l)
      (ld_row _ _ 1 (row1 k) _ (k0_off2_eq k) _ s l)).trans ?_
    rfl
  · refine (pay136_at _ _ _ s l).trans ?_
    refine (congrArg₂ (fun x y => x * _ + y) (ld_row _ _ 2 (row1 k) _ (k0_off3_eq k) _ s l)
      (ld_row _ _ 2 (row1 k) _ (k0_off3_eq k) _ s l)).trans ?_
    rfl

/-- One trip's new products. -/
theorem trip_p (k : Fin k0_t1_loop.trips) (acc : Acc) (f15 : BufTy.Contents (Elt Ideal) arg15.view.ty)
    (f16 : BufTy.Contents (Elt Ideal) arg16.view.ty) (n : Fin 3) (s : Fin 8) (l : Fin 128) :
    pOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
      = arg15.view.read (Elt Ideal) f15 (ix4 n (row1 k) s l) * pOf acc n (ix2 s l) := by
  unfold tripR_k0_t1
  unfold trip_k0_t1
  fin_cases n
  · refine (pay5_at _ _ s l).trans ?_
    rw [ld_row _ _ 0 (row1 k) _ (k0_off1_eq k)]
    rfl
  · refine (pay10_at _ _ s l).trans ?_
    refine (congrArg (fun x => x * _) (ld_row _ _ 1 (row1 k) _ (k0_off2_eq k) _ s l)).trans ?_
    rfl
  · refine (pay137_at _ _ s l).trans ?_
    refine (congrArg (fun x => x * _) (ld_row _ _ 2 (row1 k) _ (k0_off3_eq k) _ s l)).trans ?_
    rfl

/-- What one trip leaves in the buffer of inputs: its row holds the new states. -/
theorem trip_L16 (k : Fin k0_t1_loop.trips) (acc : Acc) (f15 : BufTy.Contents (Elt Ideal) arg15.view.ty)
    (f16 g : BufTy.Contents (Elt Ideal) arg16.view.ty) (n : Fin 3) (j : Fin 64) (s : Fin 8) (l : Fin 128) :
    arg16.view.read (Elt Ideal) (arg16.view.writes (Elt Ideal) g
        (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16).2) (ix4 n j s l)
      = if j.val = k.val then hOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
        else arg16.view.read (Elt Ideal) g (ix4 n j s l) := by
  unfold tripL_k0_t1 tripR_k0_t1
  unfold trip_k0_t1
  dsimp only
  rw [read_row _ _ _ 2 k _ (k0_off3_eq k), read_row _ _ _ 1 k _ (k0_off2_eq k), read_row _ _ _ 0 k _ (k0_off1_eq k),
    View.writes_nil]
  by_cases h : j.val = k.val
  · simp only [h, and_true, if_true]
    fin_cases n
    · exact (if_neg (by decide)).trans ((if_neg (by decide)).trans ((if_pos (by decide)).trans (pay6_at _ _ _ s l)))
    · exact (if_neg (by decide)).trans ((if_pos (by decide)).trans (pay11_at _ _ _ s l))
    · exact (if_pos (by decide)).trans (pay138_at _ _ _ s l)
  · simp only [h, and_false, if_false]

/-- What one trip leaves in the buffer of factors: its row holds the new products. -/
theorem trip_L15 (k : Fin k0_t1_loop.trips) (acc : Acc) (f15 g : BufTy.Contents (Elt Ideal) arg15.view.ty)
    (f16 : BufTy.Contents (Elt Ideal) arg16.view.ty) (n : Fin 3) (j : Fin 64) (s : Fin 8) (l : Fin 128) :
    arg15.view.read (Elt Ideal) (arg15.view.writes (Elt Ideal) g
        (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16).1) (ix4 n j s l)
      = if j.val = k.val then pOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
        else arg15.view.read (Elt Ideal) g (ix4 n j s l) := by
  unfold tripL_k0_t1 tripR_k0_t1
  unfold trip_k0_t1
  dsimp only
  rw [read_row _ _ _ 2 k _ (k0_off3_eq k), read_row _ _ _ 1 k _ (k0_off2_eq k), read_row _ _ _ 0 k _ (k0_off1_eq k),
    View.writes_nil]
  by_cases h : j.val = k.val
  · simp only [h, and_true, if_true]
    fin_cases n
    · exact (if_neg (by decide)).trans ((if_neg (by decide)).trans ((if_pos (by decide)).trans (pay7_at _ _ s l)))
    · exact (if_neg (by decide)).trans ((if_pos (by decide)).trans (pay134_at _ s l))
    · exact (if_pos (by decide)).trans (pay139_at _ _ s l)
  · simp only [h, and_false, if_false]

/-- After `k` trips from zero states and unit products: the states are the recurrence's, the products the factors', and
    both are left behind in the rows walked. -/
theorem scan_after (G15 : BufTy.Contents (Elt Ideal) arg15.view.ty) (G16 : BufTy.Contents (Elt Ideal) arg16.view.ty)
    (a b : Fin 3 → Fin 8 → Fin 128 → ℕ → EReal)
    (ha : ∀ n (j : Fin 64) s l, arg15.view.read (Elt Ideal) G15 (ix4 n j s l) = a n s l j.val)
    (hb : ∀ n (j : Fin 64) s l, arg16.view.read (Elt Ideal) G16 (ix4 n j s l) = b n s l j.val)
    (init : Acc) (hh : ∀ n s l, hOf init n (ix2 s l) = 0) (hp : ∀ n s l, pOf init n (ix2 s l) = 1) :
    ∀ k, k ≤ k0_t1_loop.trips → (∀ n s l,
      hOf (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).1 n (ix2 s l) = rec (a n s l) (b n s l) 0 k
      ∧ pOf (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).1 n (ix2 s l) = fac (a n s l) k
      ∧ ∀ j : Fin 64,
        arg15.view.read (Elt Ideal) (arg15.view.writes (Elt Ideal) G15
            (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).2.1) (ix4 n j s l)
          = (if j.val < k then fac (a n s l) (j.val + 1) else a n s l j.val)
        ∧ arg16.view.read (Elt Ideal) (arg16.view.writes (Elt Ideal) G16
            (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).2.2) (ix4 n j s l)
          = (if j.val < k then rec (a n s l) (b n s l) 0 (j.val + 1) else b n s l j.val))
  | 0, _, n, s, l => by
    rw [st_k0_t1_zero]
    refine ⟨hh n s l, hp n s l, fun j => ⟨?_, ?_⟩⟩
    · exact (ha n j s l).trans (by simp)
    · exact (hb n j s l).trans (by simp)
  | k + 1, hk, n, s, l => by
    have ih := scan_after G15 G16 a b ha hb init hh hp k (by omega) n s l
    obtain ⟨i1, i2, i3⟩ := ih
    have hs := st_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init ⟨k, hk⟩
    dsimp only at hs
    rw [hs]
    generalize hS : st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k = S at i1 i2 i3 ⊢
    have e15 := (i3 (row1 ⟨k, hk⟩)).1
    have e16 := (i3 (row1 ⟨k, hk⟩)).2
    simp only [lt_irrefl, if_false] at e15 e16
    have H := trip_h c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 (arg15.view.writes (Elt Ideal) G15 S.2.1) (arg16.view.writes (Elt Ideal) G16 S.2.2) n s l
    have P := trip_p c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 (arg15.view.writes (Elt Ideal) G15 S.2.1) (arg16.view.writes (Elt Ideal) G16 S.2.2) n s l
    rw [e15, e16, i1] at H
    rw [e15, i2] at P
    refine ⟨H, P, fun j => ⟨?_, ?_⟩⟩
    · refine (congrArg (fun z => arg15.view.read (Elt Ideal) z (ix4 n j s l)) (View.writes_append ..)).trans ?_
      refine (trip_L15 c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 _ _ _ n j s l).trans ?_
      rw [P, (i3 j).1]
      by_cases h : j.val = k
      · rw [if_pos h, if_pos (by omega), h]; rfl
      · rw [if_neg h]
        by_cases h' : j.val < k
        · rw [if_pos h', if_pos (by omega)]
        · rw [if_neg h', if_neg (by omega)]
    · refine (congrArg (fun z => arg16.view.read (Elt Ideal) z (ix4 n j s l)) (View.writes_append ..)).trans ?_
      refine (trip_L16 c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 _ _ _ n j s l).trans ?_
      rw [H, (i3 j).2]
      by_cases h : j.val = k
      · rw [if_pos h, if_pos (by omega), h]; rfl
      · rw [if_neg h]
        by_cases h' : j.val < k
        · rw [if_pos h', if_pos (by omega)]
        · rw [if_neg h', if_neg (by omega)]

end first

section second

variable (v729 v806 v883 : FVec Ideal S8x128 .f32) (v887 : FVec Ideal S1x128 .f32) (v888 : Vec Ideal S1x128 .f32)
  (X15 : BufTy.Contents (Elt Ideal) arg15.view.ty)

/-- What one trip of the second loop leaves: its row of states, each moved by the product times its segment's start. -/
theorem trip_fix (k : Fin k0_t2_loop.trips) (f16 g : BufTy.Contents (Elt Ideal) arg16.view.ty)
    (n : Fin 3) (j : Fin 64) (s : Fin 8) (l : Fin 128) :
    arg16.view.read (Elt Ideal) (arg16.view.writes (Elt Ideal) g
        (tripL_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 v888 X15 k f16)) (ix4 n j s l)
      = if j.val = k.val then arg16.view.read (Elt Ideal) f16 (ix4 n (row2 k) s l)
          + arg15.view.read (Elt Ideal) X15 (ix4 n (row2 k) s l) * (![v729, v806, v883] : Fin 3 → FVec Ideal S8x128 .f32) n (ix2 s l)
        else arg16.view.read (Elt Ideal) g (ix4 n j s l) := by
  unfold tripL_k0_t2
  unfold trip_k0_t2
  dsimp only
  rw [read_row _ _ _ 2 k _ (k0_off6_eq k), read_row _ _ _ 1 k _ (k0_off5_eq k), read_row _ _ _ 0 k _ (k0_off4_eq k),
    View.writes_nil]
  by_cases h : j.val = k.val
  · simp only [h, and_true, if_true]
    fin_cases n
    · refine (if_neg (by decide)).trans ((if_neg (by decide)).trans ((if_pos (by decide)).trans ((pay12_at _ _ _ s l).trans ?_)))
      rw [ld_row _ _ 0 (row2 k) _ (k0_off4_eq k), ld_row _ _ 0 (row2 k) _ (k0_off4_eq k)]
      rfl
    · refine (if_neg (by decide)).trans ((if_pos (by decide)).trans ((pay13_at _ _ _ s l).trans ?_))
      refine (congrArg₂ (fun x y => x + y * _) (ld_row _ _ 1 (row2 k) _ (k0_off5_eq k) _ s l)
        (ld_row _ _ 1 (row2 k) _ (k0_off5_eq k) _ s l)).trans ?_
      rfl
    · refine (if_pos (by decide)).trans ((pay176_at _ s l).trans ((pay14_at _ _ _ s l).trans ?_))
      refine (congrArg₂ (fun x y => x + y * _) (ld_row _ _ 2 (row2 k) _ (k0_off6_eq k) _ s l)
        (ld_row _ _ 2 (row2 k) _ (k0_off6_eq k) _ s l)).trans ?_
      rfl
  · simp only [h, and_false, if_false]

/-- After `k` trips of the second loop. -/
theorem fix_after (G16 : BufTy.Contents (Elt Ideal) arg16.view.ty) (n : Fin 3) (j : Fin 64) (s : Fin 8) (l : Fin 128) :
    ∀ k, k ≤ k0_t2_loop.trips →
      arg16.view.read (Elt Ideal) (arg16.view.writes (Elt Ideal) G16
          (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 v888 X15 G16 k)) (ix4 n j s l)
        = if j.val < k then arg16.view.read (Elt Ideal) G16 (ix4 n j s l)
            + arg15.view.read (Elt Ideal) X15 (ix4 n j s l) * (![v729, v806, v883] : Fin 3 → FVec Ideal S8x128 .f32) n (ix2 s l)
          else arg16.view.read (Elt Ideal) G16 (ix4 n j s l)
  | 0, _ => by
    rw [if_neg (by omega)]; rfl
  | k + 1, hk => by
    have ih := fix_after G16 n j s l k (by omega)
    have hs := pb_k0_t2_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 v888 X15 G16 ⟨k, hk⟩
    dsimp only at hs
    rw [hs, View.writes_append]
    refine (trip_fix c i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 v888 X15 ⟨k, hk⟩ _ _ n j s l).trans ?_
    by_cases h : j.val = k
    · have e : row2 ⟨k, hk⟩ = j := Fin.ext h.symm
      rw [if_pos h, if_pos (by omega), e, ih, if_neg (by omega)]
    · rw [if_neg h, ih]
      by_cases h' : j.val < k
      · rw [if_pos h', if_pos (by omega)]
      · rw [if_neg h', if_neg (by omega)]

end second

end

end Cert.Lru
-- ==== Proof.TileVal.lean ====
/- A tile's result, read at a row and a lane: the recurrence's state after that row. -/
module

public import proofs.«01_k».proof.Proof.TileRun
public import proofs.«01_k».proof.Proof.ScanLoop
public import proofs.«01_k».proof.Proof.Scan

@[expose] public section

set_option maxRecDepth 16384
set_option maxHeartbeats 1000000

noncomputable section

namespace Cert.Lru

open Idealize.ShloMosaic Idealize.ShloMosaic.TcCoe Cert.KernelIdeal Cert.KernelIdeal.Gen

/-- Lane `l` of lane block `n`. -/
abbrev lane (n : Fin 3) (l : Fin 128) : Fin 384 := ⟨128 * n.val + l.val, by omega⟩

theorem cut_at (n : Fin 3) (v : FVec Ideal S64x384 .f32) (j : Fin 64) (l : Fin 128) :
    cut n v (ix4 0 j 0 l) = v (ix2 j (lane n l)) := by
  unfold cut
  pointwise

theorem pay1_at (v : Vec Ideal S1x64x1x128 .f32) (j : Fin 64) (l : Fin 128) : k0_pay1 v (ix3 0 j l) = v (ix4 0 j 0 l) := by
  unfold k0_pay1
  pointwise

theorem fillPiece_mem (V : Fin 8 → FVec Ideal S64x384 .f32) (n : Fin 3) (s : Fin 8) : fillPiece n s (V s) ∈ fill V := by
  unfold fill
  fin_cases n <;> fin_cases s <;> simp

theorem fill_mem (V : Fin 8 → FVec Ideal S64x384 .f32) {p} (hp : p ∈ fill V) : ∃ n s, p = fillPiece n s (V s) := by
  suffices h : ∀ p ∈ fill V, ∃ n s, p = fillPiece n s (V s) from h p hp
  clear hp p
  unfold fill
  simp only [List.forall_mem_cons]
  refine ⟨⟨2, 7, rfl⟩, ⟨1, 7, rfl⟩, ⟨0, 7, rfl⟩, ⟨2, 6, rfl⟩, ⟨1, 6, rfl⟩, ⟨0, 6, rfl⟩, ⟨2, 5, rfl⟩, ⟨1, 5, rfl⟩, ⟨0, 5, rfl⟩, ⟨2, 4, rfl⟩, ⟨1, 4, rfl⟩, ⟨0, 4, rfl⟩, ⟨2, 3, rfl⟩, ⟨1, 3, rfl⟩, ⟨0, 3, rfl⟩, ⟨2, 2, rfl⟩, ⟨1, 2, rfl⟩, ⟨0, 2, rfl⟩, ⟨2, 1, rfl⟩, ⟨1, 1, rfl⟩, ⟨0, 1, rfl⟩, ⟨2, 0, rfl⟩, ⟨1, 0, rfl⟩, ⟨0, 0, rfl⟩, by simp⟩

theorem canon_fill (V : Fin 8 → FVec Ideal S64x384 .f32) (n : Fin 3) (j : Fin 64) (s : Fin 8) (l : Fin 128) :
    View.canon (fill V) (ix4 n j s l) = V s (ix2 j (lane n l)) := by
  refine View.canon_apply_of_pieces (fun y : S3x64x8x128.Idx => V (y 2) (ix2 (y 1) (lane (y 0) (y 3)))) (fill V) ?_ (ix4 n j s l) ?_
  · intro p hp x
    obtain ⟨n, s, rfl⟩ := fill_mem V hp
    obtain ⟨u, j, w, l, rfl⟩ : ∃ (u : Fin 1) (j : Fin 64) (w : Fin 1) (l : Fin 128), x = ix4 u j w l := ⟨x 0, x 1, x 2, x 3, (ix4_eta x).symm⟩
    obtain rfl : u = 0 := Subsingleton.elim _ _
    obtain rfl : w = 0 := Subsingleton.elim _ _
    refine (cut_at n (V s) j l).trans ?_
    have e : (Rect.unit (s := S3x64x8x128) ![n.val, 0, s.val, 0] S1x64x1x128.size (inbFill n s)).emb (ix4 0 j 0 l) = ix4 n j s l := by
      funext a
      apply Fin.ext
      rw [Rect.emb_apply]
      fin_cases a <;> simp [Rect.unit, ix4]
    exact (congrArg (fun y : S3x64x8x128.Idx => V (y 2) (ix2 (y 1) (lane (y 0) (y 3)))) e).symm
  · refine ⟨_, fillPiece_mem V n s, ?_⟩
    show ix4 n j s l ∈ (Rect.unit (s := S3x64x8x128) ![n.val, 0, s.val, 0] S1x64x1x128.size (inbFill n s)).set
    rw [Rect.mem_set_unit]
    intro a
    fin_cases a <;> simp [ix4]

/-- The values the segments start from, one after the other. -/
def seg (h p : Fin 8 → EReal) (o : EReal) : ℕ → EReal
  | 0 => o
  | n + 1 => if hn : n < 8 then p ⟨n, hn⟩ * seg h p o n + h ⟨n, hn⟩ else 0

/-- A segment's start from the one before it. -/
theorem pay140_at (h p : FVec Ideal S8x128 .f32) (o : Vec Ideal S1x128 .f32) (l : Fin 128) :
    k0_pay140 h p o (ix2 0 l) = p (ix2 0 l) * o (ix2 0 l) + h (ix2 0 l) := by
  unfold k0_pay140
  pointwise

theorem pay142_at (h p : FVec Ideal S8x128 .f32) (o : Vec Ideal S1x128 .f32) (l : Fin 128) :
    k0_pay142 h p o (ix2 0 l) = p (ix2 1 l) * (p (ix2 0 l) * o (ix2 0 l) + h (ix2 0 l)) + h (ix2 1 l) := by
  rw [← pay140_at]
  unfold k0_pay142
  generalize k0_pay140 h p o = X
  pointwise

theorem pay145_at (h p : FVec Ideal S8x128 .f32) (v : FVec Ideal S1x128 .f32) (l : Fin 128) :
    k0_pay145 h p v (ix2 0 l) = p (ix2 2 l) * v (ix2 0 l) + h (ix2 2 l) := by
  unfold k0_pay145
  pointwise

theorem pay146_at (h p : FVec Ideal S8x128 .f32) (v : FVec Ideal S1x128 .f32) (l : Fin 128) :
    k0_pay146 h p v (ix2 0 l) = p (ix2 3 l) * k0_pay145 h p v (ix2 0 l) + h (ix2 3 l) := by
  unfold k0_pay146
  generalize k0_pay145 h p v = X
  pointwise

theorem pay147_at (h p : FVec Ideal S8x128 .f32) (v : FVec Ideal S1x128 .f32) (l : Fin 128) :
    k0_pay147 h p v (ix2 0 l) = p (ix2 4 l) * k0_pay146 h p v (ix2 0 l) + h (ix2 4 l) := by
  unfold k0_pay147
  generalize k0_pay146 h p v = X
  pointwise

theorem pay148_at (h p : FVec Ideal S8x128 .f32) (v : FVec Ideal S1x128 .f32) (l : Fin 128) :
    k0_pay148 h p v (ix2 0 l) = p (ix2 5 l) * k0_pay147 h p v (ix2 0 l) + h (ix2 5 l) := by
  unfold k0_pay148
  generalize k0_pay147 h p v = X
  pointwise

theorem pay149_at (h p : FVec Ideal S8x128 .f32) (v : FVec Ideal S1x128 .f32) (l : Fin 128) :
    k0_pay149 h p v (ix2 0 l) = p (ix2 6 l) * k0_pay148 h p v (ix2 0 l) + h (ix2 6 l) := by
  unfold k0_pay149
  generalize k0_pay148 h p v = X
  pointwise

theorem pay151_at (h p : FVec Ideal S8x128 .f32) (v : FVec Ideal S1x128 .f32) (l : Fin 128) :
    k0_pay151 h p v (ix2 0 l) = p (ix2 7 l) * k0_pay149 h p v (ix2 0 l) + h (ix2 7 l) := by
  unfold k0_pay151
  generalize k0_pay149 h p v = X
  pointwise

theorem starts_rows (h p : FVec Ideal S8x128 .f32) (o : Vec Ideal S1x128 .f32) (s : Fin 8) (l : Fin 128) :
    starts h p o (ix2 s l) = (![o (ix2 0 l), k0_pay140 h p o (ix2 0 l), k0_pay142 h p o (ix2 0 l), k0_pay145 h p (k0_pay142 h p o) (ix2 0 l),
      k0_pay146 h p (k0_pay142 h p o) (ix2 0 l), k0_pay147 h p (k0_pay142 h p o) (ix2 0 l), k0_pay148 h p (k0_pay142 h p o) (ix2 0 l),
      k0_pay149 h p (k0_pay142 h p o) (ix2 0 l)] : Fin 8 → EReal) s := by
  unfold starts k0_pay150 k0_pay144 k0_pay143 k0_pay141
  generalize k0_pay149 h p (k0_pay142 h p o) = X7
  generalize k0_pay148 h p (k0_pay142 h p o) = X6
  generalize k0_pay147 h p (k0_pay142 h p o) = X5
  generalize k0_pay146 h p (k0_pay142 h p o) = X4
  generalize k0_pay145 h p (k0_pay142 h p o) = X3
  generalize k0_pay142 h p o = X2
  generalize k0_pay140 h p o = X1
  fin_cases s <;> pointwise <;> rfl

theorem starts_at (h p : FVec Ideal S8x128 .f32) (o : Vec Ideal S1x128 .f32) (s : Fin 8) (l : Fin 128) :
    starts h p o (ix2 s l) = seg (fun s => h (ix2 s l)) (fun s => p (ix2 s l)) (o (ix2 0 l)) s.val := by
  rw [starts_rows]
  fin_cases s <;> simp [seg, pay140_at, pay142_at, pay145_at, pay146_at, pay147_at, pay148_at, pay149_at]

theorem ending_at (h p : FVec Ideal S8x128 .f32) (o : Vec Ideal S1x128 .f32) (l : Fin 128) :
    ending h p o (ix2 0 l) = seg (fun s => h (ix2 s l)) (fun s => p (ix2 s l)) (o (ix2 0 l)) 8 := by
  unfold ending
  simp [seg, pay140_at, pay142_at, pay145_at, pay146_at, pay147_at, pay148_at, pay149_at, pay151_at]

theorem seg_eq (α β : ℕ → EReal) (hα : Tame α) (o : EReal) :
    ∀ n, n ≤ 8 → seg (fun s => rec (fun j => α (64 * s.val + j)) (fun j => β (64 * s.val + j)) 0 64)
      (fun s => fac (fun j => α (64 * s.val + j)) 64) o n = rec α β o (64 * n)
  | 0, _ => rfl
  | n + 1, hn => by
    rw [seg, dif_pos (by omega), seg_eq α β hα o n (by omega), show 64 * (n + 1) = 64 * n + 64 by ring, rec_add,
      rec_eq _ _ (fun k => hα _) (rec α β o (64 * n)), add_comm]

theorem trips1 : Scf.trips k0_t1_loop.lb k0_t1_loop.ub k0_t1_loop.st = 64 := by decide
theorem trips2 : Scf.trips k0_t2_loop.lb k0_t2_loop.ub k0_t2_loop.st = 64 := by decide

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
variable (v626 : FVec Ideal S64x384 .f32) (v643 : FVec Ideal S64x128 .f32)

theorem scan_at (A B : Fin 8 → FVec Ideal S64x384 .f32) (α β : Fin 384 → ℕ → EReal)
    (hA : ∀ s j l, A s (ix2 j l) = α l (64 * s.val + j.val)) (hB : ∀ s j l, B s (ix2 j l) = β l (64 * s.val + j.val))
    (n : Fin 3) (s : Fin 8) (l : Fin 128) :
    hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n (ix2 s l)
        = rec (fun j => α (lane n l) (64 * s.val + j)) (fun j => β (lane n l) (64 * s.val + j)) 0 64
      ∧ pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n (ix2 s l) = fac (fun j => α (lane n l) (64 * s.val + j)) 64
      ∧ ∀ j : Fin 64,
        arg15.view.read (Elt Ideal) (arg15.view.writes (Elt Ideal) arg15.view.junk
            ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).2.1 ++ fill A)) (ix4 n j s l)
          = fac (fun j => α (lane n l) (64 * s.val + j)) (j.val + 1)
        ∧ arg16.view.read (Elt Ideal) (arg16.view.writes (Elt Ideal) arg16.view.junk
            ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).2.2 ++ fill B)) (ix4 n j s l)
          = rec (fun j => α (lane n l) (64 * s.val + j)) (fun j => β (lane n l) (64 * s.val + j)) 0 (j.val + 1) := by
  have h := scan_after c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (arg15.view.writes (Elt Ideal) arg15.view.junk (fill A))
    (arg16.view.writes (Elt Ideal) arg16.view.junk (fill B))
    (fun n s l j => α (lane n l) (64 * s.val + j)) (fun n s l j => β (lane n l) (64 * s.val + j))
    (fun n j s l => by rw [View.read_writes_junk_eq_canon, canon_fill, hA])
    (fun n j s l => by rw [View.read_writes_junk_eq_canon, canon_fill, hB])
    (k0_pay128, k0_pay129, k0_pay130, k0_pay131, k0_pay132, k0_pay133)
    (fun n s l => by
      unfold k0_pay128 k0_pay129 k0_pay130 k0_pay131 k0_pay132 k0_pay133
      fin_cases n <;> simp only [hOf] <;> exact (by pointwise))
    (fun n s l => by
      unfold k0_pay128 k0_pay129 k0_pay130 k0_pay131 k0_pay132 k0_pay133
      fin_cases n <;> simp only [pOf] <;> exact (by pointwise))
    (Scf.trips k0_t1_loop.lb k0_t1_loop.ub k0_t1_loop.st) le_rfl n s l
  obtain ⟨h1, h2, h3⟩ := h
  refine ⟨h1.trans (by rw [trips1]), h2.trans (by rw [trips1]), fun j => ?_⟩
  obtain ⟨h4, h5⟩ := h3 j
  refine ⟨?_, ?_⟩
  · rw [View.writes_append]
    refine h4.trans ?_
    rw [if_pos (by rw [trips1]; exact j.isLt)]
  · rw [View.writes_append]
    refine h5.trans ?_
    rw [if_pos (by rw [trips1]; exact j.isLt)]

theorem states_at (A B : Fin 8 → FVec Ideal S64x384 .f32) (α β : Fin 384 → ℕ → EReal)
    (hA : ∀ s j l, A s (ix2 j l) = α l (64 * s.val + j.val)) (hB : ∀ s j l, B s (ix2 j l) = β l (64 * s.val + j.val))
    (c0 c1 c2 : FVec Ideal S8x128 .f32) (v887 : FVec Ideal S1x128 .f32) (v888 : Vec Ideal S1x128 .f32)
    (n : Fin 3) (j : Fin 64) (s : Fin 8) (l : Fin 128) :
    View.canon (states c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B) c0 c1 c2 v887 v888) (ix4 n j s l)
      = rec (fun j => α (lane n l) (64 * s.val + j)) (fun j => β (lane n l) (64 * s.val + j)) 0 (j.val + 1)
        + fac (fun j => α (lane n l) (64 * s.val + j)) (j.val + 1) * (![c0, c1, c2] : Fin 3 → FVec Ideal S8x128 .f32) n (ix2 s l) := by
  obtain ⟨-, -, h3⟩ := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n s l
  obtain ⟨h4, h5⟩ := h3 j
  rw [← View.read_writes_junk_eq_canon arg16.view]
  unfold states
  rw [View.writes_append]
  refine (fix_after c i arg3 harg3 arg4 harg4 arg5 harg5 arg6 harg6 arg7 harg7 arg8 harg8 arg9 harg9 arg10 harg10 arg11 harg11 arg12 harg12 arg13 harg13 arg14 harg14 arg15 harg15 arg16 harg16 arg17 harg17 c0 c1 c2 v887 v888 _ _ n j s l (Scf.trips k0_t2_loop.lb k0_t2_loop.ub k0_t2_loop.st) le_rfl).trans ?_
  rw [if_pos (by rw [trips2]; exact j.isLt), h4, h5]

end

theorem yPiece_mem (arg16 : Memref sig .tc .vmem S3x64x8x128 .f32) (L : List (View.Piece (Elt Ideal) S3x64x8x128 .f32)) (n : Fin 3) (s : Fin 8) :
    yPiece n s (yRead arg16 L n s) ∈ yOf arg16 L := by
  unfold yOf
  fin_cases n <;> fin_cases s <;> simp

theorem yOf_mem (arg16 : Memref sig .tc .vmem S3x64x8x128 .f32) (L : List (View.Piece (Elt Ideal) S3x64x8x128 .f32))
    {p} (hp : p ∈ yOf arg16 L) : ∃ n s, p = yPiece n s (yRead arg16 L n s) := by
  suffices h : ∀ p ∈ yOf arg16 L, ∃ n s, p = yPiece n s (yRead arg16 L n s) from h p hp
  clear hp p
  unfold yOf
  simp only [List.forall_mem_cons]
  refine ⟨⟨2, 7, rfl⟩, ⟨1, 7, rfl⟩, ⟨0, 7, rfl⟩, ⟨2, 6, rfl⟩, ⟨1, 6, rfl⟩, ⟨0, 6, rfl⟩, ⟨2, 5, rfl⟩, ⟨1, 5, rfl⟩, ⟨0, 5, rfl⟩, ⟨2, 4, rfl⟩, ⟨1, 4, rfl⟩, ⟨0, 4, rfl⟩, ⟨2, 3, rfl⟩, ⟨1, 3, rfl⟩, ⟨0, 3, rfl⟩, ⟨2, 2, rfl⟩, ⟨1, 2, rfl⟩, ⟨0, 2, rfl⟩, ⟨2, 1, rfl⟩, ⟨1, 1, rfl⟩, ⟨0, 1, rfl⟩, ⟨2, 0, rfl⟩, ⟨1, 0, rfl⟩, ⟨0, 0, rfl⟩, by simp⟩

theorem yRead_at (arg16 : Memref sig .tc .vmem S3x64x8x128 .f32) (L : List (View.Piece (Elt Ideal) S3x64x8x128 .f32)) (n : Fin 3) (s : Fin 8)
    (j : Fin 64) (l : Fin 128) : yRead arg16 L n s (ix4 0 j 0 l) = View.canon L (ix4 n j s l) := by
  unfold yRead
  rw [View.readCov_eq_canon']
  refine congrArg (View.canon L) ?_
  funext a
  apply Fin.ext
  fin_cases a <;> simp [LoadRect.idx, Rect.toLoadRect, Rect.unit, ix4]

theorem canon_yOf (arg16 : Memref sig .tc .vmem S3x64x8x128 .f32) (L : List (View.Piece (Elt Ideal) S3x64x8x128 .f32))
    (r : Fin 512) (q : Fin 384) :
    View.canon (yOf arg16 L) (ix3 0 r q)
      = View.canon L (ix4 (⟨q.val / 128, by omega⟩ : Fin 3) (⟨r.val % 64, by omega⟩ : Fin 64) (⟨r.val / 64, by omega⟩ : Fin 8) (⟨q.val % 128, by omega⟩ : Fin 128)) := by
  refine View.canon_apply_of_pieces (fun y : S1x512x384.Idx => View.canon L (ix4 (⟨(y 2).val / 128, by have : (y 2).val < 384 := (y 2).isLt; omega⟩ : Fin 3)
    (⟨(y 1).val % 64, by omega⟩ : Fin 64) (⟨(y 1).val / 64, by have : (y 1).val < 512 := (y 1).isLt; omega⟩ : Fin 8) (⟨(y 2).val % 128, by omega⟩ : Fin 128))) (yOf arg16 L) ?_ (ix3 0 r q) ?_
  · intro p hp x
    obtain ⟨n, s, rfl⟩ := yOf_mem arg16 L hp
    obtain ⟨u, j, l, rfl⟩ : ∃ (u : Fin 1) (j : Fin 64) (l : Fin 128), x = ix3 u j l := ⟨x 0, x 1, x 2, (ix3_eta x).symm⟩
    obtain rfl : u = 0 := Subsingleton.elim _ _
    refine Eq.trans (b := View.canon L (ix4 n j s l)) ((pay1_at (yRead arg16 L n s) j l).trans (yRead_at arg16 L n s j l)) ?_
    have e : (Rect.unit (s := S1x512x384) ![0, 64 * s.val, 128 * n.val] S1x64x128.size (inbY n s)).emb (ix3 0 j l)
        = ix3 0 (⟨64 * s.val + j.val, by omega⟩ : Fin 512) (lane n l) := by
      funext a
      apply Fin.ext
      rw [Rect.emb_apply]
      fin_cases a <;> simp [Rect.unit, ix3]
    refine Eq.trans ?_ (congrArg (fun y : S1x512x384.Idx => View.canon L (ix4 (⟨(y 2).val / 128, by have : (y 2).val < 384 := (y 2).isLt; omega⟩ : Fin 3)
      (⟨(y 1).val % 64, by omega⟩ : Fin 64) (⟨(y 1).val / 64, by have : (y 1).val < 512 := (y 1).isLt; omega⟩ : Fin 8) (⟨(y 2).val % 128, by omega⟩ : Fin 128))) e).symm
    refine congrArg (View.canon L) ?_
    funext a
    apply Fin.ext
    fin_cases a <;> simp [ix4, ix3] <;> omega
  · refine ⟨_, yPiece_mem arg16 L ⟨q.val / 128, by omega⟩ ⟨r.val / 64, by omega⟩, ?_⟩
    show ix3 0 r q ∈ (Rect.unit (s := S1x512x384) ![0, 64 * (r.val / 64), 128 * (q.val / 128)] S1x64x128.size (inbY ⟨q.val / 128, by omega⟩ ⟨r.val / 64, by omega⟩)).set
    rw [Rect.mem_set_unit]
    intro a
    fin_cases a <;> simp [ix3] <;> omega

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
variable (v626 : FVec Ideal S64x384 .f32) (v643 : FVec Ideal S64x128 .f32)

theorem tileC_at (A B : Fin 8 → FVec Ideal S64x384 .f32) (α β : Fin 384 → ℕ → EReal)
    (hA : ∀ s j l, A s (ix2 j l) = α l (64 * s.val + j.val)) (hB : ∀ s j l, B s (ix2 j l) = β l (64 * s.val + j.val))
    (hα : ∀ l, Tame (α l)) (o : Fin 3 → Vec Ideal S1x128 .f32) (n : Fin 3) (l : Fin 128) :
    tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B o n (ix2 0 l) = rec (α (lane n l)) (β (lane n l)) (o n (ix2 0 l)) 512 := by
  have h := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n
  have e : tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B o n = ending (hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n)
      (pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (o n) := by
    fin_cases n <;> rfl
  rw [e, ending_at]
  simp only [fun s => (h s l).1, fun s => (h s l).2.1]
  exact seg_eq (α (lane n l)) (β (lane n l)) (hα _) _ 8 le_rfl

theorem tileY_at (A B : Fin 8 → FVec Ideal S64x384 .f32) (α β : Fin 384 → ℕ → EReal)
    (hA : ∀ s j l, A s (ix2 j l) = α l (64 * s.val + j.val)) (hB : ∀ s j l, B s (ix2 j l) = β l (64 * s.val + j.val))
    (hα : ∀ l, Tame (α l)) (o : Fin 3 → Vec Ideal S1x128 .f32) (v887 : FVec Ideal S1x128 .f32) (v888 : Vec Ideal S1x128 .f32)
    (r : Fin 512) (n : Fin 3) (l : Fin 128) :
    View.canon (tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B (o 0) (o 1) (o 2) v887 v888) (ix3 0 r (lane n l))
      = rec (α (lane n l)) (β (lane n l)) (o n (ix2 0 l)) (r.val + 1) := by
  unfold tileY
  dsimp only
  rw [canon_yOf]
  have en : (⟨(lane n l).val / 128, by omega⟩ : Fin 3) = n := by apply Fin.ext; simp; omega
  have el : (⟨(lane n l).val % 128, by omega⟩ : Fin 128) = l := by apply Fin.ext; simp
  rw [en, el, states_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB]
  have h := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n
  have es : (![starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.1 (o 0),
      starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.1 (o 1),
      starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.2.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.2.2 (o 2)] : Fin 3 → FVec Ideal S8x128 .f32) n
      = starts (hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (o n) := by
    fin_cases n <;> rfl
  rw [es, starts_at]
  simp only [fun s => (h s l).1, fun s => (h s l).2.1]
  rw [seg_eq (α (lane n l)) (β (lane n l)) (hα _) _ (r.val / 64) (by omega), ← rec_eq _ _ (fun k => hα _ _),
    ← rec_add (α (lane n l)) (β (lane n l))]
  congr 1
  omega

end

end Cert.Lru
-- ==== Proof.Step.lean ====
/- What a grid point leaves in the result's block, the carried values and the last state, read at a row and a lane: the
   recurrence over the point's blocks of the arguments. -/
module

public import proofs.«01_k».proof.Proof.Gates
public import proofs.«01_k».proof.Proof.TileVal

@[expose] public section

set_option maxRecDepth 16384
set_option maxHeartbeats 1000000

noncomputable section

namespace Cert.Lru

open Idealize.ShloMosaic Idealize.ShloMosaic.TcCoe Cert.KernelIdeal Cert.KernelIdeal.Gen

section

variable (i : grid0.Coords) (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)

/-- A tile's convolution. -/
def xcT (r : ℕ) (l : Fin 384) : EReal :=
  (((x3 (ix2 0 l) * pad i x0 x1 x2 (15 + r) l + x3 (ix2 1 l) * pad i x0 x1 x2 (15 + r + 1) l)
    + x3 (ix2 2 l) * pad i x0 x1 x2 (15 + r + 2) l) + x3 (ix2 3 l) * pad i x0 x1 x2 (15 + r + 3) l) + x4 (ix2 0 l)

/-- A tile's gates before their logistic. -/
def gateT (r : ℕ) (l : Fin 768) : EReal :=
  (∑ k : Fin 384, xcT i x0 x1 x2 x3 x4 r k * x5 (ix3 0 k l)) + x6 (ix3 0 0 l)

/-- The logarithm of a tile's factors. -/
def logT (r : ℕ) (l : Fin 384) : EReal :=
  x7 (ix2 0 l) * Ideal.logistic (gateT i x0 x1 x2 x3 x4 x5 x6 r ⟨l.val, by omega⟩)

/-- A tile's factors. -/
def facT (l : Fin 384) (r : ℕ) : EReal := Ideal.exp (logT i x0 x1 x2 x3 x4 x5 x6 x7 r l)

/-- A tile's inputs. -/
def inpT (l : Fin 384) (r : ℕ) : EReal :=
  Ideal.sqrt ((0 - Ideal.tanh (logT i x0 x1 x2 x3 x4 x5 x6 x7 r l)) * (facT i x0 x1 x2 x3 x4 x5 x6 x7 l r * facT i x0 x1 x2 x3 x4 x5 x6 x7 l r + 1))
    * (Ideal.logistic (gateT i x0 x1 x2 x3 x4 x5 x6 r ⟨384 + l.val, by omega⟩) * xcT i x0 x1 x2 x3 x4 r l)

theorem tame_facT (h7 : ∀ l, x7 (ix2 0 l) ≤ 0) (l : Fin 384) : Tame (facT i x0 x1 x2 x3 x4 x5 x6 x7 l) := by
  intro r
  refine ⟨exp_nonneg _, exp_ne_top ?_⟩
  exact EReal.mul_nonpos_iff.2 (Or.inr ⟨h7 l, logistic_nonneg _⟩)

variable (arg14 : Memref sig .tc .vmem S544x384 .f32) (w0 w1 w2 w3 : Vec Ideal S1x384 .f32)
  (e0 : ∀ l, w0 (ix2 0 l) = x3 (ix2 0 l)) (e1 : ∀ l, w1 (ix2 0 l) = x3 (ix2 1 l)) (e2 : ∀ l, w2 (ix2 0 l) = x3 (ix2 2 l))
  (e3 : ∀ l, w3 (ix2 0 l) = x3 (ix2 3 l))

include e0 e1 e2 e3

theorem xcRow_eq (s : Fin 8) (j : Fin 64) (l : Fin 384) :
    xcRow w0 w1 w2 w3 x4 (padRows arg14 (padL i x0 x1 x2) s) j l = xcT i x0 x1 x2 x3 x4 (64 * s.val + j.val) l := by
  unfold xcRow xcT
  rw [padRows_at, padRows_at, padRows_at, padRows_at, e0, e1, e2, e3]
  rfl

theorem gateRow_eq (s : Fin 8) (j : Fin 64) (l : Fin 768) :
    gateRow w0 w1 w2 w3 x4 x5 x6 (padRows arg14 (padL i x0 x1 x2) s) j l = gateT i x0 x1 x2 x3 x4 x5 x6 (64 * s.val + j.val) l := by
  unfold gateRow gateT
  simp only [xcRow_eq i x0 x1 x2 x3 x4 arg14 w0 w1 w2 w3 e0 e1 e2 e3]

theorem segA_eq (s : Fin 8) (j : Fin 64) (l : Fin 384) :
    segA w0 w1 w2 w3 x4 x7 x5 x6 (padRows arg14 (padL i x0 x1 x2) s) (ix2 j l)
      = facT i x0 x1 x2 x3 x4 x5 x6 x7 l (64 * s.val + j.val) := by
  rw [segA_at, gateRow_eq i x0 x1 x2 x3 x4 x5 x6 arg14 w0 w1 w2 w3 e0 e1 e2 e3]
  rfl

theorem segB_eq (s : Fin 8) (j : Fin 64) (l : Fin 384) :
    segB w0 w1 w2 w3 x4 x7 x5 x6 (padRows arg14 (padL i x0 x1 x2) s) (ix2 j l)
      = inpT i x0 x1 x2 x3 x4 x5 x6 x7 l (64 * s.val + j.val) := by
  rw [segB_at, gateRow_eq i x0 x1 x2 x3 x4 x5 x6 arg14 w0 w1 w2 w3 e0 e1 e2 e3,
    gateRow_eq i x0 x1 x2 x3 x4 x5 x6 arg14 w0 w1 w2 w3 e0 e1 e2 e3, xcRow_eq i x0 x1 x2 x3 x4 arg14 w0 w1 w2 w3 e0 e1 e2 e3]
  rfl

end

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
  (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)
  (x8 : Vec Ideal S1x1x384 .f32) (xs3 : Vec Ideal S1x384 .f32) (h7 : ∀ l, x7 (ix2 0 l) ≤ 0)

include h7

theorem isTile_at {o : Fin 3 → Vec Ideal S1x128 .f32} {Y : List (View.Piece (Elt Ideal) S1x512x384 .bf16)} {C : Fin 3 → FVec Ideal S1x128 .f32}
    (h : IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o Y C) (n : Fin 3) (l : Fin 128) :
    (∀ r : Fin 512, View.canon Y (ix3 0 r (lane n l)) = rec (facT i x0 x1 x2 x3 x4 x5 x6 x7 (lane n l)) (inpT i x0 x1 x2 x3 x4 x5 x6 x7 (lane n l)) (o n (ix2 0 l)) (r.val + 1))
    ∧ C n (ix2 0 l) = rec (facT i x0 x1 x2 x3 x4 x5 x6 x7 (lane n l)) (inpT i x0 x1 x2 x3 x4 x5 x6 x7 (lane n l)) (o n (ix2 0 l)) 512 := by
  obtain ⟨v626, v643, v887, v888, w0, w1, w2, w3, e0, e1, e2, e3, rfl, rfl⟩ := h
  refine ⟨fun r => ?_, ?_⟩
  · exact tileY_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 _ _ (facT i x0 x1 x2 x3 x4 x5 x6 x7) (inpT i x0 x1 x2 x3 x4 x5 x6 x7) (segA_eq i x0 x1 x2 x3 x4 x5 x6 x7 arg14 w0 w1 w2 w3 e0 e1 e2 e3)
      (segB_eq i x0 x1 x2 x3 x4 x5 x6 x7 arg14 w0 w1 w2 w3 e0 e1 e2 e3) (tame_facT i x0 x1 x2 x3 x4 x5 x6 x7 h7) o v887 v888 r n l
  · exact tileC_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 _ _ (facT i x0 x1 x2 x3 x4 x5 x6 x7) (inpT i x0 x1 x2 x3 x4 x5 x6 x7) (segA_eq i x0 x1 x2 x3 x4 x5 x6 x7 arg14 w0 w1 w2 w3 e0 e1 e2 e3)
      (segB_eq i x0 x1 x2 x3 x4 x5 x6 x7 arg14 w0 w1 w2 w3 e0 e1 e2 e3) (tame_facT i x0 x1 x2 x3 x4 x5 x6 x7 h7) o n l

omit h7 in
theorem exists_lane (q : Fin 384) : ∃ n l, q = lane n l :=
  ⟨⟨q.val / 128, by omega⟩, ⟨q.val % 128, by omega⟩, by apply Fin.ext; simp; omega⟩

theorem step_B (hc0 : ¬cond0_0 i) (hc1 : ¬cond0_1 i) (q : Fin 384) :
    (∀ r : Fin 512, out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 r q) = rec (facT i x0 x1 x2 x3 x4 x5 x6 x7 q) (inpT i x0 x1 x2 x3 x4 x5 x6 x7 q) (xs3 (ix2 0 q)) (r.val + 1))
    ∧ sout0_B_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix2 0 q) = rec (facT i x0 x1 x2 x3 x4 x5 x6 x7 q) (inpT i x0 x1 x2 x3 x4 x5 x6 x7 q) (xs3 (ix2 0 q)) 512 := by
  obtain ⟨o, C, ht, ho, hC⟩ := run_B c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs3 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  refine ⟨fun r => ?_, ?_⟩
  · unfold out0_B_9
    rw [View.read_writes_junk_eq_canon]
    exact hY r
  · unfold sout0_B_3
    rw [View.read_writes_junk_eq_canon, hC]
    have := canon_carryL C [] n l
    rw [List.append_nil] at this
    exact this.trans hc

theorem step_C (hc0 : ¬cond0_0 i) (hc1 : cond0_1 i) (q : Fin 384) :
    (∀ r : Fin 512, out0_C_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 r q) = rec (facT i x0 x1 x2 x3 x4 x5 x6 x7 q) (inpT i x0 x1 x2 x3 x4 x5 x6 x7 q) (xs3 (ix2 0 q)) (r.val + 1))
    ∧ sout0_C_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix2 0 q) = rec (facT i x0 x1 x2 x3 x4 x5 x6 x7 q) (inpT i x0 x1 x2 x3 x4 x5 x6 x7 q) (xs3 (ix2 0 q)) 512
    ∧ out0_C_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 0 q) = rec (facT i x0 x1 x2 x3 x4 x5 x6 x7 q) (inpT i x0 x1 x2 x3 x4 x5 x6 x7 q) (xs3 (ix2 0 q)) 512 := by
  obtain ⟨o, C, ht, ho, hC, hT⟩ := run_C c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs3 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  have hcar := canon_carryL C [] n l
  rw [List.append_nil] at hcar
  refine ⟨fun r => ?_, ?_, ?_⟩
  · unfold out0_C_9
    rw [View.read_writes_junk_eq_canon]
    exact hY r
  · unfold sout0_C_3
    rw [View.read_writes_junk_eq_canon, hC]
    exact hcar.trans hc
  · unfold out0_C_10
    rw [View.read_writes_junk_eq_canon, hT, hC]
    have e : (ix3 0 0 (lane n l) : S1x1x384.Idx)
        = (Rect.unit (s := S1x1x384) ![0, 0, 0] S1x1x384.size inb_S1x1x384_S1x1x384_0_0_0).emb (ix3 0 0 (lane n l)) := by
      funext a
      apply Fin.ext
      rw [Rect.emb_apply]
      fin_cases a <;> simp [Rect.unit, ix3]
    refine (congrArg _ e).trans ((View.canon_cons_emb ..).trans ?_)
    have p2 : ∀ v : Vec Ideal S1x384 .f32, k0_pay2 v (ix3 0 0 (lane n l)) = v (ix2 0 (lane n l)) := by
      intro v
      unfold k0_pay2
      pointwise
    refine (p2 _).trans ?_
    rw [View.readCov_eq_canon']
    refine Eq.trans (congrArg (View.canon (carryL C)) ?_) (hcar.trans hc)
    funext a
    apply Fin.ext
    fin_cases a <;> simp [LoadRect.idx, Rect.toLoadRect, Rect.unit, ix2]

theorem step_A (hc0 : cond0_0 i) (hc1 : ¬cond0_1 i) (q : Fin 384) :
    (∀ r : Fin 512, out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix3 0 r q) = rec (facT i x0 x1 x2 x3 x4 x5 x6 x7 q) (inpT i x0 x1 x2 x3 x4 x5 x6 x7 q) (x8 (ix3 0 0 q)) (r.val + 1))
    ∧ sout0_A_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix2 0 q) = rec (facT i x0 x1 x2 x3 x4 x5 x6 x7 q) (inpT i x0 x1 x2 x3 x4 x5 x6 x7 q) (x8 (ix3 0 0 q)) 512 := by
  obtain ⟨o, C, ht, ho, hC⟩ := run_A c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  refine ⟨fun r => ?_, ?_⟩
  · unfold out0_A_9
    rw [View.read_writes_junk_eq_canon]
    exact hY r
  · unfold sout0_A_3
    rw [View.read_writes_junk_eq_canon, hC]
    exact (canon_carryL C (h0L x8) n l).trans hc

end

end Cert.Lru
-- ==== Proof.Carry.lean ====
/- The recurrence over whole sequences, from the arrays the call reads, and what the grid points leave of it: by
   induction along the tiles of a sequence. -/
module

public import proofs.«01_k».proof.Proof.Blocks
public import proofs.«01_k».proof.Proof.Step

@[expose] public section

set_option maxRecDepth 16384
set_option maxHeartbeats 1000000

noncomputable section

namespace Cert.Lru

open Idealize.ShloMosaic Idealize.ShloMosaic.TcCoe Cert.KernelIdeal Cert.KernelIdeal.Gen

section

variable (X : Vec Ideal S2x8192x14336 .bf16) (cw : Vec Ideal S4x3072 .f32) (cb : Vec Ideal S1x3072 .f32)
  (wg : Vec Ideal S8x384x768 .bf16) (bg : Vec Ideal S8x1x768 .f32) (nla : Vec Ideal S1x3072 .f32)

/-- A channel's samples, one zero before them and zeros after them. -/
def xpG (b : Fin 2) (g : Fin 8) (l : Fin 384) (n : ℕ) : EReal :=
  if h : 1 ≤ n ∧ n ≤ 8192 then X (ix3 b (⟨n - 1, by omega⟩ : Fin 8192) (⟨384 * g.val + l.val, by omega⟩ : Fin 14336)) else 0

/-- The convolution at time `n`. -/
def xcG (b : Fin 2) (g : Fin 8) (n : ℕ) (l : Fin 384) : EReal :=
  (((cw (ix2 0 (col g l)) * xpG X b g l n + cw (ix2 1 (col g l)) * xpG X b g l (n + 1))
    + cw (ix2 2 (col g l)) * xpG X b g l (n + 2)) + cw (ix2 3 (col g l)) * xpG X b g l (n + 3)) + cb (ix2 0 (col g l))

/-- The gates at time `n`, before their logistic. -/
def gateG (b : Fin 2) (g : Fin 8) (n : ℕ) (l : Fin 768) : EReal :=
  (∑ k : Fin 384, xcG X cw cb b g n k * wg (ix3 g k l)) + bg (ix3 g 0 l)

/-- The logarithm of the factor at time `n`. -/
def logG (b : Fin 2) (g : Fin 8) (n : ℕ) (l : Fin 384) : EReal :=
  nla (ix2 0 (col g l)) * Ideal.logistic (gateG X cw cb wg bg b g n ⟨l.val, by omega⟩)

/-- The factor at time `n`. -/
def facG (b : Fin 2) (g : Fin 8) (l : Fin 384) (n : ℕ) : EReal := Ideal.exp (logG X cw cb wg bg nla b g n l)

/-- The input at time `n`. -/
def inpG (b : Fin 2) (g : Fin 8) (l : Fin 384) (n : ℕ) : EReal :=
  Ideal.sqrt ((0 - Ideal.tanh (logG X cw cb wg bg nla b g n l)) * (facG X cw cb wg bg nla b g l n * facG X cw cb wg bg nla b g l n + 1))
    * (Ideal.logistic (gateG X cw cb wg bg b g n ⟨384 + l.val, by omega⟩) * xcG X cw cb b g n l)

end

section

variable (m : (ℓ : Loc nD τ sig) → Buf (Elt Ideal) ℓ) (c : Dev nD)

/-- The factors, from the arrays as the call finds them. -/
abbrev facV (b : Fin 2) (g : Fin 8) (l : Fin 384) (n : ℕ) : EReal :=
  facG (V m c main_arg0) (V m c main_v2) (V m c main_v6) (V m c main_v34) (V m c main_v35) (V m c main_v14) b g l n
/-- The inputs, from the arrays as the call finds them. -/
abbrev inpV (b : Fin 2) (g : Fin 8) (l : Fin 384) (n : ℕ) : EReal :=
  inpG (V m c main_arg0) (V m c main_v2) (V m c main_v6) (V m c main_v34) (V m c main_v35) (V m c main_v14) b g l n
/-- The states, from the arrays as the call finds them. -/
def recV (b : Fin 2) (g : Fin 8) (l : Fin 384) (n : ℕ) : EReal :=
  rec (facV m c b g l) (inpV m c b g l) (V m c main_v39 (ix3 b 0 (col g l))) n

variable (t : Fin cfg0.N)

theorem pad_at (r k : ℕ) (hr : r < 512) (hk : k < 4) (l : Fin 384) :
    pad (grid0.coords t) (X0_0 m c t) (X0_1 m c t) (X0_2 m c t) (15 + r + k) l
      = xpG (V m c main_arg0) (bOf t) (gOf t) l (512 * (tOf t).val + r + k) := by
  have ht : (tOf t).val < 16 := (tOf t).isLt
  have hc : (grid0.coords t 2).val = (tOf t).val := coords2 t
  unfold pad xpG
  rw [hc]
  by_cases h1 : 15 + r + k < 16
  · rw [dif_pos h1]
    by_cases h0 : (tOf t).val = 0
    · rw [if_pos h0, dif_neg (by omega)]
    · rw [if_neg h0, dif_pos (by omega), X1_at m c t _ l h0]
      congr 3
      simp only
      omega
  · rw [dif_neg h1]
    by_cases h2 : 15 + r + k < 528
    · rw [dif_pos h2, dif_pos (by omega), X0_at m c t _ l]
      congr 3
      simp only
      omega
    · rw [dif_neg h2, dif_pos (by omega)]
      by_cases h0 : (tOf t).val = 15
      · rw [if_pos h0, dif_neg (by omega)]
      · rw [if_neg h0, dif_pos (by omega), X2_at m c t _ l h0]
        congr 3
        simp only
        omega

theorem xcT_at (r : ℕ) (hr : r < 512) (l : Fin 384) :
    xcT (grid0.coords t) (X0_0 m c t) (X0_1 m c t) (X0_2 m c t) (iblk m c 3 t) (iblk m c 4 t) r l
      = xcG (V m c main_arg0) (V m c main_v2) (V m c main_v6) (bOf t) (gOf t) (512 * (tOf t).val + r) l := by
  unfold xcT xcG
  rw [X3_at, X3_at, X3_at, X3_at, X4_at]
  have p0 := pad_at m c t r 0 hr (by omega) l
  have p1 := pad_at m c t r 1 hr (by omega) l
  have p2 := pad_at m c t r 2 hr (by omega) l
  have p3 := pad_at m c t r 3 hr (by omega) l
  rw [Nat.add_zero, Nat.add_zero] at p0
  rw [p0, p1, p2, p3]

theorem gateT_at (r : ℕ) (hr : r < 512) (l : Fin 768) :
    gateT (grid0.coords t) (X0_0 m c t) (X0_1 m c t) (X0_2 m c t) (iblk m c 3 t) (iblk m c 4 t) (iblk m c 5 t) (iblk m c 6 t) r l
      = gateG (V m c main_arg0) (V m c main_v2) (V m c main_v6) (V m c main_v34) (V m c main_v35) (bOf t) (gOf t) (512 * (tOf t).val + r) l := by
  unfold gateT gateG
  rw [X6_at]
  refine congrArg (· + _) (Finset.sum_congr rfl fun k _ => ?_)
  rw [xcT_at m c t r hr, X5_at]

theorem logT_at (r : ℕ) (hr : r < 512) (l : Fin 384) :
    logT (grid0.coords t) (X0_0 m c t) (X0_1 m c t) (X0_2 m c t) (iblk m c 3 t) (iblk m c 4 t) (iblk m c 5 t) (iblk m c 6 t) (iblk m c 7 t) r l
      = logG (V m c main_arg0) (V m c main_v2) (V m c main_v6) (V m c main_v34) (V m c main_v35) (V m c main_v14) (bOf t) (gOf t) (512 * (tOf t).val + r) l := by
  unfold logT logG
  rw [gateT_at m c t r hr, X7_at]

theorem facT_at (r : ℕ) (hr : r < 512) (l : Fin 384) :
    facT (grid0.coords t) (X0_0 m c t) (X0_1 m c t) (X0_2 m c t) (iblk m c 3 t) (iblk m c 4 t) (iblk m c 5 t) (iblk m c 6 t) (iblk m c 7 t) l r
      = facV m c (bOf t) (gOf t) l (512 * (tOf t).val + r) := by
  unfold facT facV facG
  rw [logT_at m c t r hr]

theorem inpT_at (r : ℕ) (hr : r < 512) (l : Fin 384) :
    inpT (grid0.coords t) (X0_0 m c t) (X0_1 m c t) (X0_2 m c t) (iblk m c 3 t) (iblk m c 4 t) (iblk m c 5 t) (iblk m c 6 t) (iblk m c 7 t) l r
      = inpV m c (bOf t) (gOf t) l (512 * (tOf t).val + r) := by
  unfold inpT inpV inpG
  rw [logT_at m c t r hr, facT_at m c t r hr, gateT_at m c t r hr, xcT_at m c t r hr]

theorem rec_tile (l : Fin 384) (o : EReal) (n : ℕ) (hn : n ≤ 512)
    (ho : o = recV m c (bOf t) (gOf t) l (512 * (tOf t).val)) :
    rec (facT (grid0.coords t) (X0_0 m c t) (X0_1 m c t) (X0_2 m c t) (iblk m c 3 t) (iblk m c 4 t) (iblk m c 5 t) (iblk m c 6 t) (iblk m c 7 t) l)
      (inpT (grid0.coords t) (X0_0 m c t) (X0_1 m c t) (X0_2 m c t) (iblk m c 3 t) (iblk m c 4 t) (iblk m c 5 t) (iblk m c 6 t) (iblk m c 7 t) l) o n
      = recV m c (bOf t) (gOf t) l (512 * (tOf t).val + n) := by
  rw [recV, rec_add]
  exact rec_congr ho n (fun k hk => facT_at m c t k (by omega) l) (fun k hk => inpT_at m c t k (by omega) l)

end

section

variable (m : (ℓ : Loc nD τ sig) → Buf (Elt Ideal) ℓ) (c : Dev nD)

/-- The scaled rates, as the call finds them. -/
def nlaV : Vec Ideal S1x3072 .f32 := V m c main_v14

/-- A grid point's block of the scaled rates. -/
def nlaB (t : Fin cfg0.N) : Vec Ideal S1x384 .f32 := iblk m c 7 t

variable (h7 : ∀ q, nlaV m c (ix2 0 q) ≤ 0)

/-- What a grid point leaves: its rows of the states, the state after its tile, and at a sequence's last tile the last
    state. -/
def Point (t : Fin cfg0.N) (q : Fin 384) : Prop :=
  (∀ r : Fin 512, (outsAt0 m c t.val t.isLt).1 (ix3 0 r q) = recV m c (bOf t) (gOf t) q (512 * (tOf t).val + (r.val + 1)))
    ∧ (outsAt0 m c t.val t.isLt).2.2 (ix2 0 q) = recV m c (bOf t) (gOf t) q (512 * (tOf t).val + 512)
    ∧ (t.val % 16 = 15 → (outsAt0 m c t.val t.isLt).2.1 (ix3 0 0 q) = recV m c (bOf t) (gOf t) q (512 * (tOf t).val + 512))

include h7

theorem nla_le (t : Fin cfg0.N) (l : Fin 384) : nlaB m c t (ix2 0 l) ≤ 0 := by
  have e : nlaB m c t (ix2 0 l) = nlaV m c (ix2 0 (col (gOf t) l)) := X7_at m c t l
  rw [e]
  exact h7 _

theorem point_A (t : Fin cfg0.N) (q : Fin 384) (h0 : t.val % 16 = 0) : Point m c t q := by
  have h1 : ¬t.val % 16 = 15 := by omega
  obtain ⟨s1, s2⟩ := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (nla_le m c h7 t) ((hcond0_0 t).mpr h0) (fun h => h1 ((hcond0_1 t).mp h)) q
  have ho : (iblk m c 8 t : Vec Ideal S1x1x384 .f32) (ix3 0 0 q) = recV m c (bOf t) (gOf t) q (512 * (tOf t).val) := by
    have : (tOf t).val = 0 := h0
    rw [this, X8_at]
    rfl
  unfold Point
  rw [outsAt0_A m c t h0 h1]
  dsimp only
  refine ⟨fun r => (s1 r).trans (rec_tile m c t q _ _ (by omega) ho), s2.trans (rec_tile m c t q _ _ le_rfl ho), fun h => absurd h h1⟩

theorem point_B (t : Fin cfg0.N) (q : Fin 384) (h0 : ¬t.val % 16 = 0) (h1 : ¬t.val % 16 = 15)
    (ho : (outsAt0 m c (t.val - 1) (Nat.lt_of_le_of_lt (Nat.sub_le _ _) t.isLt)).2.2 (ix2 0 q) = recV m c (bOf t) (gOf t) q (512 * (tOf t).val)) :
    Point m c t q := by
  obtain ⟨s1, s2⟩ := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (nla_le m c h7 t)
    (fun h => h0 ((hcond0_0 t).mp h)) (fun h => h1 ((hcond0_1 t).mp h)) q
  unfold Point
  rw [outsAt0_B m c t h0 h1]
  dsimp only
  refine ⟨fun r => (s1 r).trans (rec_tile m c t q _ _ (by omega) ho), s2.trans (rec_tile m c t q _ _ le_rfl ho), fun h => absurd h h1⟩

theorem point_C (t : Fin cfg0.N) (q : Fin 384) (h0 : ¬t.val % 16 = 0) (h1 : t.val % 16 = 15)
    (ho : (outsAt0 m c (t.val - 1) (Nat.lt_of_le_of_lt (Nat.sub_le _ _) t.isLt)).2.2 (ix2 0 q) = recV m c (bOf t) (gOf t) q (512 * (tOf t).val)) :
    Point m c t q := by
  obtain ⟨s1, s2, s3⟩ := step_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (nla_le m c h7 t)
    (fun h => h0 ((hcond0_0 t).mp h)) ((hcond0_1 t).mpr h1) q
  unfold Point
  rw [outsAt0_C m c t h0 h1]
  dsimp only
  refine ⟨fun r => (s1 r).trans (rec_tile m c t q _ _ (by omega) ho), s2.trans (rec_tile m c t q _ _ le_rfl ho), fun _ => ?_⟩
  rw [← rec_tile m c t q _ 512 le_rfl ho]
  exact s3

theorem point_nat (q : Fin 384) : ∀ n (hn : n < cfg0.N), Point m c ⟨n, hn⟩ q
  | 0, hn => point_A m c h7 ⟨0, hn⟩ q rfl
  | n + 1, hn => by
    by_cases h0 : (n + 1) % 16 = 0
    · exact point_A m c h7 ⟨n + 1, hn⟩ q h0
    · have ih := (point_nat q n (by omega)).2.1
      have ho : (outsAt0 m c n (by omega)).2.2 (ix2 0 q)
          = recV m c (bOf ⟨n + 1, hn⟩) (gOf ⟨n + 1, hn⟩) q (512 * (tOf ⟨n + 1, hn⟩).val) := by
        have eb : bOf ⟨n + 1, hn⟩ = bOf ⟨n, by omega⟩ := by apply Fin.ext; simp only [bOf]; omega
        have eg : gOf ⟨n + 1, hn⟩ = gOf ⟨n, by omega⟩ := by apply Fin.ext; simp only [gOf]; omega
        have et : 512 * (tOf ⟨n + 1, hn⟩).val = 512 * (tOf ⟨n, by omega⟩).val + 512 := by simp only [tOf]; omega
        rw [eb, eg, et]
        exact ih
      by_cases h1 : (n + 1) % 16 = 15
      · exact point_C m c h7 ⟨n + 1, hn⟩ q h0 h1 ho
      · exact point_B m c h7 ⟨n + 1, hn⟩ q h0 h1 ho

theorem point (t : Fin cfg0.N) (q : Fin 384) : Point m c t q := point_nat m c h7 q t.val t.isLt

end

end Cert.Lru
-- ==== Proof.HostRead.lean ====
/- The arrays that the host prepares before the call, as the operations that make them. -/
module

public import proofs.«01_k».proof.Proof.Carry
public import Idealize.ShloMosaic.Lib.StableHlo.Run

@[expose] public section

set_option maxRecDepth 16384
set_option maxHeartbeats 4000000

noncomputable section

namespace Cert.Lru

open Idealize.ShloMosaic Idealize.ShloMosaic.TcCoe Cert.KernelIdeal Cert.KernelIdeal.Gen

variable (m : (ℓ : Loc nD τ sig) → Buf (Elt Ideal) ℓ) (c : Dev nD)

/-- Zero as the padding value. -/
def zpad : Vec Ideal S_ .f32 := sitofp (F := Ideal) .f32 (constantI S_ 32 0#32)

/-- The taps of the convolution, a group's 352 channels padded to 384. -/
def v2T (x : Vec Ideal S4x2816 .f32) : Vec Ideal S4x3072 .f32 :=
  shapeCast S4x3072 (Idealize.ShloMosaic.pad S4x8x384 ![0, 0, 0] ![0, 0, 32] ![0, 0, 0] (shapeCast S4x8x352 x shapeCasts_S4x2816_S4x8x352) zpad pads_S4x8x352_S4x8x384_000_000_0320 h_S_) shapeCasts_S4x8x384_S4x3072

/-- A row of channels, a group's 352 channels padded to 384. -/
def v6T (x : Vec Ideal S1x2816 .f32) : Vec Ideal S1x3072 .f32 :=
  shapeCast S1x3072 (Idealize.ShloMosaic.pad S1x8x384 ![0, 0, 0] ![0, 0, 32] ![0, 0, 0] (shapeCast S1x8x352 x shapeCasts_S1x2816_S1x8x352) zpad pads_S1x8x352_S1x8x384_000_000_0320 h_S_) shapeCasts_S1x8x384_S1x3072

/-- A vector of channels as a row. -/
def rowT (x : Vec Ideal S2816 .f32) : FVec Ideal S1x2816 .f32 := broadcastInDim S1x2816 ![1] bcast_S2816_S1x2816_1 x

/-- The softplus of a row. -/
def spT (x : FVec Ideal S1x2816 .f32) : FVec Ideal S1x2816 .f32 :=
  let z : FVec Ideal S1x2816 .f32 := broadcastInDim S1x2816 ![] bcast_S_S1x2816 (constant (F := Ideal) S_ .f32 0x00000000#32)
  select (cmpf (F := Ideal) .une (subf x z) (subf x z)) (addf x z) (addf (maximumf x z) (Host.log1p (Host.exp (Host.negf (Host.absf (subf x z))))))

/-- The factor `-8 · softplus(-lam)` as a row. -/
def laT (x : Vec Ideal S2816 .f32) : FVec Ideal S1x2816 .f32 :=
  mulf (F := Ideal) (broadcastInDim S1x2816 ![] bcast_S_S1x2816 (constant (F := Ideal) S_ .f32 0xC1000000#32)) (spT (Host.negf (F := Ideal) (rowT x)))

/-- The gate weights split in group, half, row, gate and column. -/
def gw5 (x : Vec Ideal S16x176x352 .f32) : Vec Ideal S8x2x176x2x176 .f32 := shapeCast S8x2x176x2x176 x shapeCasts_S16x176x352_S8x2x176x2x176

/-- The first half's blocks. -/
def gwA (x : Vec Ideal S16x176x352 .f32) : Vec Ideal S8x176x2x176 .f32 :=
  shapeCast S8x176x2x176 (extractStridedSlice S8x1x176x2x176 ![0, 0, 0, 0, 0] (gw5 x) slices_S8x2x176x2x176_S8x1x176x2x176_0_0_0_0_0) shapeCasts_S8x1x176x2x176_S8x176x2x176

/-- The second half's blocks. -/
def gwB (x : Vec Ideal S16x176x352 .f32) : Vec Ideal S8x176x2x176 .f32 :=
  shapeCast S8x176x2x176 (extractStridedSlice S8x1x176x2x176 ![0, 1, 0, 0, 0] (gw5 x) slices_S8x2x176x2x176_S8x1x176x2x176_0_1_0_0_0) shapeCasts_S8x1x176x2x176_S8x176x2x176

/-- A pair of equal offsets. -/
def offT (o : BitVec 32) : IVec S2 32 :=
  concatenate S2 0 [⟨S1, broadcastInDim S1 ![] bcast_S_S1 (constantI S_ 32 o)⟩, ⟨S1, broadcastInDim S1 ![] bcast_S_S1 (constantI S_ 32 o)⟩] concatenates_S1_S1_S2_d0

/-- Zeros with the first half's blocks written in. -/
def setA (x : Vec Ideal S16x176x352 .f32) : Vec Ideal S8x384x2x384 .f32 :=
  Host.scatter scatter_S8x384x2x384_S2_S8x176x2x176_0123_n_13_0 (fun _ b => b) (broadcastInDim S8x384x2x384 ![] bcast_S_S8x384x2x384 (constant (F := Ideal) S_ .f32 0x00000000#32) : Vec Ideal S8x384x2x384 .f32) (offT 0#32) (gwA x)

/-- Then the second half's blocks. -/
def setB (x : Vec Ideal S16x176x352 .f32) : Vec Ideal S8x384x2x384 .f32 :=
  Host.scatter scatter_S8x384x2x384_S2_S8x176x2x176_0123_n_13_0 (fun _ b => b) (setA x) (offT 176#32) (gwB x)

/-- The gate weights as the call takes them. -/
def v34T (x : Vec Ideal S16x176x352 .f32) : Vec Ideal S8x384x768 .bf16 :=
  truncf (F := Ideal) .bf16 (shapeCast S8x384x768 (setB x) shapeCasts_S8x384x2x384_S8x384x768 : Vec Ideal S8x384x768 .f32) bitsLt_bf16_f32

/-- The gate biases as the call takes them. -/
def v35T (x : Vec Ideal S16x352 .f32) : Vec Ideal S8x1x768 .f32 :=
  shapeCast S8x1x768 (Idealize.ShloMosaic.pad S8x2x384 ![0, 0, 0] ![0, 0, 32] ![0, 0, 0] (shapeCast S8x2x352 (transpose S8x2x2x176 [0, 2, 1, 3] (shapeCast S8x2x2x176 x shapeCasts_S16x352_S8x2x2x176) transposes_S8x2x2x176_S8x2x2x176_0_2_1_3) shapeCasts_S8x2x2x176_S8x2x352) zpad pads_S8x2x352_S8x2x384_000_000_0320 h_S_) shapeCasts_S8x2x384_S8x1x768

/-- The first state as the call takes it. -/
def v39T (x : Vec Ideal S2x2816 .f32) : Vec Ideal S2x1x3072 .f32 :=
  shapeCast S2x1x3072 (Idealize.ShloMosaic.pad S2x1x8x384 ![0, 0, 0, 0] ![0, 0, 0, 32] ![0, 0, 0, 0] (shapeCast S2x1x8x352 (broadcastInDim S2x1x2816 ![0, 2] bcast_S2x2816_S2x1x2816_0_2 x) shapeCasts_S2x1x2816_S2x1x8x352) zpad pads_S2x1x8x352_S2x1x8x384_000_000_000_0320 h_S_) shapeCasts_S2x1x8x384_S2x1x3072

theorem V_v2 : V m c main_v2 = v2T (m ((c : Thread nD τ).loc main_arg1)) := by
  show StableHlo.after _ _ (Proc.devRef .tc main_v2) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v6 : V m c main_v6 = v6T (rowT (m ((c : Thread nD τ).loc main_arg2))) := by
  show StableHlo.after _ _ (Proc.devRef .tc main_v6) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v14 : V m c main_v14 = v6T (laT (m ((c : Thread nD τ).loc main_arg5))) := by
  show StableHlo.after _ _ (Proc.devRef .tc main_v14) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  simp only [StableHlo.TRef.ofBuf_toBuf]
  unfold v6T laT spT rowT zpad
  dsimp only
  rfl

theorem V_v34 : V m c main_v34 = v34T (m ((c : Thread nD τ).loc main_arg3)) := by
  show StableHlo.after _ _ (Proc.devRef .tc main_v34) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v35 : V m c main_v35 = v35T (m ((c : Thread nD τ).loc main_arg4)) := by
  show StableHlo.after _ _ (Proc.devRef .tc main_v35) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v39 : V m c main_v39 = v39T (m ((c : Thread nD τ).loc main_arg6)) := by
  show StableHlo.after _ _ (Proc.devRef .tc main_v39) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

end Cert.Lru
-- ==== Proof.HostArgs.lean ====
/- The prepared arrays at an index. -/
module

public import proofs.«01_k».proof.Proof.HostRead
public import Idealize.ShloMosaic.Lib.Pointwise
public import Idealize.ShloMosaic.Lib.Routing.OpsSet

@[expose] public section

set_option maxRecDepth 16384
set_option maxHeartbeats 4000000

noncomputable section

namespace Cert.Lru

open Idealize.ShloMosaic Idealize.ShloMosaic.TcCoe Cert.KernelIdeal Cert.KernelIdeal.Gen

theorem zero_word : (FloatOps.sitofp (F := Ideal) FTy.f32 0#32 : EReal) = 0 := by
  show (((0#32 : BitVec 32).toInt : ℝ) : EReal) = 0
  simp

theorem v2T_at (x : Vec Ideal S4x2816 .f32) (k : Fin 4) (g : Fin 8) (l : Fin 384) :
    v2T x (ix2 k (col g l)) = if h : l.val < 352 then x (ix2 k ⟨352 * g.val + l.val, by omega⟩) else (0 : EReal) := by
  unfold v2T zpad
  pointwise
  rw [zero_word]
  by_cases h : l.val < 352
  · rw [dif_pos h, dif_pos (by omega)]
    congr 2; apply Fin.ext; simp only; omega
  · rw [dif_neg h, dif_neg (by omega)]

theorem v6T_at (x : Vec Ideal S1x2816 .f32) (g : Fin 8) (l : Fin 384) :
    v6T x (ix2 0 (col g l)) = if h : l.val < 352 then x (ix2 0 ⟨352 * g.val + l.val, by omega⟩) else (0 : EReal) := by
  unfold v6T zpad
  pointwise
  rw [zero_word]
  by_cases h : l.val < 352
  · rw [dif_pos h, dif_pos (by omega)]
    congr 2; apply Fin.ext; simp only; omega
  · rw [dif_neg h, dif_neg (by omega)]

theorem v39T_at (x : Vec Ideal S2x2816 .f32) (b : Fin 2) (g : Fin 8) (l : Fin 384) :
    v39T x (ix3 b 0 (col g l)) = if h : l.val < 352 then x (ix2 b ⟨352 * g.val + l.val, by omega⟩) else (0 : EReal) := by
  unfold v39T zpad
  pointwise
  rw [zero_word]
  by_cases h : l.val < 352
  · rw [dif_pos h, dif_pos (by omega)]
    congr 2; apply Fin.ext; simp only; omega
  · rw [dif_neg h, dif_neg (by omega)]

/-- The column `384 e + l` of a group's gate columns. -/
def gcol (e : Fin 2) (l : Fin 384) : Fin 768 := ⟨384 * e.val + l.val, by omega⟩

theorem v35T_at (x : Vec Ideal S16x352 .f32) (g : Fin 8) (e : Fin 2) (l : Fin 384) :
    v35T x (ix3 g 0 (gcol e l)) = if h : l.val < 352 then x (ix2 ⟨2 * g.val + l.val / 176, by omega⟩ ⟨176 * e.val + l.val % 176, by omega⟩) else (0 : EReal) := by
  unfold v35T zpad gcol
  pointwise
  rw [zero_word]
  by_cases h : l.val < 352
  · rw [dif_pos h, dif_pos h]
    congr 2 <;> (apply Fin.ext; simp only; omega)
  · rw [dif_neg h, dif_neg h]

theorem rowT_at (x : Vec Ideal S2816 .f32) (l : Fin 2816) : rowT x (ix2 0 l) = x (ix1 l) := by
  unfold rowT
  pointwise

theorem gwA_at (x : Vec Ideal S16x176x352 .f32) (g : Fin 8) (r : Fin 176) (e : Fin 2) (q : Fin 176) :
    gwA x (ix4 g r e q) = x (ix3 ⟨2 * g.val, by omega⟩ r ⟨176 * e.val + q.val, by omega⟩) := by
  unfold gwA gw5
  pointwise
  congr 2 <;> (apply Fin.ext; simp only; omega)

theorem gwB_at (x : Vec Ideal S16x176x352 .f32) (g : Fin 8) (r : Fin 176) (e : Fin 2) (q : Fin 176) :
    gwB x (ix4 g r e q) = x (ix3 ⟨2 * g.val + 1, by omega⟩ r ⟨176 * e.val + q.val, by omega⟩) := by
  unfold gwB gw5
  pointwise
  congr 2 <;> (apply Fin.ext; simp only; omega)

theorem offT_at (o : BitVec 32) (j : S2.Idx) : offT o j = o := by
  obtain ⟨j, rfl⟩ : ∃ q : Fin 2, j = ix1 q := ⟨j 0, funext fun a => by fin_cases a; rfl⟩
  unfold offT
  fin_cases j <;> pointwise

theorem lands (o : BitVec 32) (n : Nat) (hn : o.toInt = n) (hb : n + 176 ≤ 384) (g : Fin 8) (r : Fin 176) (e : Fin 2) (q : Fin 176) :
    scatter_S8x384x2x384_S2_S8x176x2x176_0123_n_13_0.resultIdx? (ix4 g r e q) (offT o) = some (ix4 g ⟨n + r.val, by omega⟩ e ⟨n + q.val, by omega⟩) := by
  have hs : ∀ a : Fin 4, scatter_S8x384x2x384_S2_S8x176x2x176_0123_n_13_0.start (ix4 g r e q) (offT o) a = if a.val % 2 = 1 then (n : Int) else 0 := by
    intro a
    unfold ScatterDims.start
    simp only [offT_at, hn]
    fin_cases a <;> rfl
  have hw : ∀ a : Fin 4, scatter_S8x384x2x384_S2_S8x176x2x176_0123_n_13_0.window (ix4 g r e q) a = ((ix4 g r e q : S8x176x2x176.Idx) a).val := by
    intro a
    fin_cases a <;> rfl
  unfold ScatterDims.resultIdx?
  have key : ∀ a, 0 ≤ scatter_S8x384x2x384_S2_S8x176x2x176_0123_n_13_0.start (ix4 g r e q) (offT o) a + scatter_S8x384x2x384_S2_S8x176x2x176_0123_n_13_0.window (ix4 g r e q) a ∧ scatter_S8x384x2x384_S2_S8x176x2x176_0123_n_13_0.start (ix4 g r e q) (offT o) a + scatter_S8x384x2x384_S2_S8x176x2x176_0123_n_13_0.window (ix4 g r e q) a < S8x384x2x384.size a := by
    intro a
    rw [hs, hw]
    fin_cases a
    · show 0 ≤ (0 : Int) + (g.val : Int) ∧ (0 : Int) + (g.val : Int) < 8; omega
    · show 0 ≤ (n : Int) + (r.val : Int) ∧ (n : Int) + (r.val : Int) < 384; omega
    · show 0 ≤ (0 : Int) + (e.val : Int) ∧ (0 : Int) + (e.val : Int) < 2; omega
    · show 0 ≤ (n : Int) + (q.val : Int) ∧ (n : Int) + (q.val : Int) < 384; omega
  rw [dif_pos key]
  congr 1
  funext a
  apply Fin.ext
  show (_ : Int).toNat = _
  rw [hs, hw]
  fin_cases a
  · show ((0 : Int) + (g.val : Int)).toNat = g.val; omega
  · show ((n : Int) + (r.val : Int)).toNat = n + r.val; omega
  · show ((0 : Int) + (e.val : Int)).toNat = e.val; omega
  · show ((n : Int) + (q.val : Int)).toNat = n + q.val; omega

theorem ix4_eq_iff {a b c d : Nat} (i i' : Fin a) (j j' : Fin b) (k k' : Fin c) (l l' : Fin d) :
    (ix4 i j k l : (⟨4, ![a, b, c, d]⟩ : Shape).Idx) = ix4 i' j' k' l' ↔ i = i' ∧ j = j' ∧ k = k' ∧ l = l' := by
  constructor
  · intro h
    exact ⟨congrFun h 0, congrFun h 1, congrFun h 2, congrFun h 3⟩
  · rintro ⟨rfl, rfl, rfl, rfl⟩; rfl

/-- A window of blocks written at the offset `n` into both axes, at an element. -/
theorem set_at (x0 : Vec Ideal S8x384x2x384 .f32) (u : Vec Ideal S8x176x2x176 .f32) (o : BitVec 32) (n : Nat) (hn : o.toInt = n) (hb : n + 176 ≤ 384)
    (g : Fin 8) (r : Fin 384) (e : Fin 2) (q : Fin 384) :
    Host.scatter scatter_S8x384x2x384_S2_S8x176x2x176_0123_n_13_0 (fun _ b => b) x0 (offT o) u (ix4 g r e q)
      = if h : (n ≤ r.val ∧ r.val < n + 176) ∧ (n ≤ q.val ∧ q.val < n + 176) then u (ix4 g ⟨r.val - n, by omega⟩ e ⟨q.val - n, by omega⟩) else x0 (ix4 g r e q) := by
  have hk : ∀ k : S8x176x2x176.Idx, ∃ g r e q, k = ix4 g r e q := fun k => ⟨k 0, k 1, k 2, k 3, (ix4_eta (n0 := 8) (n1 := 176) (n2 := 2) (n3 := 176) k).symm⟩
  split_ifs with h
  · refine Idealize.ShloMosaic.Routing.scatter_set_hit _ _ _ _ _ _ ?_ (ix4 g ⟨r.val - n, by omega⟩ e ⟨q.val - n, by omega⟩) ?_
    · intro k hk'
      obtain ⟨g', r', e', q', rfl⟩ := hk k
      rw [lands o n hn hb, Option.some_inj, ix4_eq_iff] at hk'
      obtain ⟨h1, h2, h3, h4⟩ := hk'
      have h2 := congrArg Fin.val h2
      have h4 := congrArg Fin.val h4
      simp only at h2 h4
      congr 1
      rw [ix4_eq_iff]
      exact ⟨h1, Fin.ext (by simp only; omega), h3, Fin.ext (by simp only; omega)⟩
    · rw [lands o n hn hb, Option.some_inj, ix4_eq_iff]
      exact ⟨rfl, Fin.ext (by simp only; omega), rfl, Fin.ext (by simp only; omega)⟩
  · refine Idealize.ShloMosaic.Routing.scatter_set_miss _ _ _ _ _ ?_
    intro k hk'
    obtain ⟨g', r', e', q', rfl⟩ := hk k
    rw [lands o n hn hb, Option.some_inj, ix4_eq_iff] at hk'
    obtain ⟨h1, h2, h3, h4⟩ := hk'
    have h2 := congrArg Fin.val h2
    have h4 := congrArg Fin.val h4
    simp only at h2 h4
    omega

theorem setB_at (x : Vec Ideal S16x176x352 .f32) (g : Fin 8) (r : Fin 384) (e : Fin 2) (q : Fin 384) :
    setB x (ix4 g r e q) = if h : r.val < 352 ∧ q.val < 352 ∧ r.val / 176 = q.val / 176 then
      x (ix3 ⟨2 * g.val + r.val / 176, by omega⟩ ⟨r.val % 176, by omega⟩ ⟨176 * e.val + q.val % 176, by omega⟩) else (0 : EReal) := by
  have hz : ∀ i, (broadcastInDim S8x384x2x384 ![] bcast_S_S8x384x2x384 (constant (F := Ideal) S_ .f32 0x00000000#32) : Vec Ideal S8x384x2x384 .f32) i = (0 : EReal) := by
    intro i
    obtain ⟨a, b, c, d, rfl⟩ : ∃ a b c d, i = ix4 a b c d := ⟨i 0, i 1, i 2, i 3, (ix4_eta (n0 := 8) (n1 := 384) (n2 := 2) (n3 := 384) i).symm⟩
    pointwise
  unfold setB
  rw [set_at _ _ 176#32 176 (by decide) (by omega)]
  split_ifs with h1 h2 h2
  · rw [gwB_at]
    congr 2 <;> (apply Fin.ext; simp only; omega)
  · omega
  · unfold setA
    rw [set_at _ _ 0#32 0 (by decide) (by omega), dif_pos (by omega), gwA_at]
    congr 2 <;> (apply Fin.ext; simp only; omega)
  · unfold setA
    rw [set_at _ _ 0#32 0 (by decide) (by omega), dif_neg (by omega), hz]

theorem v34T_at (x : Vec Ideal S16x176x352 .f32) (g : Fin 8) (r : Fin 384) (e : Fin 2) (q : Fin 384) :
    v34T x (ix3 g r (gcol e q)) = if h : r.val < 352 ∧ q.val < 352 ∧ r.val / 176 = q.val / 176 then
      x (ix3 ⟨2 * g.val + r.val / 176, by omega⟩ ⟨r.val % 176, by omega⟩ ⟨176 * e.val + q.val % 176, by omega⟩) else (0 : EReal) := by
  rw [← setB_at]
  unfold v34T gcol
  generalize setB x = y
  pointwise

/-- The softplus. -/
def sp (x : EReal) : EReal := max x 0 + Ideal.log1p (Ideal.exp (-FloatOps.absf (F := Ideal) (φ := .f32) x))

theorem spT_at (x : FVec Ideal S1x2816 .f32) (l : Fin 2816) : spT x (ix2 0 l) = sp (x (ix2 0 l)) := by
  unfold spT sp
  pointwise
  rw [if_neg (fun h => h rfl)]

/-- The literal `-8`. -/
def m8 : EReal := Ideal.ofBits FTy.f32 3238002688#32

theorem m8_eq : m8 = ((-8 : ℝ) : EReal) := by
  unfold m8
  have h2 : BitVec.extractLsb' 31 1 (3238002688#32 : BitVec 32) = 1#1 := by decide
  have h1 : (3238002688 : ℕ) >>> 23 % 256 = 130 := by decide
  simp only [Ideal.ofBits, Ideal.ieee, h2]
  simp [-one_div]
  rw [← EReal.coe_mul]
  norm_num

theorem m8_nonpos : m8 ≤ 0 := by
  rw [m8_eq]
  exact_mod_cast (by norm_num : (-8 : ℝ) ≤ 0)

theorem laT_at (x : Vec Ideal S2816 .f32) (l : Fin 2816) : laT x (ix2 0 l) = m8 * sp (-(x (ix1 l) : EReal)) := by
  have h1 : (Host.negf (F := Ideal) (rowT x)) (ix2 0 l) = (-(x (ix1 l) : EReal)) := by
    rw [← rowT_at x l]
    pointwise
  unfold laT
  have h := spT_at (Host.negf (F := Ideal) (rowT x)) l
  rw [h1] at h
  generalize spT (Host.negf (F := Ideal) (rowT x)) = f at h ⊢
  pointwise
  rw [h]
  rfl

theorem log_nonneg (x : EReal) (h : 1 ≤ x) : 0 ≤ Ideal.log x := by
  induction x using EReal.rec with
  | bot => exact absurd (le_bot_iff.1 h) (by decide)
  | top => simp
  | coe r =>
    have h : (1 : ℝ) ≤ r := by exact_mod_cast h
    have e : Ideal.log (r : EReal) = (Real.log r : EReal) := by
      show (if r ≤ 0 then (⊥ : EReal) else _) = _
      rw [if_neg (by linarith)]
    rw [e]
    exact_mod_cast Real.log_nonneg h

theorem sp_nonneg (x : EReal) : 0 ≤ sp x := by
  unfold sp
  refine add_nonneg (le_max_right _ _) ?_
  refine log_nonneg _ ?_
  calc (1 : EReal) = 1 + 0 := by simp
    _ ≤ _ := add_le_add le_rfl (exp_nonneg _)

theorem laT_nonpos (x : Vec Ideal S2816 .f32) (l : Fin 2816) : (laT x (ix2 0 l) : EReal) ≤ 0 := by
  rw [laT_at]
  exact EReal.mul_nonpos_iff.2 (Or.inr ⟨m8_nonpos, sp_nonneg _⟩)

theorem v14_nonpos (m : (ℓ : Loc nD τ sig) → Buf (Elt Ideal) ℓ) (c : Dev nD) (q : Fin 3072) : nlaV m c (ix2 0 q) ≤ 0 := by
  unfold nlaV
  rw [V_v14]
  have e : q = col ⟨q.val / 384, by omega⟩ ⟨q.val % 384, by omega⟩ := by
    apply Fin.ext; unfold col; simp only; omega
  rw [e, v6T_at]
  split_ifs with h
  · exact laT_nonpos _ _
  · exact le_rfl

end Cert.Lru
-- ==== Proof.RefArgs.lean ====
/- The reference's values before its loop, at an index. -/
module

public import proofs.«01_k».proof.Proof.HostArgs
public import proofs.«01_k».proof.Proof.Gen.ReferenceIdeal.Step
public import Idealize.ShloMosaic.Lib.Pointwise

@[expose] public section

set_option maxRecDepth 16384
set_option maxHeartbeats 4000000

noncomputable section

namespace Cert.LruRef

open Idealize.ShloMosaic Idealize.ShloMosaic.TcCoe Cert.ReferenceIdeal Cert.ReferenceIdeal.Gen Cert.ReferenceIdeal.Step
open Cert.Lru (zero_word sp m8)

variable (a0 : Vec Ideal S2x8192x14336 .bf16) (a1 : Vec Ideal S4x2816 .f32) (a2 : Vec Ideal S2816 .f32) (a3 : Vec Ideal S16x176x352 .f32) (a4 : Vec Ideal S16x352 .f32) (a5 : Vec Ideal S2816 .f32)

/-- The padded input of channel `l`. -/
def xR (b : Fin 2) (l : Fin 2816) (n : ℕ) : EReal :=
  if h : 1 ≤ n ∧ n ≤ 8192 then a0 (ix3 b ⟨n - 1, by omega⟩ ⟨384 * (l.val / 352) + l.val % 352, by omega⟩) else 0

/-- The convolution's output. -/
def xlR (b : Fin 2) (n : ℕ) (l : Fin 2816) : EReal :=
  ((((a1 (ix2 0 l) : EReal) * xR a0 b l n + a1 (ix2 1 l) * xR a0 b l (n + 1)) + a1 (ix2 2 l) * xR a0 b l (n + 2)) + a1 (ix2 3 l) * xR a0 b l (n + 3)) + a2 (ix1 l)

/-- The gates before the logistic function. -/
def gateR (b : Fin 2) (n : ℕ) (h : Fin 16) (j : Fin 352) : EReal :=
  (∑ k : Fin 176, (a3 (ix3 h k j) : EReal) * xlR a0 a1 a2 b n ⟨176 * h.val + k.val, by omega⟩) + a4 (ix2 h j)

theorem v5_at (b : Fin 2) (n : Fin 8195) (l : Fin 2816) : A_main_v5 (F := Ideal) a0 a1 a2 a3 a4 a5 (ix3 b n l) = xR a0 b l n.val := by
  unfold A_main_v5 A_main_v4 A_main_v3 A_main_v2 A_main_v1 A_main_v0 K_main_call0_v0 K_main_c xR
  pointwise
  rw [zero_word]
  by_cases h : 1 ≤ n.val ∧ n.val ≤ 8192
  · rw [dif_pos h, dif_pos (by omega)]
    congr 2; apply Fin.ext; simp only; omega
  · rw [dif_neg h, dif_neg (by omega)]

theorem v35_at (b : Fin 2) (n : Fin 8192) (l : Fin 2816) : A_main_v35 (F := Ideal) a0 a1 a2 a3 a4 a5 (ix3 b n l) = xlR a0 a1 a2 b n.val l := by
  have h := v5_at a0 a1 a2 a3 a4 a5
  unfold A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 xlR
  generalize A_main_v5 (F := Ideal) a0 a1 a2 a3 a4 a5 = f at h ⊢
  pointwise
  simp only [h, Nat.add_comm]

theorem v41_at (b : Fin 2) (n : Fin 8192) (h : Fin 16) (j : Fin 352) : A_main_v41 (F := Ideal) a0 a1 a2 a3 a4 a5 (ix4 b n h j) = gateR a0 a1 a2 a3 a4 b n.val h j := by
  have e := v35_at a0 a1 a2 a3 a4 a5
  unfold A_main_v41 A_main_v40 A_main_v39 A_main_v38 A_main_v37 A_main_v36 gateR
  generalize A_main_v35 (F := Ideal) a0 a1 a2 a3 a4 a5 = f at e ⊢
  pointwise
  simp only [e, Nat.mul_comm]

/-- The logarithm of the decay. -/
def logR (b : Fin 2) (n : ℕ) (l : Fin 2816) : EReal :=
  (m8 * Ideal.logistic (gateR a0 a1 a2 a3 a4 b n ⟨l.val / 176, by omega⟩ ⟨l.val % 176, by omega⟩)) * sp (-(a5 (ix1 l) : EReal))

theorem v49_at (b : Fin 2) (n : Fin 8192) (l : Fin 2816) :
    A_main_v49 (F := Ideal) a0 a1 a2 a3 a4 a5 (ix3 b n l) = Ideal.logistic (gateR a0 a1 a2 a3 a4 b n.val ⟨l.val / 176, by omega⟩ ⟨l.val % 176, by omega⟩) := by
  have e := v41_at a0 a1 a2 a3 a4 a5
  unfold A_main_v49 A_main_v48 A_main_v46 A_main_v44 A_main_v43 A_main_v42 K_main_v45 K_main_v47 K_main_cst K_main_cst_0 Ideal.logistic
  generalize A_main_v41 (F := Ideal) a0 a1 a2 a3 a4 a5 = f at e ⊢
  pointwise
  rw [e]
  try rfl

theorem v57_at (b : Fin 2) (n : Fin 8192) (l : Fin 2816) :
    A_main_v57 (F := Ideal) a0 a1 a2 a3 a4 a5 (ix3 b n l) = Ideal.logistic (gateR a0 a1 a2 a3 a4 b n.val ⟨l.val / 176, by omega⟩ ⟨176 + l.val % 176, by omega⟩) := by
  have e := v41_at a0 a1 a2 a3 a4 a5
  unfold A_main_v57 A_main_v56 A_main_v54 A_main_v52 A_main_v51 A_main_v50 K_main_v53 K_main_v55 K_main_cst_1 K_main_cst_2 Ideal.logistic
  generalize A_main_v41 (F := Ideal) a0 a1 a2 a3 a4 a5 = f at e ⊢
  pointwise
  rw [e]
  try rfl

theorem v61_at (l : Fin 2816) : A_main_v61 (F := Ideal) a0 a1 a2 a3 a4 a5 (ix1 l) = sp (-(a5 (ix1 l) : EReal)) := by
  unfold A_main_v61 A_main_call1_v11 A_main_call1_v10 A_main_call1_v9 A_main_call1_v8 A_main_call1_v7 A_main_call1_v6 A_main_call1_v4 A_main_call1_v3 A_main_call1_v1 A_main_v60 K_main_call1_v0 K_main_call1_v2 K_main_call1_v5 K_main_call1_cst sp
  pointwise
  rw [if_neg (fun h => h rfl)]

theorem v64_at (b : Fin 2) (n : Fin 8192) (l : Fin 2816) :
    A_main_v64 (F := Ideal) a0 a1 a2 a3 a4 a5 (ix3 b n l) = logR a0 a1 a2 a3 a4 a5 b n.val l := by
  have e1 := v49_at a0 a1 a2 a3 a4 a5 b n l
  have e2 := v61_at a0 a1 a2 a3 a4 a5 l
  unfold A_main_v64 A_main_v63 A_main_v62 A_main_v59 K_main_v58 K_main_cst_3 logR
  generalize A_main_v49 (F := Ideal) a0 a1 a2 a3 a4 a5 = f at e1 ⊢
  generalize A_main_v61 (F := Ideal) a0 a1 a2 a3 a4 a5 = f2 at e2 ⊢
  pointwise
  rw [e1, e2]
  rfl

/-- The decay of a channel over the times. -/
def facR (b : Fin 2) (l : Fin 2816) (n : ℕ) : EReal := Ideal.exp (logR a0 a1 a2 a3 a4 a5 b n l)

/-- The input of a channel's recurrence over the times. -/
def inpR (b : Fin 2) (l : Fin 2816) (n : ℕ) : EReal :=
  Ideal.sqrt (-(Ideal.exp (2 * logR a0 a1 a2 a3 a4 a5 b n l) - 1)) * (Ideal.logistic (gateR a0 a1 a2 a3 a4 b n ⟨l.val / 176, by omega⟩ ⟨176 + l.val % 176, by omega⟩) * xlR a0 a1 a2 b n l)

theorem v65_at (b : Fin 2) (n : Fin 8192) (l : Fin 2816) :
    A_main_v65 (F := Ideal) a0 a1 a2 a3 a4 a5 (ix3 b n l) = facR a0 a1 a2 a3 a4 a5 b l n.val := by
  have e := v64_at a0 a1 a2 a3 a4 a5 b n l
  unfold A_main_v65 facR
  generalize A_main_v64 (F := Ideal) a0 a1 a2 a3 a4 a5 = f at e ⊢
  pointwise
  rw [e]

theorem two_eq : Ideal.ofBits FTy.f32 1073741824#32 = (2 : EReal) := by
  have h2 : BitVec.extractLsb' 31 1 (1073741824#32 : BitVec 32) = 0#1 := by decide
  simp only [Ideal.ofBits, Ideal.ieee, h2]
  simp [-one_div]
  rw [← EReal.coe_mul]
  norm_num
  try rfl

theorem v72_at (b : Fin 2) (n : Fin 8192) (l : Fin 2816) :
    A_main_v72 (F := Ideal) a0 a1 a2 a3 a4 a5 (ix3 b n l) = inpR a0 a1 a2 a3 a4 a5 b l n.val := by
  have e1 := v64_at a0 a1 a2 a3 a4 a5 b n l
  have e2 := v57_at a0 a1 a2 a3 a4 a5 b n l
  have e3 := v35_at a0 a1 a2 a3 a4 a5 b n l
  unfold A_main_v72 A_main_v71 A_main_v70 A_main_v69 A_main_v68 A_main_v67 K_main_v66 K_main_cst_4 inpR
  generalize A_main_v64 (F := Ideal) a0 a1 a2 a3 a4 a5 = f at e1 ⊢
  generalize A_main_v57 (F := Ideal) a0 a1 a2 a3 a4 a5 = f2 at e2 ⊢
  generalize A_main_v35 (F := Ideal) a0 a1 a2 a3 a4 a5 = f3 at e3 ⊢
  pointwise
  rw [e1, e2, e3, two_eq]

end Cert.LruRef
-- ==== Proof.RefSteps.lean ====
/- The reference's loop as a sequence of states: each operation of one trip, read off the state the trip starts from,
   is the field of the stated step, so the run's results are the fields of the last state of any sequence that starts at
   the stated initial state and goes on by the stated step. -/
module

public import proofs.«01_k».proof.Proof.Gen.ReferenceIdeal.Run
public import proofs.«01_k».proof.Proof.Gen.ReferenceIdeal.Step

@[expose] public section

noncomputable section

namespace Cert.RefSteps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v74_4) = s.main_v74_4
  f_5 : V0 (Proc.devRef .tc main_v74_5) = s.main_v74_5
  f_0 : V0 (Proc.devRef .tc main_v74_0) = s.main_v74_0
  f_1 : V0 (Proc.devRef .tc main_v74_1) = s.main_v74_1
  n_2 : V0 (Proc.devRef .tc main_v74_2) = constantI S_ 32 (BitVec.ofNat 32 j)
  n_3 : V0 (Proc.devRef .tc main_v74_3) = constantI S_ 32 (BitVec.ofNat 32 j)

variable {V0 s j}

set_option maxRecDepth 8192 in
theorem al_0 (h : Holds V0 s j) : (constantI S_ 32 1#32 : (Proc.devRef .tc main_while0b_c_14 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v74_3)) (constantI S_ 32 1#32) : (Proc.devRef .tc main_while0b_v79 : DevRef τ sig).ty.Contents (Elt F)) = Cert.ReferenceIdeal.Step.b1 j s := by
  unfold Cert.ReferenceIdeal.Step.b1
  rw [← al_0 h, h.n_3]
  try rfl
set_option maxRecDepth 8192 in
theorem al_2 (h : Holds V0 s j) : (constantI S_ 32 0#32 : (Proc.devRef .tc main_while0b_call2_c : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v74_3)) (constantI S_ 32 0#32) : (Proc.devRef .tc main_while0b_call2_v0 : DevRef τ sig).ty.Contents (Elt F)) = Cert.ReferenceIdeal.Step.b3 j s := by
  unfold Cert.ReferenceIdeal.Step.b3
  rw [← al_2 h, h.n_3]
  try rfl
set_option maxRecDepth 8192 in
theorem al_4 (h : Holds V0 s j) : (id (V0 (Proc.devRef .tc main_v74_3)) : (Proc.devRef .tc main_while0b_call2_v1 : DevRef τ sig).ty.Contents (Elt F)) = Cert.ReferenceIdeal.Step.b4 j s := by
  unfold Cert.ReferenceIdeal.Step.b4
  rw [h.n_3]
  try rfl
set_option maxRecDepth 8192 in
theorem al_5 (h : Holds V0 s j) : (constantI S_ 32 8192#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (addi (id (V0 (Proc.devRef .tc main_v74_3))) (constantI S_ 32 8192#32) : (Proc.devRef .tc main_while0b_call2_v2 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (select (cmpi .slt (V0 (Proc.devRef .tc main_v74_3)) (constantI S_ 32 0#32)) (addi (id (V0 (Proc.devRef .tc main_v74_3))) (constantI S_ 32 8192#32)) (V0 (Proc.devRef .tc main_v74_3)) : (Proc.devRef .tc main_while0b_call2_v3 : DevRef τ sig).ty.Contents (Elt F)) = Cert.ReferenceIdeal.Step.b7 j s := by
  unfold Cert.ReferenceIdeal.Step.b7
  rw [← al_3 h, ← al_6 h, h.n_3]
  try rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S2x1x2816 (V0 (Proc.devRef .tc main_v74_0)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) sliceFits_S2x8192x2816_S2x1x2816 : (Proc.devRef .tc main_while0b_call2_v4 : DevRef τ sig).ty.Contents (Elt F)) = Cert.ReferenceIdeal.Step.b10 j s := by
  unfold Cert.ReferenceIdeal.Step.b10
  rw [← al_8 h, ← al_7 h, ← al_9 h, h.f_0]
  try rfl
set_option maxRecDepth 8192 in
theorem al_11 (h : Holds V0 s j) : (shapeCast S2x2816 (Host.dynamicSlice S2x1x2816 (V0 (Proc.devRef .tc main_v74_0)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) sliceFits_S2x8192x2816_S2x1x2816) shapeCasts_S2x1x2816_S2x2816 : (Proc.devRef .tc main_while0b_v80 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (mulf (shapeCast S2x2816 (Host.dynamicSlice S2x1x2816 (V0 (Proc.devRef .tc main_v74_0)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) sliceFits_S2x8192x2816_S2x1x2816) shapeCasts_S2x1x2816_S2x2816) (V0 (Proc.devRef .tc main_v74_4)) : (Proc.devRef .tc main_while0b_v81 : DevRef τ sig).ty.Contents (Elt F)) = Cert.ReferenceIdeal.Step.b12 j s := by
  unfold Cert.ReferenceIdeal.Step.b12
  rw [← al_11 h, h.f_4]
  try rfl
set_option maxRecDepth 8192 in
theorem al_13 (h : Holds V0 s j) : (constantI S_ 32 0#32 : (Proc.devRef .tc main_while0b_call3_c : DevRef τ sig).ty.Contents (Elt F)) = Cert.ReferenceIdeal.Step.b13 j s := by
  unfold Cert.ReferenceIdeal.Step.b13
  rfl
set_option maxRecDepth 8192 in
theorem al_14 (h : Holds V0 s j) : (cmpi .slt (V0 (Proc.devRef .tc main_v74_3)) (constantI S_ 32 0#32) : (Proc.devRef .tc main_while0b_call3_v0 : DevRef τ sig).ty.Contents (Elt F)) = Cert.ReferenceIdeal.Step.b14 j s := by
  unfold Cert.ReferenceIdeal.Step.b14
  rw [← al_13 h, h.n_3]
  try rfl
set_option maxRecDepth 8192 in
theorem al_15 (h : Holds V0 s j) : (id (V0 (Proc.devRef .tc main_v74_3)) : (Proc.devRef .tc main_while0b_call3_v1 : DevRef τ sig).ty.Contents (Elt F)) = Cert.ReferenceIdeal.Step.b15 j s := by
  unfold Cert.ReferenceIdeal.Step.b15
  rw [h.n_3]
  try rfl
set_option maxRecDepth 8192 in
theorem al_16 (h : Holds V0 s j) : (constantI S_ 32 8192#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (addi (id (V0 (Proc.devRef .tc main_v74_3))) (constantI S_ 32 8192#32) : (Proc.devRef .tc main_while0b_call3_v2 : DevRef τ sig).ty.Contents (Elt F)) = Cert.ReferenceIdeal.Step.b17 j s := by
  unfold Cert.ReferenceIdeal.Step.b17
  rw [← al_15 h, ← al_16 h]
  try rfl
set_option maxRecDepth 8192 in
theorem al_18 (h : Holds V0 s j) : (select (cmpi .slt (V0 (Proc.devRef .tc main_v74_3)) (constantI S_ 32 0#32)) (addi (id (V0 (Proc.devRef .tc main_v74_3))) (constantI S_ 32 8192#32)) (V0 (Proc.devRef .tc main_v74_3)) : (Proc.devRef .tc main_while0b_call3_v3 : DevRef τ sig).ty.Contents (Elt F)) = Cert.ReferenceIdeal.Step.b18 j s := by
  unfold Cert.ReferenceIdeal.Step.b18
  rw [← al_14 h, ← al_17 h, h.n_3]
  try rfl
set_option maxRecDepth 8192 in
theorem al_19 (h : Holds V0 s j) : (constantI S_ 32 0#32 : (Proc.devRef .tc main_while0b_call3_c_1 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_2 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S2x1x2816 (V0 (Proc.devRef .tc main_v74_1)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) sliceFits_S2x8192x2816_S2x1x2816 : (Proc.devRef .tc main_while0b_call3_v4 : DevRef τ sig).ty.Contents (Elt F)) = Cert.ReferenceIdeal.Step.b21 j s := by
  unfold Cert.ReferenceIdeal.Step.b21
  rw [← al_19 h, ← al_18 h, ← al_20 h, h.f_1]
  try rfl
set_option maxRecDepth 8192 in
theorem al_22 (h : Holds V0 s j) : (shapeCast S2x2816 (Host.dynamicSlice S2x1x2816 (V0 (Proc.devRef .tc main_v74_1)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) sliceFits_S2x8192x2816_S2x1x2816) shapeCasts_S2x1x2816_S2x2816 : (Proc.devRef .tc main_while0b_v82 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (res_main_while0b_v83 V0 : (Proc.devRef .tc main_while0b_v83 : DevRef τ sig).ty.Contents (Elt F)) = Cert.ReferenceIdeal.Step.b23 j s := by
  unfold res_main_while0b_v83 Cert.ReferenceIdeal.Step.b23
  rw [← al_12 h, ← al_22 h]
  try rfl
set_option maxRecDepth 8192 in
theorem al_24 (h : Holds V0 s j) : (shapeCast S2x8x352 (res_main_while0b_v83 V0) shapeCasts_S2x2816_S2x8x352 : (Proc.devRef .tc main_while0b_v84 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_c_15 : DevRef τ sig).ty.Contents (Elt F)) = Cert.ReferenceIdeal.Step.b25 j s := by
  unfold Cert.ReferenceIdeal.Step.b25
  rfl
set_option maxRecDepth 8192 in
theorem al_26 (h : Holds V0 s j) : (sitofp .f32 (constantI S_ 32 0#32) : (Proc.devRef .tc main_while0b_call4_v0 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (pad S2x8x384 ![0, 0, 0] ![0, 0, 32] ![0, 0, 0] (shapeCast S2x8x352 (res_main_while0b_v83 V0) shapeCasts_S2x2816_S2x8x352) (sitofp .f32 (constantI S_ 32 0#32)) pads_S2x8x352_S2x8x384_000_000_0320 h_S_ : (Proc.devRef .tc main_while0b_v85 : DevRef τ sig).ty.Contents (Elt F)) = Cert.ReferenceIdeal.Step.b27 j s := by
  unfold Cert.ReferenceIdeal.Step.b27
  rw [← al_24 h, ← al_26 h]
  try rfl
set_option maxRecDepth 8192 in
theorem al_28 (h : Holds V0 s j) : (shapeCast S2x3072 (pad S2x8x384 ![0, 0, 0] ![0, 0, 32] ![0, 0, 0] (shapeCast S2x8x352 (res_main_while0b_v83 V0) shapeCasts_S2x2816_S2x8x352) (sitofp .f32 (constantI S_ 32 0#32)) pads_S2x8x352_S2x8x384_000_000_0320 h_S_) shapeCasts_S2x8x384_S2x3072 : (Proc.devRef .tc main_while0b_v86 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (truncf .bf16 (shapeCast S2x3072 (pad S2x8x384 ![0, 0, 0] ![0, 0, 32] ![0, 0, 0] (shapeCast S2x8x352 (res_main_while0b_v83 V0) shapeCasts_S2x2816_S2x8x352) (sitofp .f32 (constantI S_ 32 0#32)) pads_S2x8x352_S2x8x384_000_000_0320 h_S_) shapeCasts_S2x8x384_S2x3072) bitsLt_bf16_f32 : (Proc.devRef .tc main_while0b_v87 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (broadcastInDim S2x1x3072 ![0, 2] bcast_S2x3072_S2x1x3072_0_2 (truncf .bf16 (shapeCast S2x3072 (pad S2x8x384 ![0, 0, 0] ![0, 0, 32] ![0, 0, 0] (shapeCast S2x8x352 (res_main_while0b_v83 V0) shapeCasts_S2x2816_S2x8x352) (sitofp .f32 (constantI S_ 32 0#32)) pads_S2x8x352_S2x8x384_000_000_0320 h_S_) shapeCasts_S2x8x384_S2x3072) bitsLt_bf16_f32) : (Proc.devRef .tc main_while0b_call5_v0 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (constantI S_ 32 0#32 : (Proc.devRef .tc main_while0b_call5_c : DevRef τ sig).ty.Contents (Elt F)) = Cert.ReferenceIdeal.Step.b31 j s := by
  unfold Cert.ReferenceIdeal.Step.b31
  rfl
set_option maxRecDepth 8192 in
theorem al_32 (h : Holds V0 s j) : (cmpi .slt (V0 (Proc.devRef .tc main_v74_3)) (constantI S_ 32 0#32) : (Proc.devRef .tc main_while0b_call5_v1 : DevRef τ sig).ty.Contents (Elt F)) = Cert.ReferenceIdeal.Step.b32 j s := by
  unfold Cert.ReferenceIdeal.Step.b32
  rw [← al_31 h, h.n_3]
  try rfl
set_option maxRecDepth 8192 in
theorem al_33 (h : Holds V0 s j) : (id (V0 (Proc.devRef .tc main_v74_3)) : (Proc.devRef .tc main_while0b_call5_v2 : DevRef τ sig).ty.Contents (Elt F)) = Cert.ReferenceIdeal.Step.b33 j s := by
  unfold Cert.ReferenceIdeal.Step.b33
  rw [h.n_3]
  try rfl
set_option maxRecDepth 8192 in
theorem al_34 (h : Holds V0 s j) : (constantI S_ 32 8192#32 : (Proc.devRef .tc main_while0b_call5_c_0 : DevRef τ sig).ty.Contents (Elt F)) = Cert.ReferenceIdeal.Step.b34 j s := by
  unfold Cert.ReferenceIdeal.Step.b34
  rfl
set_option maxRecDepth 8192 in
theorem al_35 (h : Holds V0 s j) : (addi (id (V0 (Proc.devRef .tc main_v74_3))) (constantI S_ 32 8192#32) : (Proc.devRef .tc main_while0b_call5_v3 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (select (cmpi .slt (V0 (Proc.devRef .tc main_v74_3)) (constantI S_ 32 0#32)) (addi (id (V0 (Proc.devRef .tc main_v74_3))) (constantI S_ 32 8192#32)) (V0 (Proc.devRef .tc main_v74_3)) : (Proc.devRef .tc main_while0b_call5_v4 : DevRef τ sig).ty.Contents (Elt F)) = Cert.ReferenceIdeal.Step.b36 j s := by
  unfold Cert.ReferenceIdeal.Step.b36
  rw [← al_32 h, ← al_35 h, h.n_3]
  try rfl
set_option maxRecDepth 8192 in
theorem al_37 (h : Holds V0 s j) : (constantI S_ 32 0#32 : (Proc.devRef .tc main_while0b_call5_c_1 : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call5_c_2 : DevRef τ sig).ty.Contents (Elt F)) = Cert.ReferenceIdeal.Step.b38 j s := by
  unfold Cert.ReferenceIdeal.Step.b38
  rfl
set_option maxRecDepth 8192 in
theorem al_39 (h : Holds V0 s j) : (Host.dynamicUpdateSlice (V0 (Proc.devRef .tc main_v74_5)) (broadcastInDim S2x1x3072 ![0, 2] bcast_S2x3072_S2x1x3072_0_2 (truncf .bf16 (shapeCast S2x3072 (pad S2x8x384 ![0, 0, 0] ![0, 0, 32] ![0, 0, 0] (shapeCast S2x8x352 (res_main_while0b_v83 V0) shapeCasts_S2x2816_S2x8x352) (sitofp .f32 (constantI S_ 32 0#32)) pads_S2x8x352_S2x8x384_000_000_0320 h_S_) shapeCasts_S2x8x384_S2x3072) bitsLt_bf16_f32)) (fun k => (((![constantI S_ 32 0#32, select (cmpi .slt (V0 (Proc.devRef .tc main_v74_3)) (constantI S_ 32 0#32)) (addi (id (V0 (Proc.devRef .tc main_v74_3))) (constantI S_ 32 8192#32)) (V0 (Proc.devRef .tc main_v74_3)), constantI S_ 32 0#32] : Fin 3 → (⟨S_, .i32⟩ : BufTy).Contents (Elt F))) k (Shape.Idx.first h_S_)).toInt) updateFits_S2x8192x3072_S2x1x3072 : (Proc.devRef .tc main_while0b_v88 : DevRef τ sig).ty.Contents (Elt F)) = Cert.ReferenceIdeal.Step.b39 j s := by
  unfold Cert.ReferenceIdeal.Step.b39
  rw [← al_30 h, ← al_37 h, ← al_36 h, ← al_38 h, h.f_5]
  try rfl

/-! One trip's step of the carried values is `step`, field by field; a counter steps to the next number. -/

theorem step_4 (h : Holds V0 s j) : step_main_v74_4 V0 = (step j s).main_v74_4 := by
  unfold step_main_v74_4 Cert.ReferenceIdeal.Step.step
  show id (res_main_while0b_v83 V0) = _
  rw [al_23 h]
  try rfl
theorem step_5 (h : Holds V0 s j) : step_main_v74_5 V0 = (step j s).main_v74_5 := by
  unfold step_main_v74_5 Cert.ReferenceIdeal.Step.step
  exact al_39 h
theorem step_2 (h : Holds V0 s j) : step_main_v74_2 V0 = constantI S_ 32 (BitVec.ofNat 32 (j + 1)) := by
  unfold step_main_v74_2
  rw [h.n_2]
  funext i
  show BitVec.ofNat 32 j + 1#32 = BitVec.ofNat 32 (j + 1)
  simp only [BitVec.ofNat_add]
theorem step_3 (h : Holds V0 s j) : step_main_v74_3 V0 = constantI S_ 32 (BitVec.ofNat 32 (j + 1)) := by
  unfold step_main_v74_3
  rw [h.n_3]
  funext i
  show BitVec.ofNat 32 j + 1#32 = BitVec.ofNat 32 (j + 1)
  simp only [BitVec.ofNat_add]

set_option maxRecDepth 8192 in
theorem out_main_v78_holds (h : Holds V0 s j) : out_main_v78 V0 = Cert.ReferenceIdeal.Step.R_main_v78 s := by
  unfold out_main_v78 Cert.ReferenceIdeal.Step.R_main_v78
  rw [h.f_4]
  try rfl

/-- One trip keeps the valuation holding: `step` of the state, the same set-up values, the next number. -/
theorem holds_step (h : Holds V0 s j) : Holds (STEP V0) (step j s) (j + 1) where
  f_4 := (STEP_main_v74_4 V0).trans (step_4 h)
  f_5 := (STEP_main_v74_5 V0).trans (step_5 h)
  n_2 := (STEP_main_v74_2 V0).trans (step_2 h)
  n_3 := (STEP_main_v74_3 V0).trans (step_3 h)
  f_0 := (STEP_main_v74_0 V0).trans h.f_0
  f_1 := (STEP_main_v74_1 V0).trans h.f_1

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v74_5) = (it c 8192).main_v74_5
      ∧ r.2.mem ((c.tc : Thread nD τ).loc main_v78) = Cert.ReferenceIdeal.Step.R_main_v78 (it c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 8192
    ⟨(h c).1.trans hk.f_5, (h c).2.1.trans (out_main_v78_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.RefSteps

end
-- ==== Proof.RefLoop.lean ====
/- The reference's loop: the state after each trip, at an index. -/
module

public import proofs.«01_k».proof.Proof.RefArgs
public import proofs.«01_k».proof.Proof.RefSteps
public import proofs.«01_k».proof.Proof.Scan

@[expose] public section

set_option maxRecDepth 16384
set_option maxHeartbeats 4000000

noncomputable section

namespace Cert.LruRef

open Idealize.ShloMosaic Idealize.ShloMosaic.TcCoe Cert.ReferenceIdeal Cert.ReferenceIdeal.Gen Cert.ReferenceIdeal.Step
open Cert.Lru (zero_word rec)

/-- The channel of a lane in use. -/
def ch (q : Fin 3072) (h : q.val % 384 < 352) : Fin 2816 := ⟨352 * (q.val / 384) + q.val % 384, by omega⟩

variable (j : ℕ) (hj : j < 8192) (s : State Ideal)

include hj in
theorem toInt_j : (BitVec.ofNat 32 j).toInt = j := by
  have e : (BitVec.ofNat 32 j).toNat = j := by rw [BitVec.toNat_ofNat]; omega
  rw [BitVec.toInt_eq_toNat_cond, e, if_pos (by omega)]

include hj in
/-- A trip's number below the length is read as itself. -/
theorem word_j : ((Scalar.select (IntOp.cmpi .slt (BitVec.ofNat 32 j) 0#32) (BitVec.ofNat 32 j + 8192#32) (BitVec.ofNat 32 j) : BitVec 32)).toInt = j := by
  have h2 : (BitVec.ofNat 32 j).slt 0#32 = false := by
    rw [BitVec.slt, toInt_j j hj]; simp
  have h3 : IntOp.cmpi .slt (BitVec.ofNat 32 j) 0#32 = 0#1 := by
    unfold IntOp.cmpi
    simp [h2]
  rw [h3]
  exact toInt_j j hj

/-- The start of a row. -/
def st (j : ℕ) : Fin 3 → Int := ![0, j, 0]

include hj in
theorem start_a : (fun k => (((![(b8 j s), (b7 j s), (b9 j s)] : Fin 3 → (⟨S_, .i32⟩ : BufTy).Contents (Elt Ideal))) k (Shape.Idx.first h_S_)).toInt) = st j := by
  funext k
  fin_cases k
  · show (0#32 : BitVec 32).toInt = 0; decide
  · exact word_j j hj
  · show (0#32 : BitVec 32).toInt = 0; decide

include hj in
theorem start_b : (fun k => (((![(b19 j s), (b18 j s), (b20 j s)] : Fin 3 → (⟨S_, .i32⟩ : BufTy).Contents (Elt Ideal))) k (Shape.Idx.first h_S_)).toInt) = st j := by
  funext k
  fin_cases k
  · show (0#32 : BitVec 32).toInt = 0; decide
  · exact word_j j hj
  · show (0#32 : BitVec 32).toInt = 0; decide

include hj in
theorem start_c : (fun k => (((![(b37 j s), (b36 j s), (b38 j s)] : Fin 3 → (⟨S_, .i32⟩ : BufTy).Contents (Elt Ideal))) k (Shape.Idx.first h_S_)).toInt) = st j := by
  funext k
  fin_cases k
  · show (0#32 : BitVec 32).toInt = 0; decide
  · exact word_j j hj
  · show (0#32 : BitVec 32).toInt = 0; decide

theorem cl0 {n1 : ℕ} (h) : Host.clampedStart (⟨3, ![2, 8192, n1]⟩ : Shape) (⟨3, ![2, 1, n1]⟩ : Shape) h (st j) 0 = 0 := by
  unfold Host.clampedStart
  show (min (max (0 : Int) 0) _).toNat = 0
  simp

include hj in
theorem cl1 {n1 : ℕ} (h) : Host.clampedStart (⟨3, ![2, 8192, n1]⟩ : Shape) (⟨3, ![2, 1, n1]⟩ : Shape) h (st j) 1 = j := by
  unfold Host.clampedStart
  show (min (max (j : Int) 0) ((8192 - 1 : ℕ) : Int)).toNat = j
  omega

theorem cl2 {n1 : ℕ} (h) : Host.clampedStart (⟨3, ![2, 8192, n1]⟩ : Shape) (⟨3, ![2, 1, n1]⟩ : Shape) h (st j) 2 = 0 := by
  unfold Host.clampedStart
  show (min (max (0 : Int) 0) _).toNat = 0
  simp

include hj in
theorem row_at (x : FVec Ideal S2x8192x2816 .f32) (b : Fin 2) (l : Fin 2816) :
    Host.dynamicSlice S2x1x2816 x (st j) sliceFits_S2x8192x2816_S2x1x2816 (ix3 b 0 l) = x (ix3 b ⟨j, hj⟩ l) := by
  have e0 := cl0 j sliceFits_S2x8192x2816_S2x1x2816.1
  have e1 := cl1 j hj sliceFits_S2x8192x2816_S2x1x2816.1
  have e2 := cl2 j sliceFits_S2x8192x2816_S2x1x2816.1
  pointwise
  congr 2
  · apply Fin.ext; refine (congrArg (· + b.val) e0).trans ?_; simp
  · apply Fin.ext; exact e1
  · apply Fin.ext; refine (congrArg (· + l.val) e2).trans ?_; simp

include hj in
theorem put_at (x : FVec Ideal S2x8192x3072 .bf16) (u : FVec Ideal S2x1x3072 .bf16) (b : Fin 2) (t : Fin 8192) (q : Fin 3072) :
    Host.dynamicUpdateSlice x u (st j) updateFits_S2x8192x3072_S2x1x3072 (ix3 b t q) = if t.val = j then u (ix3 b 0 q) else x (ix3 b t q) := by
  have e0 := cl0 j updateFits_S2x8192x3072_S2x1x3072.1
  have e1 := cl1 j hj updateFits_S2x8192x3072_S2x1x3072.1
  have e2 := cl2 j updateFits_S2x8192x3072_S2x1x3072.1
  pointwise
  have hb := b.isLt
  have hq := q.isLt
  by_cases h : t.val = j
  · rw [dif_pos (by refine ⟨?_, ⟨?_, ?_⟩, ?_⟩ <;> first | (erw [e0]; omega) | (erw [e1]; omega) | (erw [e2]; omega)), if_pos h]
    congr 2
    all_goals first
      | (apply Fin.ext; refine (congrArg (b.val - ·) e0).trans ?_; exact Nat.sub_zero _)
      | (apply Fin.ext; refine (congrArg (q.val - ·) e2).trans ?_; exact Nat.sub_zero _)
      | (apply Fin.ext; refine (congrArg (t.val - ·) e1).trans ?_; rw [h]; exact Nat.sub_self _)
  · rw [dif_neg, if_neg h]
    rintro ⟨_, ⟨h1, h2⟩, _⟩
    erw [e1] at h1 h2
    omega

include hj in
theorem next_at (b : Fin 2) (l : Fin 2816) :
    b23 j s (ix2 b l) = ((s.main_v74_0 (ix3 b ⟨j, hj⟩ l) : EReal) * s.main_v74_4 (ix2 b l) + s.main_v74_1 (ix3 b ⟨j, hj⟩ l) : EReal) := by
  unfold b23 b12 b11 b22 b10 b21
  rw [start_a j hj, start_b j hj]
  have e1 := row_at j hj s.main_v74_0 b l
  have e2 := row_at j hj s.main_v74_1 b l
  generalize Host.dynamicSlice S2x1x2816 s.main_v74_0 (st j) sliceFits_S2x8192x2816_S2x1x2816 = f at e1 ⊢
  generalize Host.dynamicSlice S2x1x2816 s.main_v74_1 (st j) sliceFits_S2x8192x2816_S2x1x2816 = f2 at e2 ⊢
  pointwise
  rw [e1, e2]

/-- The row of states written in a trip. -/
theorem row_put (b : Fin 2) (q : Fin 3072) :
    b30 j s (ix3 b 0 q) = if h : q.val % 384 < 352 then b23 j s (ix2 b (ch q h)) else (0 : EReal) := by
  unfold b30 b29 b28 b27 b26 b25 b24
  generalize b23 j s = f
  pointwise
  rw [zero_word]
  by_cases h : q.val % 384 < 352
  · rw [dif_pos h, dif_pos (by omega)]
    congr 2; apply Fin.ext; unfold ch; simp only; omega
  · rw [dif_neg h, dif_neg (by omega)]

include hj in
theorem put_row (b : Fin 2) (t : Fin 8192) (q : Fin 3072) : b39 j s (ix3 b t q) = if t.val = j then b30 j s (ix3 b 0 q) else s.main_v74_5 (ix3 b t q) := by
  unfold b39
  rw [start_c j hj]
  exact put_at j hj _ _ b t q

theorem last_at (b : Fin 2) (q : Fin 3072) :
    R_main_v78 s (ix3 b 0 q) = if h : q.val % 384 < 352 then s.main_v74_4 (ix2 b (ch q h)) else (0 : EReal) := by
  unfold R_main_v78
  generalize s.main_v74_4 = f
  pointwise
  rw [zero_word]
  by_cases h : q.val % 384 < 352
  · rw [dif_pos h, dif_pos (by omega)]
    congr 2; apply Fin.ext; unfold ch; simp only; omega
  · rw [dif_neg h, dif_neg (by omega)]

variable (m : (ℓ : Loc nD τ sig) → Buf (Elt Ideal) ℓ) (c : Dev nD)

/-- The states of the loop. -/
def states : ℕ → State Ideal
  | 0 => Cert.RefSteps.initState m c
  | n + 1 => step n (states n)

/-- The arguments of the run. -/
def A0 : Vec Ideal S2x8192x14336 .bf16 := m ((c.tc : Thread nD τ).loc main_arg0)
def A1 : Vec Ideal S4x2816 .f32 := m ((c.tc : Thread nD τ).loc main_arg1)
def A2 : Vec Ideal S2816 .f32 := m ((c.tc : Thread nD τ).loc main_arg2)
def A3 : Vec Ideal S16x176x352 .f32 := m ((c.tc : Thread nD τ).loc main_arg3)
def A4 : Vec Ideal S16x352 .f32 := m ((c.tc : Thread nD τ).loc main_arg4)
def A5 : Vec Ideal S2816 .f32 := m ((c.tc : Thread nD τ).loc main_arg5)
def A6 : Vec Ideal S2x2816 .f32 := m ((c.tc : Thread nD τ).loc main_arg6)

/-- A channel's state before time `n`. -/
def recR (b : Fin 2) (l : Fin 2816) (n : ℕ) : EReal :=
  rec (facR (A0 m c) (A1 m c) (A2 m c) (A3 m c) (A4 m c) (A5 m c) b l) (inpR (A0 m c) (A1 m c) (A2 m c) (A3 m c) (A4 m c) (A5 m c) b l) (A6 m c (ix2 b l)) n

theorem states_fac (n : ℕ) : (states m c n).main_v74_0 = A_main_v65 (F := Ideal) (A0 m c) (A1 m c) (A2 m c) (A3 m c) (A4 m c) (A5 m c) := by
  induction n with
  | zero => rfl
  | succ n ih => exact ih

theorem states_inp (n : ℕ) : (states m c n).main_v74_1 = A_main_v72 (F := Ideal) (A0 m c) (A1 m c) (A2 m c) (A3 m c) (A4 m c) (A5 m c) := by
  induction n with
  | zero => rfl
  | succ n ih => exact ih

theorem states_h (n : ℕ) (hn : n ≤ 8192) (b : Fin 2) (l : Fin 2816) : (states m c n).main_v74_4 (ix2 b l) = recR m c b l n := by
  induction n with
  | zero => rfl
  | succ n ih =>
    show (step n (states m c n)).main_v74_4 (ix2 b l) = _
    rw [step_main_v74_4, next_at n (by omega), ih (by omega), states_fac, states_inp, v65_at, v72_at]
    rfl

theorem states_y (n : ℕ) (hn : n ≤ 8192) (b : Fin 2) (t : Fin 8192) (ht : t.val < n) (q : Fin 3072) :
    (states m c n).main_v74_5 (ix3 b t q) = if h : q.val % 384 < 352 then recR m c b (ch q h) (t.val + 1) else (0 : EReal) := by
  induction n with
  | zero => omega
  | succ n ih =>
    show (step n (states m c n)).main_v74_5 (ix3 b t q) = _
    rw [step_main_v74_5, put_row n (by omega)]
    by_cases h : t.val = n
    · rw [if_pos h, row_put]
      by_cases h2 : q.val % 384 < 352
      · rw [dif_pos h2, dif_pos h2, h]
        exact states_h m c (n + 1) hn b _
      · rw [dif_neg h2, dif_neg h2]
    · rw [if_neg h]
      exact ih (by omega) (by omega)

theorem states_last (b : Fin 2) (q : Fin 3072) :
    R_main_v78 (states m c 8192) (ix3 b 0 q) = if h : q.val % 384 < 352 then recR m c b (ch q h) 8192 else (0 : EReal) := by
  rw [last_at]
  by_cases h2 : q.val % 384 < 352
  · rw [dif_pos h2, dif_pos h2]
    exact states_h m c 8192 le_rfl b _
  · rw [dif_neg h2, dif_neg h2]

end Cert.LruRef
-- ==== Proof.Arrays.lean ====
/- The two result arrays of the call: every state of the recurrence, and its last state. -/
module

public import proofs.«01_k».proof.Proof.Carry

@[expose] public section

set_option maxRecDepth 16384
set_option maxHeartbeats 1000000

noncomputable section

namespace Cert.Lru

open Idealize.ShloMosaic Idealize.ShloMosaic.TcCoe Cert.KernelIdeal Cert.KernelIdeal.Gen

variable (m : (ℓ : Loc nD τ sig) → Buf (Elt Ideal) ℓ) (c : Dev nD)

/-- All states. -/
def outY : Vec Ideal S2x8192x3072 .bf16 := fun y => recV m c (y 0) ⟨(y 2).val / 384, by have : (y 2).val < 3072 := (y 2).isLt; omega⟩ ⟨(y 2).val % 384, by omega⟩ ((y 1).val + 1)

/-- The last states. -/
def outH : Vec Ideal S2x1x3072 .f32 := fun y => recV m c (y 0) ⟨(y 2).val / 384, by have : (y 2).val < 3072 := (y 2).isLt; omega⟩ ⟨(y 2).val % 384, by omega⟩ 8192

theorem outY_col (b : Fin 2) (n : Fin 8192) (g : Fin 8) (q : Fin 384) : outY m c (ix3 b n (col g q)) = recV m c b g q (n.val + 1) := by
  unfold outY
  have e1 : (⟨(col g q).val / 384, by omega⟩ : Fin 8) = g := by apply Fin.ext; simp only; omega
  have e2 : (⟨(col g q).val % 384, by omega⟩ : Fin 384) = q := by apply Fin.ext; simp only; omega
  exact congrArg₂ (fun g q => recV m c b g q (n.val + 1)) e1 e2

theorem outH_col (b : Fin 2) (g : Fin 8) (q : Fin 384) : outH m c (ix3 b 0 (col g q)) = recV m c b g q 8192 := by
  unfold outH
  have e1 : (⟨(col g q).val / 384, by omega⟩ : Fin 8) = g := by apply Fin.ext; simp only; omega
  have e2 : (⟨(col g q).val % 384, by omega⟩ : Fin 384) = q := by apply Fin.ext; simp only; omega
  exact congrArg₂ (fun g q => recV m c b g q 8192) e1 e2

theorem emb9 (t : Fin cfg0.N) (r : Fin 512) (q : Fin 384) :
    ((cfg0.win 9).blk t).view.emb (ix3 0 r q) = ix3 (bOf t) (⟨512 * (tOf t).val + r.val, by have := (tOf t).isLt; omega⟩ : Fin 8192) (col (gOf t) q) := by
  obtain ⟨e0, e1, e2⟩ := index9 t
  funext a
  apply Fin.ext
  match a with
  | ⟨0, _⟩ => show win0_9.index t 0 * 1 + 1 * 0 = t.val / 128; omega
  | ⟨1, _⟩ => show win0_9.index t 1 * 512 + 1 * r.val = 512 * (t.val % 16) + r.val; omega
  | ⟨2, _⟩ => show win0_9.index t 2 * 384 + 1 * q.val = 384 * (t.val / 16 % 8) + q.val; omega

theorem emb10 (t : Fin cfg0.N) (q : Fin 384) :
    ((cfg0.win 10).blk t).view.emb (ix3 0 0 q) = ix3 (bOf t) 0 (col (gOf t) q) := by
  obtain ⟨e0, e1, e2⟩ := index10 t
  funext a
  apply Fin.ext
  match a with
  | ⟨0, _⟩ => show win0_10.index t 0 * 1 + 1 * 0 = t.val / 128; omega
  | ⟨1, _⟩ => show win0_10.index t 1 * 1 + 1 * 0 = 0; omega
  | ⟨2, _⟩ => show win0_10.index t 2 * 384 + 1 * q.val = 384 * (t.val / 16 % 8) + q.val; omega

/-- The grid point of a sequence's tile and a group of channels. -/
def pt (b : Fin 2) (g : Fin 8) (k : Fin 16) : Fin cfg0.N := ⟨128 * b.val + 16 * g.val + k.val, by rw [show cfg0.N = 256 from N_0]; omega⟩

theorem bOf_pt (b : Fin 2) (g : Fin 8) (k : Fin 16) : bOf (pt b g k) = b := by apply Fin.ext; simp only [bOf, pt]; omega
theorem gOf_pt (b : Fin 2) (g : Fin 8) (k : Fin 16) : gOf (pt b g k) = g := by apply Fin.ext; simp only [gOf, pt]; omega
theorem tOf_pt (b : Fin 2) (g : Fin 8) (k : Fin 16) : tOf (pt b g k) = k := by apply Fin.ext; simp only [tOf, pt]; omega

theorem mem9 (t : Fin cfg0.N) (r : Fin 512) (q : Fin 384) :
    (ix3 (bOf t) (⟨512 * (tOf t).val + r.val, by have := (tOf t).isLt; omega⟩ : Fin 8192) (col (gOf t) q) : S2x8192x3072.Idx) ∈ ((cfg0.win 9).blk t).view.set := by
  have h := ((cfg0.win 9).blk t).view.emb_mem_set (ix3 0 r q)
  rw [emb9] at h
  exact h

theorem mem10 (t : Fin cfg0.N) (q : Fin 384) :
    (ix3 (bOf t) 0 (col (gOf t) q) : S2x1x3072.Idx) ∈ ((cfg0.win 10).blk t).view.set := by
  have h := ((cfg0.win 10).blk t).view.emb_mem_set (ix3 0 0 q)
  rw [emb10] at h
  exact h

theorem cover9 (p : Fin cfg0.N) (b : Fin 2) (n : Fin 8192) (q : Fin 3072) (hb : bOf p = b) (hg : (gOf p).val = q.val / 384)
    (ht : (tOf p).val = n.val / 512) : (ix3 b n q : S2x8192x3072.Idx) ∈ ((cfg0.win 9).blk p).view.set := by
  have hm := mem9 p ⟨n.val % 512, by omega⟩ ⟨q.val % 384, by omega⟩
  have en : (⟨512 * (tOf p).val + (⟨n.val % 512, by omega⟩ : Fin 512).val, by have := (tOf p).isLt; simp only; omega⟩ : Fin 8192) = n := by
    apply Fin.ext; simp only; omega
  have eq : col (gOf p) ⟨q.val % 384, by omega⟩ = q := by apply Fin.ext; simp only; omega
  rw [en, eq, hb] at hm
  exact hm

theorem cover10 (p : Fin cfg0.N) (b : Fin 2) (q : Fin 3072) (hb : bOf p = b) (hg : (gOf p).val = q.val / 384) :
    (ix3 b 0 q : S2x1x3072.Idx) ∈ ((cfg0.win 10).blk p).view.set := by
  have hm := mem10 p ⟨q.val % 384, by omega⟩
  have eq : col (gOf p) ⟨q.val % 384, by omega⟩ = q := by apply Fin.ext; simp only; omega
  rw [eq, hb] at hm
  exact hm

variable (h7 : ∀ q, nlaV m c (ix2 0 q) ≤ 0)

include h7

theorem flushed9_eq (t : Fin cfg0.N) : (dats m 0 c).flushed 9 t = ((cfg0.win 9).blk t).view.read (Elt Ideal) (outY m c) := by
  rw [Cert.KernelIdeal.Value.flushed9]
  funext j
  show (outsAt0 m c t.val t.isLt).1 j = outY m c (((cfg0.win 9).blk t).view.emb j)
  obtain ⟨u, r, q, rfl⟩ : ∃ (u : Fin 1) (r : Fin 512) (q : Fin 384), j = ix3 u r q := ⟨j 0, j 1, j 2, (ix3_eta (n0 := 1) (n1 := 512) (n2 := 384) j).symm⟩
  obtain rfl : u = 0 := Subsingleton.elim _ _
  rw [emb9, outY_col]
  exact (point m c h7 t q).1 r

theorem flushed10_eq (t : Fin cfg0.N) (hf : (cfg0.win 10).flush t = true) :
    (dats m 0 c).flushed 10 t = ((cfg0.win 10).blk t).view.read (Elt Ideal) (outH m c) := by
  have h15 : t.val % 16 = 15 := (flush0_10 t).mp hf
  rw [Cert.KernelIdeal.Value.flushed10]
  funext j
  show (outsAt0 m c t.val t.isLt).2.1 j = outH m c (((cfg0.win 10).blk t).view.emb j)
  obtain ⟨u, r, q, rfl⟩ : ∃ (u : Fin 1) (r : Fin 1) (q : Fin 384), j = ix3 u r q := ⟨j 0, j 1, j 2, (ix3_eta (n0 := 1) (n1 := 1) (n2 := 384) j).symm⟩
  obtain rfl : u = 0 := Subsingleton.elim _ _
  obtain rfl : r = 0 := Subsingleton.elim _ _
  rw [emb10, outH_col]
  refine ((point m c h7 t q).2.2 h15).trans ?_
  have : (tOf t).val = 15 := h15
  rw [this]

theorem final9 : (dats m 0 c).arrAt 9 cfg0.N = outY m c :=
  (dats m 0 c).arrAt_eq_of_cover 9 (outY m c) (fun t _ => flushed9_eq m c h7 t) fun y => by
    obtain ⟨b, n, q, rfl⟩ : ∃ (b : Fin 2) (n : Fin 8192) (q : Fin 3072), y = ix3 b n q := ⟨y 0, y 1, y 2, (ix3_eta (n0 := 2) (n1 := 8192) (n2 := 3072) y).symm⟩
    refine ⟨pt b ⟨q.val / 384, by omega⟩ ⟨n.val / 512, by omega⟩, flush0_9 _, ?_⟩
    exact cover9 _ b n q (bOf_pt ..) (congrArg Fin.val (gOf_pt ..)) (congrArg Fin.val (tOf_pt ..))

theorem final10 : (dats m 0 c).arrAt 10 cfg0.N = outH m c :=
  (dats m 0 c).arrAt_eq_of_cover 10 (outH m c) (fun t hf => flushed10_eq m c h7 t hf) fun y => by
    obtain ⟨b, n, q, rfl⟩ : ∃ (b : Fin 2) (n : Fin 1) (q : Fin 3072), y = ix3 b n q := ⟨y 0, y 1, y 2, (ix3_eta (n0 := 2) (n1 := 1) (n2 := 3072) y).symm⟩
    obtain rfl : n = 0 := Subsingleton.elim _ _
    refine ⟨pt b ⟨q.val / 384, by omega⟩ 15, (flush0_10 _).mpr ?_, ?_⟩
    · simp only [pt]; omega
    exact cover10 _ b q (bOf_pt ..) (congrArg Fin.val (gOf_pt ..))

end Cert.Lru
-- ==== Proof.Equal.lean ====
/- The two programs' recurrences are one: the kernel's, over groups of 384 lanes, is the reference's in the lanes in use,
   and zero in the others. -/
module

public import proofs.«01_k».proof.Proof.RefLoop
public import proofs.«01_k».proof.Proof.Arrays

@[expose] public section

set_option maxRecDepth 16384
set_option maxHeartbeats 1000000

noncomputable section

namespace Cert.Lru

open Idealize.ShloMosaic Idealize.ShloMosaic.TcCoe Cert.KernelIdeal Cert.KernelIdeal.Gen
open Cert.LruRef (xR xlR gateR logR facR inpR)

variable (a0 : Vec Ideal S2x8192x14336 .bf16) (a1 : Vec Ideal S4x2816 .f32) (a2 : Vec Ideal S2816 .f32) (a3 : Vec Ideal S16x176x352 .f32) (a4 : Vec Ideal S16x352 .f32) (a5 : Vec Ideal S2816 .f32)

/-- The channel of a group's lane in use. -/
def chan (g : Fin 8) (l : Fin 384) (h : l.val < 352) : Fin 2816 := ⟨352 * g.val + l.val, by omega⟩

theorem xpG_eq (b : Fin 2) (g : Fin 8) (l : Fin 384) (h : l.val < 352) (n : ℕ) : xpG a0 b g l n = xR a0 b (chan g l h) n := by
  unfold xpG xR chan
  by_cases hn : 1 ≤ n ∧ n ≤ 8192
  · rw [dif_pos hn, dif_pos hn]
    congr 2; apply Fin.ext; simp only; omega
  · rw [dif_neg hn, dif_neg hn]

theorem xcG_eq (b : Fin 2) (g : Fin 8) (l : Fin 384) (h : l.val < 352) (n : ℕ) :
    xcG a0 (v2T a1) (v6T (rowT a2)) b g n l = xlR a0 a1 a2 b n (chan g l h) := by
  unfold xcG xlR
  rw [v2T_at, v2T_at, v2T_at, v2T_at, v6T_at, dif_pos h, dif_pos h, dif_pos h, dif_pos h, dif_pos h, rowT_at]
  simp only [xpG_eq a0 b g l h]
  rfl

theorem xcG_zero (b : Fin 2) (g : Fin 8) (l : Fin 384) (h : ¬ l.val < 352) (n : ℕ) :
    xcG a0 (v2T a1) (v6T (rowT a2)) b g n l = 0 := by
  unfold xcG
  rw [v2T_at, v2T_at, v2T_at, v2T_at, v6T_at, dif_neg h, dif_neg h, dif_neg h, dif_neg h, dif_neg h]
  simp only [zero_mul, add_zero]

/-- A group's product with the padded gate weights is the head's own product. -/
theorem gateG_eq (b : Fin 2) (g : Fin 8) (n : ℕ) (e : Fin 2) (l : Fin 384) (h : l.val < 352) :
    gateG a0 (v2T a1) (v6T (rowT a2)) (v34T a3) (v35T a4) b g n (gcol e l)
      = gateR a0 a1 a2 a3 a4 b n ⟨2 * g.val + l.val / 176, by omega⟩ ⟨176 * e.val + l.val % 176, by omega⟩ := by
  unfold gateG gateR
  rw [v35T_at, dif_pos h]
  congr 1
  symm
  refine Fintype.sum_of_injective (fun k : Fin 176 => (⟨176 * (l.val / 176) + k.val, by omega⟩ : Fin 384)) ?_ _ _ ?_ ?_
  · intro k k' hk
    have := congrArg Fin.val hk
    apply Fin.ext; simp only at this; omega
  · intro k hk
    rw [v34T_at]
    by_cases hc : k.val < 352 ∧ l.val < 352 ∧ k.val / 176 = l.val / 176
    · exfalso
      exact hk ⟨⟨k.val % 176, by omega⟩, by apply Fin.ext; simp only; omega⟩
    · rw [dif_neg hc, mul_zero]
  · intro k
    rw [v34T_at, dif_pos (by simp only; omega), xcG_eq a0 a1 a2 b g _ (by simp only; omega), mul_comm]
    congr 1
    · congr 1
      unfold chan
      apply Fin.ext; simp only; omega
    · congr 2 <;> (apply Fin.ext; simp only; omega)

theorem logG_eq (b : Fin 2) (g : Fin 8) (n : ℕ) (l : Fin 384) (h : l.val < 352) :
    logG a0 (v2T a1) (v6T (rowT a2)) (v34T a3) (v35T a4) (v6T (laT a5)) b g n l = logR a0 a1 a2 a3 a4 a5 b n (chan g l h) := by
  have e : (⟨l.val, by omega⟩ : Fin 768) = gcol 0 l := by unfold gcol; apply Fin.ext; simp
  unfold logG logR
  rw [e, gateG_eq _ _ _ _ _ b g n 0 l h, v6T_at, dif_pos h, laT_at, mul_right_comm]
  unfold chan
  congr 4
  · apply Fin.ext; simp only; omega
  · apply Fin.ext; simp only [Fin.val_zero]; omega

theorem facG_eq (b : Fin 2) (g : Fin 8) (n : ℕ) (l : Fin 384) (h : l.val < 352) :
    facG a0 (v2T a1) (v6T (rowT a2)) (v34T a3) (v35T a4) (v6T (laT a5)) b g l n = facR a0 a1 a2 a3 a4 a5 b (chan g l h) n := by
  unfold facG facR
  rw [logG_eq _ _ _ _ _ _ b g n l h]

theorem inpG_eq (b : Fin 2) (g : Fin 8) (n : ℕ) (l : Fin 384) (h : l.val < 352) :
    inpG a0 (v2T a1) (v6T (rowT a2)) (v34T a3) (v35T a4) (v6T (laT a5)) b g l n = inpR a0 a1 a2 a3 a4 a5 b (chan g l h) n := by
  have e : (⟨384 + l.val, by omega⟩ : Fin 768) = gcol 1 l := by unfold gcol; apply Fin.ext; simp
  unfold inpG inpR facG
  rw [logG_eq _ _ _ _ _ _ b g n l h, normaliser, e, gateG_eq _ _ _ _ _ b g n 1 l h, xcG_eq _ _ _ b g l h]
  unfold chan
  congr 4
  · apply Fin.ext; simp only; omega
  · apply Fin.ext; simp only [Fin.val_one]; omega

theorem inpG_zero (b : Fin 2) (g : Fin 8) (n : ℕ) (l : Fin 384) (h : ¬ l.val < 352) :
    inpG a0 (v2T a1) (v6T (rowT a2)) (v34T a3) (v35T a4) (v6T (laT a5)) b g l n = 0 := by
  unfold inpG
  rw [xcG_zero _ _ _ b g l h, mul_zero, mul_zero]

theorem rec_zero (a b : ℕ → EReal) (hb : ∀ n, b n = 0) (n : ℕ) : rec a b 0 n = 0 := by
  induction n with
  | zero => rfl
  | succ n ih =>
    show a n * rec a b 0 n + b n = 0
    rw [ih, hb, mul_zero, add_zero]

variable (m : (ℓ : Loc nD τ sig) → Buf (Elt Ideal) ℓ) (c : Dev nD)
variable (m' : (ℓ : Loc Cert.ReferenceIdeal.nD Cert.ReferenceIdeal.τ Cert.ReferenceIdeal.sig) → Buf (Elt Ideal) ℓ) (c' : Dev Cert.ReferenceIdeal.nD)

/-- The two runs start from the same arguments. -/
structure Same : Prop where
  e0 : m ((c : Thread nD τ).loc main_arg0) = Cert.LruRef.A0 m' c'
  e1 : m ((c : Thread nD τ).loc main_arg1) = Cert.LruRef.A1 m' c'
  e2 : m ((c : Thread nD τ).loc main_arg2) = Cert.LruRef.A2 m' c'
  e3 : m ((c : Thread nD τ).loc main_arg3) = Cert.LruRef.A3 m' c'
  e4 : m ((c : Thread nD τ).loc main_arg4) = Cert.LruRef.A4 m' c'
  e5 : m ((c : Thread nD τ).loc main_arg5) = Cert.LruRef.A5 m' c'
  e6 : m ((c : Thread nD τ).loc main_arg6) = Cert.LruRef.A6 m' c'

variable {m c m' c'}

theorem recV_args (S : Same m c m' c') (b : Fin 2) (g : Fin 8) (l : Fin 384) (n : ℕ) :
    recV m c b g l n = rec (facG (Cert.LruRef.A0 m' c') (v2T (Cert.LruRef.A1 m' c')) (v6T (rowT (Cert.LruRef.A2 m' c'))) (v34T (Cert.LruRef.A3 m' c')) (v35T (Cert.LruRef.A4 m' c')) (v6T (laT (Cert.LruRef.A5 m' c'))) b g l)
      (inpG (Cert.LruRef.A0 m' c') (v2T (Cert.LruRef.A1 m' c')) (v6T (rowT (Cert.LruRef.A2 m' c'))) (v34T (Cert.LruRef.A3 m' c')) (v35T (Cert.LruRef.A4 m' c')) (v6T (laT (Cert.LruRef.A5 m' c'))) b g l)
      (v39T (Cert.LruRef.A6 m' c') (ix3 b 0 (col g l))) n := by
  unfold recV facV inpV
  rw [V_main_arg0, V_v2, V_v6, V_v14, V_v34, V_v35, V_v39, S.e0, S.e1, S.e2, S.e3, S.e4, S.e5, S.e6]

theorem recV_eq (S : Same m c m' c') (b : Fin 2) (g : Fin 8) (l : Fin 384) (h : l.val < 352) (n : ℕ) :
    recV m c b g l n = Cert.LruRef.recR m' c' b (chan g l h) n := by
  rw [recV_args S, v39T_at, dif_pos h]
  exact rec_congr rfl n (fun k _ => facG_eq _ _ _ _ _ _ b g k l h) (fun k _ => inpG_eq _ _ _ _ _ _ b g k l h)

theorem recV_zero (S : Same m c m' c') (b : Fin 2) (g : Fin 8) (l : Fin 384) (h : ¬ l.val < 352) (n : ℕ) :
    recV m c b g l n = 0 := by
  rw [recV_args S, v39T_at, dif_neg h]
  exact rec_zero _ _ (fun k => inpG_zero _ _ _ _ _ _ b g k l h) n

theorem lane_eq (S : Same m c m' c') (b : Fin 2) (g : Fin 8) (l : Fin 384) (n : ℕ) :
    recV m c b g l n = if h : (col g l).val % 384 < 352 then Cert.LruRef.recR m' c' b (Cert.LruRef.ch (col g l) h) n else 0 := by
  have e1 : (col g l).val % 384 = l.val := by unfold col; simp only; omega
  have e2 : (col g l).val / 384 = g.val := by unfold col; simp only; omega
  by_cases h : l.val < 352
  · rw [dif_pos (by rw [e1]; exact h), recV_eq S b g l h]
    congr 1
    unfold chan Cert.LruRef.ch
    apply Fin.ext; simp only; rw [e1, e2]
  · rw [dif_neg (by rw [e1]; exact h), recV_zero S b g l h]

theorem col_split (q : Fin 3072) : q = col ⟨q.val / 384, by omega⟩ ⟨q.val % 384, by omega⟩ := by
  apply Fin.ext; unfold col; simp only; omega

theorem outY_eq (S : Same m c m' c') : outY m c = (Cert.LruRef.states m' c' 8192).main_v74_5 := by
  funext y
  obtain ⟨b, t, q, rfl⟩ : ∃ b t q, y = ix3 b t q := ⟨y 0, y 1, y 2, (ix3_eta (n0 := 2) (n1 := 8192) (n2 := 3072) y).symm⟩
  refine Eq.trans ?_ (Cert.LruRef.states_y m' c' 8192 le_rfl b t t.isLt q).symm
  rw [col_split q, outY_col]
  exact lane_eq S b _ _ _

theorem outH_eq (S : Same m c m' c') : outH m c = Cert.ReferenceIdeal.Step.R_main_v78 (Cert.LruRef.states m' c' 8192) := by
  funext y
  obtain ⟨b, t, q, rfl⟩ : ∃ b t q, y = ix3 b t q := ⟨y 0, y 1, y 2, (ix3_eta (n0 := 2) (n1 := 1) (n2 := 3072) y).symm⟩
  obtain rfl : t = 0 := Subsingleton.elim _ _
  refine Eq.trans ?_ (Cert.LruRef.states_last m' c' b q).symm
  rw [col_split q, outH_col]
  exact lane_eq S b _ _ _

end Cert.Lru
-- ==== Proof.Rms.lean ====
/- One row's root-mean-square norm with a weight, a scale and a shift. -/
module

public import Idealize.ShloMosaic.Lib.Pointwise

@[expose] public section

noncomputable section

namespace Cert.Rms

open Idealize.ShloMosaic

/-- The width, as the programs write it. -/
def width : EReal := Ideal.ofBits .f32 0x45000000#32
/-- The small addend under the square root, as the programs write it. -/
def small : EReal := Ideal.ofBits .f32 0x358637BD#32

/-- A row's norm: every entry over the root of the mean of the squares, by the weight. -/
def norm (x w : Fin 2048 → EReal) (k : Fin 2048) : EReal :=
  x k * Ideal.rsqrt (Ideal.div (∑ j, x j * x j) width + small) * w k

/-- A row's norm, scaled and shifted. -/
def row (x w sc sh : Fin 2048 → EReal) (k : Fin 2048) : EReal := norm x w k * (1 + sc k) + sh k

end Cert.Rms
-- ==== Proof.Ffn.lean ====
/- The feed-forward call: what a grid point leaves in the block of normed rows it carries, in the accumulator it carries and in
   the block of the result. -/
module

public import proofs.«01_k».proof.Proof.Rms
public import proofs.«01_k».proof.Proof.Gen.Kernel2Ideal.Value
public import Idealize.ShloMosaic.Lib.Pipeline.ValueKit

@[expose] public section

set_option maxRecDepth 16384

noncomputable section

namespace Cert.Ffn

open Idealize.ShloMosaic Idealize.ShloMosaic.TcCoe Cert.Kernel2Ideal Cert.Kernel2Ideal.Gen

section
variable (y : Vec Ideal S1x256x2048 .f32) (x1 : Vec Ideal S1x2048 .f32) (x2 x3 : Vec Ideal S1x1x2048 .f32)

/-- A normed row of 256 loaded rows. -/
def rowOf (r : Fin 256) (k : Fin 2048) : EReal :=
  Rms.row (fun j => y (ix3 0 r j)) (fun j => x1 (ix2 0 j)) (fun j => x3 (ix3 0 0 j)) (fun j => x2 (ix3 0 0 j)) k

theorem pay1_at (r : Fin 256) (k : Fin 2048) :
    k0_pay1 (k0_pay6 y) (k0_pay7 x1) x3 x2 (ix2 r k) = rowOf y x1 x2 x3 r k := by
  unfold k0_pay1 k0_pay6 k0_pay7 rowOf Rms.row Rms.norm Rms.width Rms.small
  pointwise

theorem pay5_at (r : Fin 256) (k : Fin 2048) :
    k0_pay5 y x1 x3 x2 (ix2 r k) = rowOf y x1 x2 x3 r k := by
  unfold k0_pay5 rowOf Rms.row Rms.norm Rms.width Rms.small
  pointwise

/-- The gated unit of a row's two products. -/
def gate (g u : EReal) : EReal := g * Ideal.logistic g * u

theorem pay2_at (r : Fin 512) (k : Fin 2048) : (k0_pay2 (F := Ideal)) (ix2 r k) = 0 := by
  unfold k0_pay2
  pointwise

theorem pay3_at (h : Vec Ideal S512x2048 .bf16) (wg wu : Vec Ideal S2048x512 .bf16) (a : Vec Ideal S512x2048 .f32) (wo : Vec Ideal S512x2048 .bf16)
    (r : Fin 512) (k : Fin 2048) :
    k0_pay3 h wg wu a wo (ix2 r k)
      = a (ix2 r k) + ∑ j : Fin 512, gate (∑ i : Fin 2048, h (ix2 r i) * wg (ix2 i j)) (∑ i : Fin 2048, h (ix2 r i) * wu (ix2 i j)) * wo (ix2 j k) := by
  unfold k0_pay3 gate
  pointwise

theorem pay4_at (x : Vec Ideal S1x512x2048 .f32) (g : Vec Ideal S1x1x2048 .f32) (a : Vec Ideal S512x2048 .f32) (w : Vec Ideal S1x2048 .f32)
    (r : Fin 512) (k : Fin 2048) :
    k0_pay4 x g a w (ix3 0 r k) = Rms.norm (fun j => x (ix3 0 r j) + g (ix3 0 0 j) * a (ix2 r j)) (fun j => w (ix2 0 j)) k := by
  unfold k0_pay4 Rms.norm Rms.width Rms.small
  pointwise

theorem ld_at (x0 : Vec Ideal S1x512x2048 .f32) (b : ℕ) (inb : ∀ a, (![0, b, 0] : Fin 3 → ℕ) a + (![1, 256, 2048] : Fin 3 → ℕ) a ≤ S1x512x2048.size a)
    (r : Fin 256) (k : Fin 2048) (q : Fin 512) (hq : q.val = b + r.val) :
    View.ld x0 (Rect.unit (s := S1x512x2048) ![0, b, 0] ![1, 256, 2048] inb) (ix3 0 r k) = x0 (ix3 0 q k) := by
  rw [View.ld_apply]
  refine congrArg x0 ?_
  funext a
  apply Fin.ext
  fin_cases a <;> simp [LoadRect.idx, Rect.toLoadRect, Rect.unit, ix3, hq]

end

/-- Two blocks of 256 rows, one after the other. -/
theorem canon2 (f : Fin 512 → Fin 2048 → EReal) (p : Fin 2 → Vec Ideal ⟨2, ![256, 2048]⟩ .bf16)
    (inb : ∀ n : Fin 2, ∀ a, (![256 * n.val, 0] : Fin 2 → ℕ) a + (![256, 2048] : Fin 2 → ℕ) a ≤ S512x2048.size a)
    (h : ∀ (n : Fin 2) (r : Fin 256) (k : Fin 2048), p n (ix2 r k) = f ⟨256 * n.val + r.val, by omega⟩ k) (q : Fin 512) (k : Fin 2048) :
    View.canon (Val := Elt Ideal) (e := .bf16) [⟨Rect.unit (s := S512x2048) ![256 * (1 : Fin 2).val, 0] ![256, 2048] (inb 1), p 1⟩,
      ⟨Rect.unit (s := S512x2048) ![256 * (0 : Fin 2).val, 0] ![256, 2048] (inb 0), p 0⟩] (ix2 q k) = f q k := by
  have hit : ∀ (n : Fin 2) (r : Fin 256) (L : List (View.Piece (Elt Ideal) S512x2048 .bf16)), q.val = 256 * n.val + r.val →
      View.canon (⟨Rect.unit (s := S512x2048) ![256 * n.val, 0] ![256, 2048] (inb n), p n⟩ :: L) (ix2 q k) = f q k := by
    intro n r L hr
    have e : (ix2 q k) = (Rect.unit (s := S512x2048) ![256 * n.val, 0] ![256, 2048] (inb n)).emb (ix2 r k) := by
      funext a
      apply Fin.ext
      rw [Rect.emb_apply]
      fin_cases a <;> simp [Rect.unit, ix2, hr]
    refine (congrArg _ e).trans ((View.canon_cons_emb ..).trans ((h n r k).trans ?_))
    exact congrArg (fun z => f z k) (Fin.ext hr.symm)
  have miss : ∀ (n : Fin 2) (L : List (View.Piece (Elt Ideal) S512x2048 .bf16)), (q.val < 256 * n.val) →
      View.canon (⟨Rect.unit (s := S512x2048) ![256 * n.val, 0] ![256, 2048] (inb n), p n⟩ :: L) (ix2 q k) = View.canon L (ix2 q k) := by
    intro n L hr
    apply View.canon_cons_of_not_mem
    rw [Rect.mem_set_unit]
    intro hm
    have m0 := (hm 0).1
    simp [ix2] at m0
    omega
  by_cases c1 : 256 ≤ q.val
  · exact hit 1 ⟨q.val - 256, by omega⟩ _ (by show q.val = 256 * 1 + (q.val - 256); omega)
  rw [miss 1 _ (by show q.val < 256 * 1; omega)]
  exact hit 0 ⟨q.val, by omega⟩ _ (by show q.val = 256 * 0 + q.val; omega)

section
variable (m : (ℓ : Loc nD τ sig) → Buf (Elt Ideal) ℓ) (c : Dev nD)

/-- A grid point's blocks of the arguments. -/
def X0 (t : Fin cfg0.N) : Vec Ideal S1x512x2048 .f32 := iblk m c 0 t
def X1 (t : Fin cfg0.N) : Vec Ideal S1x2048 .f32 := iblk m c 1 t
def X2 (t : Fin cfg0.N) : Vec Ideal S1x1x2048 .f32 := iblk m c 2 t
def X3 (t : Fin cfg0.N) : Vec Ideal S1x1x2048 .f32 := iblk m c 3 t
def X4 (t : Fin cfg0.N) : Vec Ideal S1x1x2048 .f32 := iblk m c 4 t
def X5 (t : Fin cfg0.N) : Vec Ideal S2048x512 .bf16 := iblk m c 5 t
def X6 (t : Fin cfg0.N) : Vec Ideal S2048x512 .bf16 := iblk m c 6 t
def X7 (t : Fin cfg0.N) : Vec Ideal S512x2048 .bf16 := iblk m c 7 t
def X8 (t : Fin cfg0.N) : Vec Ideal S1x2048 .f32 := iblk m c 8 t

/-- A normed row of the point's block. -/
def rowB (t : Fin cfg0.N) (q : Fin 512) (k : Fin 2048) : EReal :=
  Rms.row (fun j => X0 m c t (ix3 0 q j)) (fun j => X1 m c t (ix2 0 j)) (fun j => X3 m c t (ix3 0 0 j)) (fun j => X2 m c t (ix3 0 0 j)) k

theorem rowOf_ld (t : Fin cfg0.N) (b : ℕ) (inb : ∀ a, (![0, b, 0] : Fin 3 → ℕ) a + (![1, 256, 2048] : Fin 3 → ℕ) a ≤ S1x512x2048.size a)
    (r : Fin 256) (k : Fin 2048) (q : Fin 512) (hq : q.val = b + r.val) :
    rowOf (View.ld (X0 m c t) (Rect.unit (s := S1x512x2048) ![0, b, 0] ![1, 256, 2048] inb)) (X1 m c t) (X2 m c t) (X3 m c t) r k = rowB m c t q k := by
  unfold rowOf rowB
  simp only [ld_at (X0 m c t) b inb r _ q hq]

/-- The two blocks of normed rows a first point stores. -/
def pays (t : Fin cfg0.N) (n : Fin 2) : Vec Ideal ⟨2, ![256, 2048]⟩ .bf16 :=
  match n with
  | 0 => k0_pay5 (View.ld (X0 m c t) (Rect.unit (s := S1x512x2048) ![0, 0, 0] ![1, 256, 2048] inb_S1x512x2048_S1x256x2048_0_0_0)) (X1 m c t) (X3 m c t) (X2 m c t)
  | 1 => k0_pay1 (k0_pay6 (View.ld (X0 m c t) (Rect.unit (s := S1x512x2048) ![0, 256, 0] ![1, 256, 2048] inb_S1x512x2048_S1x256x2048_0_256_0)))
      (k0_pay7 (X1 m c t)) (X3 m c t) (X2 m c t)

theorem pays_at (t : Fin cfg0.N) (n : Fin 2) (r : Fin 256) (k : Fin 2048) :
    pays m c t n (ix2 r k) = rowB m c t ⟨256 * n.val + r.val, by omega⟩ k := by
  fin_cases n
  · exact (pay5_at _ _ _ _ r k).trans (rowOf_ld m c t 0 _ r k _ (by simp))
  · exact (pay1_at _ _ _ _ r k).trans (rowOf_ld m c t 256 _ r k _ (by simp))

theorem inb2 (n : Fin 2) (a : Fin 2) : (![256 * n.val, 0] : Fin 2 → ℕ) a + (![256, 2048] : Fin 2 → ℕ) a ≤ S512x2048.size a := by
  fin_cases n <;> fin_cases a <;> simp

/-- A first point leaves the normed rows of its block. -/
theorem h_A (t : Fin cfg0.N) (h0 : t.val % 11 = 0) (h1 : ¬t.val % 11 = 10) (q : Fin 512) (k : Fin 2048) :
    (outsAt0 m c t.val t.isLt).2.1 (ix2 q k) = rowB m c t q k := by
  rw [outsAt0_A m c t h0 h1]
  dsimp only
  frame_out
  exact canon2 (rowB m c t) (pays m c t) inb2 (pays_at m c t) q k

/-- A later point passes the normed rows on. -/
theorem h_B (t : Fin cfg0.N) (h0 : ¬t.val % 11 = 0) :
    (outsAt0 m c t.val t.isLt).2.1 = (outsAt0 m c (t.val - 1) (by omega)).2.1 := by
  by_cases h1 : t.val % 11 = 10
  · rw [outsAt0_C m c t h0 h1]
    rfl
  · rw [outsAt0_B m c t h0 h1]
    rfl

/-- The product a point adds, of the normed rows `h`. -/
def term (h : Fin 512 → Fin 2048 → EReal) (t : Fin cfg0.N) (q : Fin 512) (k : Fin 2048) : EReal :=
  ∑ j : Fin 512, gate (∑ i : Fin 2048, h q i * X5 m c t (ix2 i j)) (∑ i : Fin 2048, h q i * X6 m c t (ix2 i j)) * X7 m c t (ix2 j k)

/-- The sum a first point leaves. -/
theorem a_A (t : Fin cfg0.N) (h0 : t.val % 11 = 0) (h1 : ¬t.val % 11 = 10) (q : Fin 512) (k : Fin 2048) :
    (outsAt0 m c t.val t.isLt).2.2 (ix2 q k) = 0 + term m c (rowB m c t) t q k := by
  rw [outsAt0_A m c t h0 h1]
  dsimp only
  frame_out
  rw [View.readCov_eq_canon']
  refine (pay3_at _ _ _ _ _ q k).trans ?_
  rw [pay2_at]
  unfold term
  have hL := canon2 (rowB m c t) (pays m c t) inb2 (pays_at m c t)
  have e : ∀ i, (Rect.unit (s := S512x2048) ![0, 0] ![512, 2048] inb_S512x2048_S512x2048_0_0).toLoadRect.idx (ix2 q i) = ix2 q i := by
    intro i
    funext a
    apply Fin.ext
    fin_cases a <;> simp [LoadRect.idx, Rect.toLoadRect, Rect.unit, ix2]
  simp only [← hL, e]
  rfl

/-- The sum a later point leaves. -/
theorem a_B (t : Fin cfg0.N) (h0 : ¬t.val % 11 = 0) (q : Fin 512) (k : Fin 2048) :
    (outsAt0 m c t.val t.isLt).2.2 (ix2 q k)
      = (outsAt0 m c (t.val - 1) (by omega)).2.2 (ix2 q k) + term m c (fun q i => (outsAt0 m c t.val t.isLt).2.1 (ix2 q i)) t q k := by
  rw [h_B m c t h0]
  by_cases h1 : t.val % 11 = 10
  · rw [outsAt0_C m c t h0 h1]
    dsimp only
    frame_out
    rw [Memref.IsWhole.read_unread (Memref.isWhole_whole cc0_scratch0), Memref.IsWhole.read_unread (Memref.isWhole_whole cc0_scratch1)]
    exact pay3_at _ _ _ _ _ q k
  · rw [outsAt0_B m c t h0 h1]
    dsimp only
    frame_out
    rw [Memref.IsWhole.read_unread (Memref.isWhole_whole cc0_scratch0), Memref.IsWhole.read_unread (Memref.isWhole_whole cc0_scratch1)]
    exact pay3_at _ _ _ _ _ q k

/-- The block of the result that a last point leaves: the final norm, of the sum it leaves. -/
theorem o_C (t : Fin cfg0.N) (h0 : ¬t.val % 11 = 0) (h1 : t.val % 11 = 10) (q : Fin 512) (k : Fin 2048) :
    (outsAt0 m c t.val t.isLt).1 (ix3 0 q k)
      = Rms.norm (fun j => X0 m c t (ix3 0 q j) + X4 m c t (ix3 0 0 j) * (outsAt0 m c t.val t.isLt).2.2 (ix2 q j)) (fun j => X8 m c t (ix2 0 j)) k := by
  rw [outsAt0_C m c t h0 h1]
  dsimp only
  frame_out
  exact pay4_at _ _ _ _ q k

end

end Cert.Ffn
-- ==== Proof.FfnHost.lean ====
/- The arguments that the host prepares for the feed-forward call, and the reference's result, at an index. -/
module

public import proofs.«01_k».proof.Proof.Rms
public import proofs.«01_k».proof.Proof.Ffn
public import proofs.«01_k».proof.Proof.Gen.Kernel2Ideal.Value
public import proofs.«01_k».proof.Proof.Gen.Reference2Ideal.Run
public import Idealize.ShloMosaic.Lib.StableHlo.Run

@[expose] public section

set_option maxRecDepth 16384
set_option maxHeartbeats 1000000

noncomputable section

namespace Cert.Ffn

open Idealize.ShloMosaic Idealize.ShloMosaic.TcCoe

section
open Cert.Kernel2Ideal Cert.Kernel2Ideal.Gen

variable (m : (ℓ : Loc nD τ sig) → Buf (Elt Ideal) ℓ) (c : Dev nD)

theorem V_v0 : V m c main_v0 = m ((c : Thread nD τ).loc main_arg5) := by
  show StableHlo.after _ _ (Proc.devRef .tc main_v0) = _
  simp only [hostOps0]
  after_results_simp
  rfl

theorem V_v1 : V m c main_v1 = m ((c : Thread nD τ).loc main_arg6) := by
  show StableHlo.after _ _ (Proc.devRef .tc main_v1) = _
  simp only [hostOps0]
  after_results_simp
  rfl

theorem V_v2 : V m c main_v2 = broadcastInDim S1x2048 ![1] bcast_S2048_S1x2048_1 (m ((c : Thread nD τ).loc main_arg1)) := by
  show StableHlo.after _ _ (Proc.devRef .tc main_v2) = _
  simp only [hostOps0]
  after_results_simp
  try rfl

theorem V_v3 : V m c main_v3 = broadcastInDim S1x2048 ![1] bcast_S2048_S1x2048_1 (m ((c : Thread nD τ).loc main_arg7)) := by
  show StableHlo.after _ _ (Proc.devRef .tc main_v3) = _
  simp only [hostOps0]
  after_results_simp
  try rfl

theorem V_v2_at (k : Fin 2048) : V m c main_v2 (ix2 0 k) = m ((c : Thread nD τ).loc main_arg1) (ix1 k) := by
  rw [V_v2]
  pointwise

theorem V_v3_at (k : Fin 2048) : V m c main_v3 (ix2 0 k) = m ((c : Thread nD τ).loc main_arg7) (ix1 k) := by
  rw [V_v3]
  pointwise

end

section
open Cert.Reference2Ideal Cert.Reference2Ideal.Gen

/-- The normed rows. -/
def normT (x : FVec Ideal S2x8192x2048 .f32) (w : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x2048_S2x8192_d2 h_S_)) (broadcastInDim S2x8192x1 ![] bcast_S_S2x8192x1 (constant (F := Ideal) S_ .f32 0x45000000#32))) (broadcastInDim S2x8192x1 ![] bcast_S_S2x8192x1 (constant (F := Ideal) S_ .f32 0x358637BD#32)))))) (broadcastInDim S2x8192x2048 ![0, 1, 2] bcast_S1x1x2048_S2x8192x2048_0_1_2 (broadcastInDim S1x1x2048 ![2] bcast_S2048_S1x1x2048_2 w))

theorem normT_at (x : FVec Ideal S2x8192x2048 .f32) (w : FVec Ideal S2048 .f32) (b : Fin 2) (n : Fin 8192) (k : Fin 2048) :
    normT x w (ix3 b n k) = Rms.norm (fun j => x (ix3 b n j)) (fun j => w (ix1 j)) k := by
  unfold normT Rms.norm Rms.width Rms.small
  pointwise

/-- The scaled and shifted rows. -/
def modT (x : FVec Ideal S2x8192x2048 .f32) (sh sc : FVec Ideal S2x1x2048 .f32) : FVec Ideal S2x8192x2048 .f32 :=
  addf (mulf x (broadcastInDim S2x8192x2048 ![0, 1, 2] bcast_S2x1x2048_S2x8192x2048_0_1_2 (addf (broadcastInDim S2x1x2048 ![] bcast_S_S2x1x2048 (constant (F := Ideal) S_ .f32 0x3F800000#32)) sc))) (broadcastInDim S2x8192x2048 ![0, 1, 2] bcast_S2x1x2048_S2x8192x2048_0_1_2 sh)

theorem modT_at (x : FVec Ideal S2x8192x2048 .f32) (sh sc : FVec Ideal S2x1x2048 .f32) (b : Fin 2) (n : Fin 8192) (k : Fin 2048) :
    modT x sh sc (ix3 b n k) = x (ix3 b n k) * (1 + sc (ix3 b 0 k)) + sh (ix3 b 0 k) := by
  unfold modT
  pointwise

/-- The products with the first weights. -/
def inT (h : FVec Ideal S2x8192x2048 .f32) (w : FVec Ideal S2048x11264 .f32) : FVec Ideal S2x8192x11264 .f32 :=
  Host.dotGeneral dot_S2x8192x2048_S2048x11264_S2x8192x11264_2_0_01_1_n_n none h w

theorem inT_at (h : FVec Ideal S2x8192x2048 .f32) (w : FVec Ideal S2048x11264 .f32) (b : Fin 2) (n : Fin 8192) (j : Fin 11264) :
    inT h w (ix3 b n j) = ∑ k : Fin 2048, h (ix3 b n k) * w (ix2 k j) := by
  unfold inT
  pointwise

/-- The gated units. -/
def gateT (p : FVec Ideal S2x8192x11264 .f32) : FVec Ideal S2x8192x5632 .f32 :=
  mulf (mulf (extractStridedSlice S2x8192x5632 ![0, 0, 0] p slices_S2x8192x11264_S2x8192x5632_0_0_0) (Host.divf (broadcastInDim S2x8192x5632 ![] bcast_S_S2x8192x5632 (constant (F := Ideal) S_ .f32 0x3F800000#32)) (addf (broadcastInDim S2x8192x5632 ![] bcast_S_S2x8192x5632 (constant (F := Ideal) S_ .f32 0x3F800000#32)) (Host.exp (Host.negf (extractStridedSlice S2x8192x5632 ![0, 0, 0] p slices_S2x8192x11264_S2x8192x5632_0_0_0)))))) (extractStridedSlice S2x8192x5632 ![0, 0, 5632] p slices_S2x8192x11264_S2x8192x5632_0_0_5632)

theorem gateT_at (p : FVec Ideal S2x8192x11264 .f32) (b : Fin 2) (n : Fin 8192) (j : Fin 5632) :
    gateT p (ix3 b n j) = gate (p (ix3 b n ⟨j.val, by omega⟩)) (p (ix3 b n ⟨5632 + j.val, by omega⟩)) := by
  unfold gateT gate Ideal.logistic
  pointwise

/-- The stream, the gated products with the second weights added. -/
def outT (x : FVec Ideal S2x8192x2048 .f32) (gt : FVec Ideal S2x1x2048 .f32) (a : FVec Ideal S2x8192x5632 .f32) (w : FVec Ideal S5632x2048 .f32) :
    FVec Ideal S2x8192x2048 .f32 :=
  addf x (mulf (broadcastInDim S2x8192x2048 ![0, 1, 2] bcast_S2x1x2048_S2x8192x2048_0_1_2 gt) (Host.dotGeneral dot_S2x8192x5632_S5632x2048_S2x8192x2048_2_0_01_1_n_n none a w))

theorem outT_at (x : FVec Ideal S2x8192x2048 .f32) (gt : FVec Ideal S2x1x2048 .f32) (a : FVec Ideal S2x8192x5632 .f32) (w : FVec Ideal S5632x2048 .f32)
    (b : Fin 2) (n : Fin 8192) (k : Fin 2048) :
    outT x gt a w (ix3 b n k) = x (ix3 b n k) + gt (ix3 b 0 k) * ∑ j : Fin 5632, a (ix3 b n j) * w (ix2 j k) := by
  unfold outT
  pointwise

variable (m : (ℓ : Loc nD τ sig) → Buf (Elt Ideal) ℓ) (c : Dev nD)

theorem res_eq : Value.res_main_v40 m c
    = normT (outT (m ((c.tc : Thread nD τ).loc main_arg0)) (m ((c.tc : Thread nD τ).loc main_arg4))
        (gateT (inT (modT (normT (m ((c.tc : Thread nD τ).loc main_arg0)) (m ((c.tc : Thread nD τ).loc main_arg1))) (m ((c.tc : Thread nD τ).loc main_arg2)) (m ((c.tc : Thread nD τ).loc main_arg3))) (m ((c.tc : Thread nD τ).loc main_arg5))))
        (m ((c.tc : Thread nD τ).loc main_arg6))) (m ((c.tc : Thread nD τ).loc main_arg7)) := rfl
end

end Cert.Ffn
-- ==== Proof.FfnEqual.lean ====
/- The feed-forward call: the kernel's array is the reference's. -/
module

public import proofs.«01_k».proof.Proof.Ffn
public import proofs.«01_k».proof.Proof.FfnHost

@[expose] public section

set_option maxRecDepth 16384

noncomputable section

namespace Cert.Ffn

open Idealize.ShloMosaic Idealize.ShloMosaic.TcCoe Cert.Kernel2Ideal Cert.Kernel2Ideal.Gen

theorem lt352 (t : Fin cfg0.N) : t.val < 352 := Nat.lt_of_lt_of_eq t.isLt N_0

/-- The sequence of the point numbered `n`. -/
def bOf (n : ℕ) (h : n < 352) : Fin 2 := ⟨n / 176, by omega⟩
/-- The token that is row `q` of the point numbered `n`. -/
def tok (n : ℕ) (q : Fin 512) : Fin 8192 := ⟨512 * (n / 11 % 16) + q.val, by omega⟩
/-- The hidden unit that is unit `j` of the `f`-th tile of 512; `f` is below 11. -/
def hid (f : ℕ) (j : Fin 512) : Fin 5632 := ⟨(512 * f + j.val) % 5632, by omega⟩
/-- The columns of the first weights that make a hidden unit. -/
def colG (j : Fin 5632) : Fin 11264 := ⟨j.val, by omega⟩
def colU (j : Fin 5632) : Fin 11264 := ⟨5632 + j.val, by omega⟩

theorem index0 : ∀ t : Fin cfg0.N, win0_0.index t 0 = t.val / 176 ∧ win0_0.index t 1 = t.val / 11 % 16 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 176 ∧ win0_2.index t 1 = 0 ∧ win0_2.index t 2 = 0 := by decide +kernel
theorem index3 : ∀ t : Fin cfg0.N, win0_3.index t 0 = t.val / 176 ∧ win0_3.index t 1 = 0 ∧ win0_3.index t 2 = 0 := by decide +kernel
theorem index4 : ∀ t : Fin cfg0.N, win0_4.index t 0 = t.val / 176 ∧ win0_4.index t 1 = 0 ∧ win0_4.index t 2 = 0 := by decide +kernel
theorem index5 : ∀ t : Fin cfg0.N, win0_5.index t 0 = 0 ∧ win0_5.index t 1 = t.val % 11 := by decide +kernel
theorem index6 : ∀ t : Fin cfg0.N, win0_6.index t 0 = 0 ∧ win0_6.index t 1 = 11 + t.val % 11 := by decide +kernel
theorem index7 : ∀ t : Fin cfg0.N, win0_7.index t 0 = t.val % 11 ∧ win0_7.index t 1 = 0 := by decide +kernel
theorem index8 : ∀ t : Fin cfg0.N, win0_8.index t 0 = 0 ∧ win0_8.index t 1 = 0 := by decide +kernel

variable (m : (ℓ : Loc nD τ sig) → Buf (Elt Ideal) ℓ) (c : Dev nD)

theorem X0_at (t : Fin cfg0.N) (q : Fin 512) (k : Fin 2048) :
    X0 m c t (ix3 0 q k) = m ((c : Thread nD τ).loc main_arg0) (ix3 (bOf t.val (lt352 t)) (tok t.val q) k) := by
  unfold X0 iblk
  show V m c main_arg0 (((cfg0.win 0).blk t).view.emb _) = _
  rw [V_main_arg0]
  refine congrArg (m ((c : Thread nD τ).loc main_arg0)) ?_
  obtain ⟨e0, e1, e2⟩ := index0 t
  funext a
  apply Fin.ext
  match a with
  | ⟨0, _⟩ => show win0_0.index t 0 * 1 + 1 * 0 = t.val / 176; omega
  | ⟨1, _⟩ => show win0_0.index t 1 * 512 + 1 * q.val = 512 * (t.val / 11 % 16) + q.val; omega
  | ⟨2, _⟩ => show win0_0.index t 2 * 2048 + 1 * k.val = k.val; omega

theorem X1_at (t : Fin cfg0.N) (k : Fin 2048) : X1 m c t (ix2 0 k) = m ((c : Thread nD τ).loc main_arg1) (ix1 k) := by
  unfold X1 iblk
  show V m c main_v2 (((cfg0.win 1).blk t).view.emb _) = _
  refine Eq.trans (congrArg (V m c main_v2) ?_) (V_v2_at m c k)
  obtain ⟨e0, e1⟩ := index1 t
  funext a
  apply Fin.ext
  match a with
  | ⟨0, _⟩ => show win0_1.index t 0 * 1 + 1 * 0 = 0; omega
  | ⟨1, _⟩ => show win0_1.index t 1 * 2048 + 1 * k.val = k.val; omega

theorem X8_at (t : Fin cfg0.N) (k : Fin 2048) : X8 m c t (ix2 0 k) = m ((c : Thread nD τ).loc main_arg7) (ix1 k) := by
  unfold X8 iblk
  show V m c main_v3 (((cfg0.win 8).blk t).view.emb _) = _
  refine Eq.trans (congrArg (V m c main_v3) ?_) (V_v3_at m c k)
  obtain ⟨e0, e1⟩ := index8 t
  funext a
  apply Fin.ext
  match a with
  | ⟨0, _⟩ => show win0_8.index t 0 * 1 + 1 * 0 = 0; omega
  | ⟨1, _⟩ => show win0_8.index t 1 * 2048 + 1 * k.val = k.val; omega

theorem X2_at (t : Fin cfg0.N) (k : Fin 2048) :
    X2 m c t (ix3 0 0 k) = m ((c : Thread nD τ).loc main_arg2) (ix3 (bOf t.val (lt352 t)) 0 k) := by
  unfold X2 iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 176; omega
  | ⟨1, _⟩ => show win0_2.index t 1 * 1 + 1 * 0 = 0; omega
  | ⟨2, _⟩ => show win0_2.index t 2 * 2048 + 1 * k.val = k.val; omega

theorem X3_at (t : Fin cfg0.N) (k : Fin 2048) :
    X3 m c t (ix3 0 0 k) = m ((c : Thread nD τ).loc main_arg3) (ix3 (bOf t.val (lt352 t)) 0 k) := by
  unfold X3 iblk
  show V m c main_arg3 (((cfg0.win 3).blk t).view.emb _) = _
  rw [V_main_arg3]
  refine congrArg (m ((c : Thread nD τ).loc main_arg3)) ?_
  obtain ⟨e0, e1, e2⟩ := index3 t
  funext a
  apply Fin.ext
  match a with
  | ⟨0, _⟩ => show win0_3.index t 0 * 1 + 1 * 0 = t.val / 176; omega
  | ⟨1, _⟩ => show win0_3.index t 1 * 1 + 1 * 0 = 0; omega
  | ⟨2, _⟩ => show win0_3.index t 2 * 2048 + 1 * k.val = k.val; omega

theorem X4_at (t : Fin cfg0.N) (k : Fin 2048) :
    X4 m c t (ix3 0 0 k) = m ((c : Thread nD τ).loc main_arg4) (ix3 (bOf t.val (lt352 t)) 0 k) := by
  unfold X4 iblk
  show V m c main_arg4 (((cfg0.win 4).blk t).view.emb _) = _
  rw [V_main_arg4]
  refine congrArg (m ((c : Thread nD τ).loc main_arg4)) ?_
  obtain ⟨e0, e1, e2⟩ := index4 t
  funext a
  apply Fin.ext
  match a with
  | ⟨0, _⟩ => show win0_4.index t 0 * 1 + 1 * 0 = t.val / 176; omega
  | ⟨1, _⟩ => show win0_4.index t 1 * 1 + 1 * 0 = 0; omega
  | ⟨2, _⟩ => show win0_4.index t 2 * 2048 + 1 * k.val = k.val; omega

theorem X5_at (t : Fin cfg0.N) (k : Fin 2048) (l : Fin 512) :
    X5 m c t (ix2 k l) = m ((c : Thread nD τ).loc main_arg5) (ix2 k (colG (hid (t.val % 11) l))) := by
  unfold X5 iblk
  show V m c main_v0 (((cfg0.win 5).blk t).view.emb _) = _
  rw [V_v0]
  refine congrArg (m ((c : Thread nD τ).loc main_arg5)) ?_
  obtain ⟨e0, e1⟩ := index5 t
  funext a
  apply Fin.ext
  match a with
  | ⟨0, _⟩ => show win0_5.index t 0 * 2048 + 1 * k.val = k.val; omega
  | ⟨1, _⟩ => show win0_5.index t 1 * 512 + 1 * l.val = (512 * (t.val % 11) + l.val) % 5632; omega

theorem X6_at (t : Fin cfg0.N) (k : Fin 2048) (l : Fin 512) :
    X6 m c t (ix2 k l) = m ((c : Thread nD τ).loc main_arg5) (ix2 k (colU (hid (t.val % 11) l))) := by
  unfold X6 iblk
  show V m c main_v0 (((cfg0.win 6).blk t).view.emb _) = _
  rw [V_v0]
  refine congrArg (m ((c : Thread nD τ).loc main_arg5)) ?_
  obtain ⟨e0, e1⟩ := index6 t
  funext a
  apply Fin.ext
  match a with
  | ⟨0, _⟩ => show win0_6.index t 0 * 2048 + 1 * k.val = k.val; omega
  | ⟨1, _⟩ => show win0_6.index t 1 * 512 + 1 * l.val = 5632 + (512 * (t.val % 11) + l.val) % 5632; omega

theorem X7_at (t : Fin cfg0.N) (l : Fin 512) (k : Fin 2048) :
    X7 m c t (ix2 l k) = m ((c : Thread nD τ).loc main_arg6) (ix2 (hid (t.val % 11) l) k) := by
  unfold X7 iblk
  show V m c main_v1 (((cfg0.win 7).blk t).view.emb _) = _
  rw [V_v1]
  refine congrArg (m ((c : Thread nD τ).loc main_arg6)) ?_
  obtain ⟨e0, e1⟩ := index7 t
  funext a
  apply Fin.ext
  match a with
  | ⟨0, _⟩ => show win0_7.index t 0 * 512 + 1 * l.val = (512 * (t.val % 11) + l.val) % 5632; omega
  | ⟨1, _⟩ => show win0_7.index t 1 * 2048 + 1 * k.val = k.val; omega

/-- A normed, scaled and shifted token. -/
def hx (b : Fin 2) (n : Fin 8192) (k : Fin 2048) : EReal :=
  Rms.row (fun j => m ((c : Thread nD τ).loc main_arg0) (ix3 b n j)) (fun j => m ((c : Thread nD τ).loc main_arg1) (ix1 j))
    (fun j => m ((c : Thread nD τ).loc main_arg3) (ix3 b 0 j)) (fun j => m ((c : Thread nD τ).loc main_arg2) (ix3 b 0 j)) k

/-- A gated hidden unit of a token. -/
def unit (b : Fin 2) (n : Fin 8192) (j : Fin 5632) : EReal :=
  gate (∑ i : Fin 2048, hx m c b n i * m ((c : Thread nD τ).loc main_arg5) (ix2 i (colG j)))
    (∑ i : Fin 2048, hx m c b n i * m ((c : Thread nD τ).loc main_arg5) (ix2 i (colU j)))

/-- What a hidden unit adds to a column of a token. -/
def add (b : Fin 2) (n : Fin 8192) (k : Fin 2048) (j : Fin 5632) : EReal :=
  unit m c b n j * m ((c : Thread nD τ).loc main_arg6) (ix2 j k)

/-- What a tile of 512 hidden units adds. -/
def tile (b : Fin 2) (n : Fin 8192) (k : Fin 2048) (f : ℕ) : EReal := ∑ j : Fin 512, add m c b n k (hid f j)

theorem rowB_at (t : Fin cfg0.N) (q : Fin 512) (k : Fin 2048) : rowB m c t q k = hx m c (bOf t.val (lt352 t)) (tok t.val q) k := by
  unfold rowB hx
  simp only [X0_at, X1_at, X2_at, X3_at]

/-- What the carried block of normed rows holds after every point. -/
theorem h_at (q : Fin 512) (k : Fin 2048) : ∀ (n : ℕ) (h : n < cfg0.N),
    (outsAt0 m c n h).2.1 (ix2 q k) = hx m c (bOf n (lt352 ⟨n, h⟩)) (tok n q) k := by
  intro n
  induction n with
  | zero => exact fun h => (h_A m c ⟨0, h⟩ rfl (by show ¬0 % 11 = 10; omega) q k).trans (rowB_at m c ⟨0, h⟩ q k)
  | succ n ih =>
    intro h
    by_cases h0 : (n + 1) % 11 = 0
    · exact (h_A m c ⟨n + 1, h⟩ h0 (by show ¬(n + 1) % 11 = 10; omega) q k).trans (rowB_at m c ⟨n + 1, h⟩ q k)
    · rw [h_B m c ⟨n + 1, h⟩ h0]
      refine (ih (Nat.lt_of_succ_lt h)).trans ?_
      have e1 : bOf n (lt352 ⟨n, Nat.lt_of_succ_lt h⟩) = bOf (n + 1) (lt352 ⟨n + 1, h⟩) := Fin.ext (by show n / 176 = (n + 1) / 176; omega)
      have e2 : tok n q = tok (n + 1) q := Fin.ext (by show 512 * (n / 11 % 16) + q.val = 512 * ((n + 1) / 11 % 16) + q.val; omega)
      rw [e1, e2]

/-- What a point adds to the sum. -/
theorem term_at (t : Fin cfg0.N) (q : Fin 512) (k : Fin 2048) :
    term m c (fun q i => hx m c (bOf t.val (lt352 t)) (tok t.val q) i) t q k
      = tile m c (bOf t.val (lt352 t)) (tok t.val q) k (t.val % 11) := by
  unfold term tile add unit
  simp only [X5_at, X6_at, X7_at]

/-- The carried sum after every point: the tiles so far. -/
theorem a_at (q : Fin 512) (k : Fin 2048) : ∀ (n : ℕ) (h : n < cfg0.N),
    (outsAt0 m c n h).2.2 (ix2 q k) = ∑ f ∈ Finset.range (n % 11 + 1), tile m c (bOf n (lt352 ⟨n, h⟩)) (tok n q) k f := by
  have first : ∀ (n : ℕ) (h : n < cfg0.N), n % 11 = 0 →
      (outsAt0 m c n h).2.2 (ix2 q k) = ∑ f ∈ Finset.range (n % 11 + 1), tile m c (bOf n (lt352 ⟨n, h⟩)) (tok n q) k f := by
    intro n h h0
    refine (a_A m c ⟨n, h⟩ h0 (by show ¬n % 11 = 10; omega) q k).trans ?_
    have e : rowB m c ⟨n, h⟩ = fun q i => hx m c (bOf n (lt352 ⟨n, h⟩)) (tok n q) i := by
      funext q i
      exact rowB_at m c ⟨n, h⟩ q i
    rw [e]
    refine (zero_add _).trans ((term_at m c ⟨n, h⟩ q k).trans ?_)
    show tile m c _ _ k (n % 11) = _
    rw [h0]
    exact (Finset.sum_range_one _).symm
  intro n
  induction n with
  | zero => exact fun h => first 0 h rfl
  | succ n ih =>
    intro h
    by_cases h0 : (n + 1) % 11 = 0
    · exact first (n + 1) h h0
    · refine (a_B m c ⟨n + 1, h⟩ h0 q k).trans ?_
      have e1 : bOf n (lt352 ⟨n, Nat.lt_of_succ_lt h⟩) = bOf (n + 1) (lt352 ⟨n + 1, h⟩) := Fin.ext (by show n / 176 = (n + 1) / 176; omega)
      have e2 : tok n q = tok (n + 1) q := Fin.ext (by show 512 * (n / 11 % 16) + q.val = 512 * ((n + 1) / 11 % 16) + q.val; omega)
      have e3 : (n + 1) % 11 = n % 11 + 1 := by omega
      have e4 : (fun q i => (outsAt0 m c (n + 1) h).2.1 (ix2 q i)) = fun q i => hx m c (bOf (n + 1) (lt352 ⟨n + 1, h⟩)) (tok (n + 1) q) i := by
        funext q i
        exact h_at m c q i (n + 1) h
      have e5 := ih (Nat.lt_of_succ_lt h)
      rw [e1, e2] at e5
      show (outsAt0 m c n _).2.2 (ix2 q k) + term m c (fun q i => (outsAt0 m c (n + 1) h).2.1 (ix2 q i)) ⟨n + 1, h⟩ q k = _
      rw [e4, Finset.sum_range_succ, e5, e3]
      refine congrArg (_ + ·) ((term_at m c ⟨n + 1, h⟩ q k).trans ?_)
      show tile m c _ _ k ((n + 1) % 11) = _
      rw [e3]

/-- Eleven tiles are all the hidden units. -/
theorem tiles (b : Fin 2) (n : Fin 8192) (k : Fin 2048) :
    ∑ f ∈ Finset.range 11, tile m c b n k f = ∑ j : Fin 5632, add m c b n k j := by
  rw [Finset.sum_range]
  unfold tile
  rw [← Fintype.sum_prod_type (f := fun p : Fin 11 × Fin 512 => add m c b n k (hid p.1.val p.2))]
  refine Fintype.sum_equiv (finProdFinEquiv (m := 11) (n := 512)) _ (fun j : Fin 5632 => add m c b n k j) fun p => ?_
  refine congrArg (add m c b n k) (Fin.ext ?_)
  show (512 * p.1.val + p.2.val) % 5632 = p.2.val + 512 * p.1.val
  omega

/-- A token's entry of the stream, and the scale of what is added to it. -/
def strm (b : Fin 2) (n : Fin 8192) (k : Fin 2048) : EReal := m ((c : Thread nD τ).loc main_arg0) (ix3 b n k)
def scal (b : Fin 2) (k : Fin 2048) : EReal := m ((c : Thread nD τ).loc main_arg4) (ix3 b 0 k)

/-- A column of a token's result. -/
def res (b : Fin 2) (n : Fin 8192) (k : Fin 2048) : EReal :=
  Rms.norm (fun j => strm m c b n j + scal m c b j * ∑ i : Fin 5632, add m c b n j i)
    (fun j => m ((c : Thread nD τ).loc main_arg7) (ix1 j)) k

theorem out_at (t : Fin cfg0.N) (h : t.val % 11 = 10) (q : Fin 512) (k : Fin 2048) :
    (outsAt0 m c t.val t.isLt).1 (ix3 0 q k) = res m c (bOf t.val (lt352 t)) (tok t.val q) k := by
  rw [o_C m c t (by omega) h]
  unfold res
  simp only [a_at, h, X0_at, X4_at, X8_at, ← tiles]
  rfl

/-- The result of the call at an index. -/
theorem G_at (b : Fin 2) (n : Fin 8192) (k : Fin 2048) : Value.G9 m c (ix3 b n k) = res m c b n k := by
  have hN : cfg0.N = 352 := N_0
  have hp : Value.pt9Of (ix3 b n k) = 176 * b.val + 11 * (n.val / 512) + 10 := by
    show 11 * (16 * (b.val / 1 - 0) + 1 * (n.val / 512 - 0) + 1 * (k.val / 2048 - 0)) + 10 = _
    omega
  have h : Value.pt9Of (ix3 b n k) < cfg0.N := by rw [hp, hN]; omega
  unfold Value.G9
  rw [dif_pos h, ← Value.outsAt0_sweep m c _ h]
  have el : Value.loc9Of (ix3 b n k) = ix3 0 (⟨n.val % 512, by omega⟩ : Fin 512) k := by
    funext a
    apply Fin.ext
    match a with
    | ⟨0, _⟩ => show b.val % 1 = 0; omega
    | ⟨1, _⟩ => rfl
    | ⟨2, _⟩ => show k.val % 2048 = k.val; omega
  rw [el]
  refine (out_at m c ⟨_, h⟩ (by show Value.pt9Of (ix3 b n k) % 11 = 10; rw [hp]; omega) _ _).trans ?_
  have e1 : bOf (Value.pt9Of (ix3 b n k)) (lt352 ⟨_, h⟩) = b := Fin.ext (by show Value.pt9Of (ix3 b n k) / 176 = _; rw [hp]; omega)
  have e2 : tok (Value.pt9Of (ix3 b n k)) ⟨n.val % 512, by omega⟩ = n :=
    Fin.ext (by show 512 * (Value.pt9Of (ix3 b n k) / 11 % 16) + n.val % 512 = _; rw [hp]; omega)
  rw [e1, e2]

/-- The reference's result is the kernel's array. -/
theorem R_at (m' : (ℓ : Loc Cert.Reference2Ideal.nD Cert.Reference2Ideal.τ Cert.Reference2Ideal.sig) → Buf (Elt Ideal) ℓ) (c' : Dev Cert.Reference2Ideal.nD)
    (h0 : m' ((c'.tc : Thread _ _).loc Cert.Reference2Ideal.main_arg0) = m ((c : Thread nD τ).loc main_arg0))
    (h1 : m' ((c'.tc : Thread _ _).loc Cert.Reference2Ideal.main_arg1) = m ((c : Thread nD τ).loc main_arg1))
    (h2 : m' ((c'.tc : Thread _ _).loc Cert.Reference2Ideal.main_arg2) = m ((c : Thread nD τ).loc main_arg2))
    (h3 : m' ((c'.tc : Thread _ _).loc Cert.Reference2Ideal.main_arg3) = m ((c : Thread nD τ).loc main_arg3))
    (h4 : m' ((c'.tc : Thread _ _).loc Cert.Reference2Ideal.main_arg4) = m ((c : Thread nD τ).loc main_arg4))
    (h5 : m' ((c'.tc : Thread _ _).loc Cert.Reference2Ideal.main_arg5) = m ((c : Thread nD τ).loc main_arg5))
    (h6 : m' ((c'.tc : Thread _ _).loc Cert.Reference2Ideal.main_arg6) = m ((c : Thread nD τ).loc main_arg6))
    (h7 : m' ((c'.tc : Thread _ _).loc Cert.Reference2Ideal.main_arg7) = m ((c : Thread nD τ).loc main_arg7)) :
    Value.G9 m c = Cert.Reference2Ideal.Value.res_main_v40 m' c' := by
  rw [res_eq, h0, h1, h2, h3, h4, h5, h6, h7]
  funext y
  rw [(ix3_eta (n0 := 2) (n1 := 8192) (n2 := 2048) y).symm]
  generalize (y 0 : Fin 2) = b
  generalize (y 1 : Fin 8192) = n
  generalize (y 2 : Fin 2048) = k
  refine (G_at m c b n k).trans (Eq.trans ?_ (normT_at _ _ b n k).symm)
  unfold res
  refine congrArg (fun f => Rms.norm f _ k) (funext fun j => ?_)
  refine Eq.trans ?_ (outT_at _ _ _ _ b n j).symm
  refine congrArg (fun z : EReal => strm m c b n j + scal m c b j * z) (Finset.sum_congr rfl fun i _ => ?_)
  unfold add unit
  refine congrArg (· * _) ?_
  refine Eq.trans ?_ (gateT_at _ b n i).symm
  have eh : ∀ k, hx m c b n k = modT (normT (m ((c : Thread nD τ).loc main_arg0)) (m ((c : Thread nD τ).loc main_arg1)))
      (m ((c : Thread nD τ).loc main_arg2)) (m ((c : Thread nD τ).loc main_arg3)) (ix3 b n k) := fun k =>
    (congrArg (fun z : EReal => z * _ + _) (normT_at _ _ b n k).symm).trans (modT_at _ _ _ b n k).symm
  refine congrArg₂ gate ?_ ?_
  · refine Eq.trans ?_ (inT_at _ _ b n _).symm
    exact Finset.sum_congr rfl fun k _ => congrArg (· * _) (eh k)
  · refine Eq.trans ?_ (inT_at _ _ b n _).symm
    exact Finset.sum_congr rfl fun k _ => congrArg (· * _) (eh k)

end Cert.Ffn
-- ==== Proof.In3.lean ====
/- The input projection to the row-wise streams: what a grid point leaves in the block of normed rows it carries and in the
   block of the result. -/
module

public import proofs.«01_k».proof.Proof.Rms
public import proofs.«01_k».proof.Proof.Gen.Kernel3Ideal.Value
public import Idealize.ShloMosaic.Lib.Pipeline.ValueKit

@[expose] public section

set_option maxRecDepth 16384

noncomputable section

namespace Cert.In3

open Idealize.ShloMosaic Idealize.ShloMosaic.TcCoe Cert.Kernel3Ideal Cert.Kernel3Ideal.Gen

section
variable (y : Vec Ideal S1x256x2048 .f32) (x1 : Vec Ideal S1x2048 .f32) (x2 x3 : Vec Ideal S1x1x2048 .f32)

/-- A normed row of 256 loaded rows. -/
def rowOf (r : Fin 256) (k : Fin 2048) : EReal :=
  Rms.row (fun j => y (ix3 0 r j)) (fun j => x1 (ix2 0 j)) (fun j => x3 (ix3 0 0 j)) (fun j => x2 (ix3 0 0 j)) k

theorem pay1_at (r : Fin 256) (k : Fin 2048) :
    k0_pay1 (k0_pay3 x1) (k0_pay4 x3) (k0_pay5 x2) (k0_pay11 y) (k0_pay12 y) (FloatOps.ofBits FTy.f32 1157627904#32) (ix2 r k)
      = rowOf y x1 x2 x3 r k := by
  have e : ∀ j, k0_pay11 y (ix2 r j) = y (ix3 0 r j) := fun j => by unfold k0_pay11; pointwise
  unfold k0_pay1 k0_pay3 k0_pay4 k0_pay5 k0_pay12 rowOf Rms.row Rms.norm Rms.width Rms.small
  pointwise
  simp only [e]

theorem pay10_at (r : Fin 256) (k : Fin 2048) :
    k0_pay10 (k0_pay3 x1) (k0_pay4 x3) (k0_pay5 x2) y (ix2 r k) = rowOf y x1 x2 x3 r k := by
  unfold k0_pay10 k0_pay3 k0_pay4 k0_pay5 rowOf Rms.row Rms.norm Rms.width Rms.small
  pointwise

theorem pay9_at (r : Fin 256) (k : Fin 2048) :
    k0_pay9 (k0_pay3 x1) (k0_pay4 x3) (k0_pay5 x2) (k0_pay7 y) (k0_pay8 y) (ix2 r k) = rowOf y x1 x2 x3 r k := by
  have e : ∀ j, k0_pay7 y (ix2 r j) = y (ix3 0 r j) := fun j => by unfold k0_pay7; pointwise
  unfold k0_pay9 k0_pay3 k0_pay4 k0_pay5 k0_pay8 rowOf Rms.row Rms.norm Rms.width Rms.small
  pointwise
  simp only [e]

theorem pay6_at (r : Fin 256) (k : Fin 2048) :
    k0_pay6 x1 x3 x2 y (ix2 r k) = rowOf y x1 x2 x3 r k := by
  unfold k0_pay6 k0_pay3 k0_pay4 k0_pay5 rowOf Rms.row Rms.norm Rms.width Rms.small
  pointwise

theorem pay2_at (x : Vec Ideal S1024x2048 .bf16) (w : Vec Ideal S2048x512 .bf16) (r : Fin 1024) (l : Fin 512) :
    k0_pay2 x w (ix3 0 r l) = ∑ k : Fin 2048, x (ix2 r k) * w (ix2 k l) := by
  unfold k0_pay2
  pointwise

theorem ld_at (x0 : Vec Ideal S1x1024x2048 .f32) (b : ℕ) (inb : ∀ a, (![0, b, 0] : Fin 3 → ℕ) a + (![1, 256, 2048] : Fin 3 → ℕ) a ≤ S1x1024x2048.size a)
    (r : Fin 256) (k : Fin 2048) (q : Fin 1024) (hq : q.val = b + r.val) :
    View.ld x0 (Rect.unit (s := S1x1024x2048) ![0, b, 0] ![1, 256, 2048] inb) (ix3 0 r k) = x0 (ix3 0 q k) := by
  rw [View.ld_apply]
  refine congrArg x0 ?_
  funext a
  apply Fin.ext
  fin_cases a <;> simp [LoadRect.idx, Rect.toLoadRect, Rect.unit, ix3, hq]

end

/-- Four blocks of 256 rows, one after the other. -/
theorem canon4 (f : Fin 1024 → Fin 2048 → EReal) (p : Fin 4 → Vec Ideal ⟨2, ![256, 2048]⟩ .bf16)
    (inb : ∀ n : Fin 4, ∀ a, (![256 * n.val, 0] : Fin 2 → ℕ) a + (![256, 2048] : Fin 2 → ℕ) a ≤ S1024x2048.size a)
    (h : ∀ (n : Fin 4) (r : Fin 256) (k : Fin 2048), p n (ix2 r k) = f ⟨256 * n.val + r.val, by omega⟩ k) (q : Fin 1024) (k : Fin 2048) :
    View.canon (Val := Elt Ideal) (e := .bf16) [⟨Rect.unit (s := S1024x2048) ![256 * (3 : Fin 4).val, 0] ![256, 2048] (inb 3), p 3⟩,
      ⟨Rect.unit (s := S1024x2048) ![256 * (2 : Fin 4).val, 0] ![256, 2048] (inb 2), p 2⟩,
      ⟨Rect.unit (s := S1024x2048) ![256 * (1 : Fin 4).val, 0] ![256, 2048] (inb 1), p 1⟩,
      ⟨Rect.unit (s := S1024x2048) ![256 * (0 : Fin 4).val, 0] ![256, 2048] (inb 0), p 0⟩] (ix2 q k) = f q k := by
  have hit : ∀ (n : Fin 4) (r : Fin 256) (L : List (View.Piece (Elt Ideal) S1024x2048 .bf16)), q.val = 256 * n.val + r.val →
      View.canon (⟨Rect.unit (s := S1024x2048) ![256 * n.val, 0] ![256, 2048] (inb n), p n⟩ :: L) (ix2 q k) = f q k := by
    intro n r L hr
    have e : (ix2 q k) = (Rect.unit (s := S1024x2048) ![256 * n.val, 0] ![256, 2048] (inb n)).emb (ix2 r k) := by
      funext a
      apply Fin.ext
      rw [Rect.emb_apply]
      fin_cases a <;> simp [Rect.unit, ix2, hr]
    refine (congrArg _ e).trans ((View.canon_cons_emb ..).trans ((h n r k).trans ?_))
    exact congrArg (fun z => f z k) (Fin.ext hr.symm)
  have miss : ∀ (n : Fin 4) (L : List (View.Piece (Elt Ideal) S1024x2048 .bf16)), (q.val < 256 * n.val) →
      View.canon (⟨Rect.unit (s := S1024x2048) ![256 * n.val, 0] ![256, 2048] (inb n), p n⟩ :: L) (ix2 q k) = View.canon L (ix2 q k) := by
    intro n L hr
    apply View.canon_cons_of_not_mem
    rw [Rect.mem_set_unit]
    intro hm
    have m0 := (hm 0).1
    simp [ix2] at m0
    omega
  by_cases c3 : 768 ≤ q.val
  · exact hit 3 ⟨q.val - 768, by omega⟩ _ (by show q.val = 256 * 3 + (q.val - 768); omega)
  rw [miss 3 _ (by show q.val < 256 * 3; omega)]
  by_cases c2 : 512 ≤ q.val
  · exact hit 2 ⟨q.val - 512, by omega⟩ _ (by show q.val = 256 * 2 + (q.val - 512); omega)
  rw [miss 2 _ (by show q.val < 256 * 2; omega)]
  by_cases c1 : 256 ≤ q.val
  · exact hit 1 ⟨q.val - 256, by omega⟩ _ (by show q.val = 256 * 1 + (q.val - 256); omega)
  rw [miss 1 _ (by show q.val < 256 * 1; omega)]
  exact hit 0 ⟨q.val, by omega⟩ _ (by show q.val = 256 * 0 + q.val; omega)

section
variable (m : (ℓ : Loc nD τ sig) → Buf (Elt Ideal) ℓ) (c : Dev nD)

/-- A grid point's blocks of the arguments. -/
def X0 (t : Fin cfg0.N) : Vec Ideal S1x1024x2048 .f32 := iblk m c 0 t
def X1 (t : Fin cfg0.N) : Vec Ideal S1x2048 .f32 := iblk m c 1 t
def X2 (t : Fin cfg0.N) : Vec Ideal S1x1x2048 .f32 := iblk m c 2 t
def X3 (t : Fin cfg0.N) : Vec Ideal S1x1x2048 .f32 := iblk m c 3 t
def X4 (t : Fin cfg0.N) : Vec Ideal S2048x512 .bf16 := iblk m c 4 t

/-- A normed row of the point's block. -/
def rowB (t : Fin cfg0.N) (q : Fin 1024) (k : Fin 2048) : EReal :=
  Rms.row (fun j => X0 m c t (ix3 0 q j)) (fun j => X1 m c t (ix2 0 j)) (fun j => X3 m c t (ix3 0 0 j)) (fun j => X2 m c t (ix3 0 0 j)) k

theorem rowOf_ld (t : Fin cfg0.N) (b : ℕ) (inb : ∀ a, (![0, b, 0] : Fin 3 → ℕ) a + (![1, 256, 2048] : Fin 3 → ℕ) a ≤ S1x1024x2048.size a)
    (r : Fin 256) (k : Fin 2048) (q : Fin 1024) (hq : q.val = b + r.val) :
    rowOf (View.ld (X0 m c t) (Rect.unit (s := S1x1024x2048) ![0, b, 0] ![1, 256, 2048] inb)) (X1 m c t) (X2 m c t) (X3 m c t) r k = rowB m c t q k := by
  unfold rowOf rowB
  simp only [ld_at (X0 m c t) b inb r _ q hq]

/-- The four blocks of normed rows a first point stores. -/
def pays (t : Fin cfg0.N) (n : Fin 4) : Vec Ideal ⟨2, ![256, 2048]⟩ .bf16 :=
  match n with
  | 0 => k0_pay6 (X1 m c t) (X3 m c t) (X2 m c t) (View.ld (X0 m c t) (Rect.unit (s := S1x1024x2048) ![0, 0, 0] ![1, 256, 2048] inb_S1x1024x2048_S1x256x2048_0_0_0))
  | 1 => k0_pay9 (k0_pay3 (X1 m c t)) (k0_pay4 (X3 m c t)) (k0_pay5 (X2 m c t))
      (k0_pay7 (View.ld (X0 m c t) (Rect.unit (s := S1x1024x2048) ![0, 256, 0] ![1, 256, 2048] inb_S1x1024x2048_S1x256x2048_0_256_0)))
      (k0_pay8 (View.ld (X0 m c t) (Rect.unit (s := S1x1024x2048) ![0, 256, 0] ![1, 256, 2048] inb_S1x1024x2048_S1x256x2048_0_256_0)))
  | 2 => k0_pay10 (k0_pay3 (X1 m c t)) (k0_pay4 (X3 m c t)) (k0_pay5 (X2 m c t))
      (View.ld (X0 m c t) (Rect.unit (s := S1x1024x2048) ![0, 512, 0] ![1, 256, 2048] inb_S1x1024x2048_S1x256x2048_0_512_0))
  | 3 => k0_pay1 (k0_pay3 (X1 m c t)) (k0_pay4 (X3 m c t)) (k0_pay5 (X2 m c t))
      (k0_pay11 (View.ld (X0 m c t) (Rect.unit (s := S1x1024x2048) ![0, 768, 0] ![1, 256, 2048] inb_S1x1024x2048_S1x256x2048_0_768_0)))
      (k0_pay12 (View.ld (X0 m c t) (Rect.unit (s := S1x1024x2048) ![0, 768, 0] ![1, 256, 2048] inb_S1x1024x2048_S1x256x2048_0_768_0)))
      (FloatOps.ofBits FTy.f32 1157627904#32)

theorem pays_at (t : Fin cfg0.N) (n : Fin 4) (r : Fin 256) (k : Fin 2048) :
    pays m c t n (ix2 r k) = rowB m c t ⟨256 * n.val + r.val, by omega⟩ k := by
  fin_cases n
  · exact (pay6_at _ _ _ _ r k).trans (rowOf_ld m c t 0 _ r k _ (by simp))
  · exact (pay9_at _ _ _ _ r k).trans (rowOf_ld m c t 256 _ r k _ (by simp))
  · exact (pay10_at _ _ _ _ r k).trans (rowOf_ld m c t 512 _ r k _ (by simp))
  · exact (pay1_at _ _ _ _ r k).trans (rowOf_ld m c t 768 _ r k _ (by simp))

theorem inb4 (n : Fin 4) (a : Fin 2) : (![256 * n.val, 0] : Fin 2 → ℕ) a + (![256, 2048] : Fin 2 → ℕ) a ≤ S1024x2048.size a := by
  fin_cases n <;> fin_cases a <;> simp

/-- A first point leaves the normed rows of its block. -/
theorem h_A (t : Fin cfg0.N) (h : t.val % 28 = 0) (q : Fin 1024) (k : Fin 2048) : (outsAt0 m c t.val t.isLt).2 (ix2 q k) = rowB m c t q k := by
  rw [outsAt0_A m c t h]
  dsimp only
  frame_out
  exact canon4 (rowB m c t) (pays m c t) inb4 (pays_at m c t) q k

/-- Another point leaves what it found. -/
theorem h_B (t : Fin cfg0.N) (h : ¬t.val % 28 = 0) : (outsAt0 m c t.val t.isLt).2 = (outsAt0 m c (t.val - 1) (Nat.lt_of_le_of_lt (Nat.sub_le _ _) t.isLt)).2 := by
  rw [outsAt0_B m c t h]
  rfl

/-- Every point leaves the product of the carried rows and its block of the weights. -/
theorem o_at (t : Fin cfg0.N) (r : Fin 1024) (l : Fin 512) :
    (outsAt0 m c t.val t.isLt).1 (ix3 0 r l) = ∑ k : Fin 2048, (outsAt0 m c t.val t.isLt).2 (ix2 r k) * X4 m c t (ix2 k l) := by
  by_cases h : t.val % 28 = 0
  · simp only [h_A m c t h]
    rw [outsAt0_A m c t h]
    dsimp only
    frame_out
    rw [View.readCov_eq_canon']
    have e : ∀ k : Fin 2048, (Rect.unit (s := S1024x2048) ![0, 0] ![1024, 2048] inb_S1024x2048_S1024x2048_0_0).idx (ix2 r k) = ix2 r k := fun k => by
      funext a
      apply Fin.ext
      fin_cases a <;> simp [LoadRect.idx, Rect.toLoadRect, Rect.unit, ix2]
    have hL := canon4 (rowB m c t) (pays m c t) inb4 (pays_at m c t) r
    refine (pay2_at _ _ r l).trans (Finset.sum_congr rfl fun k _ => ?_)
    rw [← hL k]
    beta_reduce
    rw [e k]
    rfl
  · rw [h_B m c t h, outsAt0_B m c t h]
    dsimp only
    frame_out
    refine (pay2_at _ _ r l).trans (Finset.sum_congr rfl fun k _ => ?_)
    exact congrArg (fun z : Vec Ideal S1024x2048 .bf16 => z (ix2 r k) * X4 m c t (ix2 k l)) (Memref.IsWhole.read_unread (Memref.isWhole_whole cc0_scratch0) _)
end

end Cert.In3
-- ==== Proof.In3Host.lean ====
/- The weights that the host prepares for the row-wise input projection, and the reference's result, at an index. -/
module

public import proofs.«01_k».proof.Proof.Rms
public import proofs.«01_k».proof.Proof.Gen.Kernel3Ideal.Value
public import proofs.«01_k».proof.Proof.Gen.Reference3Ideal.Run
public import Idealize.ShloMosaic.Lib.StableHlo.Run

@[expose] public section

set_option maxRecDepth 16384
set_option maxHeartbeats 1000000

noncomputable section

namespace Cert.In3

open Idealize.ShloMosaic Idealize.ShloMosaic.TcCoe

/-- The column of the layer's weights that a column of the call's result takes: none for the unused lanes. -/
def src (q : Fin 14336) : Option (Fin 22144) :=
  if h0 : q.val < 3072 then
    if h : q.val % 384 < 352 then some ⟨352 * (q.val / 384) + q.val % 384, by omega⟩ else none
  else if h1 : q.val < 6144 then
    if h : (q.val - 3072) % 384 < 352 then some ⟨2816 + (352 * ((q.val - 3072) / 384) + (q.val - 3072) % 384), by omega⟩ else none
  else if h2 : q.val < 10240 then some ⟨13824 + (q.val - 6144), by omega⟩
  else some ⟨18048 + (q.val - 10240), by omega⟩

section
open Cert.Kernel3Ideal Cert.Kernel3Ideal.Gen

/-- Eight groups of 352 columns, each padded to 384. -/
def padT (x : Vec Ideal S2048x2816 .f32) : Vec Ideal S2048x3072 .f32 :=
  shapeCast S2048x3072 (Idealize.ShloMosaic.pad S2048x8x384 ![0, 0, 0] ![0, 0, 32] ![0, 0, 0] (shapeCast S2048x8x352 x shapeCasts_S2048x2816_S2048x8x352) (sitofp (F := Ideal) .f32 (constantI S_ 32 0#32)) pads_S2048x8x352_S2048x8x384_000_000_0320 h_S_) shapeCasts_S2048x8x384_S2048x3072

/-- The weights of the call. -/
def wT (w : Vec Ideal S2048x22144 .f32) : Vec Ideal S2048x14336 .bf16 :=
  truncf (F := Ideal) .bf16 (concatenate S2048x14336 1 [⟨S2048x3072, padT (extractStridedSlice S2048x2816 ![0, 0] w slices_S2048x22144_S2048x2816_0_0)⟩,
    ⟨S2048x3072, padT (extractStridedSlice S2048x2816 ![0, 2816] w slices_S2048x22144_S2048x2816_0_2816)⟩,
    ⟨S2048x4096, extractStridedSlice S2048x4096 ![0, 13824] w slices_S2048x22144_S2048x4096_0_13824⟩,
    ⟨S2048x4096, extractStridedSlice S2048x4096 ![0, 18048] w slices_S2048x22144_S2048x4096_0_18048⟩] concatenates_S2048x3072_S2048x3072_S2048x4096_S2048x4096_S2048x14336_d1) bitsLt_bf16_f32

variable (m : (ℓ : Loc nD τ sig) → Buf (Elt Ideal) ℓ) (c : Dev nD)

theorem V_v14 : V m c main_v14 = wT (m ((c : Thread nD τ).loc main_arg4)) := by
  show StableHlo.after _ _ (Proc.devRef .tc main_v14) = _
  simp only [hostOps0, hostOps0_1, hostOps0_2, hostOps0_3, hostOps0_4, List.flatten_cons, List.flatten_nil, List.append_nil, List.cons_append,
    List.nil_append]
  after_results_simp
  rfl

theorem V_v15 : V m c main_v15 = broadcastInDim S1x2048 ![1] bcast_S2048_S1x2048_1 (m ((c : Thread nD τ).loc main_arg1)) := by
  show StableHlo.after _ _ (Proc.devRef .tc main_v15) = _
  simp only [hostOps0, hostOps0_1, hostOps0_2, hostOps0_3, hostOps0_4, List.flatten_cons, List.flatten_nil, List.append_nil, List.cons_append,
    List.nil_append]
  after_results_simp
  try rfl

theorem V_v15_at (k : Fin 2048) : V m c main_v15 (ix2 0 k) = m ((c : Thread nD τ).loc main_arg1) (ix1 k) := by
  rw [V_v15]
  pointwise

theorem zpad : FloatOps.sitofp (F := Ideal) FTy.f32 0#32 = (0 : EReal) := by simp [FloatOps.sitofp]

theorem padT_at (x : Vec Ideal S2048x2816 .f32) (k : Fin 2048) (q : Fin 3072) :
    padT x (ix2 k q) = if h : q.val % 384 < 352 then x (ix2 k ⟨352 * (q.val / 384) + q.val % 384, by omega⟩) else 0 := by
  unfold padT
  pointwise
  by_cases h : q.val % 384 < 352
  · rw [dif_pos ⟨by omega, h⟩, dif_pos h]
    congr 2
    apply Fin.ext
    simp only
    omega
  · rw [dif_neg (fun h' => h h'.2), dif_neg h]
    exact zpad

theorem sl0 (w : Vec Ideal S2048x22144 .f32) (k : Fin 2048) (j : Fin 2816) :
    extractStridedSlice S2048x2816 ![0, 0] w slices_S2048x22144_S2048x2816_0_0 (ix2 k j) = w (ix2 k ⟨j.val, by omega⟩) := by
  pointwise

theorem sl1 (w : Vec Ideal S2048x22144 .f32) (k : Fin 2048) (j : Fin 2816) :
    extractStridedSlice S2048x2816 ![0, 2816] w slices_S2048x22144_S2048x2816_0_2816 (ix2 k j) = w (ix2 k ⟨2816 + j.val, by omega⟩) := by
  pointwise

theorem wT_at (w : Vec Ideal S2048x22144 .f32) (k : Fin 2048) (q : Fin 14336) :
    wT w (ix2 k q) = match src q with | some j => w (ix2 k j) | none => 0 := by
  unfold wT
  have e := padT_at
  generalize padT = pT at *
  pointwise
  by_cases h0 : q.val < 3072
  · rw [dif_pos h0, e]
    by_cases h : q.val % 384 < 352
    · have es : src q = some ⟨352 * (q.val / 384) + q.val % 384, by omega⟩ := by unfold src; rw [dif_pos h0, dif_pos h]
      rw [es, dif_pos h, sl0]
    · have es : src q = none := by unfold src; rw [dif_pos h0, dif_neg h]
      rw [es, dif_neg h]
  rw [dif_neg h0]
  by_cases h1 : q.val < 6144
  · rw [dif_pos (show q.val - 3072 < 3072 by omega), e]
    by_cases h : (q.val - 3072) % 384 < 352
    · have es : src q = some ⟨2816 + (352 * ((q.val - 3072) / 384) + (q.val - 3072) % 384), by omega⟩ := by
        unfold src; rw [dif_neg h0, dif_pos h1, dif_pos h]
      rw [es, dif_pos h, sl1]
    · have es : src q = none := by unfold src; rw [dif_neg h0, dif_pos h1, dif_neg h]
      rw [es, dif_neg h]
  rw [dif_neg (show ¬q.val - 3072 < 3072 by omega)]
  by_cases h2 : q.val < 10240
  · have es : src q = some ⟨13824 + (q.val - 6144), by omega⟩ := by unfold src; rw [dif_neg h0, dif_neg h1, dif_pos h2]
    rw [es, dif_pos (show q.val - 3072 - 3072 < 4096 by omega)]
    exact congrArg (fun j : Fin 22144 => w (ix2 k j)) (Fin.ext (show 13824 + (q.val - 3072 - 3072) = 13824 + (q.val - 6144) by omega))
  · have es : src q = some ⟨18048 + (q.val - 10240), by omega⟩ := by unfold src; rw [dif_neg h0, dif_neg h1, dif_neg h2]
    rw [es, dif_neg (show ¬q.val - 3072 - 3072 < 4096 by omega)]
    exact congrArg (fun j : Fin 22144 => w (ix2 k j)) (Fin.ext (show 18048 + (q.val - 3072 - 3072 - 4096) = 18048 + (q.val - 10240) by omega))

end

section
open Cert.Reference3Ideal Cert.Reference3Ideal.Gen

/-- The normed, scaled and shifted rows. -/
def hxT (x : FVec Ideal S2x8192x2048 .f32) (w : FVec Ideal S2048 .f32) (sh sc : FVec Ideal S2x1x2048 .f32) : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x2048_S2x8192_d2 h_S_)) (broadcastInDim S2x8192x1 ![] bcast_S_S2x8192x1 (constant (F := Ideal) S_ .f32 0x45000000#32))) (broadcastInDim S2x8192x1 ![] bcast_S_S2x8192x1 (constant (F := Ideal) S_ .f32 0x358637BD#32)))))) (broadcastInDim S2x8192x2048 ![0, 1, 2] bcast_S1x1x2048_S2x8192x2048_0_1_2 (broadcastInDim S1x1x2048 ![2] bcast_S2048_S1x1x2048_2 w))) (broadcastInDim S2x8192x2048 ![0, 1, 2] bcast_S2x1x2048_S2x8192x2048_0_1_2 (addf (broadcastInDim S2x1x2048 ![] bcast_S_S2x1x2048 (constant (F := Ideal) S_ .f32 0x3F800000#32)) sc))) (broadcastInDim S2x8192x2048 ![0, 1, 2] bcast_S2x1x2048_S2x8192x2048_0_1_2 sh)

theorem hxT_at (x : FVec Ideal S2x8192x2048 .f32) (w : FVec Ideal S2048 .f32) (sh sc : FVec Ideal S2x1x2048 .f32) (b : Fin 2) (n : Fin 8192) (k : Fin 2048) :
    hxT x w sh sc (ix3 b n k) = Rms.row (fun j => x (ix3 b n j)) (fun j => w (ix1 j)) (fun j => sc (ix3 b 0 j)) (fun j => sh (ix3 b 0 j)) k := by
  unfold hxT Rms.row Rms.norm Rms.width Rms.small
  pointwise

/-- The products with the layer's weights. -/
def dT (h : FVec Ideal S2x8192x2048 .f32) (w : FVec Ideal S2048x22144 .f32) : FVec Ideal S2x8192x22144 .f32 :=
  Host.dotGeneral dot_S2x8192x2048_S2048x22144_S2x8192x22144_2_0_01_1_n_n none h w

theorem dT_at (h : FVec Ideal S2x8192x2048 .f32) (w : FVec Ideal S2048x22144 .f32) (b : Fin 2) (n : Fin 8192) (j : Fin 22144) :
    dT h w (ix3 b n j) = ∑ k : Fin 2048, h (ix3 b n k) * w (ix2 k j) := by
  unfold dT
  pointwise

/-- Eight groups of 352 columns, each padded to 384. -/
def padR (x : Vec Ideal S2x8192x2816 .f32) : Vec Ideal S2x8192x3072 .f32 :=
  shapeCast S2x8192x3072 (Idealize.ShloMosaic.pad S2x8192x8x384 ![0, 0, 0, 0] ![0, 0, 0, 32] ![0, 0, 0, 0] (shapeCast S2x8192x8x352 x shapeCasts_S2x8192x2816_S2x8192x8x352) (sitofp (F := Ideal) .f32 (constantI S_ 32 0#32)) pads_S2x8192x8x352_S2x8192x8x384_000_000_000_0320 h_S_) shapeCasts_S2x8192x8x384_S2x8192x3072

theorem padR_at (x : Vec Ideal S2x8192x2816 .f32) (b : Fin 2) (n : Fin 8192) (q : Fin 3072) :
    padR x (ix3 b n q) = if h : q.val % 384 < 352 then x (ix3 b n ⟨352 * (q.val / 384) + q.val % 384, by omega⟩) else 0 := by
  unfold padR
  pointwise
  by_cases h : q.val % 384 < 352
  · rw [dif_pos ⟨by omega, h⟩, dif_pos h]
    congr 2
    apply Fin.ext
    simp only
    omega
  · rw [dif_neg (fun h' => h h'.2), dif_neg h]
    exact zpad

theorem sr0 (w : Vec Ideal S2x8192x22144 .f32) (b : Fin 2) (n : Fin 8192) (j : Fin 2816) :
    extractStridedSlice S2x8192x2816 ![0, 0, 0] w slices_S2x8192x22144_S2x8192x2816_0_0_0 (ix3 b n j) = w (ix3 b n ⟨j.val, by omega⟩) := by
  pointwise

theorem sr1 (w : Vec Ideal S2x8192x22144 .f32) (b : Fin 2) (n : Fin 8192) (j : Fin 2816) :
    extractStridedSlice S2x8192x2816 ![0, 0, 2816] w slices_S2x8192x22144_S2x8192x2816_0_0_2816 (ix3 b n j) = w (ix3 b n ⟨2816 + j.val, by omega⟩) := by
  pointwise

/-- The reference's result, of the products. -/
def rT (D : Vec Ideal S2x8192x22144 .f32) : Vec Ideal S2x8192x14336 .bf16 :=
  truncf (F := Ideal) .bf16 (concatenate S2x8192x14336 2 [⟨S2x8192x3072, padR (extractStridedSlice S2x8192x2816 ![0, 0, 0] D slices_S2x8192x22144_S2x8192x2816_0_0_0)⟩,
    ⟨S2x8192x3072, padR (extractStridedSlice S2x8192x2816 ![0, 0, 2816] D slices_S2x8192x22144_S2x8192x2816_0_0_2816)⟩,
    ⟨S2x8192x4096, extractStridedSlice S2x8192x4096 ![0, 0, 13824] D slices_S2x8192x22144_S2x8192x4096_0_0_13824⟩,
    ⟨S2x8192x4096, extractStridedSlice S2x8192x4096 ![0, 0, 18048] D slices_S2x8192x22144_S2x8192x4096_0_0_18048⟩] concatenates_S2x8192x3072_S2x8192x3072_S2x8192x4096_S2x8192x4096_S2x8192x14336_d2) bitsLt_bf16_f32

theorem rT_at (D : Vec Ideal S2x8192x22144 .f32) (b : Fin 2) (n : Fin 8192) (q : Fin 14336) :
    rT D (ix3 b n q) = match src q with | some j => D (ix3 b n j) | none => 0 := by
  unfold rT
  have e := padR_at
  generalize padR = pT at *
  pointwise
  by_cases h0 : q.val < 3072
  · rw [dif_pos h0, e]
    by_cases h : q.val % 384 < 352
    · have es : src q = some ⟨352 * (q.val / 384) + q.val % 384, by omega⟩ := by unfold src; rw [dif_pos h0, dif_pos h]
      rw [es, dif_pos h, sr0]
    · have es : src q = none := by unfold src; rw [dif_pos h0, dif_neg h]
      rw [es, dif_neg h]
  rw [dif_neg h0]
  by_cases h1 : q.val < 6144
  · rw [dif_pos (show q.val - 3072 < 3072 by omega), e]
    by_cases h : (q.val - 3072) % 384 < 352
    · have es : src q = some ⟨2816 + (352 * ((q.val - 3072) / 384) + (q.val - 3072) % 384), by omega⟩ := by
        unfold src; rw [dif_neg h0, dif_pos h1, dif_pos h]
      rw [es, dif_pos h, sr1]
    · have es : src q = none := by unfold src; rw [dif_neg h0, dif_pos h1, dif_neg h]
      rw [es, dif_neg h]
  rw [dif_neg (show ¬q.val - 3072 < 3072 by omega)]
  by_cases h2 : q.val < 10240
  · have es : src q = some ⟨13824 + (q.val - 6144), by omega⟩ := by unfold src; rw [dif_neg h0, dif_neg h1, dif_pos h2]
    rw [es, dif_pos (show q.val - 3072 - 3072 < 4096 by omega)]
    exact congrArg (fun j : Fin 22144 => D (ix3 b n j)) (Fin.ext (show 13824 + (q.val - 3072 - 3072) = 13824 + (q.val - 6144) by omega))
  · have es : src q = some ⟨18048 + (q.val - 10240), by omega⟩ := by unfold src; rw [dif_neg h0, dif_neg h1, dif_neg h2]
    rw [es, dif_neg (show ¬q.val - 3072 - 3072 < 4096 by omega)]
    exact congrArg (fun j : Fin 22144 => D (ix3 b n j)) (Fin.ext (show 18048 + (q.val - 3072 - 3072 - 4096) = 18048 + (q.val - 10240) by omega))

variable (m : (ℓ : Loc nD τ sig) → Buf (Elt Ideal) ℓ) (c : Dev nD)

theorem res_eq : Value.res_main_v34 m c = rT (dT (hxT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := rfl
end

end Cert.In3
-- ==== Proof.In3Equal.lean ====
/- The row-wise input projection: the kernel's array is the reference's. -/
module

public import proofs.«01_k».proof.Proof.In3
public import proofs.«01_k».proof.Proof.In3Host

@[expose] public section

set_option maxRecDepth 16384

noncomputable section

namespace Cert.In3

open Idealize.ShloMosaic Idealize.ShloMosaic.TcCoe Cert.Kernel3Ideal Cert.Kernel3Ideal.Gen

theorem lt448 (t : Fin cfg0.N) : t.val < 448 := Nat.lt_of_lt_of_eq t.isLt N_0

/-- The sequence of the point numbered `n`. -/
def bOf (n : ℕ) (h : n < 448) : Fin 2 := ⟨n / 224, by omega⟩
/-- The token that is row `q` of the point numbered `n`. -/
def tok (n : ℕ) (q : Fin 1024) : Fin 8192 := ⟨1024 * (n / 28 % 8) + q.val, by omega⟩
/-- The column that is column `l` of the point numbered `n`. -/
def col (n : ℕ) (l : Fin 512) : Fin 14336 := ⟨512 * (n % 28) + l.val, by omega⟩

theorem index0 : ∀ t : Fin cfg0.N, win0_0.index t 0 = t.val / 224 ∧ win0_0.index t 1 = t.val / 28 % 8 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 224 ∧ win0_2.index t 1 = 0 ∧ win0_2.index t 2 = 0 := by decide +kernel
theorem index3 : ∀ t : Fin cfg0.N, win0_3.index t 0 = t.val / 224 ∧ win0_3.index t 1 = 0 ∧ win0_3.index t 2 = 0 := by decide +kernel
theorem index4 : ∀ t : Fin cfg0.N, win0_4.index t 0 = 0 ∧ win0_4.index t 1 = t.val % 28 := by decide +kernel

variable (m : (ℓ : Loc nD τ sig) → Buf (Elt Ideal) ℓ) (c : Dev nD)

theorem X0_at (t : Fin cfg0.N) (q : Fin 1024) (k : Fin 2048) :
    X0 m c t (ix3 0 q k) = m ((c : Thread nD τ).loc main_arg0) (ix3 (bOf t.val (lt448 t)) (tok t.val q) k) := by
  unfold X0 iblk
  show V m c main_arg0 (((cfg0.win 0).blk t).view.emb _) = _
  rw [V_main_arg0]
  refine congrArg (m ((c : Thread nD τ).loc main_arg0)) ?_
  obtain ⟨e0, e1, e2⟩ := index0 t
  funext a
  apply Fin.ext
  match a with
  | ⟨0, _⟩ => show win0_0.index t 0 * 1 + 1 * 0 = t.val / 224; omega
  | ⟨1, _⟩ => show win0_0.index t 1 * 1024 + 1 * q.val = 1024 * (t.val / 28 % 8) + q.val; omega
  | ⟨2, _⟩ => show win0_0.index t 2 * 2048 + 1 * k.val = k.val; omega

theorem X1_at (t : Fin cfg0.N) (k : Fin 2048) : X1 m c t (ix2 0 k) = m ((c : Thread nD τ).loc main_arg1) (ix1 k) := by
  unfold X1 iblk
  show V m c main_v15 (((cfg0.win 1).blk t).view.emb _) = _
  refine Eq.trans (congrArg (V m c main_v15) ?_) (V_v15_at m c k)
  obtain ⟨e0, e1⟩ := index1 t
  funext a
  apply Fin.ext
  match a with
  | ⟨0, _⟩ => show win0_1.index t 0 * 1 + 1 * 0 = 0; omega
  | ⟨1, _⟩ => show win0_1.index t 1 * 2048 + 1 * k.val = k.val; omega

theorem X2_at (t : Fin cfg0.N) (k : Fin 2048) :
    X2 m c t (ix3 0 0 k) = m ((c : Thread nD τ).loc main_arg2) (ix3 (bOf t.val (lt448 t)) 0 k) := by
  unfold X2 iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 224; omega
  | ⟨1, _⟩ => show win0_2.index t 1 * 1 + 1 * 0 = 0; omega
  | ⟨2, _⟩ => show win0_2.index t 2 * 2048 + 1 * k.val = k.val; omega

theorem X3_at (t : Fin cfg0.N) (k : Fin 2048) :
    X3 m c t (ix3 0 0 k) = m ((c : Thread nD τ).loc main_arg3) (ix3 (bOf t.val (lt448 t)) 0 k) := by
  unfold X3 iblk
  show V m c main_arg3 (((cfg0.win 3).blk t).view.emb _) = _
  rw [V_main_arg3]
  refine congrArg (m ((c : Thread nD τ).loc main_arg3)) ?_
  obtain ⟨e0, e1, e2⟩ := index3 t
  funext a
  apply Fin.ext
  match a with
  | ⟨0, _⟩ => show win0_3.index t 0 * 1 + 1 * 0 = t.val / 224; omega
  | ⟨1, _⟩ => show win0_3.index t 1 * 1 + 1 * 0 = 0; omega
  | ⟨2, _⟩ => show win0_3.index t 2 * 2048 + 1 * k.val = k.val; omega

theorem X4_at (t : Fin cfg0.N) (k : Fin 2048) (l : Fin 512) :
    X4 m c t (ix2 k l) = wT (m ((c : Thread nD τ).loc main_arg4)) (ix2 k (col t.val l)) := by
  unfold X4 iblk
  show V m c main_v14 (((cfg0.win 4).blk t).view.emb _) = _
  rw [V_v14]
  refine congrArg (wT (m ((c : Thread nD τ).loc main_arg4))) ?_
  obtain ⟨e0, e1⟩ := index4 t
  funext a
  apply Fin.ext
  match a with
  | ⟨0, _⟩ => show win0_4.index t 0 * 2048 + 1 * k.val = k.val; omega
  | ⟨1, _⟩ => show win0_4.index t 1 * 512 + 1 * l.val = 512 * (t.val % 28) + l.val; omega

/-- A normed, scaled and shifted token. -/
def hx (b : Fin 2) (n : Fin 8192) (k : Fin 2048) : EReal :=
  Rms.row (fun j => m ((c : Thread nD τ).loc main_arg0) (ix3 b n j)) (fun j => m ((c : Thread nD τ).loc main_arg1) (ix1 j))
    (fun j => m ((c : Thread nD τ).loc main_arg3) (ix3 b 0 j)) (fun j => m ((c : Thread nD τ).loc main_arg2) (ix3 b 0 j)) k

theorem rowB_at (t : Fin cfg0.N) (q : Fin 1024) (k : Fin 2048) : rowB m c t q k = hx m c (bOf t.val (lt448 t)) (tok t.val q) k := by
  unfold rowB hx
  simp only [X0_at, X1_at, X2_at, X3_at]

/-- What the carried block holds after every point. -/
theorem h_at (q : Fin 1024) (k : Fin 2048) : ∀ (n : ℕ) (h : n < cfg0.N),
    (outsAt0 m c n h).2 (ix2 q k) = hx m c (bOf n (lt448 ⟨n, h⟩)) (tok n q) k := by
  intro n
  induction n with
  | zero => exact fun h => (h_A m c ⟨0, h⟩ rfl q k).trans (rowB_at m c ⟨0, h⟩ q k)
  | succ n ih =>
    intro h
    by_cases h0 : (n + 1) % 28 = 0
    · exact (h_A m c ⟨n + 1, h⟩ h0 q k).trans (rowB_at m c ⟨n + 1, h⟩ q k)
    · rw [h_B m c ⟨n + 1, h⟩ h0]
      refine (ih (Nat.lt_of_succ_lt h)).trans ?_
      have e1 : bOf n (lt448 ⟨n, Nat.lt_of_succ_lt h⟩) = bOf (n + 1) (lt448 ⟨n + 1, h⟩) := Fin.ext (by show n / 224 = (n + 1) / 224; omega)
      have e2 : tok n q = tok (n + 1) q := Fin.ext (by show 1024 * (n / 28 % 8) + q.val = 1024 * ((n + 1) / 28 % 8) + q.val; omega)
      rw [e1, e2]

theorem out_at (t : Fin cfg0.N) (r : Fin 1024) (l : Fin 512) :
    (outsAt0 m c t.val t.isLt).1 (ix3 0 r l)
      = ∑ k : Fin 2048, hx m c (bOf t.val (lt448 t)) (tok t.val r) k * wT (m ((c : Thread nD τ).loc main_arg4)) (ix2 k (col t.val l)) := by
  rw [o_at]
  simp only [h_at, X4_at]

/-- The result of the call at an index. -/
theorem G_at (b : Fin 2) (n : Fin 8192) (q : Fin 14336) :
    Value.G5 m c (ix3 b n q) = ∑ k : Fin 2048, hx m c b n k * wT (m ((c : Thread nD τ).loc main_arg4)) (ix2 k q) := by
  have hN : cfg0.N = 448 := N_0
  have hp : Value.pt5Of (ix3 b n q) = 224 * b.val + 28 * (n.val / 1024) + q.val / 512 := by
    show 224 * (b.val / 1 - 0) + 28 * (n.val / 1024 - 0) + 1 * (q.val / 512 - 0) = _
    omega
  have h : Value.pt5Of (ix3 b n q) < cfg0.N := by rw [hp, hN]; omega
  unfold Value.G5
  rw [dif_pos h, ← Value.outsAt0_sweep m c _ h]
  have el : Value.loc5Of (ix3 b n q) = ix3 0 (⟨n.val % 1024, by omega⟩ : Fin 1024) (⟨q.val % 512, by omega⟩ : Fin 512) := by
    funext a
    apply Fin.ext
    match a with
    | ⟨0, _⟩ => show b.val % 1 = 0; omega
    | ⟨1, _⟩ => rfl
    | ⟨2, _⟩ => rfl
  rw [el]
  refine (out_at m c ⟨_, h⟩ _ _).trans ?_
  have e1 : bOf (Value.pt5Of (ix3 b n q)) (lt448 ⟨_, h⟩) = b := Fin.ext (by show Value.pt5Of (ix3 b n q) / 224 = _; rw [hp]; omega)
  have e2 : tok (Value.pt5Of (ix3 b n q)) ⟨n.val % 1024, by omega⟩ = n :=
    Fin.ext (by show 1024 * (Value.pt5Of (ix3 b n q) / 28 % 8) + n.val % 1024 = _; rw [hp]; omega)
  have e3 : col (Value.pt5Of (ix3 b n q)) ⟨q.val % 512, by omega⟩ = q :=
    Fin.ext (by show 512 * (Value.pt5Of (ix3 b n q) % 28) + q.val % 512 = _; rw [hp]; omega)
  rw [e1, e2, e3]

/-- The reference's result at an index. -/
theorem R_at (m' : (ℓ : Loc Cert.Reference3Ideal.nD Cert.Reference3Ideal.τ Cert.Reference3Ideal.sig) → Buf (Elt Ideal) ℓ) (c' : Dev Cert.Reference3Ideal.nD)
    (h0 : m' ((c'.tc : Thread _ _).loc Cert.Reference3Ideal.main_arg0) = m ((c : Thread nD τ).loc main_arg0))
    (h1 : m' ((c'.tc : Thread _ _).loc Cert.Reference3Ideal.main_arg1) = m ((c : Thread nD τ).loc main_arg1))
    (h2 : m' ((c'.tc : Thread _ _).loc Cert.Reference3Ideal.main_arg2) = m ((c : Thread nD τ).loc main_arg2))
    (h3 : m' ((c'.tc : Thread _ _).loc Cert.Reference3Ideal.main_arg3) = m ((c : Thread nD τ).loc main_arg3))
    (h4 : m' ((c'.tc : Thread _ _).loc Cert.Reference3Ideal.main_arg4) = m ((c : Thread nD τ).loc main_arg4)) :
    Value.G5 m c = Cert.Reference3Ideal.Value.res_main_v34 m' c' := by
  rw [res_eq, h0, h1, h2, h3, h4]
  funext y
  rw [(ix3_eta (n0 := 2) (n1 := 8192) (n2 := 14336) y).symm]
  generalize (y 0 : Fin 2) = b
  generalize (y 1 : Fin 8192) = n
  generalize (y 2 : Fin 14336) = q
  refine (G_at m c b n q).trans (Eq.trans ?_ (rT_at _ b n q).symm)
  refine (Finset.sum_congr rfl fun k _ => congrArg (hx m c b n k * ·) (wT_at _ k q)).trans ?_
  cases src q with
  | none => exact Finset.sum_eq_zero fun k _ => mul_zero _
  | some j =>
    refine Eq.trans ?_ (dT_at _ _ b n j).symm
    refine Finset.sum_congr rfl fun k _ => congrArg (· * _) ?_
    exact (hxT_at _ _ _ _ b n k).symm

end Cert.In3
-- ==== Proof.In4.lean ====
/- The input projection to the column-wise streams: what a grid point leaves in the block of normed rows it carries and in the
   block of the result. -/
module

public import proofs.«01_k».proof.Proof.Rms
public import proofs.«01_k».proof.Proof.Gen.Kernel4Ideal.Value
public import Idealize.ShloMosaic.Lib.Pipeline.ValueKit

@[expose] public section

set_option maxRecDepth 16384

noncomputable section

namespace Cert.In4

open Idealize.ShloMosaic Idealize.ShloMosaic.TcCoe Cert.Kernel4Ideal Cert.Kernel4Ideal.Gen

section
variable (y : Vec Ideal S1x128x1x2048 .f32) (x1 : Vec Ideal S1x2048 .f32) (x2 x3 : Vec Ideal S1x1x2048 .f32)

/-- A normed row of 128 loaded rows. -/
def rowOf (r : Fin 128) (k : Fin 2048) : EReal :=
  Rms.row (fun j => y (ix4 0 r 0 j)) (fun j => x1 (ix2 0 j)) (fun j => x3 (ix3 0 0 j)) (fun j => x2 (ix3 0 0 j)) k

theorem pay1_at (r : Fin 128) (k : Fin 2048) :
    k0_pay1 (k0_pay3 x1) (k0_pay4 x3) (k0_pay5 x2) y (ix2 r k) = rowOf y x1 x2 x3 r k := by
  unfold k0_pay1 k0_pay3 k0_pay4 k0_pay5 rowOf Rms.row Rms.norm Rms.width Rms.small
  pointwise

theorem pay10_at (r : Fin 128) (k : Fin 2048) :
    k0_pay10 (k0_pay3 x1) (k0_pay4 x3) (k0_pay5 x2) y (ix2 r k) = rowOf y x1 x2 x3 r k := by
  unfold k0_pay10 k0_pay3 k0_pay4 k0_pay5 rowOf Rms.row Rms.norm Rms.width Rms.small
  pointwise

theorem pay14_at (r : Fin 128) (k : Fin 2048) :
    k0_pay14 (k0_pay3 x1) (k0_pay4 x3) (k0_pay5 x2) y (ix2 r k) = rowOf y x1 x2 x3 r k := by
  unfold k0_pay14 k0_pay3 k0_pay4 k0_pay5 rowOf Rms.row Rms.norm Rms.width Rms.small
  pointwise

theorem pay15_at (r : Fin 128) (k : Fin 2048) :
    k0_pay15 (k0_pay3 x1) (k0_pay4 x3) (k0_pay5 x2) y (ix2 r k) = rowOf y x1 x2 x3 r k := by
  unfold k0_pay15 k0_pay3 k0_pay4 k0_pay5 rowOf Rms.row Rms.norm Rms.width Rms.small
  pointwise

theorem pay16_at (r : Fin 128) (k : Fin 2048) :
    k0_pay16 (k0_pay3 x1) (k0_pay4 x3) (k0_pay5 x2) y (ix2 r k) = rowOf y x1 x2 x3 r k := by
  unfold k0_pay16 k0_pay3 k0_pay4 k0_pay5 rowOf Rms.row Rms.norm Rms.width Rms.small
  pointwise

theorem pay6_at (r : Fin 128) (k : Fin 2048) :
    k0_pay6 x1 x3 x2 y (ix2 r k) = rowOf y x1 x2 x3 r k := by
  unfold k0_pay6 k0_pay3 k0_pay4 k0_pay5 rowOf Rms.row Rms.norm Rms.width Rms.small
  pointwise

theorem pay9_at (r : Fin 128) (k : Fin 2048) :
    k0_pay9 (k0_pay3 x1) (k0_pay4 x3) (k0_pay5 x2) (k0_pay7 y) (k0_pay8 y) (FloatOps.ofBits FTy.f32 1157627904#32) (ix2 r k) = rowOf y x1 x2 x3 r k := by
  have e : ∀ j, k0_pay7 y (ix2 r j) = y (ix4 0 r 0 j) := fun j => by unfold k0_pay7; pointwise
  unfold k0_pay9 k0_pay3 k0_pay4 k0_pay5 k0_pay8 rowOf Rms.row Rms.norm Rms.width Rms.small
  pointwise
  simp only [e]

theorem pay13_at (r : Fin 128) (k : Fin 2048) :
    k0_pay13 (k0_pay3 x1) (k0_pay4 x3) (k0_pay5 x2) (k0_pay11 y) (k0_pay12 y) (ix2 r k) = rowOf y x1 x2 x3 r k := by
  have e : ∀ j, k0_pay11 y (ix2 r j) = y (ix4 0 r 0 j) := fun j => by unfold k0_pay11; pointwise
  unfold k0_pay13 k0_pay3 k0_pay4 k0_pay5 k0_pay12 rowOf Rms.row Rms.norm Rms.width Rms.small
  pointwise
  simp only [e]

theorem pay2_at (x : Vec Ideal S1024x2048 .bf16) (w : Vec Ideal S2048x512 .bf16) (r : Fin 1024) (l : Fin 512) :
    k0_pay2 x w (ix3 0 r l) = ∑ k : Fin 2048, x (ix2 r k) * w (ix2 k l) := by
  unfold k0_pay2
  pointwise

theorem ld_at (x0 : Vec Ideal S1x128x8x2048 .f32) (n : Fin 8) (inb : ∀ a, (![0, 0, n.val, 0] : Fin 4 → ℕ) a + (![1, 128, 1, 2048] : Fin 4 → ℕ) a ≤ S1x128x8x2048.size a)
    (r : Fin 128) (k : Fin 2048) :
    View.ld x0 (Rect.unit (s := S1x128x8x2048) ![0, 0, n.val, 0] ![1, 128, 1, 2048] inb) (ix4 0 r 0 k) = x0 (ix4 0 r n k) := by
  rw [View.ld_apply]
  refine congrArg x0 ?_
  funext a
  apply Fin.ext
  fin_cases a <;> simp [LoadRect.idx, Rect.toLoadRect, Rect.unit, ix4]

end

/-- Eight blocks of 128 rows, one after the other. -/
theorem canon8 (f : Fin 1024 → Fin 2048 → EReal) (p : Fin 8 → Vec Ideal ⟨2, ![128, 2048]⟩ .bf16)
    (inb : ∀ n : Fin 8, ∀ a, (![128 * n.val, 0] : Fin 2 → ℕ) a + (![128, 2048] : Fin 2 → ℕ) a ≤ S1024x2048.size a)
    (h : ∀ (n : Fin 8) (r : Fin 128) (k : Fin 2048), p n (ix2 r k) = f ⟨128 * n.val + r.val, by omega⟩ k) (q : Fin 1024) (k : Fin 2048) :
    View.canon (Val := Elt Ideal) (e := .bf16) [⟨Rect.unit (s := S1024x2048) ![128 * (7 : Fin 8).val, 0] ![128, 2048] (inb 7), p 7⟩,
      ⟨Rect.unit (s := S1024x2048) ![128 * (6 : Fin 8).val, 0] ![128, 2048] (inb 6), p 6⟩,
      ⟨Rect.unit (s := S1024x2048) ![128 * (5 : Fin 8).val, 0] ![128, 2048] (inb 5), p 5⟩,
      ⟨Rect.unit (s := S1024x2048) ![128 * (4 : Fin 8).val, 0] ![128, 2048] (inb 4), p 4⟩,
      ⟨Rect.unit (s := S1024x2048) ![128 * (3 : Fin 8).val, 0] ![128, 2048] (inb 3), p 3⟩,
      ⟨Rect.unit (s := S1024x2048) ![128 * (2 : Fin 8).val, 0] ![128, 2048] (inb 2), p 2⟩,
      ⟨Rect.unit (s := S1024x2048) ![128 * (1 : Fin 8).val, 0] ![128, 2048] (inb 1), p 1⟩,
      ⟨Rect.unit (s := S1024x2048) ![128 * (0 : Fin 8).val, 0] ![128, 2048] (inb 0), p 0⟩] (ix2 q k) = f q k := by
  have hit : ∀ (n : Fin 8) (r : Fin 128) (L : List (View.Piece (Elt Ideal) S1024x2048 .bf16)), q.val = 128 * n.val + r.val →
      View.canon (⟨Rect.unit (s := S1024x2048) ![128 * n.val, 0] ![128, 2048] (inb n), p n⟩ :: L) (ix2 q k) = f q k := by
    intro n r L hr
    have e : (ix2 q k) = (Rect.unit (s := S1024x2048) ![128 * n.val, 0] ![128, 2048] (inb n)).emb (ix2 r k) := by
      funext a
      apply Fin.ext
      rw [Rect.emb_apply]
      fin_cases a <;> simp [Rect.unit, ix2, hr]
    refine (congrArg _ e).trans ((View.canon_cons_emb ..).trans ((h n r k).trans ?_))
    exact congrArg (fun z => f z k) (Fin.ext hr.symm)
  have miss : ∀ (n : Fin 8) (L : List (View.Piece (Elt Ideal) S1024x2048 .bf16)), (q.val < 128 * n.val) →
      View.canon (⟨Rect.unit (s := S1024x2048) ![128 * n.val, 0] ![128, 2048] (inb n), p n⟩ :: L) (ix2 q k) = View.canon L (ix2 q k) := by
    intro n L hr
    apply View.canon_cons_of_not_mem
    rw [Rect.mem_set_unit]
    intro hm
    have m0 := (hm 0).1
    simp [ix2] at m0
    omega
  by_cases c7 : 896 ≤ q.val
  · exact hit 7 ⟨q.val - 896, by omega⟩ _ (by show q.val = 128 * 7 + (q.val - 896); omega)
  rw [miss 7 _ (by show q.val < 128 * 7; omega)]
  by_cases c6 : 768 ≤ q.val
  · exact hit 6 ⟨q.val - 768, by omega⟩ _ (by show q.val = 128 * 6 + (q.val - 768); omega)
  rw [miss 6 _ (by show q.val < 128 * 6; omega)]
  by_cases c5 : 640 ≤ q.val
  · exact hit 5 ⟨q.val - 640, by omega⟩ _ (by show q.val = 128 * 5 + (q.val - 640); omega)
  rw [miss 5 _ (by show q.val < 128 * 5; omega)]
  by_cases c4 : 512 ≤ q.val
  · exact hit 4 ⟨q.val - 512, by omega⟩ _ (by show q.val = 128 * 4 + (q.val - 512); omega)
  rw [miss 4 _ (by show q.val < 128 * 4; omega)]
  by_cases c3 : 384 ≤ q.val
  · exact hit 3 ⟨q.val - 384, by omega⟩ _ (by show q.val = 128 * 3 + (q.val - 384); omega)
  rw [miss 3 _ (by show q.val < 128 * 3; omega)]
  by_cases c2 : 256 ≤ q.val
  · exact hit 2 ⟨q.val - 256, by omega⟩ _ (by show q.val = 128 * 2 + (q.val - 256); omega)
  rw [miss 2 _ (by show q.val < 128 * 2; omega)]
  by_cases c1 : 128 ≤ q.val
  · exact hit 1 ⟨q.val - 128, by omega⟩ _ (by show q.val = 128 * 1 + (q.val - 128); omega)
  rw [miss 1 _ (by show q.val < 128 * 1; omega)]
  exact hit 0 ⟨q.val, by omega⟩ _ (by show q.val = 128 * 0 + q.val; omega)

section
variable (m : (ℓ : Loc nD τ sig) → Buf (Elt Ideal) ℓ) (c : Dev nD)

/-- A grid point's blocks of the arguments. -/
def X0 (t : Fin cfg0.N) : Vec Ideal S1x128x8x2048 .f32 := iblk m c 0 t
def X1 (t : Fin cfg0.N) : Vec Ideal S1x2048 .f32 := iblk m c 1 t
def X2 (t : Fin cfg0.N) : Vec Ideal S1x1x2048 .f32 := iblk m c 2 t
def X3 (t : Fin cfg0.N) : Vec Ideal S1x1x2048 .f32 := iblk m c 3 t
def X4 (t : Fin cfg0.N) : Vec Ideal S2048x512 .bf16 := iblk m c 4 t

/-- A normed row of the point's block: 128 rows for each of the eight columns. -/
def rowB (t : Fin cfg0.N) (q : Fin 1024) (k : Fin 2048) : EReal :=
  Rms.row (fun j => X0 m c t (ix4 0 (⟨q.val % 128, by omega⟩ : Fin 128) (⟨q.val / 128, by omega⟩ : Fin 8) j)) (fun j => X1 m c t (ix2 0 j)) (fun j => X3 m c t (ix3 0 0 j)) (fun j => X2 m c t (ix3 0 0 j)) k

theorem rowOf_ld (t : Fin cfg0.N) (n : Fin 8) (inb : ∀ a, (![0, 0, n.val, 0] : Fin 4 → ℕ) a + (![1, 128, 1, 2048] : Fin 4 → ℕ) a ≤ S1x128x8x2048.size a)
    (r : Fin 128) (k : Fin 2048) :
    rowOf (View.ld (X0 m c t) (Rect.unit (s := S1x128x8x2048) ![0, 0, n.val, 0] ![1, 128, 1, 2048] inb)) (X1 m c t) (X2 m c t) (X3 m c t) r k
      = rowB m c t ⟨128 * n.val + r.val, by omega⟩ k := by
  unfold rowOf rowB
  simp only [ld_at (X0 m c t) n inb r]
  have e1 : (⟨(128 * n.val + r.val) % 128, by omega⟩ : Fin 128) = r := Fin.ext (by show (128 * n.val + r.val) % 128 = r.val; omega)
  have e2 : (⟨(128 * n.val + r.val) / 128, by omega⟩ : Fin 8) = n := Fin.ext (by show (128 * n.val + r.val) / 128 = n.val; omega)
  rw [e1, e2]

/-- The eight blocks of normed rows a first point stores. -/
def pays (t : Fin cfg0.N) (n : Fin 8) : Vec Ideal ⟨2, ![128, 2048]⟩ .bf16 :=
  match n with
  | 0 => k0_pay6 (X1 m c t) (X3 m c t) (X2 m c t) (View.ld (X0 m c t) (Rect.unit (s := S1x128x8x2048) ![0, 0, 0, 0] ![1, 128, 1, 2048] inb_S1x128x8x2048_S1x128x1x2048_0_0_0_0))
  | 1 => k0_pay9 (k0_pay3 (X1 m c t)) (k0_pay4 (X3 m c t)) (k0_pay5 (X2 m c t))
      (k0_pay7 (View.ld (X0 m c t) (Rect.unit (s := S1x128x8x2048) ![0, 0, 1, 0] ![1, 128, 1, 2048] inb_S1x128x8x2048_S1x128x1x2048_0_0_1_0)))
      (k0_pay8 (View.ld (X0 m c t) (Rect.unit (s := S1x128x8x2048) ![0, 0, 1, 0] ![1, 128, 1, 2048] inb_S1x128x8x2048_S1x128x1x2048_0_0_1_0)))
      (FloatOps.ofBits FTy.f32 1157627904#32)
  | 2 => k0_pay10 (k0_pay3 (X1 m c t)) (k0_pay4 (X3 m c t)) (k0_pay5 (X2 m c t))
      (View.ld (X0 m c t) (Rect.unit (s := S1x128x8x2048) ![0, 0, 2, 0] ![1, 128, 1, 2048] inb_S1x128x8x2048_S1x128x1x2048_0_0_2_0))
  | 3 => k0_pay13 (k0_pay3 (X1 m c t)) (k0_pay4 (X3 m c t)) (k0_pay5 (X2 m c t))
      (k0_pay11 (View.ld (X0 m c t) (Rect.unit (s := S1x128x8x2048) ![0, 0, 3, 0] ![1, 128, 1, 2048] inb_S1x128x8x2048_S1x128x1x2048_0_0_3_0)))
      (k0_pay12 (View.ld (X0 m c t) (Rect.unit (s := S1x128x8x2048) ![0, 0, 3, 0] ![1, 128, 1, 2048] inb_S1x128x8x2048_S1x128x1x2048_0_0_3_0)))
  | 4 => k0_pay14 (k0_pay3 (X1 m c t)) (k0_pay4 (X3 m c t)) (k0_pay5 (X2 m c t))
      (View.ld (X0 m c t) (Rect.unit (s := S1x128x8x2048) ![0, 0, 4, 0] ![1, 128, 1, 2048] inb_S1x128x8x2048_S1x128x1x2048_0_0_4_0))
  | 5 => k0_pay15 (k0_pay3 (X1 m c t)) (k0_pay4 (X3 m c t)) (k0_pay5 (X2 m c t))
      (View.ld (X0 m c t) (Rect.unit (s := S1x128x8x2048) ![0, 0, 5, 0] ![1, 128, 1, 2048] inb_S1x128x8x2048_S1x128x1x2048_0_0_5_0))
  | 6 => k0_pay16 (k0_pay3 (X1 m c t)) (k0_pay4 (X3 m c t)) (k0_pay5 (X2 m c t))
      (View.ld (X0 m c t) (Rect.unit (s := S1x128x8x2048) ![0, 0, 6, 0] ![1, 128, 1, 2048] inb_S1x128x8x2048_S1x128x1x2048_0_0_6_0))
  | 7 => k0_pay1 (k0_pay3 (X1 m c t)) (k0_pay4 (X3 m c t)) (k0_pay5 (X2 m c t))
      (View.ld (X0 m c t) (Rect.unit (s := S1x128x8x2048) ![0, 0, 7, 0] ![1, 128, 1, 2048] inb_S1x128x8x2048_S1x128x1x2048_0_0_7_0))

theorem pays_at (t : Fin cfg0.N) (n : Fin 8) (r : Fin 128) (k : Fin 2048) :
    pays m c t n (ix2 r k) = rowB m c t ⟨128 * n.val + r.val, by omega⟩ k := by
  fin_cases n
  · exact (pay6_at _ _ _ _ r k).trans (rowOf_ld m c t 0 _ r k)
  · exact (pay9_at _ _ _ _ r k).trans (rowOf_ld m c t 1 _ r k)
  · exact (pay10_at _ _ _ _ r k).trans (rowOf_ld m c t 2 _ r k)
  · exact (pay13_at _ _ _ _ r k).trans (rowOf_ld m c t 3 _ r k)
  · exact (pay14_at _ _ _ _ r k).trans (rowOf_ld m c t 4 _ r k)
  · exact (pay15_at _ _ _ _ r k).trans (rowOf_ld m c t 5 _ r k)
  · exact (pay16_at _ _ _ _ r k).trans (rowOf_ld m c t 6 _ r k)
  · exact (pay1_at _ _ _ _ r k).trans (rowOf_ld m c t 7 _ r k)

theorem inb8 (n : Fin 8) (a : Fin 2) : (![128 * n.val, 0] : Fin 2 → ℕ) a + (![128, 2048] : Fin 2 → ℕ) a ≤ S1024x2048.size a := by
  fin_cases n <;> fin_cases a <;> simp

/-- A first point leaves the normed rows of its block. -/
theorem h_A (t : Fin cfg0.N) (h : t.val % 17 = 0) (q : Fin 1024) (k : Fin 2048) : (outsAt0 m c t.val t.isLt).2 (ix2 q k) = rowB m c t q k := by
  rw [outsAt0_A m c t h]
  dsimp only
  frame_out
  exact canon8 (rowB m c t) (pays m c t) inb8 (pays_at m c t) q k

/-- Another point leaves what it found. -/
theorem h_B (t : Fin cfg0.N) (h : ¬t.val % 17 = 0) : (outsAt0 m c t.val t.isLt).2 = (outsAt0 m c (t.val - 1) (Nat.lt_of_le_of_lt (Nat.sub_le _ _) t.isLt)).2 := by
  rw [outsAt0_B m c t h]
  rfl

/-- Every point leaves the product of the carried rows and its block of the weights. -/
theorem o_at (t : Fin cfg0.N) (r : Fin 1024) (l : Fin 512) :
    (outsAt0 m c t.val t.isLt).1 (ix3 0 r l) = ∑ k : Fin 2048, (outsAt0 m c t.val t.isLt).2 (ix2 r k) * X4 m c t (ix2 k l) := by
  by_cases h : t.val % 17 = 0
  · simp only [h_A m c t h]
    rw [outsAt0_A m c t h]
    dsimp only
    frame_out
    rw [View.readCov_eq_canon']
    have e : ∀ k : Fin 2048, (Rect.unit (s := S1024x2048) ![0, 0] ![1024, 2048] inb_S1024x2048_S1024x2048_0_0).idx (ix2 r k) = ix2 r k := fun k => by
      funext a
      apply Fin.ext
      fin_cases a <;> simp [LoadRect.idx, Rect.toLoadRect, Rect.unit, ix2]
    have hL := canon8 (rowB m c t) (pays m c t) inb8 (pays_at m c t) r
    refine (pay2_at _ _ r l).trans (Finset.sum_congr rfl fun k _ => ?_)
    rw [← hL k]
    beta_reduce
    rw [e k]
    rfl
  · rw [h_B m c t h, outsAt0_B m c t h]
    dsimp only
    frame_out
    refine (pay2_at _ _ r l).trans (Finset.sum_congr rfl fun k _ => ?_)
    exact congrArg (fun z : Vec Ideal S1024x2048 .bf16 => z (ix2 r k) * X4 m c t (ix2 k l)) (Memref.IsWhole.read_unread (Memref.isWhole_whole cc0_scratch0) _)
end

end Cert.In4
-- ==== Proof.In4Host.lean ====
/- The weights that the host prepares for the column-wise input projection, and the reference's result, at an index. -/
module

public import proofs.«01_k».proof.Proof.Rms
public import proofs.«01_k».proof.Proof.Gen.Kernel4Ideal.Value
public import proofs.«01_k».proof.Proof.Gen.Reference4Ideal.Run
public import Idealize.ShloMosaic.Lib.StableHlo.Run

@[expose] public section

set_option maxRecDepth 16384
set_option maxHeartbeats 1000000

noncomputable section

namespace Cert.In4

open Idealize.ShloMosaic Idealize.ShloMosaic.TcCoe

/-- The column of the layer's weights that a column of the call's result takes: none for the unused ones. -/
def src (q : Fin 8704) : Option (Fin 22144) :=
  if h0 : q.val < 8192 then some ⟨5632 + q.val, by omega⟩
  else if h1 : q.val < 8256 then some ⟨17920 + (q.val - 8192), by omega⟩
  else if h2 : q.val < 8320 then some ⟨17984 + (q.val - 8256), by omega⟩
  else none

/-- The token at a position of the column-wise order. -/
def tokC (s : Fin 8192) : Fin 8192 := ⟨s.val % 128 * 64 + s.val / 128, by omega⟩

section
open Cert.Kernel4Ideal Cert.Kernel4Ideal.Gen

/-- The weights of the call. -/
def wT (w : Vec Ideal S2048x22144 .f32) : Vec Ideal S2048x8704 .bf16 :=
  truncf (F := Ideal) .bf16 (concatenate S2048x8704 1 [⟨S2048x8192, extractStridedSlice S2048x8192 ![0, 5632] w slices_S2048x22144_S2048x8192_0_5632⟩,
    ⟨S2048x64, extractStridedSlice S2048x64 ![0, 17920] w slices_S2048x22144_S2048x64_0_17920⟩,
    ⟨S2048x64, extractStridedSlice S2048x64 ![0, 17984] w slices_S2048x22144_S2048x64_0_17984⟩,
    ⟨S2048x384, broadcastInDim S2048x384 ![] bcast_S_S2048x384 (constant (F := Ideal) S_ .f32 0x00000000#32)⟩] concatenates_S2048x8192_S2048x64_S2048x64_S2048x384_S2048x8704_d1) bitsLt_bf16_f32

variable (m : (ℓ : Loc nD τ sig) → Buf (Elt Ideal) ℓ) (c : Dev nD)

theorem V_v9 : V m c main_v9 = wT (m ((c : Thread nD τ).loc main_arg4)) := by
  show StableHlo.after _ _ (Proc.devRef .tc main_v9) = _
  simp only [hostOps0, List.flatten_cons, List.flatten_nil, List.append_nil, List.cons_append,
    List.nil_append]
  after_results_simp
  rfl

theorem V_v10 : V m c main_v10 = broadcastInDim S1x2048 ![1] bcast_S2048_S1x2048_1 (m ((c : Thread nD τ).loc main_arg1)) := by
  show StableHlo.after _ _ (Proc.devRef .tc main_v10) = _
  simp only [hostOps0, List.flatten_cons, List.flatten_nil, List.append_nil, List.cons_append,
    List.nil_append]
  after_results_simp
  try rfl

theorem V_v10_at (k : Fin 2048) : V m c main_v10 (ix2 0 k) = m ((c : Thread nD τ).loc main_arg1) (ix1 k) := by
  rw [V_v10]
  pointwise

/-- The stream with its rows and columns apart. -/
theorem V_v11 : V m c main_v11 = shapeCast S2x128x64x2048 (m ((c : Thread nD τ).loc main_arg0)) shapeCasts_S2x8192x2048_S2x128x64x2048 := by
  show StableHlo.after _ _ (Proc.devRef .tc main_v11) = _
  simp only [hostOps0, List.flatten_cons, List.flatten_nil, List.append_nil, List.cons_append,
    List.nil_append]
  after_results_simp
  try rfl

theorem split_at (x : Vec Ideal S2x8192x2048 .f32) (b : Fin 2) (r : Fin 128) (p : Fin 64) (k : Fin 2048) :
    shapeCast S2x128x64x2048 x shapeCasts_S2x8192x2048_S2x128x64x2048 (ix4 b r p k) = x (ix3 b (⟨r.val * 64 + p.val, by omega⟩ : Fin 8192) k) := by
  pointwise

theorem V_v11_at (b : Fin 2) (r : Fin 128) (p : Fin 64) (k : Fin 2048) :
    V m c main_v11 (ix4 b r p k) = m ((c : Thread nD τ).loc main_arg0) (ix3 b (⟨r.val * 64 + p.val, by omega⟩ : Fin 8192) k) := by
  rw [V_v11]
  exact split_at _ b r p k

theorem zpad : FloatOps.sitofp (F := Ideal) FTy.f32 0#32 = (0 : EReal) := by simp [FloatOps.sitofp]

theorem wT_at (w : Vec Ideal S2048x22144 .f32) (k : Fin 2048) (q : Fin 8704) :
    wT w (ix2 k q) = match src q with | some j => w (ix2 k j) | none => 0 := by
  unfold wT
  pointwise
  by_cases h0 : q.val < 8192
  · have es : src q = some ⟨5632 + q.val, by omega⟩ := by unfold src; rw [dif_pos h0]
    rw [es, dif_pos h0]
  rw [dif_neg h0]
  by_cases h1 : q.val < 8256
  · have es : src q = some ⟨17920 + (q.val - 8192), by omega⟩ := by unfold src; rw [dif_neg h0, dif_pos h1]
    rw [es, dif_pos (show q.val - 8192 < 64 by omega)]
  rw [dif_neg (show ¬q.val - 8192 < 64 by omega)]
  by_cases h2 : q.val < 8320
  · have es : src q = some ⟨17984 + (q.val - 8256), by omega⟩ := by unfold src; rw [dif_neg h0, dif_neg h1, dif_pos h2]
    rw [es, dif_pos (show q.val - 8192 - 64 < 64 by omega)]
    exact congrArg (fun j : Fin 22144 => w (ix2 k j)) (Fin.ext (show 17984 + (q.val - 8192 - 64) = 17984 + (q.val - 8256) by omega))
  · have es : src q = none := by unfold src; rw [dif_neg h0, dif_neg h1, dif_neg h2]
    rw [es, dif_neg (show ¬q.val - 8192 - 64 < 64 by omega)]
end

section
open Cert.Reference4Ideal Cert.Reference4Ideal.Gen

/-- The normed, scaled and shifted rows. -/
def hxT (x : FVec Ideal S2x8192x2048 .f32) (w : FVec Ideal S2048 .f32) (sh sc : FVec Ideal S2x1x2048 .f32) : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x2048_S2x8192_d2 h_S_)) (broadcastInDim S2x8192x1 ![] bcast_S_S2x8192x1 (constant (F := Ideal) S_ .f32 0x45000000#32))) (broadcastInDim S2x8192x1 ![] bcast_S_S2x8192x1 (constant (F := Ideal) S_ .f32 0x358637BD#32)))))) (broadcastInDim S2x8192x2048 ![0, 1, 2] bcast_S1x1x2048_S2x8192x2048_0_1_2 (broadcastInDim S1x1x2048 ![2] bcast_S2048_S1x1x2048_2 w))) (broadcastInDim S2x8192x2048 ![0, 1, 2] bcast_S2x1x2048_S2x8192x2048_0_1_2 (addf (broadcastInDim S2x1x2048 ![] bcast_S_S2x1x2048 (constant (F := Ideal) S_ .f32 0x3F800000#32)) sc))) (broadcastInDim S2x8192x2048 ![0, 1, 2] bcast_S2x1x2048_S2x8192x2048_0_1_2 sh)

theorem hxT_at (x : FVec Ideal S2x8192x2048 .f32) (w : FVec Ideal S2048 .f32) (sh sc : FVec Ideal S2x1x2048 .f32) (b : Fin 2) (n : Fin 8192) (k : Fin 2048) :
    hxT x w sh sc (ix3 b n k) = Rms.row (fun j => x (ix3 b n j)) (fun j => w (ix1 j)) (fun j => sc (ix3 b 0 j)) (fun j => sh (ix3 b 0 j)) k := by
  unfold hxT Rms.row Rms.norm Rms.width Rms.small
  pointwise

/-- The products with the layer's weights. -/
def dT (h : FVec Ideal S2x8192x2048 .f32) (w : FVec Ideal S2048x22144 .f32) : FVec Ideal S2x8192x22144 .f32 :=
  Host.dotGeneral dot_S2x8192x2048_S2048x22144_S2x8192x22144_2_0_01_1_n_n none h w

theorem dT_at (h : FVec Ideal S2x8192x2048 .f32) (w : FVec Ideal S2048x22144 .f32) (b : Fin 2) (n : Fin 8192) (j : Fin 22144) :
    dT h w (ix3 b n j) = ∑ k : Fin 2048, h (ix3 b n k) * w (ix2 k j) := by
  unfold dT
  pointwise

/-- The reference's columns in use, in the column-wise order. -/
def cT (D : Vec Ideal S2x8192x22144 .f32) : Vec Ideal S2x8192x8320 .f32 :=
  concatenate S2x8192x8320 2 [⟨S2x8192x8192, shapeCast S2x8192x8192 (transpose S2x64x128x8192 [0, 2, 1, 3] (shapeCast S2x128x64x8192 (extractStridedSlice S2x8192x8192 ![0, 0, 5632] D slices_S2x8192x22144_S2x8192x8192_0_0_5632) shapeCasts_S2x8192x8192_S2x128x64x8192) transposes_S2x128x64x8192_S2x64x128x8192_0_2_1_3) shapeCasts_S2x64x128x8192_S2x8192x8192⟩,
    ⟨S2x8192x64, shapeCast S2x8192x64 (transpose S2x64x128x64 [0, 2, 1, 3] (shapeCast S2x128x64x64 (extractStridedSlice S2x8192x64 ![0, 0, 17920] D slices_S2x8192x22144_S2x8192x64_0_0_17920) shapeCasts_S2x8192x64_S2x128x64x64) transposes_S2x128x64x64_S2x64x128x64_0_2_1_3) shapeCasts_S2x64x128x64_S2x8192x64⟩,
    ⟨S2x8192x64, shapeCast S2x8192x64 (transpose S2x64x128x64 [0, 2, 1, 3] (shapeCast S2x128x64x64 (extractStridedSlice S2x8192x64 ![0, 0, 17984] D slices_S2x8192x22144_S2x8192x64_0_0_17984) shapeCasts_S2x8192x64_S2x128x64x64) transposes_S2x128x64x64_S2x64x128x64_0_2_1_3) shapeCasts_S2x64x128x64_S2x8192x64⟩] concatenates_S2x8192x8192_S2x8192x64_S2x8192x64_S2x8192x8320_d2

/-- The reference's result, of the products. -/
def rT (D : Vec Ideal S2x8192x22144 .f32) : Vec Ideal S2x8192x8704 .f32 :=
  Idealize.ShloMosaic.pad S2x8192x8704 ![0, 0, 0] ![0, 0, 384] ![0, 0, 0] (cT D) (sitofp (F := Ideal) .f32 (constantI S_ 32 0#32)) pads_S2x8192x8320_S2x8192x8704_000_000_03840 h_S_

theorem rT_at (D : Vec Ideal S2x8192x22144 .f32) (b : Fin 2) (s : Fin 8192) (q : Fin 8704) :
    rT D (ix3 b s q) = match src q with | some j => D (ix3 b (tokC s) j) | none => 0 := by
  unfold rT cT
  pointwise
  by_cases h2 : q.val < 8320
  swap
  · have es : src q = none := by
      unfold src; rw [dif_neg (show ¬q.val < 8192 by omega), dif_neg (show ¬q.val < 8256 by omega), dif_neg h2]
    rw [es, dif_neg h2]
    exact zpad
  rw [dif_pos h2]
  by_cases h0 : q.val < 8192
  · have es : src q = some ⟨5632 + q.val, by omega⟩ := by unfold src; rw [dif_pos h0]
    rw [es, dif_pos h0]
    rfl
  rw [dif_neg h0]
  by_cases h1 : q.val < 8256
  · have es : src q = some ⟨17920 + (q.val - 8192), by omega⟩ := by unfold src; rw [dif_neg h0, dif_pos h1]
    rw [es, dif_pos (show q.val - 8192 < 64 by omega)]
    rfl
  rw [dif_neg (show ¬q.val - 8192 < 64 by omega)]
  have es : src q = some ⟨17984 + (q.val - 8256), by omega⟩ := by unfold src; rw [dif_neg h0, dif_neg h1, dif_pos h2]
  rw [es]
  exact congrArg (fun j : Fin 22144 => D (ix3 b (tokC s) j)) (Fin.ext (show 17984 + (q.val - 8192 - 64) = 17984 + (q.val - 8256) by omega))

variable (m : (ℓ : Loc nD τ sig) → Buf (Elt Ideal) ℓ) (c : Dev nD)

theorem res_eq : Value.res_main_v37 m c = rT (dT (hxT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := rfl
end

end Cert.In4
-- ==== Proof.In4Equal.lean ====
/- The column-wise input projection: the kernel's array is the reference's. -/
module

public import proofs.«01_k».proof.Proof.In4
public import proofs.«01_k».proof.Proof.In4Host

@[expose] public section

set_option maxRecDepth 16384

noncomputable section

namespace Cert.In4

open Idealize.ShloMosaic Idealize.ShloMosaic.TcCoe Cert.Kernel4Ideal Cert.Kernel4Ideal.Gen

theorem lt272 (t : Fin cfg0.N) : t.val < 272 := Nat.lt_of_lt_of_eq t.isLt N_0

/-- The sequence of the point numbered `n`. -/
def bOf (n : ℕ) (h : n < 272) : Fin 2 := ⟨n / 136, by omega⟩
/-- The position in the column-wise order that is row `q` of the point numbered `n`. -/
def tok (n : ℕ) (q : Fin 1024) : Fin 8192 := ⟨1024 * (n / 17 % 8) + q.val, by omega⟩
/-- The column that is column `l` of the point numbered `n`. -/
def col (n : ℕ) (l : Fin 512) : Fin 8704 := ⟨512 * (n % 17) + l.val, by omega⟩

theorem index0 : ∀ t : Fin cfg0.N, win0_0.index t 0 = t.val / 136 ∧ win0_0.index t 1 = 0 ∧ win0_0.index t 2 = t.val / 17 % 8 ∧ win0_0.index t 3 = 0 := by decide +kernel
theorem index1 : ∀ t : Fin cfg0.N, win0_1.index t 0 = 0 ∧ win0_1.index t 1 = 0 := by decide +kernel
theorem index2 : ∀ t : Fin cfg0.N, win0_2.index t 0 = t.val / 136 ∧ win0_2.index t 1 = 0 ∧ win0_2.index t 2 = 0 := by decide +kernel
theorem index3 : ∀ t : Fin cfg0.N, win0_3.index t 0 = t.val / 136 ∧ win0_3.index t 1 = 0 ∧ win0_3.index t 2 = 0 := by decide +kernel
theorem index4 : ∀ t : Fin cfg0.N, win0_4.index t 0 = 0 ∧ win0_4.index t 1 = t.val % 17 := by decide +kernel

variable (m : (ℓ : Loc nD τ sig) → Buf (Elt Ideal) ℓ) (c : Dev nD)

theorem X0_at (t : Fin cfg0.N) (r : Fin 128) (p : Fin 8) (k : Fin 2048) :
    X0 m c t (ix4 0 r p k) = m ((c : Thread nD τ).loc main_arg0) (ix3 (bOf t.val (lt272 t)) (⟨r.val * 64 + (8 * (t.val / 17 % 8) + p.val), by omega⟩ : Fin 8192) k) := by
  unfold X0 iblk
  show V m c main_v11 (((cfg0.win 0).blk t).view.emb _) = _
  refine Eq.trans (congrArg (V m c main_v11) ?_) (V_v11_at m c (bOf t.val (lt272 t)) r (⟨8 * (t.val / 17 % 8) + p.val, by omega⟩ : Fin 64) k)
  obtain ⟨e0, e1, e2, e3⟩ := index0 t
  funext a
  apply Fin.ext
  match a with
  | ⟨0, _⟩ => show win0_0.index t 0 * 1 + 1 * 0 = t.val / 136; omega
  | ⟨1, _⟩ => show win0_0.index t 1 * 128 + 1 * r.val = r.val; omega
  | ⟨2, _⟩ => show win0_0.index t 2 * 8 + 1 * p.val = 8 * (t.val / 17 % 8) + p.val; omega
  | ⟨3, _⟩ => show win0_0.index t 3 * 2048 + 1 * k.val = k.val; omega

theorem X1_at (t : Fin cfg0.N) (k : Fin 2048) : X1 m c t (ix2 0 k) = m ((c : Thread nD τ).loc main_arg1) (ix1 k) := by
  unfold X1 iblk
  show V m c main_v10 (((cfg0.win 1).blk t).view.emb _) = _
  refine Eq.trans (congrArg (V m c main_v10) ?_) (V_v10_at m c k)
  obtain ⟨e0, e1⟩ := index1 t
  funext a
  apply Fin.ext
  match a with
  | ⟨0, _⟩ => show win0_1.index t 0 * 1 + 1 * 0 = 0; omega
  | ⟨1, _⟩ => show win0_1.index t 1 * 2048 + 1 * k.val = k.val; omega

theorem X2_at (t : Fin cfg0.N) (k : Fin 2048) :
    X2 m c t (ix3 0 0 k) = m ((c : Thread nD τ).loc main_arg2) (ix3 (bOf t.val (lt272 t)) 0 k) := by
  unfold X2 iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 136; omega
  | ⟨1, _⟩ => show win0_2.index t 1 * 1 + 1 * 0 = 0; omega
  | ⟨2, _⟩ => show win0_2.index t 2 * 2048 + 1 * k.val = k.val; omega

theorem X3_at (t : Fin cfg0.N) (k : Fin 2048) :
    X3 m c t (ix3 0 0 k) = m ((c : Thread nD τ).loc main_arg3) (ix3 (bOf t.val (lt272 t)) 0 k) := by
  unfold X3 iblk
  show V m c main_arg3 (((cfg0.win 3).blk t).view.emb _) = _
  rw [V_main_arg3]
  refine congrArg (m ((c : Thread nD τ).loc main_arg3)) ?_
  obtain ⟨e0, e1, e2⟩ := index3 t
  funext a
  apply Fin.ext
  match a with
  | ⟨0, _⟩ => show win0_3.index t 0 * 1 + 1 * 0 = t.val / 136; omega
  | ⟨1, _⟩ => show win0_3.index t 1 * 1 + 1 * 0 = 0; omega
  | ⟨2, _⟩ => show win0_3.index t 2 * 2048 + 1 * k.val = k.val; omega

theorem X4_at (t : Fin cfg0.N) (k : Fin 2048) (l : Fin 512) :
    X4 m c t (ix2 k l) = wT (m ((c : Thread nD τ).loc main_arg4)) (ix2 k (col t.val l)) := by
  unfold X4 iblk
  show V m c main_v9 (((cfg0.win 4).blk t).view.emb _) = _
  rw [V_v9]
  refine congrArg (wT (m ((c : Thread nD τ).loc main_arg4))) ?_
  obtain ⟨e0, e1⟩ := index4 t
  funext a
  apply Fin.ext
  match a with
  | ⟨0, _⟩ => show win0_4.index t 0 * 2048 + 1 * k.val = k.val; omega
  | ⟨1, _⟩ => show win0_4.index t 1 * 512 + 1 * l.val = 512 * (t.val % 17) + l.val; omega

/-- A normed, scaled and shifted token. -/
def hx (b : Fin 2) (n : Fin 8192) (k : Fin 2048) : EReal :=
  Rms.row (fun j => m ((c : Thread nD τ).loc main_arg0) (ix3 b n j)) (fun j => m ((c : Thread nD τ).loc main_arg1) (ix1 j))
    (fun j => m ((c : Thread nD τ).loc main_arg3) (ix3 b 0 j)) (fun j => m ((c : Thread nD τ).loc main_arg2) (ix3 b 0 j)) k

theorem rowB_at (t : Fin cfg0.N) (q : Fin 1024) (k : Fin 2048) : rowB m c t q k = hx m c (bOf t.val (lt272 t)) (tokC (tok t.val q)) k := by
  unfold rowB hx
  simp only [X0_at, X1_at, X2_at, X3_at]
  have e : (⟨q.val % 128 * 64 + (8 * (t.val / 17 % 8) + q.val / 128), by omega⟩ : Fin 8192) = tokC (tok t.val q) :=
    Fin.ext (by show q.val % 128 * 64 + (8 * (t.val / 17 % 8) + q.val / 128)
        = (1024 * (t.val / 17 % 8) + q.val) % 128 * 64 + (1024 * (t.val / 17 % 8) + q.val) / 128; omega)
  simp only [← e]

/-- What the carried block holds after every point. -/
theorem h_at (q : Fin 1024) (k : Fin 2048) : ∀ (n : ℕ) (h : n < cfg0.N),
    (outsAt0 m c n h).2 (ix2 q k) = hx m c (bOf n (lt272 ⟨n, h⟩)) (tokC (tok n q)) k := by
  intro n
  induction n with
  | zero => exact fun h => (h_A m c ⟨0, h⟩ rfl q k).trans (rowB_at m c ⟨0, h⟩ q k)
  | succ n ih =>
    intro h
    by_cases h0 : (n + 1) % 17 = 0
    · exact (h_A m c ⟨n + 1, h⟩ h0 q k).trans (rowB_at m c ⟨n + 1, h⟩ q k)
    · rw [h_B m c ⟨n + 1, h⟩ h0]
      refine (ih (Nat.lt_of_succ_lt h)).trans ?_
      have e1 : bOf n (lt272 ⟨n, Nat.lt_of_succ_lt h⟩) = bOf (n + 1) (lt272 ⟨n + 1, h⟩) := Fin.ext (by show n / 136 = (n + 1) / 136; omega)
      have e2 : tok n q = tok (n + 1) q := Fin.ext (by show 1024 * (n / 17 % 8) + q.val = 1024 * ((n + 1) / 17 % 8) + q.val; omega)
      rw [e1, e2]

theorem out_at (t : Fin cfg0.N) (r : Fin 1024) (l : Fin 512) :
    (outsAt0 m c t.val t.isLt).1 (ix3 0 r l)
      = ∑ k : Fin 2048, hx m c (bOf t.val (lt272 t)) (tokC (tok t.val r)) k * wT (m ((c : Thread nD τ).loc main_arg4)) (ix2 k (col t.val l)) := by
  rw [o_at]
  simp only [h_at, X4_at]

/-- The result of the call at an index. -/
theorem G_at (b : Fin 2) (n : Fin 8192) (q : Fin 8704) :
    Value.G5 m c (ix3 b n q) = ∑ k : Fin 2048, hx m c b (tokC n) k * wT (m ((c : Thread nD τ).loc main_arg4)) (ix2 k q) := by
  have hN : cfg0.N = 272 := N_0
  have hp : Value.pt5Of (ix3 b n q) = 136 * b.val + 17 * (n.val / 1024) + q.val / 512 := by
    show 136 * (b.val / 1 - 0) + 17 * (n.val / 1024 - 0) + 1 * (q.val / 512 - 0) = _
    omega
  have h : Value.pt5Of (ix3 b n q) < cfg0.N := by rw [hp, hN]; omega
  unfold Value.G5
  rw [dif_pos h, ← Value.outsAt0_sweep m c _ h]
  have el : Value.loc5Of (ix3 b n q) = ix3 0 (⟨n.val % 1024, by omega⟩ : Fin 1024) (⟨q.val % 512, by omega⟩ : Fin 512) := by
    funext a
    apply Fin.ext
    match a with
    | ⟨0, _⟩ => show b.val % 1 = 0; omega
    | ⟨1, _⟩ => rfl
    | ⟨2, _⟩ => rfl
  rw [el]
  refine (out_at m c ⟨_, h⟩ _ _).trans ?_
  have e1 : bOf (Value.pt5Of (ix3 b n q)) (lt272 ⟨_, h⟩) = b := Fin.ext (by show Value.pt5Of (ix3 b n q) / 136 = _; rw [hp]; omega)
  have e2 : tok (Value.pt5Of (ix3 b n q)) ⟨n.val % 1024, by omega⟩ = n :=
    Fin.ext (by show 1024 * (Value.pt5Of (ix3 b n q) / 17 % 8) + n.val % 1024 = _; rw [hp]; omega)
  have e3 : col (Value.pt5Of (ix3 b n q)) ⟨q.val % 512, by omega⟩ = q :=
    Fin.ext (by show 512 * (Value.pt5Of (ix3 b n q) % 17) + q.val % 512 = _; rw [hp]; omega)
  rw [e1, e2, e3]

/-- The reference's result at an index. -/
theorem R_at (m' : (ℓ : Loc Cert.Reference4Ideal.nD Cert.Reference4Ideal.τ Cert.Reference4Ideal.sig) → Buf (Elt Ideal) ℓ) (c' : Dev Cert.Reference4Ideal.nD)
    (h0 : m' ((c'.tc : Thread _ _).loc Cert.Reference4Ideal.main_arg0) = m ((c : Thread nD τ).loc main_arg0))
    (h1 : m' ((c'.tc : Thread _ _).loc Cert.Reference4Ideal.main_arg1) = m ((c : Thread nD τ).loc main_arg1))
    (h2 : m' ((c'.tc : Thread _ _).loc Cert.Reference4Ideal.main_arg2) = m ((c : Thread nD τ).loc main_arg2))
    (h3 : m' ((c'.tc : Thread _ _).loc Cert.Reference4Ideal.main_arg3) = m ((c : Thread nD τ).loc main_arg3))
    (h4 : m' ((c'.tc : Thread _ _).loc Cert.Reference4Ideal.main_arg4) = m ((c : Thread nD τ).loc main_arg4)) :
    Value.G5 m c = Cert.Reference4Ideal.Value.res_main_v37 m' c' := by
  rw [res_eq, h0, h1, h2, h3, h4]
  funext y
  rw [(ix3_eta (n0 := 2) (n1 := 8192) (n2 := 8704) y).symm]
  generalize (y 0 : Fin 2) = b
  generalize (y 1 : Fin 8192) = n
  generalize (y 2 : Fin 8704) = q
  refine (G_at m c b n q).trans (Eq.trans ?_ (rT_at _ b n q).symm)
  refine (Finset.sum_congr rfl fun k _ => congrArg (hx m c b (tokC n) k * ·) (wT_at _ k q)).trans ?_
  cases src q with
  | none => exact Finset.sum_eq_zero fun k _ => mul_zero _
  | some j =>
    refine Eq.trans ?_ (dT_at _ _ b (tokC n) j).symm
    refine Finset.sum_congr rfl fun k _ => congrArg (· * _) ?_
    exact (hxT_at _ _ _ _ b (tokC n) k).symm

end Cert.In4
-- ==== Proof.Aout.lean ====
/- The gated output of the RG-LRU streams: what a grid point leaves in the block of rows it carries and in the block of the
   result. -/
module

public import proofs.«01_k».proof.Proof.Gen.Kernel5Ideal.Value
public import Idealize.ShloMosaic.Lib.Pipeline.ValueKit

@[expose] public section

set_option maxRecDepth 16384

noncomputable section

namespace Cert.Aout

open Idealize.ShloMosaic Idealize.ShloMosaic.TcCoe

/-- The hyperbolic tangent's argument in the gelu. -/
def inner (x : EReal) : EReal := Ideal.ofBits FTy.f32 0x3F4C422A#32 * (x + Ideal.ofBits FTy.f32 0x3D372713#32 * (x * x * x))

/-- The gelu (tanh form). -/
def gelu (x : EReal) : EReal := Ideal.ofBits FTy.f32 0x3F000000#32 * x * (1 + Ideal.tanh (inner x))

theorem gelu_eq (x : EReal) : x * (Ideal.ofBits FTy.f32 0x3F000000#32 * (1 + Ideal.tanh (inner x))) = gelu x := by
  unfold gelu
  rw [← mul_assoc, mul_comm x]

section
open Cert.Kernel5Ideal Cert.Kernel5Ideal.Gen

theorem pay1_at (y z g : Vec Ideal S1x512x3072 .bf16) (r : Fin 512) (k : Fin 3072) :
    k0_pay1 y z g (ix2 r k) = (y (ix3 0 r k) + z (ix3 0 r k)) * gelu (g (ix3 0 r k)) := by
  unfold k0_pay1 gelu inner
  pointwise

theorem pay2_at (x : Vec Ideal S512x3072 .bf16) (w : Vec Ideal S3072x512 .bf16) (r : Fin 512) (l : Fin 512) :
    k0_pay2 x w (ix3 0 r l) = ∑ k : Fin 3072, x (ix2 r k) * w (ix2 k l) := by
  unfold k0_pay2
  pointwise

variable (m : (ℓ : Loc nD τ sig) → Buf (Elt Ideal) ℓ) (c : Dev nD)

/-- A grid point's blocks of the arguments. -/
def X0 (t : Fin cfg0.N) : Vec Ideal S1x512x3072 .bf16 := iblk m c 0 t
def X1 (t : Fin cfg0.N) : Vec Ideal S1x512x3072 .bf16 := iblk m c 1 t
def X2 (t : Fin cfg0.N) : Vec Ideal S1x512x3072 .bf16 := X0_2 m c t
def X3 (t : Fin cfg0.N) : Vec Ideal S3072x512 .bf16 := iblk m c 3 t

/-- A gated row of the point's blocks. -/
def rowB (t : Fin cfg0.N) (r : Fin 512) (k : Fin 3072) : EReal :=
  (X0 m c t (ix3 0 r k) + X1 m c t (ix3 0 r k)) * gelu (X2 m c t (ix3 0 r k))

/-- A first point leaves the gated rows of its blocks. -/
theorem h_A (t : Fin cfg0.N) (h : t.val % 4 = 0) (q : Fin 512) (k : Fin 3072) : (outsAt0 m c t.val t.isLt).2 (ix2 q k) = rowB m c t q k := by
  rw [outsAt0_A m c t h]
  dsimp only
  frame_out
  exact pay1_at _ _ _ q k

/-- Another point leaves what it found. -/
theorem h_B (t : Fin cfg0.N) (h : ¬t.val % 4 = 0) : (outsAt0 m c t.val t.isLt).2 = (outsAt0 m c (t.val - 1) (Nat.lt_of_le_of_lt (Nat.sub_le _ _) t.isLt)).2 := by
  rw [outsAt0_B m c t h]
  rfl

/-- Every point leaves the product of the carried rows and its block of the weights. -/
theorem o_at (t : Fin cfg0.N) (r : Fin 512) (l : Fin 512) :
    (outsAt0 m c t.val t.isLt).1 (ix3 0 r l) = ∑ k : Fin 3072, (outsAt0 m c t.val t.isLt).2 (ix2 r k) * X3 m c t (ix2 k l) := by
  by_cases h : t.val % 4 = 0
  · simp only [h_A m c t h]
    rw [outsAt0_A m c t h]
    dsimp only
    frame_out
    refine (pay2_at _ _ r l).trans (Finset.sum_congr rfl fun k _ => ?_)
    rw [show rowB m c t r k = k0_pay1 (X0 m c t) (X1 m c t) (X2 m c t) (ix2 r k) from (pay1_at _ _ _ r k).symm]
    rfl
  · rw [h_B m c t h, outsAt0_B m c t h]
    dsimp only
    frame_out
    refine (pay2_at _ _ r l).trans (Finset.sum_congr rfl fun k _ => ?_)
    exact congrArg (fun z : Vec Ideal S512x3072 .bf16 => z (ix2 r k) * X3 m c t (ix2 k l)) (Memref.IsWhole.read_unread (Memref.isWhole_whole cc0_scratch0) _)
end

end Cert.Aout
-- ==== Proof.AoutHost.lean ====
/- The weights that the host prepares for the gated output of the RG-LRU streams, and the reference's result, at an index. -/
module

public import proofs.«01_k».proof.Proof.Aout
public import proofs.«01_k».proof.Proof.Gen.Reference5Ideal.Run
public import Idealize.ShloMosaic.Lib.StableHlo.Run

@[expose] public section

set_option maxRecDepth 16384
set_option maxHeartbeats 1000000

noncomputable section

namespace Cert.Aout

open Idealize.ShloMosaic Idealize.ShloMosaic.TcCoe

/-- The lane of a channel: each group of 352 is followed by 32 unused lanes. -/
def lane (j : Fin 2816) : Fin 3072 := ⟨j.val / 352 * 384 + j.val % 352, by omega⟩

section
open Cert.Kernel5Ideal Cert.Kernel5Ideal.Gen

/-- The weights of the call: zero rows for the unused lanes. -/
def wT (w : Vec Ideal S2816x2048 .f32) : Vec Ideal S3072x2048 .bf16 :=
  truncf (F := Ideal) .bf16 (shapeCast S3072x2048 (Idealize.ShloMosaic.pad S8x384x2048 ![0, 0, 0] ![0, 32, 0] ![0, 0, 0] (shapeCast S8x352x2048 w shapeCasts_S2816x2048_S8x352x2048) (sitofp (F := Ideal) .f32 (constantI S_ 32 0#32)) pads_S8x352x2048_S8x384x2048_000_0320_000 h_S_) shapeCasts_S8x384x2048_S3072x2048) bitsLt_bf16_f32

theorem zpad : FloatOps.sitofp (F := Ideal) FTy.f32 0#32 = (0 : EReal) := by simp [FloatOps.sitofp]

theorem wT_at (w : Vec Ideal S2816x2048 .f32) (k : Fin 3072) (q : Fin 2048) :
    wT w (ix2 k q) = if h : k.val % 384 < 352 then w (ix2 (⟨k.val / 384 * 352 + k.val % 384, by omega⟩ : Fin 2816) q) else 0 := by
  unfold wT
  pointwise
  by_cases h : k.val % 384 < 352
  · rw [dif_pos (⟨by omega, h⟩ : k.val / 384 < 8 ∧ k.val % 384 < 352), dif_pos h]
  · rw [dif_neg (fun e : k.val / 384 < 8 ∧ k.val % 384 < 352 => h e.2), dif_neg h]
    exact zpad

variable (m : (ℓ : Loc nD τ sig) → Buf (Elt Ideal) ℓ) (c : Dev nD)

theorem V_v3 : V m c main_v3 = wT (m ((c : Thread nD τ).loc main_arg3)) := by
  show StableHlo.after _ _ (Proc.devRef .tc main_v3) = _
  simp only [hostOps0, hostOps0_1, hostOps0_2, List.flatten_cons, List.flatten_nil, List.append_nil, List.cons_append,
    List.nil_append]
  after_results_simp
  rfl
end

section
open Cert.Reference5Ideal Cert.Reference5Ideal.Gen

/-- The channels in use of a stream. -/
def cT (y : FVec Ideal S2x8192x3072 .bf16) : FVec Ideal S2x8192x2816 .f32 :=
  shapeCast _ (extractStridedSlice S2x8192x8x352 ![0, 0, 0, 0] (shapeCast _ (extf .f32 y bitsLt_bf16_f32) shapeCasts_S2x8192x3072_S2x8192x8x384) slices_S2x8192x8x384_S2x8192x8x352_0_0_0_0) shapeCasts_S2x8192x8x352_S2x8192x2816

theorem cT_at (y : FVec Ideal S2x8192x3072 .bf16) (b : Fin 2) (n : Fin 8192) (j : Fin 2816) : cT y (ix3 b n j) = y (ix3 b n (lane j)) := by
  unfold cT lane
  pointwise

/-- The channels of the gates. -/
def gT (r : FVec Ideal S2x8192x14336 .bf16) : FVec Ideal S2x8192x2816 .f32 :=
  shapeCast _ (extractStridedSlice S2x8192x8x352 ![0, 0, 0, 0] (shapeCast _ (extf .f32 (extractStridedSlice S2x8192x3072 ![0, 0, 3072] r slices_S2x8192x14336_S2x8192x3072_0_0_3072) bitsLt_bf16_f32) shapeCasts_S2x8192x3072_S2x8192x8x384) slices_S2x8192x8x384_S2x8192x8x352_0_0_0_0) shapeCasts_S2x8192x8x352_S2x8192x2816

/-- A lane of the gates in the row-wise streams. -/
def gl (k : Fin 3072) : Fin 14336 := ⟨3072 + k.val, by omega⟩

theorem gT_at (r : FVec Ideal S2x8192x14336 .bf16) (b : Fin 2) (n : Fin 8192) (j : Fin 2816) : gT r (ix3 b n j) = r (ix3 b n (gl (lane j))) := by
  unfold gT gl lane
  pointwise

/-- The gelu of the gates. -/
def geT (g : FVec Ideal S2x8192x2816 .f32) : FVec Ideal S2x8192x2816 .f32 :=
  mulf g (mulf (broadcastInDim S2x8192x2816 ![] bcast_S_S2x8192x2816 (constant S_ .f32 0x3F000000#32)) (addf (broadcastInDim S2x8192x2816 ![] bcast_S_S2x8192x2816 (constant S_ .f32 0x3F800000#32)) (Host.tanh (mulf (broadcastInDim S2x8192x2816 ![] bcast_S_S2x8192x2816 (constant S_ .f32 0x3F4C422A#32)) (addf g (mulf (broadcastInDim S2x8192x2816 ![] bcast_S_S2x8192x2816 (constant S_ .f32 0x3D372713#32)) (mulf (mulf g g) g)))))))

theorem geT_at (g : FVec Ideal S2x8192x2816 .f32) (b : Fin 2) (n : Fin 8192) (j : Fin 2816) : geT g (ix3 b n j) = gelu (g (ix3 b n j)) := by
  rw [← gelu_eq]
  unfold geT inner
  pointwise

/-- The reference's result, of its arguments. -/
def rT (y z : FVec Ideal S2x8192x3072 .bf16) (r : FVec Ideal S2x8192x14336 .bf16) (w : FVec Ideal S2816x2048 .f32) : FVec Ideal S2x8192x2048 .f32 :=
  Host.dotGeneral dot_S2x8192x2816_S2816x2048_S2x8192x2048_2_0_01_1_n_n none (mulf (addf (cT y) (cT z)) (geT (gT r))) w

theorem dT_at (h : FVec Ideal S2x8192x2816 .f32) (w : FVec Ideal S2816x2048 .f32) (b : Fin 2) (n : Fin 8192) (q : Fin 2048) :
    Host.dotGeneral dot_S2x8192x2816_S2816x2048_S2x8192x2048_2_0_01_1_n_n none h w (ix3 b n q) = ∑ j : Fin 2816, h (ix3 b n j) * w (ix2 j q) := by
  pointwise

theorem pT_at (y z g : FVec Ideal S2x8192x2816 .f32) (b : Fin 2) (n : Fin 8192) (j : Fin 2816) :
    mulf (addf y z) g (ix3 b n j) = (y (ix3 b n j) + z (ix3 b n j)) * g (ix3 b n j) := by
  pointwise

theorem rT_at (y z : FVec Ideal S2x8192x3072 .bf16) (r : FVec Ideal S2x8192x14336 .bf16) (w : FVec Ideal S2816x2048 .f32) (b : Fin 2) (n : Fin 8192) (q : Fin 2048) :
    rT y z r w (ix3 b n q) = ∑ j : Fin 2816, ((y (ix3 b n (lane j)) + z (ix3 b n (lane j))) * gelu (r (ix3 b n (gl (lane j))))) * w (ix2 j q) := by
  refine (dT_at _ _ b n q).trans (Finset.sum_congr rfl fun j _ => ?_)
  rw [pT_at, cT_at, cT_at, geT_at, gT_at]
end

end Cert.Aout
-- ==== Proof.AoutEqual.lean ====
/- The gated output of the RG-LRU streams: the kernel's array is the reference's. -/
module

public import proofs.«01_k».proof.Proof.Aout
public import proofs.«01_k».proof.Proof.AoutHost

@[expose] public section

set_option maxRecDepth 16384

noncomputable section

namespace Cert.Aout

open Idealize.ShloMosaic Idealize.ShloMosaic.TcCoe Cert.Kernel5Ideal Cert.Kernel5Ideal.Gen

theorem lt128 (t : Fin cfg0.N) : t.val < 128 := Nat.lt_of_lt_of_eq t.isLt N_0

/-- The sequence of the point numbered `n`. -/
def bOf (n : ℕ) (h : n < 128) : Fin 2 := ⟨n / 64, by omega⟩
/-- The token that is row `q` of the point numbered `n`. -/
def tok (n : ℕ) (q : Fin 512) : Fin 8192 := ⟨512 * (n / 4 % 16) + q.val, by omega⟩
/-- The column that is column `l` of the point numbered `n`. -/
def col (n : ℕ) (l : Fin 512) : Fin 2048 := ⟨512 * (n % 4) + l.val, by omega⟩

theorem index0 : ∀ t : Fin cfg0.N, win0_0.index t 0 = t.val / 64 ∧ win0_0.index t 1 = t.val / 4 % 16 ∧ win0_0.index t 2 = 0 := by decide +kernel
theorem index1 : ∀ t : Fin cfg0.N, win0_1.index t 0 = t.val / 64 ∧ win0_1.index t 1 = t.val / 4 % 16 ∧ win0_1.index t 2 = 0 := by decide +kernel
theorem index2 : ∀ t : Fin cfg0.N, win0_2.index t 0 = t.val / 64 ∧ win0_2.index t 1 = t.val / 4 % 16 ∧ win0_2.index t 2 = 1 := by decide +kernel
theorem index3 : ∀ t : Fin cfg0.N, win0_3.index t 0 = 0 ∧ win0_3.index t 1 = t.val % 4 := by decide +kernel

variable (m : (ℓ : Loc nD τ sig) → Buf (Elt Ideal) ℓ) (c : Dev nD)

theorem X0_at (t : Fin cfg0.N) (r : Fin 512) (k : Fin 3072) :
    X0 m c t (ix3 0 r k) = m ((c : Thread nD τ).loc main_arg0) (ix3 (bOf t.val (lt128 t)) (tok t.val r) k) := by
  unfold X0 iblk
  show V m c main_arg0 (((cfg0.win 0).blk t).view.emb _) = _
  rw [V_main_arg0]
  refine congrArg (m ((c : Thread nD τ).loc main_arg0)) ?_
  obtain ⟨e0, e1, e2⟩ := index0 t
  funext a
  apply Fin.ext
  match a with
  | ⟨0, _⟩ => show win0_0.index t 0 * 1 + 1 * 0 = t.val / 64; omega
  | ⟨1, _⟩ => show win0_0.index t 1 * 512 + 1 * r.val = 512 * (t.val / 4 % 16) + r.val; omega
  | ⟨2, _⟩ => show win0_0.index t 2 * 3072 + 1 * k.val = k.val; omega

theorem X1_at (t : Fin cfg0.N) (r : Fin 512) (k : Fin 3072) :
    X1 m c t (ix3 0 r k) = m ((c : Thread nD τ).loc main_arg1) (ix3 (bOf t.val (lt128 t)) (tok t.val r) k) := by
  unfold X1 iblk
  show V m c main_arg1 (((cfg0.win 1).blk t).view.emb _) = _
  rw [V_main_arg1]
  refine congrArg (m ((c : Thread nD τ).loc main_arg1)) ?_
  obtain ⟨e0, e1, e2⟩ := index1 t
  funext a
  apply Fin.ext
  match a with
  | ⟨0, _⟩ => show win0_1.index t 0 * 1 + 1 * 0 = t.val / 64; omega
  | ⟨1, _⟩ => show win0_1.index t 1 * 512 + 1 * r.val = 512 * (t.val / 4 % 16) + r.val; omega
  | ⟨2, _⟩ => show win0_1.index t 2 * 3072 + 1 * k.val = k.val; omega

theorem X2_at (t : Fin cfg0.N) (r : Fin 512) (k : Fin 3072) :
    X2 m c t (ix3 0 r k) = m ((c : Thread nD τ).loc main_arg2) (ix3 (bOf t.val (lt128 t)) (tok t.val r) (gl k)) := by
  unfold X2 X0_2 Pipeline.Window.fill
  rw [dif_pos (moved0_2 t _)]
  unfold iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 64; omega
  | ⟨1, _⟩ => show win0_2.index t 1 * 512 + 1 * r.val = 512 * (t.val / 4 % 16) + r.val; omega
  | ⟨2, _⟩ => show win0_2.index t 2 * 3072 + 1 * k.val = 3072 + k.val; omega

theorem X3_at (t : Fin cfg0.N) (k : Fin 3072) (l : Fin 512) :
    X3 m c t (ix2 k l) = wT (m ((c : Thread nD τ).loc main_arg3)) (ix2 k (col t.val l)) := by
  unfold X3 iblk
  show V m c main_v3 (((cfg0.win 3).blk t).view.emb _) = _
  rw [V_v3]
  refine congrArg (wT (m ((c : Thread nD τ).loc main_arg3))) ?_
  obtain ⟨e0, e1⟩ := index3 t
  funext a
  apply Fin.ext
  match a with
  | ⟨0, _⟩ => show win0_3.index t 0 * 3072 + 1 * k.val = k.val; omega
  | ⟨1, _⟩ => show win0_3.index t 1 * 512 + 1 * l.val = 512 * (t.val % 4) + l.val; omega

/-- The streams of the two directions, and the gates, as entries. -/
def eY (b : Fin 2) (n : Fin 8192) (k : Fin 3072) : EReal := m ((c : Thread nD τ).loc main_arg0) (ix3 b n k)
def eZ (b : Fin 2) (n : Fin 8192) (k : Fin 3072) : EReal := m ((c : Thread nD τ).loc main_arg1) (ix3 b n k)
def eG (b : Fin 2) (n : Fin 8192) (k : Fin 3072) : EReal := m ((c : Thread nD τ).loc main_arg2) (ix3 b n (gl k))

/-- A gated entry. -/
def hx (b : Fin 2) (n : Fin 8192) (k : Fin 3072) : EReal := (eY m c b n k + eZ m c b n k) * gelu (eG m c b n k)

theorem rowB_at (t : Fin cfg0.N) (q : Fin 512) (k : Fin 3072) : rowB m c t q k = hx m c (bOf t.val (lt128 t)) (tok t.val q) k := by
  unfold rowB hx
  rw [X0_at, X1_at, X2_at]
  rfl

/-- What the carried block holds after every point. -/
theorem h_at (q : Fin 512) (k : Fin 3072) : ∀ (n : ℕ) (h : n < cfg0.N),
    (outsAt0 m c n h).2 (ix2 q k) = hx m c (bOf n (lt128 ⟨n, h⟩)) (tok n q) k := by
  intro n
  induction n with
  | zero => exact fun h => (h_A m c ⟨0, h⟩ rfl q k).trans (rowB_at m c ⟨0, h⟩ q k)
  | succ n ih =>
    intro h
    by_cases h0 : (n + 1) % 4 = 0
    · exact (h_A m c ⟨n + 1, h⟩ h0 q k).trans (rowB_at m c ⟨n + 1, h⟩ q k)
    · rw [h_B m c ⟨n + 1, h⟩ h0]
      refine (ih (Nat.lt_of_succ_lt h)).trans ?_
      have e1 : bOf n (lt128 ⟨n, Nat.lt_of_succ_lt h⟩) = bOf (n + 1) (lt128 ⟨n + 1, h⟩) := Fin.ext (by show n / 64 = (n + 1) / 64; omega)
      have e2 : tok n q = tok (n + 1) q := Fin.ext (by show 512 * (n / 4 % 16) + q.val = 512 * ((n + 1) / 4 % 16) + q.val; omega)
      rw [e1, e2]

theorem out_at (t : Fin cfg0.N) (r : Fin 512) (l : Fin 512) :
    (outsAt0 m c t.val t.isLt).1 (ix3 0 r l)
      = ∑ k : Fin 3072, hx m c (bOf t.val (lt128 t)) (tok t.val r) k * wT (m ((c : Thread nD τ).loc main_arg3)) (ix2 k (col t.val l)) := by
  rw [o_at]
  simp only [h_at, X3_at]

/-- The result of the call at an index. -/
theorem G_at (b : Fin 2) (n : Fin 8192) (q : Fin 2048) :
    Value.G4 m c (ix3 b n q) = ∑ k : Fin 3072, hx m c b n k * wT (m ((c : Thread nD τ).loc main_arg3)) (ix2 k q) := by
  have hN : cfg0.N = 128 := N_0
  have hp : Value.pt4Of (ix3 b n q) = 64 * b.val + 4 * (n.val / 512) + q.val / 512 := by
    show 64 * (b.val / 1 - 0) + 4 * (n.val / 512 - 0) + 1 * (q.val / 512 - 0) = _
    omega
  have h : Value.pt4Of (ix3 b n q) < cfg0.N := by rw [hp, hN]; omega
  unfold Value.G4
  rw [dif_pos h, ← Value.outsAt0_sweep m c _ h]
  have el : Value.loc4Of (ix3 b n q) = ix3 0 (⟨n.val % 512, by omega⟩ : Fin 512) (⟨q.val % 512, by omega⟩ : Fin 512) := by
    funext a
    apply Fin.ext
    match a with
    | ⟨0, _⟩ => show b.val % 1 = 0; omega
    | ⟨1, _⟩ => rfl
    | ⟨2, _⟩ => rfl
  rw [el]
  refine (out_at m c ⟨_, h⟩ _ _).trans ?_
  have e1 : bOf (Value.pt4Of (ix3 b n q)) (lt128 ⟨_, h⟩) = b := Fin.ext (by show Value.pt4Of (ix3 b n q) / 64 = _; rw [hp]; omega)
  have e2 : tok (Value.pt4Of (ix3 b n q)) ⟨n.val % 512, by omega⟩ = n :=
    Fin.ext (by show 512 * (Value.pt4Of (ix3 b n q) / 4 % 16) + n.val % 512 = _; rw [hp]; omega)
  have e3 : col (Value.pt4Of (ix3 b n q)) ⟨q.val % 512, by omega⟩ = q :=
    Fin.ext (by show 512 * (Value.pt4Of (ix3 b n q) % 4) + q.val % 512 = _; rw [hp]; omega)
  rw [e1, e2, e3]

theorem lane_inj : Function.Injective lane := fun i j h => by
  have h' : i.val / 352 * 384 + i.val % 352 = j.val / 352 * 384 + j.val % 352 := congrArg Fin.val h
  exact Fin.ext (by omega)

/-- The rows of the weights for unused lanes are zero, the others the layer's. -/
theorem sum_lanes (f : Fin 3072 → EReal) (w : Vec Ideal S2816x2048 .f32) (q : Fin 2048) :
    ∑ k : Fin 3072, f k * wT w (ix2 k q) = ∑ j : Fin 2816, f (lane j) * w (ix2 j q) := by
  symm
  refine Fintype.sum_of_injective lane lane_inj _ _ (fun k hk => ?_) fun j => ?_
  · rw [wT_at, dif_neg, mul_zero]
    intro h
    exact hk ⟨⟨k.val / 384 * 352 + k.val % 384, by omega⟩, Fin.ext (by
      show (k.val / 384 * 352 + k.val % 384) / 352 * 384 + (k.val / 384 * 352 + k.val % 384) % 352 = k.val; omega)⟩
  · have hl : (lane j).val = j.val / 352 * 384 + j.val % 352 := rfl
    rw [wT_at, dif_pos (by rw [hl]; omega)]
    exact congrArg (fun i : Fin 2816 => f (lane j) * w (ix2 i q)) (Fin.ext (by
      show j.val = (lane j).val / 384 * 352 + (lane j).val % 384; rw [hl]; omega))

/-- The reference's result is the kernel's. -/
theorem R_at (a0 a1 : FVec Ideal Cert.Reference5Ideal.S2x8192x3072 .bf16) (a2 : FVec Ideal Cert.Reference5Ideal.S2x8192x14336 .bf16) (a3 : FVec Ideal Cert.Reference5Ideal.S2816x2048 .f32)
    (h0 : a0 = m ((c : Thread nD τ).loc main_arg0)) (h1 : a1 = m ((c : Thread nD τ).loc main_arg1))
    (h2 : a2 = m ((c : Thread nD τ).loc main_arg2)) (h3 : a3 = m ((c : Thread nD τ).loc main_arg3)) :
    Value.G4 m c = rT a0 a1 a2 a3 := by
  subst h0 h1 h2 h3
  funext y
  rw [(ix3_eta (n0 := 2) (n1 := 8192) (n2 := 2048) y).symm]
  generalize (y 0 : Fin 2) = b
  generalize (y 1 : Fin 8192) = n
  generalize (y 2 : Fin 2048) = q
  refine (G_at m c b n q).trans (Eq.trans ?_ (rT_at _ _ _ _ b n q).symm)
  exact sum_lanes (hx m c b n) _ q

end Cert.Aout
-- ==== Proof.BoutHeads.lean ====
/- The gated output of the delta-rule streams: the normed and gated columns of a head, as the kernel's body computes them. -/
module

public import proofs.«01_k».proof.Proof.Gen.Kernel6Ideal.Value
public import Idealize.ShloMosaic.Lib.Pipeline.ValueKit

@[expose] public section

set_option maxRecDepth 16384

noncomputable section

namespace Cert.Bout

open Idealize.ShloMosaic Idealize.ShloMosaic.TcCoe

/-- The width of a head, and the small addend under the square root, as the programs write them. -/
def width : EReal := Ideal.ofBits .f32 0x43000000#32
def small : EReal := Ideal.ofBits .f32 0x358637BD#32

/-- An entry of a head's output: over the root of the mean of the head's squares, by the weight and the gate. -/
def gated (o : Fin 128 → EReal) (w z : EReal) (d : Fin 128) : EReal :=
  o d * Ideal.rsqrt (Ideal.div (∑ j, o j * o j) width + small) * w * (z * Ideal.logistic z)

section
open Cert.Kernel6Ideal Cert.Kernel6Ideal.Gen

/-- An entry of a head's output, of loaded rows. -/
def entry (w : Vec Ideal S1x128 .f32) (o p : Vec Ideal S1x1x256x128 .f32) (z : Vec Ideal S1x256x128 .bf16) (r : Fin 256) (k : Fin 128) : EReal :=
  gated (fun j => o (ix4 0 0 r j) + p (ix4 0 0 r j)) (w (ix2 0 k)) (z (ix3 0 r k)) k

variable (w : Vec Ideal S1x128 .f32) (o p : Vec Ideal S1x1x256x128 .f32) (z : Vec Ideal S1x256x128 .bf16)

/-! What the body stores for every head, of the rows it loads. -/

def head0 : FVec Ideal S256x128 .bf16 := k0_pay4 w o p z
def head1 : FVec Ideal S256x128 .bf16 := k0_pay7 (k0_pay3 w) (k0_pay5 o) (k0_pay6 p) z
def head2 : FVec Ideal S256x128 .bf16 := k0_pay12 (k0_pay3 w) (k0_pay8 o p) (k0_pay9 z) (k0_pay10 o p) k0_pay11
def head3 : FVec Ideal S256x128 .bf16 := k0_pay13 (k0_pay3 w) o p z
def head4 : FVec Ideal S256x128 .bf16 := k0_pay14 (k0_pay3 w) o p z
def head5 : FVec Ideal S256x128 .bf16 := k0_pay16 (k0_pay3 w) (k0_pay15 o p) z
def head6 : FVec Ideal S256x128 .bf16 := k0_pay19 (k0_pay3 w) (k0_pay17 z) (k0_pay18 o p)
def head7 : FVec Ideal S256x128 .bf16 := k0_pay20 (k0_pay3 w) o p z
def head8 : FVec Ideal S256x128 .bf16 := k0_pay21 (k0_pay3 w) o p z
def head9 : FVec Ideal S256x128 .bf16 := k0_pay25 (k0_pay3 w) (k0_pay22 o p) (k0_pay23 z) (k0_pay24 o p)
def head10 : FVec Ideal S256x128 .bf16 := k0_pay28 (k0_pay26 (k0_pay3 w) o p) (k0_pay27 z)
def head11 : FVec Ideal S256x128 .bf16 := k0_pay29 (k0_pay3 w) o p z
def head12 : FVec Ideal S256x128 .bf16 := k0_pay31 (k0_pay3 w) (k0_pay30 o) p z
def head13 : FVec Ideal S256x128 .bf16 := k0_pay35 (k0_pay3 w) (k0_pay32 o p) (k0_pay33 z) (k0_pay34 o p) (FloatOps.ofBits FTy.f32 1124073472#32)
def head14 : FVec Ideal S256x128 .bf16 := k0_pay37 (k0_pay36 (k0_pay3 w) o p z)
def head15 : FVec Ideal S256x128 .bf16 := k0_pay38 (k0_pay3 w) o p z
def head16 : FVec Ideal S256x128 .bf16 := k0_pay41 (k0_pay3 w) (k0_pay39 o) (k0_pay40 p) z
def head17 : FVec Ideal S256x128 .bf16 := k0_pay46 (k0_pay3 w) (k0_pay42 o p) (k0_pay43 z) (k0_pay44 o p) k0_pay45
def head18 : FVec Ideal S256x128 .bf16 := k0_pay47 (k0_pay3 w) o p z
def head19 : FVec Ideal S256x128 .bf16 := k0_pay48 (k0_pay3 w) o p z
def head20 : FVec Ideal S256x128 .bf16 := k0_pay50 (k0_pay3 w) (k0_pay49 o p) z
def head21 : FVec Ideal S256x128 .bf16 := k0_pay53 (k0_pay3 w) (k0_pay51 z) (k0_pay52 o p)
def head22 : FVec Ideal S256x128 .bf16 := k0_pay54 (k0_pay3 w) o p z
def head23 : FVec Ideal S256x128 .bf16 := k0_pay55 (k0_pay3 w) o p z
def head24 : FVec Ideal S256x128 .bf16 := k0_pay59 (k0_pay3 w) (k0_pay56 o p) (k0_pay57 z) (k0_pay58 o p)
def head25 : FVec Ideal S256x128 .bf16 := k0_pay62 (k0_pay60 (k0_pay3 w) o p) (k0_pay61 z)
def head26 : FVec Ideal S256x128 .bf16 := k0_pay63 (k0_pay3 w) o p z
def head27 : FVec Ideal S256x128 .bf16 := k0_pay65 (k0_pay3 w) (k0_pay64 o) p z
def head28 : FVec Ideal S256x128 .bf16 := k0_pay69 (k0_pay3 w) (k0_pay66 o p) (k0_pay67 z) (k0_pay68 o p) (FloatOps.ofBits FTy.f32 1124073472#32)
def head29 : FVec Ideal S256x128 .bf16 := k0_pay71 (k0_pay70 (k0_pay3 w) o p z)
def head30 : FVec Ideal S256x128 .bf16 := k0_pay72 (k0_pay3 w) o p z
def head31 : FVec Ideal S256x128 .bf16 := k0_pay1 (k0_pay3 w) (k0_pay73 o) (k0_pay74 p) z

theorem head0_at (r : Fin 256) (k : Fin 128) : head0 w o p z (ix2 r k) = entry w o p z r k := by
  unfold head0 entry gated width small k0_pay4 k0_pay3
  pointwise

theorem head1_at (r : Fin 256) (k : Fin 128) : head1 w o p z (ix2 r k) = entry w o p z r k := by
  unfold head1 entry gated width small k0_pay7 k0_pay3 k0_pay5 k0_pay6
  pointwise

theorem head2_at (r : Fin 256) (k : Fin 128) : head2 w o p z (ix2 r k) = entry w o p z r k := by
  have e : ∀ j, k0_pay8 o p (ix2 r j) = o (ix4 0 0 r j) + p (ix4 0 0 r j) := fun j => by unfold k0_pay8; pointwise
  unfold head2 entry gated width small k0_pay12 k0_pay3 k0_pay9 k0_pay10 k0_pay11
  pointwise
  simp only [e]

theorem head3_at (r : Fin 256) (k : Fin 128) : head3 w o p z (ix2 r k) = entry w o p z r k := by
  unfold head3 entry gated width small k0_pay13 k0_pay3
  pointwise

theorem head4_at (r : Fin 256) (k : Fin 128) : head4 w o p z (ix2 r k) = entry w o p z r k := by
  unfold head4 entry gated width small k0_pay14 k0_pay3
  pointwise

theorem head5_at (r : Fin 256) (k : Fin 128) : head5 w o p z (ix2 r k) = entry w o p z r k := by
  unfold head5 entry gated width small k0_pay16 k0_pay3 k0_pay15
  pointwise

theorem head6_at (r : Fin 256) (k : Fin 128) : head6 w o p z (ix2 r k) = entry w o p z r k := by
  unfold head6 entry gated width small k0_pay19 k0_pay3 k0_pay17 k0_pay18
  pointwise

theorem head7_at (r : Fin 256) (k : Fin 128) : head7 w o p z (ix2 r k) = entry w o p z r k := by
  unfold head7 entry gated width small k0_pay20 k0_pay3
  pointwise

theorem head8_at (r : Fin 256) (k : Fin 128) : head8 w o p z (ix2 r k) = entry w o p z r k := by
  unfold head8 entry gated width small k0_pay21 k0_pay3
  pointwise

theorem head9_at (r : Fin 256) (k : Fin 128) : head9 w o p z (ix2 r k) = entry w o p z r k := by
  have e : ∀ j, k0_pay22 o p (ix2 r j) = o (ix4 0 0 r j) + p (ix4 0 0 r j) := fun j => by unfold k0_pay22; pointwise
  unfold head9 entry gated width small k0_pay25 k0_pay3 k0_pay23 k0_pay24
  pointwise
  simp only [e]

theorem head10_at (r : Fin 256) (k : Fin 128) : head10 w o p z (ix2 r k) = entry w o p z r k := by
  unfold head10 entry gated width small k0_pay28 k0_pay26 k0_pay3 k0_pay27
  pointwise

theorem head11_at (r : Fin 256) (k : Fin 128) : head11 w o p z (ix2 r k) = entry w o p z r k := by
  unfold head11 entry gated width small k0_pay29 k0_pay3
  pointwise

theorem head12_at (r : Fin 256) (k : Fin 128) : head12 w o p z (ix2 r k) = entry w o p z r k := by
  unfold head12 entry gated width small k0_pay31 k0_pay3 k0_pay30
  pointwise

theorem head13_at (r : Fin 256) (k : Fin 128) : head13 w o p z (ix2 r k) = entry w o p z r k := by
  have e : ∀ j, k0_pay32 o p (ix2 r j) = o (ix4 0 0 r j) + p (ix4 0 0 r j) := fun j => by unfold k0_pay32; pointwise
  unfold head13 entry gated width small k0_pay35 k0_pay3 k0_pay33 k0_pay34
  pointwise
  simp only [e]

theorem head14_at (r : Fin 256) (k : Fin 128) : head14 w o p z (ix2 r k) = entry w o p z r k := by
  unfold head14 entry gated width small k0_pay37 k0_pay36 k0_pay3
  pointwise

theorem head15_at (r : Fin 256) (k : Fin 128) : head15 w o p z (ix2 r k) = entry w o p z r k := by
  unfold head15 entry gated width small k0_pay38 k0_pay3
  pointwise

theorem head16_at (r : Fin 256) (k : Fin 128) : head16 w o p z (ix2 r k) = entry w o p z r k := by
  unfold head16 entry gated width small k0_pay41 k0_pay3 k0_pay39 k0_pay40
  pointwise

theorem head17_at (r : Fin 256) (k : Fin 128) : head17 w o p z (ix2 r k) = entry w o p z r k := by
  have e : ∀ j, k0_pay42 o p (ix2 r j) = o (ix4 0 0 r j) + p (ix4 0 0 r j) := fun j => by unfold k0_pay42; pointwise
  unfold head17 entry gated width small k0_pay46 k0_pay3 k0_pay43 k0_pay44 k0_pay45
  pointwise
  simp only [e]

theorem head18_at (r : Fin 256) (k : Fin 128) : head18 w o p z (ix2 r k) = entry w o p z r k := by
  unfold head18 entry gated width small k0_pay47 k0_pay3
  pointwise

theorem head19_at (r : Fin 256) (k : Fin 128) : head19 w o p z (ix2 r k) = entry w o p z r k := by
  unfold head19 entry gated width small k0_pay48 k0_pay3
  pointwise

theorem head20_at (r : Fin 256) (k : Fin 128) : head20 w o p z (ix2 r k) = entry w o p z r k := by
  unfold head20 entry gated width small k0_pay50 k0_pay3 k0_pay49
  pointwise

theorem head21_at (r : Fin 256) (k : Fin 128) : head21 w o p z (ix2 r k) = entry w o p z r k := by
  unfold head21 entry gated width small k0_pay53 k0_pay3 k0_pay51 k0_pay52
  pointwise

theorem head22_at (r : Fin 256) (k : Fin 128) : head22 w o p z (ix2 r k) = entry w o p z r k := by
  unfold head22 entry gated width small k0_pay54 k0_pay3
  pointwise

theorem head23_at (r : Fin 256) (k : Fin 128) : head23 w o p z (ix2 r k) = entry w o p z r k := by
  unfold head23 entry gated width small k0_pay55 k0_pay3
  pointwise

theorem head24_at (r : Fin 256) (k : Fin 128) : head24 w o p z (ix2 r k) = entry w o p z r k := by
  have e : ∀ j, k0_pay56 o p (ix2 r j) = o (ix4 0 0 r j) + p (ix4 0 0 r j) := fun j => by unfold k0_pay56; pointwise
  unfold head24 entry gated width small k0_pay59 k0_pay3 k0_pay57 k0_pay58
  pointwise
  simp only [e]

theorem head25_at (r : Fin 256) (k : Fin 128) : head25 w o p z (ix2 r k) = entry w o p z r k := by
  unfold head25 entry gated width small k0_pay62 k0_pay60 k0_pay3 k0_pay61
  pointwise

theorem head26_at (r : Fin 256) (k : Fin 128) : head26 w o p z (ix2 r k) = entry w o p z r k := by
  unfold head26 entry gated width small k0_pay63 k0_pay3
  pointwise

theorem head27_at (r : Fin 256) (k : Fin 128) : head27 w o p z (ix2 r k) = entry w o p z r k := by
  unfold head27 entry gated width small k0_pay65 k0_pay3 k0_pay64
  pointwise

theorem head28_at (r : Fin 256) (k : Fin 128) : head28 w o p z (ix2 r k) = entry w o p z r k := by
  have e : ∀ j, k0_pay66 o p (ix2 r j) = o (ix4 0 0 r j) + p (ix4 0 0 r j) := fun j => by unfold k0_pay66; pointwise
  unfold head28 entry gated width small k0_pay69 k0_pay3 k0_pay67 k0_pay68
  pointwise
  simp only [e]

theorem head29_at (r : Fin 256) (k : Fin 128) : head29 w o p z (ix2 r k) = entry w o p z r k := by
  unfold head29 entry gated width small k0_pay71 k0_pay70 k0_pay3
  pointwise

theorem head30_at (r : Fin 256) (k : Fin 128) : head30 w o p z (ix2 r k) = entry w o p z r k := by
  unfold head30 entry gated width small k0_pay72 k0_pay3
  pointwise

theorem head31_at (r : Fin 256) (k : Fin 128) : head31 w o p z (ix2 r k) = entry w o p z r k := by
  unfold head31 entry gated width small k0_pay1 k0_pay3 k0_pay73 k0_pay74
  pointwise

end

end Cert.Bout
-- ==== Proof.Bout.lean ====
/- The gated output of the delta-rule streams: what a grid point leaves in the block of rows it carries and in the block of the
   result. -/
module

public import proofs.«01_k».proof.Proof.BoutHeads

@[expose] public section

set_option maxRecDepth 16384

noncomputable section

namespace Cert.Bout

open Idealize.ShloMosaic Idealize.ShloMosaic.TcCoe Cert.Kernel6Ideal Cert.Kernel6Ideal.Gen

/-- One part of the result: the gates of the two branches, the first branch, and the second's product. -/
def merge (ga gb a s : EReal) : EReal := Ideal.logistic ga * a + Ideal.logistic gb * s

theorem pay2_at (y : Vec Ideal S256x4096 .bf16) (w : Vec Ideal S4096x512 .bf16) (ga gb : Vec Ideal S1x256x512 .bf16) (a : Vec Ideal S1x256x512 .f32)
    (r : Fin 256) (l : Fin 512) :
    k0_pay2 y w ga gb a (ix3 0 r l) = merge (ga (ix3 0 r l)) (gb (ix3 0 r l)) (a (ix3 0 r l)) (∑ k : Fin 4096, y (ix2 r k) * w (ix2 k l)) := by
  unfold k0_pay2 merge
  pointwise

theorem ldo_at (x : Vec Ideal S1x32x256x128 .f32) (n : Fin 32) (inb : ∀ a, (![0, n.val, 0, 0] : Fin 4 → ℕ) a + (![1, 1, 256, 128] : Fin 4 → ℕ) a ≤ S1x32x256x128.size a)
    (r : Fin 256) (k : Fin 128) :
    View.ld x (Rect.unit (s := S1x32x256x128) ![0, n.val, 0, 0] ![1, 1, 256, 128] inb) (ix4 0 0 r k) = x (ix4 0 n r k) := by
  rw [View.ld_apply]
  refine congrArg x ?_
  funext a
  apply Fin.ext
  fin_cases a <;> simp [LoadRect.idx, Rect.toLoadRect, Rect.unit, ix4]

theorem ldz_at (x : Vec Ideal S1x256x2048 .bf16) (n : Fin 16) (inb : ∀ a, (![0, 0, 128 * n.val] : Fin 3 → ℕ) a + (![1, 256, 128] : Fin 3 → ℕ) a ≤ S1x256x2048.size a)
    (r : Fin 256) (k : Fin 128) :
    View.ld x (Rect.unit (s := S1x256x2048) ![0, 0, 128 * n.val] ![1, 256, 128] inb) (ix3 0 r k) = x (ix3 0 r (⟨128 * n.val + k.val, by omega⟩ : Fin 2048)) := by
  rw [View.ld_apply]
  refine congrArg x ?_
  funext a
  apply Fin.ext
  fin_cases a <;> simp [LoadRect.idx, Rect.toLoadRect, Rect.unit, ix3]

section
variable (f : Fin 256 → Fin 4096 → EReal) (p : Fin 32 → Vec Ideal ⟨2, ![256, 128]⟩ .bf16)
  (inb : ∀ n : Fin 32, ∀ a, (![0, 128 * n.val] : Fin 2 → ℕ) a + (![256, 128] : Fin 2 → ℕ) a ≤ S256x4096.size a)

/-- The columns of a head, stored. -/
def piece (n : Fin 32) : View.Piece (Elt Ideal) S256x4096 .bf16 := ⟨Rect.unit (s := S256x4096) ![0, 128 * n.val] ![256, 128] (inb n), p n⟩

/-- The columns of the heads in a list, one after the other. -/
theorem canonL (h : ∀ (n : Fin 32) (r : Fin 256) (k : Fin 128), p n (ix2 r k) = f r ⟨128 * n.val + k.val, by omega⟩) (q : Fin 256) (k : Fin 4096) :
    ∀ L : List (Fin 32), (⟨k.val / 128, by omega⟩ : Fin 32) ∈ L →
      View.canon (Val := Elt Ideal) (e := .bf16) (L.map (piece p inb)) (ix2 q k) = f q k := by
  intro L
  induction L with
  | nil => intro hm; simp at hm
  | cons n L ih =>
    intro hm
    by_cases hn : k.val / 128 = n.val
    · have e : (ix2 q k) = (Rect.unit (s := S256x4096) ![0, 128 * n.val] ![256, 128] (inb n)).emb (ix2 q (⟨k.val % 128, by omega⟩ : Fin 128)) := by
        funext a
        apply Fin.ext
        rw [Rect.emb_apply]
        fin_cases a
        · simp [Rect.unit, ix2]
        · show k.val = 128 * n.val + 1 * (k.val % 128); omega
      refine (congrArg _ e).trans ((View.canon_cons_emb ..).trans ((h n q _).trans ?_))
      exact congrArg (f q) (Fin.ext (show 128 * n.val + k.val % 128 = k.val by omega))
    · have hL : (⟨k.val / 128, by omega⟩ : Fin 32) ∈ L := by
        rcases List.mem_cons.mp hm with e | e
        · exact absurd (congrArg Fin.val e) hn
        · exact e
      refine Eq.trans ?_ (ih hL)
      apply View.canon_cons_of_not_mem
      show (ix2 q k : S256x4096.Idx) ∉ (Rect.unit (s := S256x4096) ![0, 128 * n.val] ![256, 128] (inb n)).set
      rw [Rect.mem_set_unit]
      intro hs
      have h0 := (hs 1).1
      have h1 := (hs 1).2
      have h0' : 128 * n.val ≤ k.val := h0
      have h1' : k.val < 128 * n.val + 128 := h1
      omega
end

section
variable (m : (ℓ : Loc nD τ sig) → Buf (Elt Ideal) ℓ) (c : Dev nD)

/-- A grid point's blocks of the arguments. -/
def X0 (t : Fin cfg0.N) : Vec Ideal S1x32x256x128 .f32 := iblk m c 0 t
def X1 (t : Fin cfg0.N) : Vec Ideal S1x32x256x128 .f32 := iblk m c 1 t
def X2 (t : Fin cfg0.N) : Vec Ideal S1x256x2048 .bf16 := iblk m c 2 t
def X3 (t : Fin cfg0.N) : Vec Ideal S1x256x2048 .bf16 := iblk m c 3 t
def X4 (t : Fin cfg0.N) : Vec Ideal S1x128 .f32 := iblk m c 4 t
def X5 (t : Fin cfg0.N) : Vec Ideal S1x256x512 .f32 := iblk m c 5 t
def X6 (t : Fin cfg0.N) : Vec Ideal S1x256x512 .bf16 := iblk m c 6 t
def X7 (t : Fin cfg0.N) : Vec Ideal S1x256x512 .bf16 := iblk m c 7 t
def X8 (t : Fin cfg0.N) : Vec Ideal S4096x512 .bf16 := iblk m c 8 t

/-- The gate of a column: its lower and upper halves come in two blocks. -/
def zB (t : Fin cfg0.N) (r : Fin 256) (k : Fin 4096) : EReal :=
  if h : k.val < 2048 then X2 m c t (ix3 0 r (⟨k.val, h⟩ : Fin 2048)) else X3 m c t (ix3 0 r (⟨k.val - 2048, by omega⟩ : Fin 2048))

/-- A row of the point's blocks, normed and gated head by head. -/
def rowB (t : Fin cfg0.N) (r : Fin 256) (k : Fin 4096) : EReal :=
  gated (fun j => X0 m c t (ix4 0 (⟨k.val / 128, by omega⟩ : Fin 32) r j) + X1 m c t (ix4 0 (⟨k.val / 128, by omega⟩ : Fin 32) r j))
    (X4 m c t (ix2 0 (⟨k.val % 128, by omega⟩ : Fin 128))) (zB m c t r k) ⟨k.val % 128, by omega⟩

theorem rowB_head (t : Fin cfg0.N) (n : Fin 32) (r : Fin 256) (k : Fin 128) :
    rowB m c t r ⟨128 * n.val + k.val, by omega⟩ = gated (fun j => X0 m c t (ix4 0 n r j) + X1 m c t (ix4 0 n r j))
      (X4 m c t (ix2 0 k)) (zB m c t r ⟨128 * n.val + k.val, by omega⟩) k := by
  unfold rowB
  have e1 : (⟨(128 * n.val + k.val) / 128, by omega⟩ : Fin 32) = n := Fin.ext (by show (128 * n.val + k.val) / 128 = n.val; omega)
  have e2 : (⟨(128 * n.val + k.val) % 128, by omega⟩ : Fin 128) = k := Fin.ext (by show (128 * n.val + k.val) % 128 = k.val; omega)
  simp only [e1, e2]

theorem entry_lo (t : Fin cfg0.N) (n : Fin 32) (n' : Fin 16) (hn : n.val = n'.val) (i0 i1 i2) (r : Fin 256) (k : Fin 128) :
    entry (X4 m c t) (View.ld (X0 m c t) (Rect.unit (s := S1x32x256x128) ![0, n.val, 0, 0] ![1, 1, 256, 128] i0))
      (View.ld (X1 m c t) (Rect.unit (s := S1x32x256x128) ![0, n.val, 0, 0] ![1, 1, 256, 128] i1))
      (View.ld (X2 m c t) (Rect.unit (s := S1x256x2048) ![0, 0, 128 * n'.val] ![1, 256, 128] i2)) r k
      = rowB m c t r ⟨128 * n.val + k.val, by omega⟩ := by
  rw [rowB_head]
  unfold entry zB
  rw [dif_pos (show 128 * n.val + k.val < 2048 by omega), ldz_at]
  simp only [ldo_at (X0 m c t) n i0 r, ldo_at (X1 m c t) n i1 r]
  have e : (⟨128 * n'.val + k.val, by omega⟩ : Fin 2048) = ⟨128 * n.val + k.val, by omega⟩ :=
    Fin.ext (by show 128 * n'.val + k.val = 128 * n.val + k.val; omega)
  simp only [e]

theorem entry_hi (t : Fin cfg0.N) (n : Fin 32) (n' : Fin 16) (hn : n.val = n'.val + 16) (i0 i1 i2) (r : Fin 256) (k : Fin 128) :
    entry (X4 m c t) (View.ld (X0 m c t) (Rect.unit (s := S1x32x256x128) ![0, n.val, 0, 0] ![1, 1, 256, 128] i0))
      (View.ld (X1 m c t) (Rect.unit (s := S1x32x256x128) ![0, n.val, 0, 0] ![1, 1, 256, 128] i1))
      (View.ld (X3 m c t) (Rect.unit (s := S1x256x2048) ![0, 0, 128 * n'.val] ![1, 256, 128] i2)) r k
      = rowB m c t r ⟨128 * n.val + k.val, by omega⟩ := by
  rw [rowB_head]
  unfold entry zB
  rw [dif_neg (show ¬128 * n.val + k.val < 2048 by omega), ldz_at]
  simp only [ldo_at (X0 m c t) n i0 r, ldo_at (X1 m c t) n i1 r]
  have e : (⟨128 * n'.val + k.val, by omega⟩ : Fin 2048) = ⟨128 * n.val + k.val - 2048, by omega⟩ :=
    Fin.ext (by show 128 * n'.val + k.val = 128 * n.val + k.val - 2048; omega)
  simp only [e]

/-- The columns a first point stores for every head. -/
def pays (t : Fin cfg0.N) (n : Fin 32) : Vec Ideal ⟨2, ![256, 128]⟩ .bf16 :=
  (![
    head0 (X4 m c t) (View.ld (X0 m c t) (Rect.unit (s := S1x32x256x128) ![0, 0, 0, 0] ![1, 1, 256, 128] inb_S1x32x256x128_S1x1x256x128_0_0_0_0))
      (View.ld (X1 m c t) (Rect.unit (s := S1x32x256x128) ![0, 0, 0, 0] ![1, 1, 256, 128] inb_S1x32x256x128_S1x1x256x128_0_0_0_0))
      (View.ld (X2 m c t) (Rect.unit (s := S1x256x2048) ![0, 0, 0] ![1, 256, 128] inb_S1x256x2048_S1x256x128_0_0_0)),
    head1 (X4 m c t) (View.ld (X0 m c t) (Rect.unit (s := S1x32x256x128) ![0, 1, 0, 0] ![1, 1, 256, 128] inb_S1x32x256x128_S1x1x256x128_0_1_0_0))
      (View.ld (X1 m c t) (Rect.unit (s := S1x32x256x128) ![0, 1, 0, 0] ![1, 1, 256, 128] inb_S1x32x256x128_S1x1x256x128_0_1_0_0))
      (View.ld (X2 m c t) (Rect.unit (s := S1x256x2048) ![0, 0, 128] ![1, 256, 128] inb_S1x256x2048_S1x256x128_0_0_128)),
    head2 (X4 m c t) (View.ld (X0 m c t) (Rect.unit (s := S1x32x256x128) ![0, 2, 0, 0] ![1, 1, 256, 128] inb_S1x32x256x128_S1x1x256x128_0_2_0_0))
      (View.ld (X1 m c t) (Rect.unit (s := S1x32x256x128) ![0, 2, 0, 0] ![1, 1, 256, 128] inb_S1x32x256x128_S1x1x256x128_0_2_0_0))
      (View.ld (X2 m c t) (Rect.unit (s := S1x256x2048) ![0, 0, 256] ![1, 256, 128] inb_S1x256x2048_S1x256x128_0_0_256)),
    head3 (X4 m c t) (View.ld (X0 m c t) (Rect.unit (s := S1x32x256x128) ![0, 3, 0, 0] ![1, 1, 256, 128] inb_S1x32x256x128_S1x1x256x128_0_3_0_0))
      (View.ld (X1 m c t) (Rect.unit (s := S1x32x256x128) ![0, 3, 0, 0] ![1, 1, 256, 128] inb_S1x32x256x128_S1x1x256x128_0_3_0_0))
      (View.ld (X2 m c t) (Rect.unit (s := S1x256x2048) ![0, 0, 384] ![1, 256, 128] inb_S1x256x2048_S1x256x128_0_0_384)),
    head4 (X4 m c t) (View.ld (X0 m c t) (Rect.unit (s := S1x32x256x128) ![0, 4, 0, 0] ![1, 1, 256, 128] inb_S1x32x256x128_S1x1x256x128_0_4_0_0))
      (View.ld (X1 m c t) (Rect.unit (s := S1x32x256x128) ![0, 4, 0, 0] ![1, 1, 256, 128] inb_S1x32x256x128_S1x1x256x128_0_4_0_0))
      (View.ld (X2 m c t) (Rect.unit (s := S1x256x2048) ![0, 0, 512] ![1, 256, 128] inb_S1x256x2048_S1x256x128_0_0_512)),
    head5 (X4 m c t) (View.ld (X0 m c t) (Rect.unit (s := S1x32x256x128) ![0, 5, 0, 0] ![1, 1, 256, 128] inb_S1x32x256x128_S1x1x256x128_0_5_0_0))
      (View.ld (X1 m c t) (Rect.unit (s := S1x32x256x128) ![0, 5, 0, 0] ![1, 1, 256, 128] inb_S1x32x256x128_S1x1x256x128_0_5_0_0))
      (View.ld (X2 m c t) (Rect.unit (s := S1x256x2048) ![0, 0, 640] ![1, 256, 128] inb_S1x256x2048_S1x256x128_0_0_640)),
    head6 (X4 m c t) (View.ld (X0 m c t) (Rect.unit (s := S1x32x256x128) ![0, 6, 0, 0] ![1, 1, 256, 128] inb_S1x32x256x128_S1x1x256x128_0_6_0_0))
      (View.ld (X1 m c t) (Rect.unit (s := S1x32x256x128) ![0, 6, 0, 0] ![1, 1, 256, 128] inb_S1x32x256x128_S1x1x256x128_0_6_0_0))
      (View.ld (X2 m c t) (Rect.unit (s := S1x256x2048) ![0, 0, 768] ![1, 256, 128] inb_S1x256x2048_S1x256x128_0_0_768)),
    head7 (X4 m c t) (View.ld (X0 m c t) (Rect.unit (s := S1x32x256x128) ![0, 7, 0, 0] ![1, 1, 256, 128] inb_S1x32x256x128_S1x1x256x128_0_7_0_0))
      (View.ld (X1 m c t) (Rect.unit (s := S1x32x256x128) ![0, 7, 0, 0] ![1, 1, 256, 128] inb_S1x32x256x128_S1x1x256x128_0_7_0_0))
      (View.ld (X2 m c t) (Rect.unit (s := S1x256x2048) ![0, 0, 896] ![1, 256, 128] inb_S1x256x2048_S1x256x128_0_0_896)),
    head8 (X4 m c t) (View.ld (X0 m c t) (Rect.unit (s := S1x32x256x128) ![0, 8, 0, 0] ![1, 1, 256, 128] inb_S1x32x256x128_S1x1x256x128_0_8_0_0))
      (View.ld (X1 m c t) (Rect.unit (s := S1x32x256x128) ![0, 8, 0, 0] ![1, 1, 256, 128] inb_S1x32x256x128_S1x1x256x128_0_8_0_0))
      (View.ld (X2 m c t) (Rect.unit (s := S1x256x2048) ![0, 0, 1024] ![1, 256, 128] inb_S1x256x2048_S1x256x128_0_0_1024)),
    head9 (X4 m c t) (View.ld (X0 m c t) (Rect.unit (s := S1x32x256x128) ![0, 9, 0, 0] ![1, 1, 256, 128] inb_S1x32x256x128_S1x1x256x128_0_9_0_0))
      (View.ld (X1 m c t) (Rect.unit (s := S1x32x256x128) ![0, 9, 0, 0] ![1, 1, 256, 128] inb_S1x32x256x128_S1x1x256x128_0_9_0_0))
      (View.ld (X2 m c t) (Rect.unit (s := S1x256x2048) ![0, 0, 1152] ![1, 256, 128] inb_S1x256x2048_S1x256x128_0_0_1152)),
    head10 (X4 m c t) (View.ld (X0 m c t) (Rect.unit (s := S1x32x256x128) ![0, 10, 0, 0] ![1, 1, 256, 128] inb_S1x32x256x128_S1x1x256x128_0_10_0_0))
      (View.ld (X1 m c t) (Rect.unit (s := S1x32x256x128) ![0, 10, 0, 0] ![1, 1, 256, 128] inb_S1x32x256x128_S1x1x256x128_0_10_0_0))
      (View.ld (X2 m c t) (Rect.unit (s := S1x256x2048) ![0, 0, 1280] ![1, 256, 128] inb_S1x256x2048_S1x256x128_0_0_1280)),
    head11 (X4 m c t) (View.ld (X0 m c t) (Rect.unit (s := S1x32x256x128) ![0, 11, 0, 0] ![1, 1, 256, 128] inb_S1x32x256x128_S1x1x256x128_0_11_0_0))
      (View.ld (X1 m c t) (Rect.unit (s := S1x32x256x128) ![0, 11, 0, 0] ![1, 1, 256, 128] inb_S1x32x256x128_S1x1x256x128_0_11_0_0))
      (View.ld (X2 m c t) (Rect.unit (s := S1x256x2048) ![0, 0, 1408] ![1, 256, 128] inb_S1x256x2048_S1x256x128_0_0_1408)),
    head12 (X4 m c t) (View.ld (X0 m c t) (Rect.unit (s := S1x32x256x128) ![0, 12, 0, 0] ![1, 1, 256, 128] inb_S1x32x256x128_S1x1x256x128_0_12_0_0))
      (View.ld (X1 m c t) (Rect.unit (s := S1x32x256x128) ![0, 12, 0, 0] ![1, 1, 256, 128] inb_S1x32x256x128_S1x1x256x128_0_12_0_0))
      (View.ld (X2 m c t) (Rect.unit (s := S1x256x2048) ![0, 0, 1536] ![1, 256, 128] inb_S1x256x2048_S1x256x128_0_0_1536)),
    head13 (X4 m c t) (View.ld (X0 m c t) (Rect.unit (s := S1x32x256x128) ![0, 13, 0, 0] ![1, 1, 256, 128] inb_S1x32x256x128_S1x1x256x128_0_13_0_0))
      (View.ld (X1 m c t) (Rect.unit (s := S1x32x256x128) ![0, 13, 0, 0] ![1, 1, 256, 128] inb_S1x32x256x128_S1x1x256x128_0_13_0_0))
      (View.ld (X2 m c t) (Rect.unit (s := S1x256x2048) ![0, 0, 1664] ![1, 256, 128] inb_S1x256x2048_S1x256x128_0_0_1664)),
    head14 (X4 m c t) (View.ld (X0 m c t) (Rect.unit (s := S1x32x256x128) ![0, 14, 0, 0] ![1, 1, 256, 128] inb_S1x32x256x128_S1x1x256x128_0_14_0_0))
      (View.ld (X1 m c t) (Rect.unit (s := S1x32x256x128) ![0, 14, 0, 0] ![1, 1, 256, 128] inb_S1x32x256x128_S1x1x256x128_0_14_0_0))
      (View.ld (X2 m c t) (Rect.unit (s := S1x256x2048) ![0, 0, 1792] ![1, 256, 128] inb_S1x256x2048_S1x256x128_0_0_1792)),
    head15 (X4 m c t) (View.ld (X0 m c t) (Rect.unit (s := S1x32x256x128) ![0, 15, 0, 0] ![1, 1, 256, 128] inb_S1x32x256x128_S1x1x256x128_0_15_0_0))
      (View.ld (X1 m c t) (Rect.unit (s := S1x32x256x128) ![0, 15, 0, 0] ![1, 1, 256, 128] inb_S1x32x256x128_S1x1x256x128_0_15_0_0))
      (View.ld (X2 m c t) (Rect.unit (s := S1x256x2048) ![0, 0, 1920] ![1, 256, 128] inb_S1x256x2048_S1x256x128_0_0_1920)),
    head16 (X4 m c t) (View.ld (X0 m c t) (Rect.unit (s := S1x32x256x128) ![0, 16, 0, 0] ![1, 1, 256, 128] inb_S1x32x256x128_S1x1x256x128_0_16_0_0))
      (View.ld (X1 m c t) (Rect.unit (s := S1x32x256x128) ![0, 16, 0, 0] ![1, 1, 256, 128] inb_S1x32x256x128_S1x1x256x128_0_16_0_0))
      (View.ld (X3 m c t) (Rect.unit (s := S1x256x2048) ![0, 0, 0] ![1, 256, 128] inb_S1x256x2048_S1x256x128_0_0_0)),
    head17 (X4 m c t) (View.ld (X0 m c t) (Rect.unit (s := S1x32x256x128) ![0, 17, 0, 0] ![1, 1, 256, 128] inb_S1x32x256x128_S1x1x256x128_0_17_0_0))
      (View.ld (X1 m c t) (Rect.unit (s := S1x32x256x128) ![0, 17, 0, 0] ![1, 1, 256, 128] inb_S1x32x256x128_S1x1x256x128_0_17_0_0))
      (View.ld (X3 m c t) (Rect.unit (s := S1x256x2048) ![0, 0, 128] ![1, 256, 128] inb_S1x256x2048_S1x256x128_0_0_128)),
    head18 (X4 m c t) (View.ld (X0 m c t) (Rect.unit (s := S1x32x256x128) ![0, 18, 0, 0] ![1, 1, 256, 128] inb_S1x32x256x128_S1x1x256x128_0_18_0_0))
      (View.ld (X1 m c t) (Rect.unit (s := S1x32x256x128) ![0, 18, 0, 0] ![1, 1, 256, 128] inb_S1x32x256x128_S1x1x256x128_0_18_0_0))
      (View.ld (X3 m c t) (Rect.unit (s := S1x256x2048) ![0, 0, 256] ![1, 256, 128] inb_S1x256x2048_S1x256x128_0_0_256)),
    head19 (X4 m c t) (View.ld (X0 m c t) (Rect.unit (s := S1x32x256x128) ![0, 19, 0, 0] ![1, 1, 256, 128] inb_S1x32x256x128_S1x1x256x128_0_19_0_0))
      (View.ld (X1 m c t) (Rect.unit (s := S1x32x256x128) ![0, 19, 0, 0] ![1, 1, 256, 128] inb_S1x32x256x128_S1x1x256x128_0_19_0_0))
      (View.ld (X3 m c t) (Rect.unit (s := S1x256x2048) ![0, 0, 384] ![1, 256, 128] inb_S1x256x2048_S1x256x128_0_0_384)),
    head20 (X4 m c t) (View.ld (X0 m c t) (Rect.unit (s := S1x32x256x128) ![0, 20, 0, 0] ![1, 1, 256, 128] inb_S1x32x256x128_S1x1x256x128_0_20_0_0))
      (View.ld (X1 m c t) (Rect.unit (s := S1x32x256x128) ![0, 20, 0, 0] ![1, 1, 256, 128] inb_S1x32x256x128_S1x1x256x128_0_20_0_0))
      (View.ld (X3 m c t) (Rect.unit (s := S1x256x2048) ![0, 0, 512] ![1, 256, 128] inb_S1x256x2048_S1x256x128_0_0_512)),
    head21 (X4 m c t) (View.ld (X0 m c t) (Rect.unit (s := S1x32x256x128) ![0, 21, 0, 0] ![1, 1, 256, 128] inb_S1x32x256x128_S1x1x256x128_0_21_0_0))
      (View.ld (X1 m c t) (Rect.unit (s := S1x32x256x128) ![0, 21, 0, 0] ![1, 1, 256, 128] inb_S1x32x256x128_S1x1x256x128_0_21_0_0))
      (View.ld (X3 m c t) (Rect.unit (s := S1x256x2048) ![0, 0, 640] ![1, 256, 128] inb_S1x256x2048_S1x256x128_0_0_640)),
    head22 (X4 m c t) (View.ld (X0 m c t) (Rect.unit (s := S1x32x256x128) ![0, 22, 0, 0] ![1, 1, 256, 128] inb_S1x32x256x128_S1x1x256x128_0_22_0_0))
      (View.ld (X1 m c t) (Rect.unit (s := S1x32x256x128) ![0, 22, 0, 0] ![1, 1, 256, 128] inb_S1x32x256x128_S1x1x256x128_0_22_0_0))
      (View.ld (X3 m c t) (Rect.unit (s := S1x256x2048) ![0, 0, 768] ![1, 256, 128] inb_S1x256x2048_S1x256x128_0_0_768)),
    head23 (X4 m c t) (View.ld (X0 m c t) (Rect.unit (s := S1x32x256x128) ![0, 23, 0, 0] ![1, 1, 256, 128] inb_S1x32x256x128_S1x1x256x128_0_23_0_0))
      (View.ld (X1 m c t) (Rect.unit (s := S1x32x256x128) ![0, 23, 0, 0] ![1, 1, 256, 128] inb_S1x32x256x128_S1x1x256x128_0_23_0_0))
      (View.ld (X3 m c t) (Rect.unit (s := S1x256x2048) ![0, 0, 896] ![1, 256, 128] inb_S1x256x2048_S1x256x128_0_0_896)),
    head24 (X4 m c t) (View.ld (X0 m c t) (Rect.unit (s := S1x32x256x128) ![0, 24, 0, 0] ![1, 1, 256, 128] inb_S1x32x256x128_S1x1x256x128_0_24_0_0))
      (View.ld (X1 m c t) (Rect.unit (s := S1x32x256x128) ![0, 24, 0, 0] ![1, 1, 256, 128] inb_S1x32x256x128_S1x1x256x128_0_24_0_0))
      (View.ld (X3 m c t) (Rect.unit (s := S1x256x2048) ![0, 0, 1024] ![1, 256, 128] inb_S1x256x2048_S1x256x128_0_0_1024)),
    head25 (X4 m c t) (View.ld (X0 m c t) (Rect.unit (s := S1x32x256x128) ![0, 25, 0, 0] ![1, 1, 256, 128] inb_S1x32x256x128_S1x1x256x128_0_25_0_0))
      (View.ld (X1 m c t) (Rect.unit (s := S1x32x256x128) ![0, 25, 0, 0] ![1, 1, 256, 128] inb_S1x32x256x128_S1x1x256x128_0_25_0_0))
      (View.ld (X3 m c t) (Rect.unit (s := S1x256x2048) ![0, 0, 1152] ![1, 256, 128] inb_S1x256x2048_S1x256x128_0_0_1152)),
    head26 (X4 m c t) (View.ld (X0 m c t) (Rect.unit (s := S1x32x256x128) ![0, 26, 0, 0] ![1, 1, 256, 128] inb_S1x32x256x128_S1x1x256x128_0_26_0_0))
      (View.ld (X1 m c t) (Rect.unit (s := S1x32x256x128) ![0, 26, 0, 0] ![1, 1, 256, 128] inb_S1x32x256x128_S1x1x256x128_0_26_0_0))
      (View.ld (X3 m c t) (Rect.unit (s := S1x256x2048) ![0, 0, 1280] ![1, 256, 128] inb_S1x256x2048_S1x256x128_0_0_1280)),
    head27 (X4 m c t) (View.ld (X0 m c t) (Rect.unit (s := S1x32x256x128) ![0, 27, 0, 0] ![1, 1, 256, 128] inb_S1x32x256x128_S1x1x256x128_0_27_0_0))
      (View.ld (X1 m c t) (Rect.unit (s := S1x32x256x128) ![0, 27, 0, 0] ![1, 1, 256, 128] inb_S1x32x256x128_S1x1x256x128_0_27_0_0))
      (View.ld (X3 m c t) (Rect.unit (s := S1x256x2048) ![0, 0, 1408] ![1, 256, 128] inb_S1x256x2048_S1x256x128_0_0_1408)),
    head28 (X4 m c t) (View.ld (X0 m c t) (Rect.unit (s := S1x32x256x128) ![0, 28, 0, 0] ![1, 1, 256, 128] inb_S1x32x256x128_S1x1x256x128_0_28_0_0))
      (View.ld (X1 m c t) (Rect.unit (s := S1x32x256x128) ![0, 28, 0, 0] ![1, 1, 256, 128] inb_S1x32x256x128_S1x1x256x128_0_28_0_0))
      (View.ld (X3 m c t) (Rect.unit (s := S1x256x2048) ![0, 0, 1536] ![1, 256, 128] inb_S1x256x2048_S1x256x128_0_0_1536)),
    head29 (X4 m c t) (View.ld (X0 m c t) (Rect.unit (s := S1x32x256x128) ![0, 29, 0, 0] ![1, 1, 256, 128] inb_S1x32x256x128_S1x1x256x128_0_29_0_0))
      (View.ld (X1 m c t) (Rect.unit (s := S1x32x256x128) ![0, 29, 0, 0] ![1, 1, 256, 128] inb_S1x32x256x128_S1x1x256x128_0_29_0_0))
      (View.ld (X3 m c t) (Rect.unit (s := S1x256x2048) ![0, 0, 1664] ![1, 256, 128] inb_S1x256x2048_S1x256x128_0_0_1664)),
    head30 (X4 m c t) (View.ld (X0 m c t) (Rect.unit (s := S1x32x256x128) ![0, 30, 0, 0] ![1, 1, 256, 128] inb_S1x32x256x128_S1x1x256x128_0_30_0_0))
      (View.ld (X1 m c t) (Rect.unit (s := S1x32x256x128) ![0, 30, 0, 0] ![1, 1, 256, 128] inb_S1x32x256x128_S1x1x256x128_0_30_0_0))
      (View.ld (X3 m c t) (Rect.unit (s := S1x256x2048) ![0, 0, 1792] ![1, 256, 128] inb_S1x256x2048_S1x256x128_0_0_1792)),
    head31 (X4 m c t) (View.ld (X0 m c t) (Rect.unit (s := S1x32x256x128) ![0, 31, 0, 0] ![1, 1, 256, 128] inb_S1x32x256x128_S1x1x256x128_0_31_0_0))
      (View.ld (X1 m c t) (Rect.unit (s := S1x32x256x128) ![0, 31, 0, 0] ![1, 1, 256, 128] inb_S1x32x256x128_S1x1x256x128_0_31_0_0))
      (View.ld (X3 m c t) (Rect.unit (s := S1x256x2048) ![0, 0, 1920] ![1, 256, 128] inb_S1x256x2048_S1x256x128_0_0_1920))] : Fin 32 → Vec Ideal ⟨2, ![256, 128]⟩ .bf16) n

theorem pays_at (t : Fin cfg0.N) (n : Fin 32) (r : Fin 256) (k : Fin 128) :
    pays m c t n (ix2 r k) = rowB m c t r ⟨128 * n.val + k.val, by omega⟩ := by
  fin_cases n
  · exact (head0_at _ _ _ _ r k).trans (entry_lo m c t 0 0 rfl _ _ _ r k)
  · exact (head1_at _ _ _ _ r k).trans (entry_lo m c t 1 1 rfl _ _ _ r k)
  · exact (head2_at _ _ _ _ r k).trans (entry_lo m c t 2 2 rfl _ _ _ r k)
  · exact (head3_at _ _ _ _ r k).trans (entry_lo m c t 3 3 rfl _ _ _ r k)
  · exact (head4_at _ _ _ _ r k).trans (entry_lo m c t 4 4 rfl _ _ _ r k)
  · exact (head5_at _ _ _ _ r k).trans (entry_lo m c t 5 5 rfl _ _ _ r k)
  · exact (head6_at _ _ _ _ r k).trans (entry_lo m c t 6 6 rfl _ _ _ r k)
  · exact (head7_at _ _ _ _ r k).trans (entry_lo m c t 7 7 rfl _ _ _ r k)
  · exact (head8_at _ _ _ _ r k).trans (entry_lo m c t 8 8 rfl _ _ _ r k)
  · exact (head9_at _ _ _ _ r k).trans (entry_lo m c t 9 9 rfl _ _ _ r k)
  · exact (head10_at _ _ _ _ r k).trans (entry_lo m c t 10 10 rfl _ _ _ r k)
  · exact (head11_at _ _ _ _ r k).trans (entry_lo m c t 11 11 rfl _ _ _ r k)
  · exact (head12_at _ _ _ _ r k).trans (entry_lo m c t 12 12 rfl _ _ _ r k)
  · exact (head13_at _ _ _ _ r k).trans (entry_lo m c t 13 13 rfl _ _ _ r k)
  · exact (head14_at _ _ _ _ r k).trans (entry_lo m c t 14 14 rfl _ _ _ r k)
  · exact (head15_at _ _ _ _ r k).trans (entry_lo m c t 15 15 rfl _ _ _ r k)
  · exact (head16_at _ _ _ _ r k).trans (entry_hi m c t 16 0 rfl _ _ _ r k)
  · exact (head17_at _ _ _ _ r k).trans (entry_hi m c t 17 1 rfl _ _ _ r k)
  · exact (head18_at _ _ _ _ r k).trans (entry_hi m c t 18 2 rfl _ _ _ r k)
  · exact (head19_at _ _ _ _ r k).trans (entry_hi m c t 19 3 rfl _ _ _ r k)
  · exact (head20_at _ _ _ _ r k).trans (entry_hi m c t 20 4 rfl _ _ _ r k)
  · exact (head21_at _ _ _ _ r k).trans (entry_hi m c t 21 5 rfl _ _ _ r k)
  · exact (head22_at _ _ _ _ r k).trans (entry_hi m c t 22 6 rfl _ _ _ r k)
  · exact (head23_at _ _ _ _ r k).trans (entry_hi m c t 23 7 rfl _ _ _ r k)
  · exact (head24_at _ _ _ _ r k).trans (entry_hi m c t 24 8 rfl _ _ _ r k)
  · exact (head25_at _ _ _ _ r k).trans (entry_hi m c t 25 9 rfl _ _ _ r k)
  · exact (head26_at _ _ _ _ r k).trans (entry_hi m c t 26 10 rfl _ _ _ r k)
  · exact (head27_at _ _ _ _ r k).trans (entry_hi m c t 27 11 rfl _ _ _ r k)
  · exact (head28_at _ _ _ _ r k).trans (entry_hi m c t 28 12 rfl _ _ _ r k)
  · exact (head29_at _ _ _ _ r k).trans (entry_hi m c t 29 13 rfl _ _ _ r k)
  · exact (head30_at _ _ _ _ r k).trans (entry_hi m c t 30 14 rfl _ _ _ r k)
  · exact (head31_at _ _ _ _ r k).trans (entry_hi m c t 31 15 rfl _ _ _ r k)

theorem inb32 (n : Fin 32) (a : Fin 2) : (![0, 128 * n.val] : Fin 2 → ℕ) a + (![256, 128] : Fin 2 → ℕ) a ≤ S256x4096.size a := by
  fin_cases a
  · simp
  · show 128 * n.val + 128 ≤ 4096; omega

/-- The heads, the last stored first. -/
def order : List (Fin 32) := [31, 30, 29, 28, 27, 26, 25, 24, 23, 22, 21, 20, 19, 18, 17, 16, 15, 14, 13, 12, 11, 10, 9, 8, 7, 6, 5, 4, 3, 2, 1, 0]

theorem mem_order : ∀ n : Fin 32, n ∈ order := by decide

/-- The columns of all heads. -/
theorem canon32 (t : Fin cfg0.N) (q : Fin 256) (k : Fin 4096) :
    View.canon (Val := Elt Ideal) (e := .bf16) (order.map (piece (pays m c t) inb32)) (ix2 q k) = rowB m c t q k :=
  canonL (rowB m c t) (pays m c t) inb32 (pays_at m c t) q k order (mem_order _)

/-- A first point leaves the normed and gated rows of its blocks. -/
theorem h_A (t : Fin cfg0.N) (h : t.val % 4 = 0) (q : Fin 256) (k : Fin 4096) : (outsAt0 m c t.val t.isLt).2 (ix2 q k) = rowB m c t q k := by
  rw [outsAt0_A m c t h]
  dsimp only
  frame_out
  exact canon32 m c t q k

/-- Another point leaves what it found. -/
theorem h_B (t : Fin cfg0.N) (h : ¬t.val % 4 = 0) : (outsAt0 m c t.val t.isLt).2 = (outsAt0 m c (t.val - 1) (Nat.lt_of_le_of_lt (Nat.sub_le _ _) t.isLt)).2 := by
  rw [outsAt0_B m c t h]
  rfl

/-- Every point merges the branches: the second's rows are the product of the carried rows and its block of the weights. -/
theorem o_at (t : Fin cfg0.N) (r : Fin 256) (l : Fin 512) :
    (outsAt0 m c t.val t.isLt).1 (ix3 0 r l) = merge (X6 m c t (ix3 0 r l)) (X7 m c t (ix3 0 r l)) (X5 m c t (ix3 0 r l))
      (∑ k : Fin 4096, (outsAt0 m c t.val t.isLt).2 (ix2 r k) * X8 m c t (ix2 k l)) := by
  by_cases h : t.val % 4 = 0
  · simp only [h_A m c t h]
    rw [outsAt0_A m c t h]
    dsimp only
    frame_out
    rw [View.readCov_eq_canon']
    have e : ∀ k : Fin 4096, (Rect.unit (s := S256x4096) ![0, 0] ![256, 4096] inb_S256x4096_S256x4096_0_0).toLoadRect.idx (ix2 r k) = ix2 r k := fun k => by
      funext a
      apply Fin.ext
      fin_cases a <;> simp [LoadRect.idx, Rect.toLoadRect, Rect.unit, ix2]
    refine (pay2_at _ _ _ _ _ r l).trans (congrArg (merge _ _ _) (Finset.sum_congr rfl fun k _ => ?_))
    simp only [← canon32 m c t r, e]
    rfl
  · rw [h_B m c t h, outsAt0_B m c t h]
    dsimp only
    frame_out
    refine (pay2_at _ _ _ _ _ r l).trans (congrArg (merge _ _ _) (Finset.sum_congr rfl fun k _ => ?_))
    exact congrArg (fun z : Vec Ideal S256x4096 .bf16 => z (ix2 r k) * X8 m c t (ix2 k l)) (Memref.IsWhole.read_unread (Memref.isWhole_whole cc0_scratch0) _)
end

end Cert.Bout
-- ==== Proof.BoutHost.lean ====
/- The arguments that the host prepares for the gated output of the delta-rule streams, and the reference's result, at an index. -/
module

public import proofs.«01_k».proof.Proof.Bout
public import proofs.«01_k».proof.Proof.Gen.Reference6Ideal.Run
public import Idealize.ShloMosaic.Lib.StableHlo.Run

@[expose] public section

set_option maxRecDepth 16384
set_option maxHeartbeats 1000000

noncomputable section

namespace Cert.Bout

open Idealize.ShloMosaic Idealize.ShloMosaic.TcCoe

section
open Cert.Kernel6Ideal Cert.Kernel6Ideal.Gen

variable (m : (ℓ : Loc nD τ sig) → Buf (Elt Ideal) ℓ) (c : Dev nD)

theorem V_v0 : V m c main_v0 = truncf (F := Ideal) .bf16 (m ((c : Thread nD τ).loc main_arg5)) bitsLt_bf16_f32 := by
  show StableHlo.after _ _ (Proc.devRef .tc main_v0) = _
  simp only [hostOps0, List.flatten_cons, List.flatten_nil, List.append_nil, List.cons_append,
    List.nil_append]
  after_results_simp
  try rfl

theorem V_v1 : V m c main_v1 = broadcastInDim S1x128 ![1] bcast_S128_S1x128_1 (m ((c : Thread nD τ).loc main_arg3)) := by
  show StableHlo.after _ _ (Proc.devRef .tc main_v1) = _
  simp only [hostOps0, List.flatten_cons, List.flatten_nil, List.append_nil, List.cons_append,
    List.nil_append]
  after_results_simp
  try rfl

theorem V_v1_at (k : Fin 128) : V m c main_v1 (ix2 0 k) = m ((c : Thread nD τ).loc main_arg3) (ix1 k) := by
  rw [V_v1]
  pointwise
end

/-- The columns of the gates in the row-wise streams: the delta rule's, then the two branches'. -/
def cz (k : Fin 4096) : Fin 14336 := ⟨6144 + k.val, by omega⟩
def ca (q : Fin 2048) : Fin 14336 := ⟨10240 + q.val, by omega⟩
def cb (q : Fin 2048) : Fin 14336 := ⟨12288 + q.val, by omega⟩
/-- The head of a column, and its place in the head. -/
def hd (k : Fin 4096) : Fin 32 := ⟨k.val / 128, by omega⟩
def dm (k : Fin 4096) : Fin 128 := ⟨k.val % 128, by omega⟩

section
open Cert.Reference6Ideal Cert.Reference6Ideal.Gen

/-- The two directions added, the heads after the tokens. -/
def sT (a b : FVec Ideal S2x32x8192x128 .f32) : FVec Ideal S2x8192x32x128 .f32 :=
  transpose S2x8192x32x128 [0, 2, 1, 3] (addf a b) transposes_S2x32x8192x128_S2x8192x32x128_0_2_1_3

theorem sT_at (a b : FVec Ideal S2x32x8192x128 .f32) (u : Fin 2) (n : Fin 8192) (h : Fin 32) (d : Fin 128) :
    sT a b (ix4 u n h d) = a (ix4 u h n d) + b (ix4 u h n d) := by
  unfold sT
  pointwise

/-- The gates of the heads. -/
def zT (r : FVec Ideal S2x8192x14336 .bf16) : FVec Ideal S2x8192x32x128 .f32 :=
  shapeCast _ (extf .f32 (extractStridedSlice S2x8192x4096 ![0, 0, 6144] r slices_S2x8192x14336_S2x8192x4096_0_0_6144) bitsLt_bf16_f32) shapeCasts_S2x8192x4096_S2x8192x32x128

theorem zT_at (r : FVec Ideal S2x8192x14336 .bf16) (u : Fin 2) (n : Fin 8192) (h : Fin 32) (d : Fin 128) :
    zT r (ix4 u n h d) = r (ix3 u n (cz ⟨h.val * 128 + d.val, by omega⟩)) := by
  unfold zT cz
  pointwise

/-- The normed and gated heads. -/
def nT (s z : FVec Ideal S2x8192x32x128 .f32) (w : FVec Ideal S128 .f32) : FVec Ideal S2x8192x32x128 .f32 :=
  mulf (mulf (mulf s (broadcastInDim S2x8192x32x128 ![0, 1, 2, 3] bcast_S2x8192x32x1_S2x8192x32x128_0_1_2_3 (Host.rsqrt (addf (Host.divf (broadcastInDim S2x8192x32x1 ![0, 1, 2] bcast_S2x8192x32_S2x8192x32x1_0_1_2 (Host.reduceAdd (mulf s s) (constant S_ .f32 0x00000000#32) reducesTo_S2x8192x32x128_S2x8192x32_d3 h_S_)) (broadcastInDim S2x8192x32x1 ![] bcast_S_S2x8192x32x1 (constant S_ .f32 0x43000000#32))) (broadcastInDim S2x8192x32x1 ![] bcast_S_S2x8192x32x1 (constant S_ .f32 0x358637BD#32)))))) (broadcastInDim S2x8192x32x128 ![0, 1, 2, 3] bcast_S1x1x1x128_S2x8192x32x128_0_1_2_3 (broadcastInDim S1x1x1x128 ![3] bcast_S128_S1x1x1x128_3 w))) (mulf z (Host.divf (broadcastInDim S2x8192x32x128 ![] bcast_S_S2x8192x32x128 (constant S_ .f32 0x3F800000#32)) (addf (broadcastInDim S2x8192x32x128 ![] bcast_S_S2x8192x32x128 (constant S_ .f32 0x3F800000#32)) (Host.exp (Host.negf z)))))

theorem nT_at (s z : FVec Ideal S2x8192x32x128 .f32) (w : FVec Ideal S128 .f32) (u : Fin 2) (n : Fin 8192) (h : Fin 32) (d : Fin 128) :
    nT s z w (ix4 u n h d) = gated (fun j => s (ix4 u n h j)) (w (ix1 d)) (z (ix4 u n h d)) d := by
  unfold nT gated width small Ideal.logistic
  pointwise

/-- The heads side by side. -/
def flatT (y : FVec Ideal S2x8192x32x128 .f32) : FVec Ideal S2x8192x4096 .f32 := shapeCast _ y shapeCasts_S2x8192x32x128_S2x8192x4096

theorem flatT_at (y : FVec Ideal S2x8192x32x128 .f32) (u : Fin 2) (n : Fin 8192) (k : Fin 4096) :
    flatT y (ix3 u n k) = y (ix4 u n (hd k) (dm k)) := by
  unfold flatT hd dm
  pointwise

/-- The gates of the two branches. -/
def mT (r : FVec Ideal S2x8192x14336 .bf16) : FVec Ideal S2x8192x4096 .f32 :=
  Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf (extf .f32 (extractStridedSlice S2x8192x4096 ![0, 0, 10240] r slices_S2x8192x14336_S2x8192x4096_0_0_10240) bitsLt_bf16_f32))))

theorem mT_at (r : FVec Ideal S2x8192x14336 .bf16) (u : Fin 2) (n : Fin 8192) (k : Fin 4096) :
    mT r (ix3 u n k) = Ideal.logistic (r (ix3 u n (⟨10240 + k.val, by omega⟩ : Fin 14336))) := by
  unfold mT Ideal.logistic
  pointwise

/-- The product of the heads with the weights. -/
def pT (y : FVec Ideal S2x8192x4096 .f32) (w : FVec Ideal S4096x2048 .f32) : FVec Ideal S2x8192x2048 .f32 :=
  Host.dotGeneral dot_S2x8192x4096_S4096x2048_S2x8192x2048_2_0_01_1_n_n none y w

theorem pT_at (y : FVec Ideal S2x8192x4096 .f32) (w : FVec Ideal S4096x2048 .f32) (u : Fin 2) (n : Fin 8192) (q : Fin 2048) :
    pT y w (ix3 u n q) = ∑ k : Fin 4096, y (ix3 u n k) * w (ix2 k q) := by
  unfold pT
  pointwise

/-- The branches merged. -/
def oT (g : FVec Ideal S2x8192x4096 .f32) (a p : FVec Ideal S2x8192x2048 .f32) : FVec Ideal S2x8192x2048 .bf16 :=
  truncf .bf16 (addf (mulf (extractStridedSlice S2x8192x2048 ![0, 0, 0] g slices_S2x8192x4096_S2x8192x2048_0_0_0) a) (mulf (extractStridedSlice S2x8192x2048 ![0, 0, 2048] g slices_S2x8192x4096_S2x8192x2048_0_0_2048) p)) bitsLt_bf16_f32

theorem oT_at (g : FVec Ideal S2x8192x4096 .f32) (a p : FVec Ideal S2x8192x2048 .f32) (u : Fin 2) (n : Fin 8192) (q : Fin 2048) :
    oT g a p (ix3 u n q) = g (ix3 u n (⟨q.val, by omega⟩ : Fin 4096)) * a (ix3 u n q) + g (ix3 u n (⟨2048 + q.val, by omega⟩ : Fin 4096)) * p (ix3 u n q) := by
  unfold oT
  pointwise

/-- The reference's result, of its arguments. -/
def rT (a b : FVec Ideal S2x32x8192x128 .f32) (r : FVec Ideal S2x8192x14336 .bf16) (w : FVec Ideal S128 .f32) (ya : FVec Ideal S2x8192x2048 .f32)
    (wb : FVec Ideal S4096x2048 .f32) : FVec Ideal S2x8192x2048 .bf16 :=
  oT (mT r) ya (pT (flatT (nT (sT a b) (zT r) w)) wb)

/-- A normed and gated entry of the reference. -/
theorem yT_at (a b : FVec Ideal S2x32x8192x128 .f32) (r : FVec Ideal S2x8192x14336 .bf16) (w : FVec Ideal S128 .f32) (u : Fin 2) (n : Fin 8192) (k : Fin 4096) :
    flatT (nT (sT a b) (zT r) w) (ix3 u n k)
      = gated (fun j => a (ix4 u (hd k) n j) + b (ix4 u (hd k) n j)) (w (ix1 (dm k))) (r (ix3 u n (cz k))) (dm k) := by
  rw [flatT_at, nT_at, zT_at]
  simp only [sT_at]
  have e : (⟨(hd k).val * 128 + (dm k).val, by have := (hd k).isLt; have := (dm k).isLt; omega⟩ : Fin 4096) = k :=
    Fin.ext (by show k.val / 128 * 128 + k.val % 128 = k.val; omega)
  rw [e]

theorem rT_at (a b : FVec Ideal S2x32x8192x128 .f32) (r : FVec Ideal S2x8192x14336 .bf16) (w : FVec Ideal S128 .f32) (ya : FVec Ideal S2x8192x2048 .f32)
    (wb : FVec Ideal S4096x2048 .f32) (u : Fin 2) (n : Fin 8192) (q : Fin 2048) :
    rT a b r w ya wb (ix3 u n q) = merge (r (ix3 u n (ca q))) (r (ix3 u n (cb q))) (ya (ix3 u n q))
      (∑ k : Fin 4096, gated (fun j => a (ix4 u (hd k) n j) + b (ix4 u (hd k) n j)) (w (ix1 (dm k))) (r (ix3 u n (cz k))) (dm k) * wb (ix2 k q)) := by
  unfold rT merge
  rw [oT_at, mT_at, mT_at, pT_at]
  simp only [yT_at]
  have e : (⟨10240 + (2048 + q.val), by omega⟩ : Fin 14336) = cb q := Fin.ext (by show 10240 + (2048 + q.val) = 12288 + q.val; omega)
  rw [e]
  rfl
end

end Cert.Bout
-- ==== Proof.BoutEqual.lean ====
/- The gated output of the delta-rule streams, merged with the other branch: the kernel's array is the reference's. -/
module

public import proofs.«01_k».proof.Proof.Bout
public import proofs.«01_k».proof.Proof.BoutHost

@[expose] public section

set_option maxRecDepth 16384

noncomputable section

namespace Cert.Bout

open Idealize.ShloMosaic Idealize.ShloMosaic.TcCoe Cert.Kernel6Ideal Cert.Kernel6Ideal.Gen

theorem lt256 (t : Fin cfg0.N) : t.val < 256 := Nat.lt_of_lt_of_eq t.isLt N_0

/-- The sequence of the point numbered `n`. -/
def bOf (n : ℕ) (h : n < 256) : Fin 2 := ⟨n / 128, by omega⟩
/-- The token that is row `q` of the point numbered `n`. -/
def tok (n : ℕ) (q : Fin 256) : Fin 8192 := ⟨256 * (n / 4 % 32) + q.val, by omega⟩
/-- The column that is column `l` of the point numbered `n`. -/
def col (n : ℕ) (l : Fin 512) : Fin 2048 := ⟨512 * (n % 4) + l.val, by omega⟩

theorem index0 : ∀ t : Fin cfg0.N, win0_0.index t 0 = t.val / 128 ∧ win0_0.index t 1 = 0 ∧ win0_0.index t 2 = t.val / 4 % 32 ∧ win0_0.index t 3 = 0 := by decide +kernel
theorem index1 : ∀ t : Fin cfg0.N, win0_1.index t 0 = t.val / 128 ∧ win0_1.index t 1 = 0 ∧ win0_1.index t 2 = t.val / 4 % 32 ∧ win0_1.index t 3 = 0 := by decide +kernel
theorem index2 : ∀ t : Fin cfg0.N, win0_2.index t 0 = t.val / 128 ∧ win0_2.index t 1 = t.val / 4 % 32 ∧ win0_2.index t 2 = 3 := by decide +kernel
theorem index3 : ∀ t : Fin cfg0.N, win0_3.index t 0 = t.val / 128 ∧ win0_3.index t 1 = t.val / 4 % 32 ∧ win0_3.index t 2 = 4 := by decide +kernel
theorem index4 : ∀ t : Fin cfg0.N, win0_4.index t 0 = 0 ∧ win0_4.index t 1 = 0 := by decide +kernel
theorem index5 : ∀ t : Fin cfg0.N, win0_5.index t 0 = t.val / 128 ∧ win0_5.index t 1 = t.val / 4 % 32 ∧ win0_5.index t 2 = t.val % 4 := by decide +kernel
theorem index6 : ∀ t : Fin cfg0.N, win0_6.index t 0 = t.val / 128 ∧ win0_6.index t 1 = t.val / 4 % 32 ∧ win0_6.index t 2 = 20 + t.val % 4 := by decide +kernel
theorem index7 : ∀ t : Fin cfg0.N, win0_7.index t 0 = t.val / 128 ∧ win0_7.index t 1 = t.val / 4 % 32 ∧ win0_7.index t 2 = 24 + t.val % 4 := by decide +kernel
theorem index8 : ∀ t : Fin cfg0.N, win0_8.index t 0 = 0 ∧ win0_8.index t 1 = t.val % 4 := by decide +kernel

variable (m : (ℓ : Loc nD τ sig) → Buf (Elt Ideal) ℓ) (c : Dev nD)

theorem X0_at (t : Fin cfg0.N) (h : Fin 32) (r : Fin 256) (k : Fin 128) :
    X0 m c t (ix4 0 h r k) = m ((c : Thread nD τ).loc main_arg0) (ix4 (bOf t.val (lt256 t)) h (tok t.val r) k) := by
  unfold X0 iblk
  show V m c main_arg0 (((cfg0.win 0).blk t).view.emb _) = _
  rw [V_main_arg0]
  refine congrArg (m ((c : Thread nD τ).loc main_arg0)) ?_
  obtain ⟨e0, e1, e2, e3⟩ := index0 t
  funext a
  apply Fin.ext
  match a with
  | ⟨0, _⟩ => show win0_0.index t 0 * 1 + 1 * 0 = t.val / 128; omega
  | ⟨1, _⟩ => show win0_0.index t 1 * 32 + 1 * h.val = h.val; omega
  | ⟨2, _⟩ => show win0_0.index t 2 * 256 + 1 * r.val = 256 * (t.val / 4 % 32) + r.val; omega
  | ⟨3, _⟩ => show win0_0.index t 3 * 128 + 1 * k.val = k.val; omega

theorem X1_at (t : Fin cfg0.N) (h : Fin 32) (r : Fin 256) (k : Fin 128) :
    X1 m c t (ix4 0 h r k) = m ((c : Thread nD τ).loc main_arg1) (ix4 (bOf t.val (lt256 t)) h (tok t.val r) k) := by
  unfold X1 iblk
  show V m c main_arg1 (((cfg0.win 1).blk t).view.emb _) = _
  rw [V_main_arg1]
  refine congrArg (m ((c : Thread nD τ).loc main_arg1)) ?_
  obtain ⟨e0, e1, e2, e3⟩ := index1 t
  funext a
  apply Fin.ext
  match a with
  | ⟨0, _⟩ => show win0_1.index t 0 * 1 + 1 * 0 = t.val / 128; omega
  | ⟨1, _⟩ => show win0_1.index t 1 * 32 + 1 * h.val = h.val; omega
  | ⟨2, _⟩ => show win0_1.index t 2 * 256 + 1 * r.val = 256 * (t.val / 4 % 32) + r.val; omega
  | ⟨3, _⟩ => show win0_1.index t 3 * 128 + 1 * k.val = k.val; omega

theorem X2_at (t : Fin cfg0.N) (r : Fin 256) (k : Fin 2048) :
    X2 m c t (ix3 0 r k) = m ((c : Thread nD τ).loc main_arg2) (ix3 (bOf t.val (lt256 t)) (tok t.val r) (cz ⟨k.val, by omega⟩)) := by
  unfold X2 iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 128; omega
  | ⟨1, _⟩ => show win0_2.index t 1 * 256 + 1 * r.val = 256 * (t.val / 4 % 32) + r.val; omega
  | ⟨2, _⟩ => show win0_2.index t 2 * 2048 + 1 * k.val = 6144 + k.val; omega

theorem X3_at (t : Fin cfg0.N) (r : Fin 256) (k : Fin 2048) :
    X3 m c t (ix3 0 r k) = m ((c : Thread nD τ).loc main_arg2) (ix3 (bOf t.val (lt256 t)) (tok t.val r) (cz ⟨2048 + k.val, by omega⟩)) := by
  unfold X3 iblk
  show V m c main_arg2 (((cfg0.win 3).blk t).view.emb _) = _
  rw [V_main_arg2]
  refine congrArg (m ((c : Thread nD τ).loc main_arg2)) ?_
  obtain ⟨e0, e1, e2⟩ := index3 t
  funext a
  apply Fin.ext
  match a with
  | ⟨0, _⟩ => show win0_3.index t 0 * 1 + 1 * 0 = t.val / 128; omega
  | ⟨1, _⟩ => show win0_3.index t 1 * 256 + 1 * r.val = 256 * (t.val / 4 % 32) + r.val; omega
  | ⟨2, _⟩ => show win0_3.index t 2 * 2048 + 1 * k.val = 6144 + (2048 + k.val); omega

theorem X4_at (t : Fin cfg0.N) (k : Fin 128) : X4 m c t (ix2 0 k) = m ((c : Thread nD τ).loc main_arg3) (ix1 k) := by
  unfold X4 iblk
  show V m c main_v1 (((cfg0.win 4).blk t).view.emb _) = _
  refine Eq.trans (congrArg (V m c main_v1) ?_) (V_v1_at m c k)
  obtain ⟨e0, e1⟩ := index4 t
  funext a
  apply Fin.ext
  match a with
  | ⟨0, _⟩ => show win0_4.index t 0 * 1 + 1 * 0 = 0; omega
  | ⟨1, _⟩ => show win0_4.index t 1 * 128 + 1 * k.val = k.val; omega

theorem X5_at (t : Fin cfg0.N) (r : Fin 256) (l : Fin 512) :
    X5 m c t (ix3 0 r l) = m ((c : Thread nD τ).loc main_arg4) (ix3 (bOf t.val (lt256 t)) (tok t.val r) (col t.val l)) := by
  unfold X5 iblk
  show V m c main_arg4 (((cfg0.win 5).blk t).view.emb _) = _
  rw [V_main_arg4]
  refine congrArg (m ((c : Thread nD τ).loc main_arg4)) ?_
  obtain ⟨e0, e1, e2⟩ := index5 t
  funext a
  apply Fin.ext
  match a with
  | ⟨0, _⟩ => show win0_5.index t 0 * 1 + 1 * 0 = t.val / 128; omega
  | ⟨1, _⟩ => show win0_5.index t 1 * 256 + 1 * r.val = 256 * (t.val / 4 % 32) + r.val; omega
  | ⟨2, _⟩ => show win0_5.index t 2 * 512 + 1 * l.val = 512 * (t.val % 4) + l.val; omega

theorem X6_at (t : Fin cfg0.N) (r : Fin 256) (l : Fin 512) :
    X6 m c t (ix3 0 r l) = m ((c : Thread nD τ).loc main_arg2) (ix3 (bOf t.val (lt256 t)) (tok t.val r) (ca (col t.val l))) := by
  unfold X6 iblk
  show V m c main_arg2 (((cfg0.win 6).blk t).view.emb _) = _
  rw [V_main_arg2]
  refine congrArg (m ((c : Thread nD τ).loc main_arg2)) ?_
  obtain ⟨e0, e1, e2⟩ := index6 t
  funext a
  apply Fin.ext
  match a with
  | ⟨0, _⟩ => show win0_6.index t 0 * 1 + 1 * 0 = t.val / 128; omega
  | ⟨1, _⟩ => show win0_6.index t 1 * 256 + 1 * r.val = 256 * (t.val / 4 % 32) + r.val; omega
  | ⟨2, _⟩ => show win0_6.index t 2 * 512 + 1 * l.val = 10240 + (512 * (t.val % 4) + l.val); omega

theorem X7_at (t : Fin cfg0.N) (r : Fin 256) (l : Fin 512) :
    X7 m c t (ix3 0 r l) = m ((c : Thread nD τ).loc main_arg2) (ix3 (bOf t.val (lt256 t)) (tok t.val r) (cb (col t.val l))) := by
  unfold X7 iblk
  show V m c main_arg2 (((cfg0.win 7).blk t).view.emb _) = _
  rw [V_main_arg2]
  refine congrArg (m ((c : Thread nD τ).loc main_arg2)) ?_
  obtain ⟨e0, e1, e2⟩ := index7 t
  funext a
  apply Fin.ext
  match a with
  | ⟨0, _⟩ => show win0_7.index t 0 * 1 + 1 * 0 = t.val / 128; omega
  | ⟨1, _⟩ => show win0_7.index t 1 * 256 + 1 * r.val = 256 * (t.val / 4 % 32) + r.val; omega
  | ⟨2, _⟩ => show win0_7.index t 2 * 512 + 1 * l.val = 12288 + (512 * (t.val % 4) + l.val); omega

theorem X8_at (t : Fin cfg0.N) (k : Fin 4096) (l : Fin 512) :
    X8 m c t (ix2 k l) = m ((c : Thread nD τ).loc main_arg5) (ix2 k (col t.val l)) := by
  unfold X8 iblk
  show V m c main_v0 (((cfg0.win 8).blk t).view.emb _) = _
  rw [V_v0]
  refine congrArg (m ((c : Thread nD τ).loc main_arg5)) ?_
  obtain ⟨e0, e1⟩ := index8 t
  funext a
  apply Fin.ext
  match a with
  | ⟨0, _⟩ => show win0_8.index t 0 * 4096 + 1 * k.val = k.val; omega
  | ⟨1, _⟩ => show win0_8.index t 1 * 512 + 1 * l.val = 512 * (t.val % 4) + l.val; omega

/-- The two directions, the row-wise streams, the heads' weight, the other branch and the weights, as entries. -/
def eO (b : Fin 2) (h : Fin 32) (n : Fin 8192) (j : Fin 128) : EReal := m ((c : Thread nD τ).loc main_arg0) (ix4 b h n j)
def eP (b : Fin 2) (h : Fin 32) (n : Fin 8192) (j : Fin 128) : EReal := m ((c : Thread nD τ).loc main_arg1) (ix4 b h n j)
def eR (b : Fin 2) (n : Fin 8192) (k : Fin 14336) : EReal := m ((c : Thread nD τ).loc main_arg2) (ix3 b n k)
def eN (d : Fin 128) : EReal := m ((c : Thread nD τ).loc main_arg3) (ix1 d)
def eA (b : Fin 2) (n : Fin 8192) (q : Fin 2048) : EReal := m ((c : Thread nD τ).loc main_arg4) (ix3 b n q)
def eW (k : Fin 4096) (q : Fin 2048) : EReal := m ((c : Thread nD τ).loc main_arg5) (ix2 k q)

/-- A normed and gated entry. -/
def hx (b : Fin 2) (n : Fin 8192) (k : Fin 4096) : EReal :=
  gated (fun j => eO m c b (hd k) n j + eP m c b (hd k) n j) (eN m c (dm k)) (eR m c b n (cz k)) (dm k)

theorem zB_at (t : Fin cfg0.N) (r : Fin 256) (k : Fin 4096) : zB m c t r k = eR m c (bOf t.val (lt256 t)) (tok t.val r) (cz k) := by
  unfold zB
  by_cases h : k.val < 2048
  · rw [dif_pos h]
    exact X2_at m c t r ⟨k.val, h⟩
  · rw [dif_neg h]
    refine (X3_at m c t r ⟨k.val - 2048, by omega⟩).trans ?_
    have e : (⟨2048 + (k.val - 2048), by omega⟩ : Fin 4096) = k := Fin.ext (by show 2048 + (k.val - 2048) = k.val; omega)
    exact congrArg (fun i : Fin 4096 => eR m c (bOf t.val (lt256 t)) (tok t.val r) (cz i)) e

theorem rowB_at (t : Fin cfg0.N) (q : Fin 256) (k : Fin 4096) : rowB m c t q k = hx m c (bOf t.val (lt256 t)) (tok t.val q) k := by
  unfold rowB hx
  rw [zB_at, X4_at]
  simp only [X0_at, X1_at]
  rfl

/-- What the carried block holds after every point. -/
theorem h_at (q : Fin 256) (k : Fin 4096) : ∀ (n : ℕ) (h : n < cfg0.N),
    (outsAt0 m c n h).2 (ix2 q k) = hx m c (bOf n (lt256 ⟨n, h⟩)) (tok n q) k := by
  intro n
  induction n with
  | zero => exact fun h => (h_A m c ⟨0, h⟩ rfl q k).trans (rowB_at m c ⟨0, h⟩ q k)
  | succ n ih =>
    intro h
    by_cases h0 : (n + 1) % 4 = 0
    · exact (h_A m c ⟨n + 1, h⟩ h0 q k).trans (rowB_at m c ⟨n + 1, h⟩ q k)
    · rw [h_B m c ⟨n + 1, h⟩ h0]
      refine (ih (Nat.lt_of_succ_lt h)).trans ?_
      have e1 : bOf n (lt256 ⟨n, Nat.lt_of_succ_lt h⟩) = bOf (n + 1) (lt256 ⟨n + 1, h⟩) := Fin.ext (by show n / 128 = (n + 1) / 128; omega)
      have e2 : tok n q = tok (n + 1) q := Fin.ext (by show 256 * (n / 4 % 32) + q.val = 256 * ((n + 1) / 4 % 32) + q.val; omega)
      rw [e1, e2]

/-- An entry of the result. -/
def val (b : Fin 2) (n : Fin 8192) (q : Fin 2048) : EReal :=
  merge (eR m c b n (ca q)) (eR m c b n (cb q)) (eA m c b n q) (∑ k : Fin 4096, hx m c b n k * eW m c k q)

theorem out_at (t : Fin cfg0.N) (r : Fin 256) (l : Fin 512) :
    (outsAt0 m c t.val t.isLt).1 (ix3 0 r l) = val m c (bOf t.val (lt256 t)) (tok t.val r) (col t.val l) := by
  rw [o_at, X5_at, X6_at, X7_at]
  simp only [h_at, X8_at]
  rfl

/-- The result of the call at an index. -/
theorem G_at (b : Fin 2) (n : Fin 8192) (q : Fin 2048) : Value.G9 m c (ix3 b n q) = val m c b n q := by
  have hN : cfg0.N = 256 := N_0
  have hp : Value.pt9Of (ix3 b n q) = 128 * b.val + 4 * (n.val / 256) + q.val / 512 := by
    show 128 * (b.val / 1 - 0) + 4 * (n.val / 256 - 0) + 1 * (q.val / 512 - 0) = _
    omega
  have h : Value.pt9Of (ix3 b n q) < cfg0.N := by rw [hp, hN]; omega
  unfold Value.G9
  rw [dif_pos h, ← Value.outsAt0_sweep m c _ h]
  have el : Value.loc9Of (ix3 b n q) = ix3 0 (⟨n.val % 256, by omega⟩ : Fin 256) (⟨q.val % 512, by omega⟩ : Fin 512) := by
    funext a
    apply Fin.ext
    match a with
    | ⟨0, _⟩ => show b.val % 1 = 0; omega
    | ⟨1, _⟩ => rfl
    | ⟨2, _⟩ => rfl
  rw [el]
  refine (out_at m c ⟨_, h⟩ _ _).trans ?_
  have e1 : bOf (Value.pt9Of (ix3 b n q)) (lt256 ⟨_, h⟩) = b := Fin.ext (by show Value.pt9Of (ix3 b n q) / 128 = _; rw [hp]; omega)
  have e2 : tok (Value.pt9Of (ix3 b n q)) ⟨n.val % 256, by omega⟩ = n :=
    Fin.ext (by show 256 * (Value.pt9Of (ix3 b n q) / 4 % 32) + n.val % 256 = _; rw [hp]; omega)
  have e3 : col (Value.pt9Of (ix3 b n q)) ⟨q.val % 512, by omega⟩ = q :=
    Fin.ext (by show 512 * (Value.pt9Of (ix3 b n q) % 4) + q.val % 512 = _; rw [hp]; omega)
  rw [e1, e2, e3]

/-- The reference's result is the kernel's. -/
theorem R_at (a0 a1 : FVec Ideal Cert.Reference6Ideal.S2x32x8192x128 .f32) (a2 : FVec Ideal Cert.Reference6Ideal.S2x8192x14336 .bf16)
    (a3 : FVec Ideal Cert.Reference6Ideal.S128 .f32) (a4 : FVec Ideal Cert.Reference6Ideal.S2x8192x2048 .f32) (a5 : FVec Ideal Cert.Reference6Ideal.S4096x2048 .f32)
    (h0 : a0 = m ((c : Thread nD τ).loc main_arg0)) (h1 : a1 = m ((c : Thread nD τ).loc main_arg1))
    (h2 : a2 = m ((c : Thread nD τ).loc main_arg2)) (h3 : a3 = m ((c : Thread nD τ).loc main_arg3))
    (h4 : a4 = m ((c : Thread nD τ).loc main_arg4)) (h5 : a5 = m ((c : Thread nD τ).loc main_arg5)) :
    Value.G9 m c = rT a0 a1 a2 a3 a4 a5 := by
  subst h0 h1 h2 h3 h4 h5
  funext y
  rw [(ix3_eta (n0 := 2) (n1 := 8192) (n2 := 2048) y).symm]
  generalize (y 0 : Fin 2) = b
  generalize (y 1 : Fin 8192) = n
  generalize (y 2 : Fin 2048) = q
  exact (G_at m c b n q).trans (rT_at _ _ _ _ _ _ b n q).symm

end Cert.Bout
-- ==== Proof.Wout.lean ====
/- The output projection with its gate and residual: the kernel's array is the reference's. -/
module

public import proofs.«01_k».proof.Proof.Gen.Kernel7Ideal.Value
public import proofs.«01_k».proof.Proof.Gen.Reference7Ideal.Run
public import Idealize.ShloMosaic.Lib.StableHlo.Run
public import Idealize.ShloMosaic.Lib.Pipeline.ValueKit

@[expose] public section

set_option maxRecDepth 16384

noncomputable section

namespace Cert.Wout

open Idealize.ShloMosaic Idealize.ShloMosaic.TcCoe

section
open Cert.Kernel7Ideal Cert.Kernel7Ideal.Gen

theorem pay1_at (x : Vec Ideal S1x1024x512 .f32) (g : Vec Ideal S1x1x512 .f32) (a : Vec Ideal S1x1024x2048 .bf16) (w : Vec Ideal S2048x512 .bf16)
    (r : Fin 1024) (l : Fin 512) :
    k0_pay1 x g a w (ix3 0 r l) = x (ix3 0 r l) + g (ix3 0 0 l) * ∑ k : Fin 2048, a (ix3 0 r k) * w (ix2 k l) := by
  unfold k0_pay1
  pointwise

theorem lt64 (t : Fin cfg0.N) : t.val < 64 := Nat.lt_of_lt_of_eq t.isLt N_0

/-- The sequence of the point numbered `n`. -/
def bOf (n : ℕ) (h : n < 64) : Fin 2 := ⟨n / 32, by omega⟩
/-- The token that is row `r` of the point numbered `n`. -/
def tok (n : ℕ) (r : Fin 1024) : Fin 8192 := ⟨1024 * (n / 4 % 8) + r.val, by omega⟩
/-- The column that is column `l` of the point numbered `n`. -/
def col (n : ℕ) (l : Fin 512) : Fin 2048 := ⟨512 * (n % 4) + l.val, by omega⟩

theorem index0 : ∀ t : Fin cfg0.N, win0_0.index t 0 = t.val / 32 ∧ win0_0.index t 1 = t.val / 4 % 8 ∧ win0_0.index t 2 = 0 := by decide +kernel
theorem index1 : ∀ t : Fin cfg0.N, win0_1.index t 0 = t.val / 32 ∧ win0_1.index t 1 = t.val / 4 % 8 ∧ win0_1.index t 2 = t.val % 4 := by decide +kernel
theorem index2 : ∀ t : Fin cfg0.N, win0_2.index t 0 = t.val / 32 ∧ win0_2.index t 1 = 0 ∧ win0_2.index t 2 = t.val % 4 := by decide +kernel
theorem index3 : ∀ t : Fin cfg0.N, win0_3.index t 0 = 0 ∧ win0_3.index t 1 = t.val % 4 := by decide +kernel
theorem index4 : ∀ t : Fin cfg0.N, win0_4.index t 0 = t.val / 32 ∧ win0_4.index t 1 = t.val / 4 % 8 ∧ win0_4.index t 2 = t.val % 4 := by decide +kernel

variable (m : (ℓ : Loc nD τ sig) → Buf (Elt Ideal) ℓ) (c : Dev nD)

/-- A grid point's blocks of the arguments. -/
def X0 (t : Fin cfg0.N) : Vec Ideal S1x1024x2048 .bf16 := iblk m c 0 t
def X1 (t : Fin cfg0.N) : Vec Ideal S1x1024x512 .f32 := iblk m c 1 t
def X2 (t : Fin cfg0.N) : Vec Ideal S1x1x512 .f32 := iblk m c 2 t
def X3 (t : Fin cfg0.N) : Vec Ideal S2048x512 .bf16 := iblk m c 3 t

theorem V_v0 : V m c main_v0 = truncf (F := Ideal) .bf16 (m ((c : Thread nD τ).loc main_arg3)) bitsLt_bf16_f32 := by
  show StableHlo.after _ _ (Proc.devRef .tc main_v0) = _
  simp only [hostOps0, List.flatten_cons, List.flatten_nil, List.append_nil, List.cons_append,
    List.nil_append]
  after_results_simp
  try rfl

theorem X0_at (t : Fin cfg0.N) (r : Fin 1024) (k : Fin 2048) :
    X0 m c t (ix3 0 r k) = m ((c : Thread nD τ).loc main_arg0) (ix3 (bOf t.val (lt64 t)) (tok t.val r) k) := by
  unfold X0 iblk
  show V m c main_arg0 (((cfg0.win 0).blk t).view.emb _) = _
  rw [V_main_arg0]
  refine congrArg (m ((c : Thread nD τ).loc main_arg0)) ?_
  obtain ⟨e0, e1, e2⟩ := index0 t
  funext a
  apply Fin.ext
  match a with
  | ⟨0, _⟩ => show win0_0.index t 0 * 1 + 1 * 0 = t.val / 32; omega
  | ⟨1, _⟩ => show win0_0.index t 1 * 1024 + 1 * r.val = 1024 * (t.val / 4 % 8) + r.val; omega
  | ⟨2, _⟩ => show win0_0.index t 2 * 2048 + 1 * k.val = k.val; omega

theorem X1_at (t : Fin cfg0.N) (r : Fin 1024) (l : Fin 512) :
    X1 m c t (ix3 0 r l) = m ((c : Thread nD τ).loc main_arg1) (ix3 (bOf t.val (lt64 t)) (tok t.val r) (col t.val l)) := by
  unfold X1 iblk
  show V m c main_arg1 (((cfg0.win 1).blk t).view.emb _) = _
  rw [V_main_arg1]
  refine congrArg (m ((c : Thread nD τ).loc main_arg1)) ?_
  obtain ⟨e0, e1, e2⟩ := index1 t
  funext a
  apply Fin.ext
  match a with
  | ⟨0, _⟩ => show win0_1.index t 0 * 1 + 1 * 0 = t.val / 32; omega
  | ⟨1, _⟩ => show win0_1.index t 1 * 1024 + 1 * r.val = 1024 * (t.val / 4 % 8) + r.val; omega
  | ⟨2, _⟩ => show win0_1.index t 2 * 512 + 1 * l.val = 512 * (t.val % 4) + l.val; omega

theorem X2_at (t : Fin cfg0.N) (l : Fin 512) :
    X2 m c t (ix3 0 0 l) = m ((c : Thread nD τ).loc main_arg2) (ix3 (bOf t.val (lt64 t)) 0 (col t.val l)) := by
  unfold X2 iblk
  show V m c main_arg2 (((cfg0.win 2).blk t).view.emb _) = _
  rw [V_main_arg2]
  refine congrArg (m ((c : Thread nD τ).loc main_arg2)) ?_
  obtain ⟨e0, e1, e2⟩ := index2 t
  funext a
  apply Fin.ext
  match a with
  | ⟨0, _⟩ => show win0_2.index t 0 * 1 + 1 * 0 = t.val / 32; omega
  | ⟨1, _⟩ => show win0_2.index t 1 * 1 + 1 * 0 = 0; omega
  | ⟨2, _⟩ => show win0_2.index t 2 * 512 + 1 * l.val = 512 * (t.val % 4) + l.val; omega

theorem X3_at (t : Fin cfg0.N) (k : Fin 2048) (l : Fin 512) :
    X3 m c t (ix2 k l) = m ((c : Thread nD τ).loc main_arg3) (ix2 k (col t.val l)) := by
  unfold X3 iblk
  show V m c main_v0 (((cfg0.win 3).blk t).view.emb _) = _
  rw [V_v0]
  refine congrArg (m ((c : Thread nD τ).loc main_arg3)) ?_
  obtain ⟨e0, e1⟩ := index3 t
  funext a
  apply Fin.ext
  match a with
  | ⟨0, _⟩ => show win0_3.index t 0 * 2048 + 1 * k.val = k.val; omega
  | ⟨1, _⟩ => show win0_3.index t 1 * 512 + 1 * l.val = 512 * (t.val % 4) + l.val; omega

theorem emb4 (t : Fin cfg0.N) (r : Fin 1024) (l : Fin 512) :
    ((cfg0.win 4).blk t).view.emb (ix3 0 r l) = ix3 (bOf t.val (lt64 t)) (tok t.val r) (col t.val l) := by
  obtain ⟨e0, e1, e2⟩ := index4 t
  funext a
  apply Fin.ext
  match a with
  | ⟨0, _⟩ => show win0_4.index t 0 * 1 + 1 * 0 = t.val / 32; omega
  | ⟨1, _⟩ => show win0_4.index t 1 * 1024 + 1 * r.val = 1024 * (t.val / 4 % 8) + r.val; omega
  | ⟨2, _⟩ => show win0_4.index t 2 * 512 + 1 * l.val = 512 * (t.val % 4) + l.val; omega

/-- The stream, the gates, the inner rows and the weights as entries. -/
def eX (b : Fin 2) (n : Fin 8192) (q : Fin 2048) : EReal := m ((c : Thread nD τ).loc main_arg1) (ix3 b n q)
def eG (b : Fin 2) (q : Fin 2048) : EReal := m ((c : Thread nD τ).loc main_arg2) (ix3 b 0 q)
def eA (b : Fin 2) (n : Fin 8192) (k : Fin 2048) : EReal := m ((c : Thread nD τ).loc main_arg0) (ix3 b n k)
def eW (k q : Fin 2048) : EReal := m ((c : Thread nD τ).loc main_arg3) (ix2 k q)

/-- An entry of the result. -/
def val (b : Fin 2) (n : Fin 8192) (q : Fin 2048) : EReal :=
  eX m c b n q + eG m c b q * ∑ k : Fin 2048, eA m c b n k * eW m c k q

/-- The result of the call. -/
def out : Buf (Elt Ideal) ((c : Thread nD τ).loc main_v1) :=
  fun y : S2x8192x2048.Idx => val m c (y 0) (y 1) (y 2)

theorem out0_at (t : Fin cfg0.N) (r : Fin 1024) (l : Fin 512) :
    out0_4 (X0 m c t) (X1 m c t) (X2 m c t) (X3 m c t) (ix3 0 r l) = val m c (bOf t.val (lt64 t)) (tok t.val r) (col t.val l) := by
  have h : out0_4 (X0 m c t) (X1 m c t) (X2 m c t) (X3 m c t) = k0_pay1 (X1 m c t) (X2 m c t) (X0 m c t) (X3 m c t) := by
    frame_out
  rw [h, pay1_at]
  simp only [X0_at, X1_at, X2_at, X3_at]
  rfl

theorem flushed4_eq (t : Fin cfg0.N) : (dats m 0 c).flushed 4 t = ((cfg0.win 4).blk t).view.read (Elt Ideal) (out m c) := by
  rw [Value.flushed4]
  funext j
  show out0_4 (X0 m c t) (X1 m c t) (X2 m c t) (X3 m c t) j = out m c (((cfg0.win 4).blk t).view.emb j)
  obtain ⟨u, r, l, rfl⟩ : ∃ (u : Fin 1) (r : Fin 1024) (l : Fin 512), j = ix3 u r l := ⟨j 0, j 1, j 2, (ix3_eta (n0 := 1) (n1 := 1024) (n2 := 512) j).symm⟩
  obtain rfl : u = 0 := Subsingleton.elim _ _
  rw [emb4]
  exact out0_at m c t r l

theorem final4 : (dats m 0 c).arrAt 4 cfg0.N = out m c :=
  (dats m 0 c).arrAt_eq_of_cover 4 (out m c) (fun t _ => flushed4_eq m c t) fun y => by
    obtain ⟨b, n, q, rfl⟩ : ∃ (b : Fin 2) (n : Fin 8192) (q : Fin 2048), y = ix3 b n q := ⟨y 0, y 1, y 2, (ix3_eta (n0 := 2) (n1 := 8192) (n2 := 2048) y).symm⟩
    have hN : cfg0.N = 64 := N_0
    have h : 32 * b.val + 4 * (n.val / 1024) + q.val / 512 < cfg0.N := by rw [hN]; omega
    refine ⟨⟨_, h⟩, flush0_4 _, ?_⟩
    have hm := ((cfg0.win 4).blk ⟨_, h⟩).view.emb_mem_set (ix3 0 (⟨n.val % 1024, by omega⟩ : Fin 1024) (⟨q.val % 512, by omega⟩ : Fin 512))
    rw [emb4] at hm
    have e1 : bOf (32 * b.val + 4 * (n.val / 1024) + q.val / 512) (lt64 ⟨_, h⟩) = b :=
      Fin.ext (by show (32 * b.val + 4 * (n.val / 1024) + q.val / 512) / 32 = b.val; omega)
    have e2 : tok (32 * b.val + 4 * (n.val / 1024) + q.val / 512) ⟨n.val % 1024, by omega⟩ = n :=
      Fin.ext (by show 1024 * ((32 * b.val + 4 * (n.val / 1024) + q.val / 512) / 4 % 8) + n.val % 1024 = n.val; omega)
    have e3 : col (32 * b.val + 4 * (n.val / 1024) + q.val / 512) ⟨q.val % 512, by omega⟩ = q :=
      Fin.ext (by show 512 * ((32 * b.val + 4 * (n.val / 1024) + q.val / 512) % 4) + q.val % 512 = q.val; omega)
    simp only [e1, e2, e3] at hm
    exact hm
end

section
open Cert.Reference7Ideal Cert.Reference7Ideal.Gen

/-- The reference's result, of its arguments. -/
def rT (a : FVec Ideal S2x8192x2048 .bf16) (x : FVec Ideal S2x8192x2048 .f32) (g : FVec Ideal S2x1x2048 .f32) (w : FVec Ideal S2048x2048 .f32) : FVec Ideal S2x8192x2048 .f32 :=
  addf x (mulf (broadcastInDim S2x8192x2048 ![0, 1, 2] bcast_S2x1x2048_S2x8192x2048_0_1_2 g) (Host.dotGeneral dot_S2x8192x2048_S2048x2048_S2x8192x2048_2_0_01_1_n_n none (extf .f32 a bitsLt_bf16_f32) w))

theorem rT_at (a : FVec Ideal S2x8192x2048 .bf16) (x : FVec Ideal S2x8192x2048 .f32) (g : FVec Ideal S2x1x2048 .f32) (w : FVec Ideal S2048x2048 .f32)
    (b : Fin 2) (n : Fin 8192) (q : Fin 2048) :
    rT a x g w (ix3 b n q) = x (ix3 b n q) + g (ix3 b 0 q) * ∑ k : Fin 2048, a (ix3 b n k) * w (ix2 k q) := by
  unfold rT
  pointwise
end

section
open Cert.Kernel7Ideal Cert.Kernel7Ideal.Gen
variable (m : (ℓ : Loc nD τ sig) → Buf (Elt Ideal) ℓ) (c : Dev nD)

/-- The reference's result is the kernel's. -/
theorem R_at (a0 : FVec Ideal S2x8192x2048 .bf16) (a1 : FVec Ideal S2x8192x2048 .f32) (a2 : FVec Ideal S2x1x2048 .f32) (a3 : FVec Ideal S2048x2048 .f32)
    (h0 : a0 = m ((c : Thread nD τ).loc main_arg0)) (h1 : a1 = m ((c : Thread nD τ).loc main_arg1))
    (h2 : a2 = m ((c : Thread nD τ).loc main_arg2)) (h3 : a3 = m ((c : Thread nD τ).loc main_arg3)) :
    out m c = rT a0 a1 a2 a3 := by
  subst h0 h1 h2 h3
  funext y
  rw [(ix3_eta (n0 := 2) (n1 := 8192) (n2 := 2048) y).symm]
  exact (rT_at _ _ _ _ (y 0) (y 1) (y 2)).symm
end

end Cert.Wout
-- ==== Proof.BRefArgs.lean ====
/- The backward reference's values before its loop are the forward reference's: the same operations of the same
   arguments. -/
module

public import proofs.«01_k».proof.Proof.RefArgs
public import proofs.«01_k».proof.Proof.Gen.Reference8Ideal.Step

@[expose] public section

set_option maxRecDepth 16384
set_option maxHeartbeats 4000000

noncomputable section

namespace Cert.LruRefB

open Idealize.ShloMosaic Idealize.ShloMosaic.TcCoe Cert.Reference8Ideal Cert.Reference8Ideal.Gen Cert.Reference8Ideal.Step
open Cert.LruRef (facR inpR)

variable (a0 : Vec Ideal S2x8192x14336 .bf16) (a1 : Vec Ideal S4x2816 .f32) (a2 : Vec Ideal S2816 .f32) (a3 : Vec Ideal S16x176x352 .f32) (a4 : Vec Ideal S16x352 .f32) (a5 : Vec Ideal S2816 .f32)

theorem v65_at (b : Fin 2) (n : Fin 8192) (l : Fin 2816) :
    A_main_v65 (F := Ideal) a0 a1 a2 a3 a4 a5 (ix3 b n l) = facR a0 a1 a2 a3 a4 a5 b l n.val :=
  Cert.LruRef.v65_at a0 a1 a2 a3 a4 a5 b n l

theorem v72_at (b : Fin 2) (n : Fin 8192) (l : Fin 2816) :
    A_main_v72 (F := Ideal) a0 a1 a2 a3 a4 a5 (ix3 b n l) = inpR a0 a1 a2 a3 a4 a5 b l n.val :=
  Cert.LruRef.v72_at a0 a1 a2 a3 a4 a5 b n l

end Cert.LruRefB
-- ==== Proof.BRefSteps.lean ====
/- The backward recurrence. The reference's loop as a sequence of states: each operation of one trip, read off the
   state the trip starts from, is the field of the stated step, so the run's results are the fields of the last state
   of any sequence that starts at the stated initial state and goes on by the stated step. -/
module

public import proofs.«01_k».proof.Proof.Gen.Reference8Ideal.Run
public import proofs.«01_k».proof.Proof.Gen.Reference8Ideal.Step

@[expose] public section

noncomputable section

namespace Cert.RefStepsB

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v74_4) = s.main_v74_4
  f_5 : V0 (Proc.devRef .tc main_v74_5) = s.main_v74_5
  f_0 : V0 (Proc.devRef .tc main_v74_0) = s.main_v74_0
  f_1 : V0 (Proc.devRef .tc main_v74_1) = s.main_v74_1
  n_2 : V0 (Proc.devRef .tc main_v74_2) = constantI S_ 32 (BitVec.ofNat 32 j)
  n_3 : V0 (Proc.devRef .tc main_v74_3) = constantI S_ 32 (BitVec.ofNat 32 j)

variable {V0 s j}

/-! One trip's step of the carried values is `step`, field by field; a counter steps to the next number. -/

set_option maxRecDepth 8192 in
theorem new_state (h : Holds V0 s j) : res_main_while0b_v84 V0 = (step j s).main_v74_4 := by
  unfold res_main_while0b_v84 res_main_while0b_v80
  simp only [h.f_0, h.f_1, h.f_4, h.n_3]
  rfl
theorem step_4 (h : Holds V0 s j) : step_main_v74_4 V0 = (step j s).main_v74_4 := new_state h
set_option maxRecDepth 8192 in
theorem step_5 (h : Holds V0 s j) : step_main_v74_5 V0 = (step j s).main_v74_5 := by
  unfold step_main_v74_5
  simp only [new_state h, h.f_5]
  unfold res_main_while0b_v80
  simp only [h.n_3]
  rfl
theorem step_2 (h : Holds V0 s j) : step_main_v74_2 V0 = constantI S_ 32 (BitVec.ofNat 32 (j + 1)) := by
  unfold step_main_v74_2
  rw [h.n_2]
  funext i
  show BitVec.ofNat 32 j + 1#32 = BitVec.ofNat 32 (j + 1)
  simp only [BitVec.ofNat_add]
theorem step_3 (h : Holds V0 s j) : step_main_v74_3 V0 = constantI S_ 32 (BitVec.ofNat 32 (j + 1)) := by
  unfold step_main_v74_3
  rw [h.n_3]
  funext i
  show BitVec.ofNat 32 j + 1#32 = BitVec.ofNat 32 (j + 1)
  simp only [BitVec.ofNat_add]

set_option maxRecDepth 8192 in
theorem out_main_v78_holds (h : Holds V0 s j) : out_main_v78 V0 = Cert.Reference8Ideal.Step.R_main_v78 s := by
  unfold out_main_v78 Cert.Reference8Ideal.Step.R_main_v78
  rw [h.f_4]
  try rfl

/-- One trip keeps the valuation holding: `step` of the state, the same set-up values, the next number. -/
theorem holds_step (h : Holds V0 s j) : Holds (STEP V0) (step j s) (j + 1) where
  f_4 := (STEP_main_v74_4 V0).trans (step_4 h)
  f_5 := (STEP_main_v74_5 V0).trans (step_5 h)
  n_2 := (STEP_main_v74_2 V0).trans (step_2 h)
  n_3 := (STEP_main_v74_3 V0).trans (step_3 h)
  f_0 := (STEP_main_v74_0 V0).trans h.f_0
  f_1 := (STEP_main_v74_1 V0).trans h.f_1

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference8Ideal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v74_5) = (it c 8192).main_v74_5
      ∧ r.2.mem ((c.tc : Thread nD τ).loc main_v78) = Cert.Reference8Ideal.Step.R_main_v78 (it c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 8192
    ⟨(h c).1.trans hk.f_5, (h c).2.1.trans (out_main_v78_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.RefStepsB

end
-- ==== Proof.BRefLoop.lean ====
/- The backward reference's loop: the state after each trip, at an index. Trip `j` reads and writes row `8191 - j`. -/
module

public import proofs.«01_k».proof.Proof.RefLoop
public import proofs.«01_k».proof.Proof.BRefArgs
public import proofs.«01_k».proof.Proof.BRefSteps

@[expose] public section

set_option maxRecDepth 16384
set_option maxHeartbeats 4000000

noncomputable section

namespace Cert.LruRefB

open Idealize.ShloMosaic Idealize.ShloMosaic.TcCoe Cert.Reference8Ideal Cert.Reference8Ideal.Gen Cert.Reference8Ideal.Step
open Cert.Lru (zero_word rec)
open Cert.LruRef (facR inpR st ch row_at put_at)

variable (j : ℕ) (hj : j < 8192) (s : State Ideal)

include hj in
/-- The row of a trip, as a word. -/
theorem sub_word : (8191#32 - BitVec.ofNat 32 j : BitVec 32) = BitVec.ofNat 32 (8191 - j) := by
  apply BitVec.eq_of_toNat_eq
  rw [BitVec.toNat_sub, BitVec.toNat_ofNat, BitVec.toNat_ofNat, BitVec.toNat_ofNat]
  omega

include hj in
theorem row_word : b3 j s = constantI S_ 32 (BitVec.ofNat 32 (8191 - j)) := by
  unfold b3 b2
  funext i
  exact sub_word j hj

include hj in
theorem start_a : (fun k => (((![(b10 j s), (b9 j s), (b11 j s)] : Fin 3 → (⟨S_, .i32⟩ : BufTy).Contents (Elt Ideal))) k (Shape.Idx.first h_S_)).toInt) = st (8191 - j) := by
  unfold b9 b8 b7 b6 b5 b4
  rw [row_word j hj]
  funext k
  fin_cases k
  · show (0#32 : BitVec 32).toInt = 0; decide
  · exact Cert.LruRef.word_j (8191 - j) (by omega)
  · show (0#32 : BitVec 32).toInt = 0; decide

include hj in
theorem start_b : (fun k => (((![(b21 j s), (b20 j s), (b22 j s)] : Fin 3 → (⟨S_, .i32⟩ : BufTy).Contents (Elt Ideal))) k (Shape.Idx.first h_S_)).toInt) = st (8191 - j) := by
  unfold b20 b19 b18 b17 b16 b15
  rw [row_word j hj]
  funext k
  fin_cases k
  · show (0#32 : BitVec 32).toInt = 0; decide
  · exact Cert.LruRef.word_j (8191 - j) (by omega)
  · show (0#32 : BitVec 32).toInt = 0; decide

include hj in
theorem start_c : (fun k => (((![(b39 j s), (b38 j s), (b40 j s)] : Fin 3 → (⟨S_, .i32⟩ : BufTy).Contents (Elt Ideal))) k (Shape.Idx.first h_S_)).toInt) = st (8191 - j) := by
  unfold b38 b37 b36 b35 b34 b33
  rw [row_word j hj]
  funext k
  fin_cases k
  · show (0#32 : BitVec 32).toInt = 0; decide
  · exact Cert.LruRef.word_j (8191 - j) (by omega)
  · show (0#32 : BitVec 32).toInt = 0; decide

include hj in
theorem next_at (b : Fin 2) (l : Fin 2816) :
    b25 j s (ix2 b l) = ((s.main_v74_0 (ix3 b ⟨8191 - j, by omega⟩ l) : EReal) * s.main_v74_4 (ix2 b l) + s.main_v74_1 (ix3 b ⟨8191 - j, by omega⟩ l) : EReal) := by
  unfold b25 b14 b13 b24 b12 b23
  rw [start_a j hj, start_b j hj]
  have e1 : Host.dynamicSlice S2x1x2816 s.main_v74_0 (st (8191 - j)) sliceFits_S2x8192x2816_S2x1x2816 (ix3 b 0 l) = _ :=
    row_at (8191 - j) (by omega) s.main_v74_0 b l
  have e2 : Host.dynamicSlice S2x1x2816 s.main_v74_1 (st (8191 - j)) sliceFits_S2x8192x2816_S2x1x2816 (ix3 b 0 l) = _ :=
    row_at (8191 - j) (by omega) s.main_v74_1 b l
  generalize Host.dynamicSlice S2x1x2816 s.main_v74_0 (st (8191 - j)) sliceFits_S2x8192x2816_S2x1x2816 = f at e1 ⊢
  generalize Host.dynamicSlice S2x1x2816 s.main_v74_1 (st (8191 - j)) sliceFits_S2x8192x2816_S2x1x2816 = f2 at e2 ⊢
  pointwise
  rw [e1, e2]

/-- The row of states written in a trip. -/
theorem row_put (b : Fin 2) (q : Fin 3072) :
    b32 j s (ix3 b 0 q) = if h : q.val % 384 < 352 then b25 j s (ix2 b (ch q h)) else (0 : EReal) := by
  unfold b32 b31 b30 b29 b28 b27 b26
  generalize b25 j s = f
  pointwise
  rw [zero_word]
  by_cases h : q.val % 384 < 352
  · rw [dif_pos h, dif_pos (by omega)]
    congr 2; apply Fin.ext; unfold ch; simp only; omega
  · rw [dif_neg h, dif_neg (by omega)]

include hj in
theorem put_row (b : Fin 2) (t : Fin 8192) (q : Fin 3072) : b41 j s (ix3 b t q) = if t.val = 8191 - j then b32 j s (ix3 b 0 q) else s.main_v74_5 (ix3 b t q) := by
  unfold b41
  rw [start_c j hj]
  exact put_at (8191 - j) (by omega) _ _ b t q

theorem last_at (b : Fin 2) (q : Fin 3072) :
    R_main_v78 s (ix3 b 0 q) = if h : q.val % 384 < 352 then s.main_v74_4 (ix2 b (ch q h)) else (0 : EReal) := by
  unfold R_main_v78
  generalize s.main_v74_4 = f
  pointwise
  rw [zero_word]
  by_cases h : q.val % 384 < 352
  · rw [dif_pos h, dif_pos (by omega)]
    congr 2; apply Fin.ext; unfold ch; simp only; omega
  · rw [dif_neg h, dif_neg (by omega)]

variable (m : (ℓ : Loc nD τ sig) → Buf (Elt Ideal) ℓ) (c : Dev nD)

/-- The states of the loop. -/
def states : ℕ → State Ideal
  | 0 => Cert.RefStepsB.initState m c
  | n + 1 => step n (states n)

/-- The arguments of the run. -/
def A0 : Vec Ideal S2x8192x14336 .bf16 := m ((c.tc : Thread nD τ).loc main_arg0)
def A1 : Vec Ideal S4x2816 .f32 := m ((c.tc : Thread nD τ).loc main_arg1)
def A2 : Vec Ideal S2816 .f32 := m ((c.tc : Thread nD τ).loc main_arg2)
def A3 : Vec Ideal S16x176x352 .f32 := m ((c.tc : Thread nD τ).loc main_arg3)
def A4 : Vec Ideal S16x352 .f32 := m ((c.tc : Thread nD τ).loc main_arg4)
def A5 : Vec Ideal S2816 .f32 := m ((c.tc : Thread nD τ).loc main_arg5)
def A6 : Vec Ideal S2x2816 .f32 := m ((c.tc : Thread nD τ).loc main_arg6)

/-- A channel's state after `n` steps from the sequence's end. -/
def recR (b : Fin 2) (l : Fin 2816) (n : ℕ) : EReal :=
  rec (fun k => facR (A0 m c) (A1 m c) (A2 m c) (A3 m c) (A4 m c) (A5 m c) b l (8191 - k))
    (fun k => inpR (A0 m c) (A1 m c) (A2 m c) (A3 m c) (A4 m c) (A5 m c) b l (8191 - k)) (A6 m c (ix2 b l)) n

theorem states_fac (n : ℕ) : (states m c n).main_v74_0 = A_main_v65 (F := Ideal) (A0 m c) (A1 m c) (A2 m c) (A3 m c) (A4 m c) (A5 m c) := by
  induction n with
  | zero => rfl
  | succ n ih => exact ih

theorem states_inp (n : ℕ) : (states m c n).main_v74_1 = A_main_v72 (F := Ideal) (A0 m c) (A1 m c) (A2 m c) (A3 m c) (A4 m c) (A5 m c) := by
  induction n with
  | zero => rfl
  | succ n ih => exact ih

theorem states_h (n : ℕ) (hn : n ≤ 8192) (b : Fin 2) (l : Fin 2816) : (states m c n).main_v74_4 (ix2 b l) = recR m c b l n := by
  induction n with
  | zero => rfl
  | succ n ih =>
    show (step n (states m c n)).main_v74_4 (ix2 b l) = _
    rw [step_main_v74_4, next_at n (by omega), ih (by omega), states_fac, states_inp, v65_at, v72_at]
    rfl

theorem states_y (n : ℕ) (hn : n ≤ 8192) (b : Fin 2) (t : Fin 8192) (ht : 8192 - n ≤ t.val) (q : Fin 3072) :
    (states m c n).main_v74_5 (ix3 b t q) = if h : q.val % 384 < 352 then recR m c b (ch q h) (8191 - t.val + 1) else (0 : EReal) := by
  induction n with
  | zero => omega
  | succ n ih =>
    show (step n (states m c n)).main_v74_5 (ix3 b t q) = _
    rw [step_main_v74_5, put_row n (by omega)]
    by_cases h : t.val = 8191 - n
    · have e : 8191 - t.val + 1 = n + 1 := by omega
      rw [if_pos h, row_put]
      by_cases h2 : q.val % 384 < 352
      · rw [dif_pos h2, dif_pos h2, e]
        exact states_h m c (n + 1) hn b _
      · rw [dif_neg h2, dif_neg h2]
    · rw [if_neg h]
      exact ih (by omega) (by omega)

theorem states_last (b : Fin 2) (q : Fin 3072) :
    R_main_v78 (states m c 8192) (ix3 b 0 q) = if h : q.val % 384 < 352 then recR m c b (ch q h) 8192 else (0 : EReal) := by
  rw [last_at]
  by_cases h2 : q.val % 384 < 352
  · rw [dif_pos h2, dif_pos h2]
    exact states_h m c 8192 le_rfl b _
  · rw [dif_neg h2, dif_neg h2]

end Cert.LruRefB
-- ==== Proof.BBlocks.lean ====
/- The backward recurrence. The blocks of the arguments a grid point reads, as parts of the argument arrays. -/
module

public import proofs.«01_k».proof.Proof.Gen.Kernel8Ideal.Value
public import Idealize.ShloMosaic.Lib.Pointwise

@[expose] public section

set_option maxRecDepth 16384
set_option maxHeartbeats 1000000

noncomputable section

namespace Cert.LruB

open Idealize.ShloMosaic Idealize.ShloMosaic.TcCoe Cert.Kernel8Ideal Cert.Kernel8Ideal.Gen

theorem lt256 (t : Fin cfg0.N) : t.val < 256 := Nat.lt_of_lt_of_eq t.isLt N_0

/-- The sequence a grid point works on. -/
def bOf (t : Fin cfg0.N) : Fin 2 := ⟨t.val / 128, by have := lt256 t; omega⟩
/-- The group of channels a grid point works on. -/
def gOf (t : Fin cfg0.N) : Fin 8 := ⟨t.val / 16 % 8, by omega⟩
/-- How many tiles of the sequence a grid point finds done. -/
def vOf (t : Fin cfg0.N) : ℕ := t.val % 16
/-- The tile of the sequence a grid point works on: the tiles go from the last to the first. -/
def tOf (t : Fin cfg0.N) : Fin 16 := ⟨15 - t.val % 16, by omega⟩
/-- Lane `l` of group `g`. -/
abbrev col (g : Fin 8) (l : Fin 384) : Fin 3072 := ⟨384 * g.val + l.val, by omega⟩

theorem coords2 : ∀ t : Fin cfg0.N, (grid0.coords t 2).val = t.val % 16 := by decide +kernel

theorem index0 : ∀ t : Fin cfg0.N, win0_0.index t 0 = t.val / 128 ∧ win0_0.index t 1 = 15 - t.val % 16 ∧ win0_0.index t 2 = t.val / 16 % 8 := by decide +kernel
theorem index1 : ∀ t : Fin cfg0.N, win0_1.index t 0 = t.val / 128 ∧ win0_1.index t 1 = (15 - t.val % 16) * 32 - 1 ∧ win0_1.index t 2 = t.val / 16 % 8 := by decide +kernel
theorem index2 : ∀ t : Fin cfg0.N, win0_2.index t 0 = t.val / 128 ∧ win0_2.index t 1 = min ((15 - t.val % 16 + 1) * 32) 511 ∧ win0_2.index t 2 = t.val / 16 % 8 := by decide +kernel
theorem index3 : ∀ t : Fin cfg0.N, win0_3.index t 0 = 0 ∧ win0_3.index t 1 = t.val / 16 % 8 := by decide +kernel
theorem index4 : ∀ t : Fin cfg0.N, win0_4.index t 0 = 0 ∧ win0_4.index t 1 = t.val / 16 % 8 := by decide +kernel
theorem index5 : ∀ t : Fin cfg0.N, win0_5.index t 0 = t.val / 16 % 8 ∧ win0_5.index t 1 = 0 ∧ win0_5.index t 2 = 0 := by decide +kernel
theorem index6 : ∀ t : Fin cfg0.N, win0_6.index t 0 = t.val / 16 % 8 ∧ win0_6.index t 1 = 0 ∧ win0_6.index t 2 = 0 := by decide +kernel
theorem index7 : ∀ t : Fin cfg0.N, win0_7.index t 0 = 0 ∧ win0_7.index t 1 = t.val / 16 % 8 := by decide +kernel
theorem index8 : ∀ t : Fin cfg0.N, win0_8.index t 0 = t.val / 128 ∧ win0_8.index t 1 = 0 ∧ win0_8.index t 2 = t.val / 16 % 8 := by decide +kernel
theorem index9 : ∀ t : Fin cfg0.N, win0_9.index t 0 = t.val / 128 ∧ win0_9.index t 1 = 15 - t.val % 16 ∧ win0_9.index t 2 = t.val / 16 % 8 := by decide +kernel
theorem index10 : ∀ t : Fin cfg0.N, win0_10.index t 0 = t.val / 128 ∧ win0_10.index t 1 = 0 ∧ win0_10.index t 2 = t.val / 16 % 8 := by decide +kernel

variable (m : (ℓ : Loc nD τ sig) → Buf (Elt Ideal) ℓ) (c : Dev nD) (t : Fin cfg0.N)

/-- A row of the tile's own block. -/
theorem X0_at (r : Fin 512) (l : Fin 384) :
    X0_0 m c t (ix3 0 r l) = V m c main_arg0 (ix3 (bOf t) (⟨512 * (tOf t).val + r.val, by omega⟩ : Fin 8192) (⟨384 * (gOf t).val + l.val, by omega⟩ : Fin 14336)) := by
  unfold X0_0 Pipeline.Window.fill
  rw [dif_pos (moved0_0 t _)]
  show V m c main_arg0 (((cfg0.win 0).blk t).view.emb _) = _
  refine congrArg (V m c main_arg0) ?_
  obtain ⟨e0, e1, e2⟩ := index0 t
  funext a
  apply Fin.ext
  match a with
  | ⟨0, _⟩ => show win0_0.index t 0 * 1 + 1 * 0 = t.val / 128; omega
  | ⟨1, _⟩ => show win0_0.index t 1 * 512 + 1 * r.val = 512 * (15 - t.val % 16) + r.val; omega
  | ⟨2, _⟩ => show win0_0.index t 2 * 384 + 1 * l.val = 384 * (t.val / 16 % 8) + l.val; omega

/-- A row of the block before the tile. -/
theorem X1_at (r : Fin 16) (l : Fin 384) (h : (tOf t).val ≠ 0) :
    X0_1 m c t (ix3 0 r l) = V m c main_arg0 (ix3 (bOf t) (⟨512 * (tOf t).val + r.val - 16, by omega⟩ : Fin 8192) (⟨384 * (gOf t).val + l.val, by omega⟩ : Fin 14336)) := by
  unfold X0_1 Pipeline.Window.fill
  rw [dif_pos (moved0_1 t _)]
  show V m c main_arg0 (((cfg0.win 1).blk t).view.emb _) = _
  refine congrArg (V m c main_arg0) ?_
  obtain ⟨e0, e1, e2⟩ := index1 t
  have h' : 15 - t.val % 16 ≠ 0 := h
  funext a
  apply Fin.ext
  match a with
  | ⟨0, _⟩ => show win0_1.index t 0 * 1 + 1 * 0 = t.val / 128; omega
  | ⟨1, _⟩ => show win0_1.index t 1 * 16 + 1 * r.val = 512 * (15 - t.val % 16) + r.val - 16; omega
  | ⟨2, _⟩ => show win0_1.index t 2 * 384 + 1 * l.val = 384 * (t.val / 16 % 8) + l.val; omega

/-- A row of the block after the tile. -/
theorem X2_at (r : Fin 16) (l : Fin 384) (h : (tOf t).val ≠ 15) :
    X0_2 m c t (ix3 0 r l) = V m c main_arg0 (ix3 (bOf t) (⟨512 * (tOf t).val + 512 + r.val, by omega⟩ : Fin 8192) (⟨384 * (gOf t).val + l.val, by omega⟩ : Fin 14336)) := by
  unfold X0_2 Pipeline.Window.fill
  rw [dif_pos (moved0_2 t _)]
  show V m c main_arg0 (((cfg0.win 2).blk t).view.emb _) = _
  refine congrArg (V m c main_arg0) ?_
  obtain ⟨e0, e1, e2⟩ := index2 t
  have h' : 15 - t.val % 16 ≠ 15 := h
  funext a
  apply Fin.ext
  match a with
  | ⟨0, _⟩ => show win0_2.index t 0 * 1 + 1 * 0 = t.val / 128; omega
  | ⟨1, _⟩ => show win0_2.index t 1 * 16 + 1 * r.val = 512 * (15 - t.val % 16) + 512 + r.val; omega
  | ⟨2, _⟩ => show win0_2.index t 2 * 384 + 1 * l.val = 384 * (t.val / 16 % 8) + l.val; omega

theorem X3_at (k : Fin 4) (l : Fin 384) : iblk m c 3 t (ix2 k l) = V m c main_v2 (ix2 k (col (gOf t) l)) := by
  show V m c main_v2 (((cfg0.win 3).blk t).view.emb _) = _
  refine congrArg (V m c main_v2) ?_
  obtain ⟨e0, e1⟩ := index3 t
  funext a
  apply Fin.ext
  match a with
  | ⟨0, _⟩ => show win0_3.index t 0 * 4 + 1 * k.val = k.val; omega
  | ⟨1, _⟩ => show win0_3.index t 1 * 384 + 1 * l.val = 384 * (t.val / 16 % 8) + l.val; omega

theorem X4_at (l : Fin 384) : iblk m c 4 t (ix2 0 l) = V m c main_v6 (ix2 0 (col (gOf t) l)) := by
  show V m c main_v6 (((cfg0.win 4).blk t).view.emb _) = _
  refine congrArg (V m c main_v6) ?_
  obtain ⟨e0, e1⟩ := index4 t
  funext a
  apply Fin.ext
  match a with
  | ⟨0, _⟩ => show win0_4.index t 0 * 1 + 1 * 0 = 0; omega
  | ⟨1, _⟩ => show win0_4.index t 1 * 384 + 1 * l.val = 384 * (t.val / 16 % 8) + l.val; omega

theorem X5_at (k : Fin 384) (l : Fin 768) : iblk m c 5 t (ix3 0 k l) = V m c main_v34 (ix3 (gOf t) k l) := by
  show V m c main_v34 (((cfg0.win 5).blk t).view.emb _) = _
  refine congrArg (V m c main_v34) ?_
  obtain ⟨e0, e1, e2⟩ := index5 t
  funext a
  apply Fin.ext
  match a with
  | ⟨0, _⟩ => show win0_5.index t 0 * 1 + 1 * 0 = t.val / 16 % 8; omega
  | ⟨1, _⟩ => show win0_5.index t 1 * 384 + 1 * k.val = k.val; omega
  | ⟨2, _⟩ => show win0_5.index t 2 * 768 + 1 * l.val = l.val; omega

theorem X6_at (l : Fin 768) : iblk m c 6 t (ix3 0 0 l) = V m c main_v35 (ix3 (gOf t) 0 l) := by
  show V m c main_v35 (((cfg0.win 6).blk t).view.emb _) = _
  refine congrArg (V m c main_v35) ?_
  obtain ⟨e0, e1, e2⟩ := index6 t
  funext a
  apply Fin.ext
  match a with
  | ⟨0, _⟩ => show win0_6.index t 0 * 1 + 1 * 0 = t.val / 16 % 8; omega
  | ⟨1, _⟩ => show win0_6.index t 1 * 1 + 1 * 0 = 0; omega
  | ⟨2, _⟩ => show win0_6.index t 2 * 768 + 1 * l.val = l.val; omega

theorem X7_at (l : Fin 384) : iblk m c 7 t (ix2 0 l) = V m c main_v14 (ix2 0 (col (gOf t) l)) := by
  show V m c main_v14 (((cfg0.win 7).blk t).view.emb _) = _
  refine congrArg (V m c main_v14) ?_
  obtain ⟨e0, e1⟩ := index7 t
  funext a
  apply Fin.ext
  match a with
  | ⟨0, _⟩ => show win0_7.index t 0 * 1 + 1 * 0 = 0; omega
  | ⟨1, _⟩ => show win0_7.index t 1 * 384 + 1 * l.val = 384 * (t.val / 16 % 8) + l.val; omega

theorem X8_at (l : Fin 384) : iblk m c 8 t (ix3 0 0 l) = V m c main_v39 (ix3 (bOf t) 0 (col (gOf t) l)) := by
  show V m c main_v39 (((cfg0.win 8).blk t).view.emb _) = _
  refine congrArg (V m c main_v39) ?_
  obtain ⟨e0, e1, e2⟩ := index8 t
  funext a
  apply Fin.ext
  match a with
  | ⟨0, _⟩ => show win0_8.index t 0 * 1 + 1 * 0 = t.val / 128; omega
  | ⟨1, _⟩ => show win0_8.index t 1 * 1 + 1 * 0 = 0; omega
  | ⟨2, _⟩ => show win0_8.index t 2 * 384 + 1 * l.val = 384 * (t.val / 16 % 8) + l.val; omega

end Cert.LruB
-- ==== Proof.BTile.lean ====
/- The backward recurrence. The kernel's body at one tile, put together from the values it works with: the padded
   block, the two fills of the scratch buffers, the scan of the eight segments, their combination and the stores of
   the result; and that each of the three kinds of grid point (first, middle, last tile of a sequence) stores exactly
   these pieces. -/
module

public import proofs.«01_k».proof.Proof.Gen.Kernel8Ideal.Value
public import Idealize.ShloMosaic.Lib.Pointwise

@[expose] public section

set_option maxRecDepth 16384
set_option maxHeartbeats 4000000

noncomputable section

namespace Cert.LruB

open Idealize.ShloMosaic Idealize.ShloMosaic.TcCoe Cert.Kernel8Ideal Cert.Kernel8Ideal.Gen

/-- The padded block: sixteen rows from the block before, the tile's rows, sixteen rows from the block after. -/
def padL (i : grid0.Coords) (X0 : Vec Ideal S1x512x384 .bf16) (X1 X2 : Vec Ideal S1x16x384 .bf16) :
    List (View.Piece (Elt Ideal) S544x384 .f32) :=
  [⟨Rect.unit ![528, 0] S16x384.size inb_S544x384_S16x384_528_0, k0_pay19 i X2⟩,
   ⟨Rect.unit ![16, 0] S512x384.size inb_S544x384_S512x384_16_0, k0_pay18 X0⟩,
   ⟨Rect.unit ![0, 0] S16x384.size inb_S544x384_S16x384_0_0, k0_pay17 i X1⟩]

theorem inbPad (s : Fin 8) (k : Fin 4) : ∀ a, (![15 + 64 * s.val + k.val, 0] : Fin 2 → ℕ) a + S64x384.size a ≤ S544x384.size a := by
  intro a; fin_cases a <;> simp <;> omega

/-- The rows of the padded block tap `k` of the convolution reads for segment `s`. -/
def padRows (arg14 : Memref sig .tc .vmem S544x384 .f32) (L14 : List (View.Piece (Elt Ideal) S544x384 .f32))
    (s : Fin 8) (k : Fin 4) : Vec Ideal S64x384 .f32 :=
  arg14.view.readCov L14 (Rect.unit (s := S544x384) ![15 + 64 * s.val + k.val, 0] S64x384.size (inbPad s k)).toLoadRect

section gates

variable (w0 w1 w2 w3 cb nla : Vec Ideal S1x384 .f32) (wg : Vec Ideal S1x384x768 .bf16) (bg : Vec Ideal S1x1x768 .f32)
  (x : Fin 4 → Vec Ideal S64x384 .f32)

/-- A segment's factors. -/
def segA : FVec Ideal S64x384 .f32 :=
  k0_pay25 (k0_pay22 w0 (x 0) w1 (x 1) w2 (x 2) w3 (x 3) cb wg bg) nla

/-- A segment's inputs. -/
def segB : FVec Ideal S64x384 .f32 :=
  k0_pay26 (k0_pay20 w0 (x 0) w1 (x 1) w2 (x 2) w3 (x 3) cb)
    (k0_pay22 w0 (x 0) w1 (x 1) w2 (x 2) w3 (x 3) cb wg bg)
    (k0_pay23 w0 (x 0) w1 (x 1) w2 (x 2) w3 (x 3) cb wg bg) nla

end gates

theorem inbFill (n : Fin 3) (s : Fin 8) : ∀ a, (![n.val, 0, s.val, 0] : Fin 4 → ℕ) a + S1x64x1x128.size a ≤ S3x64x8x128.size a := by
  intro a; fin_cases a <;> simp <;> omega

theorem slcFill (n : Fin 3) : S64x384.Slices ![0, 128 * n.val] S64x128 := by
  revert n; decide

/-- A lane block of a segment's rows, in the scratch buffer's order. -/
def cut (n : Fin 3) (v : FVec Ideal S64x384 .f32) : FVec Ideal S1x64x1x128 .f32 :=
  shapeCast S1x64x1x128 (extractStridedSlice S64x128 ![0, 128 * n.val] v (slcFill n)) shapeCasts_S64x128_S1x64x1x128

/-- The store of one lane block of one segment. -/
def fillPiece (n : Fin 3) (s : Fin 8) (v : FVec Ideal S64x384 .f32) : View.Piece (Elt Ideal) S3x64x8x128 .f32 :=
  ⟨Rect.unit (s := S3x64x8x128) ![n.val, 0, s.val, 0] S1x64x1x128.size (inbFill n s), cut n v⟩

/-- The fill of a scratch buffer, newest store first. -/
def fill (V : Fin 8 → FVec Ideal S64x384 .f32) : List (View.Piece (Elt Ideal) S3x64x8x128 .f32) :=
  [fillPiece 2 7 (V 7), fillPiece 1 7 (V 7), fillPiece 0 7 (V 7), fillPiece 2 6 (V 6), fillPiece 1 6 (V 6), fillPiece 0 6 (V 6), fillPiece 2 5 (V 5), fillPiece 1 5 (V 5), fillPiece 0 5 (V 5), fillPiece 2 4 (V 4), fillPiece 1 4 (V 4), fillPiece 0 4 (V 4), fillPiece 2 3 (V 3), fillPiece 1 3 (V 3), fillPiece 0 3 (V 3), fillPiece 2 2 (V 2), fillPiece 1 2 (V 2), fillPiece 0 2 (V 2), fillPiece 2 1 (V 1), fillPiece 1 1 (V 1), fillPiece 0 1 (V 1), fillPiece 2 0 (V 0), fillPiece 1 0 (V 0), fillPiece 0 0 (V 0)]

/-- The values the eight segments of a lane block start from. -/
def starts (h p : FVec Ideal S8x128 .f32) (o : Vec Ideal S1x128 .f32) : FVec Ideal S8x128 .f32 :=
  k0_pay151 h p (iota .tc S8x128 32 [0] iota_S8x128_d0_w32) (k0_pay143 h p o) (k0_pay144 h p o) k0_pay145

/-- The value a lane block's first segment, the last one scanned, ends with. -/
def ending (h p : FVec Ideal S8x128 .f32) (o : Vec Ideal S1x128 .f32) : FVec Ideal S1x128 .f32 :=
  k0_pay153 (k0_pay152 h p (k0_pay144 h p o))

theorem inbY (n : Fin 3) (s : Fin 8) : ∀ a, (![0, 64 * s.val, 128 * n.val] : Fin 3 → ℕ) a + S1x64x128.size a ≤ S1x512x384.size a := by
  intro a; fin_cases a <;> simp <;> omega

/-- The store of one lane block of one segment of the result. -/
def yPiece (n : Fin 3) (s : Fin 8) (v : Vec Ideal S1x64x1x128 .f32) : View.Piece (Elt Ideal) S1x512x384 .bf16 :=
  ⟨Rect.unit (s := S1x512x384) ![0, 64 * s.val, 128 * n.val] S1x64x128.size (inbY n s), k0_pay2 v⟩

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole) (v626 : FVec Ideal S64x384 .f32) (v643 : FVec Ideal S64x128 .f32)

/-- The scan of the segments: the states and products carried out of it and what it stores. -/
def scan (L15 L16 : List (View.Piece (Elt Ideal) S3x64x8x128 .f32)) :=
  st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (arg15.view.writes (Elt Ideal) arg15.view.junk L15)
    (arg16.view.writes (Elt Ideal) arg16.view.junk L16)
    (k0_pay130, k0_pay131, k0_pay132, k0_pay133, k0_pay134, k0_pay135) (Scf.trips k0_t1_loop.lb k0_t1_loop.ub k0_t1_loop.st)

/-- All stores into the buffer of inputs: the fill, the scan's states, and the states moved by their starts. -/
def states (L15 L16 : List (View.Piece (Elt Ideal) S3x64x8x128 .f32)) (c0 c1 c2 : FVec Ideal S8x128 .f32)
    (v887 : FVec Ideal S1x128 .f32) : List (View.Piece (Elt Ideal) S3x64x8x128 .f32) :=
  pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 c0 c1 c2 v887
    (arg15.view.writes (Elt Ideal) arg15.view.junk ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.1 ++ L15))
    (arg16.view.writes (Elt Ideal) arg16.view.junk ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.2 ++ L16))
    (Scf.trips k0_t2_loop.lb k0_t2_loop.ub k0_t2_loop.st) ++ ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 L15 L16).2.2 ++ L16)

/-- A lane block of a segment's states, as the result's store reads it. -/
def yRead (L : List (View.Piece (Elt Ideal) S3x64x8x128 .f32)) (n : Fin 3) (s : Fin 8) : Vec Ideal S1x64x1x128 .f32 :=
  arg16.view.readCov L (Rect.unit (s := S3x64x8x128) ![n.val, 0, s.val, 0] S1x64x1x128.size (inbFill n s)).toLoadRect

/-- The stores of the result, newest first, over the stores into the buffer of inputs. -/
def yOf (L : List (View.Piece (Elt Ideal) S3x64x8x128 .f32)) : List (View.Piece (Elt Ideal) S1x512x384 .bf16) :=
  [yPiece 2 7 (yRead arg16 L 2 7), yPiece 1 7 (yRead arg16 L 1 7), yPiece 0 7 (yRead arg16 L 0 7), yPiece 2 6 (yRead arg16 L 2 6), yPiece 1 6 (yRead arg16 L 1 6), yPiece 0 6 (yRead arg16 L 0 6), yPiece 2 5 (yRead arg16 L 2 5), yPiece 1 5 (yRead arg16 L 1 5), yPiece 0 5 (yRead arg16 L 0 5), yPiece 2 4 (yRead arg16 L 2 4), yPiece 1 4 (yRead arg16 L 1 4), yPiece 0 4 (yRead arg16 L 0 4), yPiece 2 3 (yRead arg16 L 2 3), yPiece 1 3 (yRead arg16 L 1 3), yPiece 0 3 (yRead arg16 L 0 3), yPiece 2 2 (yRead arg16 L 2 2), yPiece 1 2 (yRead arg16 L 1 2), yPiece 0 2 (yRead arg16 L 0 2), yPiece 2 1 (yRead arg16 L 2 1), yPiece 1 1 (yRead arg16 L 1 1), yPiece 0 1 (yRead arg16 L 0 1), yPiece 2 0 (yRead arg16 L 2 0), yPiece 1 0 (yRead arg16 L 1 0), yPiece 0 0 (yRead arg16 L 0 0)]

/-- The stores of a tile whose segments have factors `A` and inputs `B` and whose lane blocks start from `o0 o1 o2`. -/
def tileY (A B : Fin 8 → FVec Ideal S64x384 .f32) (o0 o1 o2 : Vec Ideal S1x128 .f32)
    (v887 : FVec Ideal S1x128 .f32) : List (View.Piece (Elt Ideal) S1x512x384 .bf16) :=
  let S := (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1
  yOf arg16 (states c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B) (starts S.1 S.2.1 o0) (starts S.2.2.1 S.2.2.2.1 o1)
    (starts S.2.2.2.2.1 S.2.2.2.2.2 o2) v887)

/-- The three lane blocks' values after a tile. -/
def tileC (A B : Fin 8 → FVec Ideal S64x384 .f32) (o : Fin 3 → Vec Ideal S1x128 .f32) (n : Fin 3) : FVec Ideal S1x128 .f32 :=
  let S := (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1
  (![ending S.1 S.2.1 (o 0), ending S.2.2.1 S.2.2.2.1 (o 1), ending S.2.2.2.2.1 S.2.2.2.2.2 (o 2)] : Fin 3 → FVec Ideal S1x128 .f32) n

end

section points

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)

/-- A row of the taps' weights, loaded. -/
def ldW (x3 : Vec Ideal S4x384 .f32) (k : Fin 4) : Vec Ideal S1x384 .f32 :=
  arg6.view.readAt (Elt Ideal) (Rect.unit (s := S4x384) ![k.val, 0] S1x384.size (by intro a; fin_cases a <;> simp <;> omega)).toLoadRect (harg6.unread x3)

end points

end Cert.LruB
-- ==== Proof.BTileRun.lean ====
/- The backward recurrence. At each of the three kinds of grid point (first, middle, last tile of a sequence) the
   body's stores are the pieces of `Proof.BTile`, over the blocks of the arguments it loads. -/
module

public import proofs.«01_k».proof.Proof.BTile

@[expose] public section

set_option maxRecDepth 16384
set_option maxHeartbeats 4000000

noncomputable section

namespace Cert.LruB

open Idealize.ShloMosaic Idealize.ShloMosaic.TcCoe Cert.Kernel8Ideal Cert.Kernel8Ideal.Gen

/-- The stores of the three lane blocks' carried values, newest first. -/
def carryL (C : Fin 3 → FVec Ideal S1x128 .f32) : List (View.Piece (Elt Ideal) S1x384 .f32) :=
  [⟨Rect.unit ![0, 256] S1x128.size inb_S1x384_S1x128_0_256, C 2⟩,
   ⟨Rect.unit ![0, 128] S1x128.size inb_S1x384_S1x128_0_128, C 1⟩,
   ⟨Rect.unit ![0, 0] S1x128.size inb_S1x384_S1x128_0_0, C 0⟩]

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
  (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)
  (x8 : Vec Ideal S1x1x384 .f32) (xs3 : Vec Ideal S1x384 .f32)

/-- A tile's stores: those of the result `Y`, and `C` the values carried to the next tile, where lane block `n` starts
    from `o n`. -/
def IsTile (o : Fin 3 → Vec Ideal S1x128 .f32) (Y : List (View.Piece (Elt Ideal) S1x512x384 .bf16)) (C : Fin 3 → FVec Ideal S1x128 .f32) : Prop :=
  ∃ (v626 : FVec Ideal S64x384 .f32) (v643 : FVec Ideal S64x128 .f32) (v887 : FVec Ideal S1x128 .f32)
    (w0 w1 w2 w3 : Vec Ideal S1x384 .f32),
    (∀ l, w0 (ix2 0 l) = x3 (ix2 0 l)) ∧ (∀ l, w1 (ix2 0 l) = x3 (ix2 1 l)) ∧ (∀ l, w2 (ix2 0 l) = x3 (ix2 2 l))
    ∧ (∀ l, w3 (ix2 0 l) = x3 (ix2 3 l))
    ∧ Y = tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA w0 w1 w2 w3 x4 x7 x5 x6 (padRows arg14 (padL i x0 x1 x2) s))
        (fun s => segB w0 w1 w2 w3 x4 x7 x5 x6 (padRows arg14 (padL i x0 x1 x2) s)) (o 0) (o 1) (o 2) v887
    ∧ C = tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA w0 w1 w2 w3 x4 x7 x5 x6 (padRows arg14 (padL i x0 x1 x2) s))
        (fun s => segB w0 w1 w2 w3 x4 x7 x5 x6 (padRows arg14 (padL i x0 x1 x2) s)) o

/-- A row of the taps, loaded. -/
theorem ld_tap (k : Fin 4) (inb : ∀ a, (![k.val, 0] : Fin 2 → ℕ) a + S1x384.size a ≤ S4x384.size a) (l : Fin 384) :
    arg6.view.readAt (Elt Ideal) (Rect.unit (s := S4x384) ![k.val, 0] S1x384.size inb).toLoadRect (harg6.unread x3) (ix2 0 l) = x3 (ix2 k l) := by
  rw [View.readAt_apply, Memref.IsWhole.read_unread]
  congr 1
  funext a
  apply Fin.ext
  fin_cases a <;> simp [LoadRect.idx, Rect.toLoadRect, Rect.unit, ix2]

/-- A whole block, loaded. -/
theorem ld_whole {s : Shape} {e : EltTy} (m : Memref sig .tc .vmem s e) (h : m.IsWhole) (x : Vec Ideal s e) (off : Fin s.rank → ℕ)
    (hoff : ∀ a, off a = 0) (inb : ∀ a, off a + s.size a ≤ s.size a) :
    m.view.readAt (Elt Ideal) (Rect.unit (s := s) off s.size inb).toLoadRect (h.unread x) = x := by
  funext y
  rw [View.readAt_apply, Memref.IsWhole.read_unread]
  congr 1
  funext a
  apply Fin.ext
  simp [LoadRect.idx, Rect.toLoadRect, Rect.unit, hoff]

/-- A lane block of the carried values, loaded. -/
theorem ld_carry (n : Fin 3) (off : ℕ) (hoff : off = 128 * n.val)
    (inb : ∀ a, (![0, off] : Fin 2 → ℕ) a + S1x128.size a ≤ S1x384.size a) (l : Fin 128) :
    arg17.view.readAt (Elt Ideal) (Rect.unit (s := S1x384) ![0, off] S1x128.size inb).toLoadRect (harg17.unread xs3) (ix2 0 l)
      = xs3 (ix2 0 (⟨128 * n.val + l.val, by omega⟩ : Fin 384)) := by
  subst hoff
  rw [View.readAt_apply, Memref.IsWhole.read_unread]
  congr 1
  funext a
  apply Fin.ext
  fin_cases a <;> simp [LoadRect.idx, Rect.toLoadRect, Rect.unit, ix2]

theorem zero3 : ∀ a : Fin 3, (![0, 0, 0] : Fin 3 → ℕ) a = 0 := by decide
theorem zero2 : ∀ a : Fin 2, (![0, 0] : Fin 2 → ℕ) a = 0 := by decide

theorem run_B (hc0 : ¬cond0_0 i) (hc1 : ¬cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 C
      ∧ (∀ n l, o n (ix2 0 l) = xs3 (ix2 0 (⟨128 * n.val + l.val, by omega⟩ : Fin 384)))
      ∧ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL C := by
  have key : ∃ (v626 : FVec Ideal S64x384 .f32) (v643 : FVec Ideal S64x128 .f32) (v887 : FVec Ideal S1x128 .f32),
      (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (arg17.view.readAt (Elt Ideal) (Rect.unit (s := S1x384) ![0, 0] S1x128.size inb_S1x384_S1x128_0_0).toLoadRect (harg17.unread xs3)) (arg17.view.readAt (Elt Ideal) (Rect.unit (s := S1x384) ![0, 128] S1x128.size inb_S1x384_S1x128_0_128).toLoadRect (harg17.unread xs3)) (arg17.view.readAt (Elt Ideal) (Rect.unit (s := S1x384) ![0, 256] S1x128.size inb_S1x384_S1x128_0_256).toLoadRect (harg17.unread xs3)) v887
      ∧ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)]) := by
    unfold kernelRun0_B
    exact ⟨_, _, _, rfl, rfl⟩
  obtain ⟨v626, v643, v887, h1, h2⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2] at h1 h2
  refine ⟨![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)], _, ⟨v626, v643, v887, _, _, _, _, ?_, ?_, ?_, ?_, h1, rfl⟩, ?_, h2⟩
  · exact ld_tap arg6 harg6 x3 0 _
  · exact ld_tap arg6 harg6 x3 1 _
  · exact ld_tap arg6 harg6 x3 2 _
  · exact ld_tap arg6 harg6 x3 3 _
  · intro n l
    fin_cases n
    · exact ld_carry arg17 harg17 xs3 0 0 rfl _ l
    · exact ld_carry arg17 harg17 xs3 1 128 rfl _ l
    · exact ld_carry arg17 harg17 xs3 2 256 rfl _ l

theorem run_C (hc0 : ¬cond0_0 i) (hc1 : cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 C
      ∧ (∀ n l, o n (ix2 0 l) = xs3 (ix2 0 (⟨128 * n.val + l.val, by omega⟩ : Fin 384)))
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL C
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.1 = [⟨Rect.unit ![0, 0, 0] S1x1x384.size inb_S1x1x384_S1x1x384_0_0_0, k0_pay3 (arg17.view.readCov ((kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1) (Rect.unit (s := S1x384) ![0, 0] S1x384.size inb_S1x384_S1x384_0_0).toLoadRect)⟩] := by
  have key : ∃ (v626 : FVec Ideal S64x384 .f32) (v643 : FVec Ideal S64x128 .f32) (v887 : FVec Ideal S1x128 .f32),
      (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (arg17.view.readAt (Elt Ideal) (Rect.unit (s := S1x384) ![0, 0] S1x128.size inb_S1x384_S1x128_0_0).toLoadRect (harg17.unread xs3)) (arg17.view.readAt (Elt Ideal) (Rect.unit (s := S1x384) ![0, 128] S1x128.size inb_S1x384_S1x128_0_128).toLoadRect (harg17.unread xs3)) (arg17.view.readAt (Elt Ideal) (Rect.unit (s := S1x384) ![0, 256] S1x128.size inb_S1x384_S1x128_0_256).toLoadRect (harg17.unread xs3)) v887
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)])
      ∧ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.1 = [⟨Rect.unit ![0, 0, 0] S1x1x384.size inb_S1x1x384_S1x1x384_0_0_0, k0_pay3 (arg17.view.readCov ((kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3).2.2.1) (Rect.unit (s := S1x384) ![0, 0] S1x384.size inb_S1x384_S1x384_0_0).toLoadRect)⟩] := by
    unfold kernelRun0_C
    exact ⟨_, _, _, rfl, rfl, rfl⟩
  obtain ⟨v626, v643, v887, h1, h2, h3⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2] at h1 h2
  refine ⟨![arg17.view.readAt (Elt Ideal) (Rect.unit (s := S1x384) ![0, 0] S1x128.size inb_S1x384_S1x128_0_0).toLoadRect (harg17.unread xs3), arg17.view.readAt (Elt Ideal) (Rect.unit (s := S1x384) ![0, 128] S1x128.size inb_S1x384_S1x128_0_128).toLoadRect (harg17.unread xs3), arg17.view.readAt (Elt Ideal) (Rect.unit (s := S1x384) ![0, 256] S1x128.size inb_S1x384_S1x128_0_256).toLoadRect (harg17.unread xs3)], _, ⟨v626, v643, v887, _, _, _, _, ?_, ?_, ?_, ?_, h1, rfl⟩, ?_, h2, h3⟩
  · exact ld_tap arg6 harg6 x3 0 _
  · exact ld_tap arg6 harg6 x3 1 _
  · exact ld_tap arg6 harg6 x3 2 _
  · exact ld_tap arg6 harg6 x3 3 _
  · intro n l
    fin_cases n
    · exact ld_carry arg17 harg17 xs3 0 0 rfl _ l
    · exact ld_carry arg17 harg17 xs3 1 128 rfl _ l
    · exact ld_carry arg17 harg17 xs3 2 256 rfl _ l

/-- The stores of the first tile's start. -/
def h0L (x : Vec Ideal S1x1x384 .f32) : List (View.Piece (Elt Ideal) S1x384 .f32) :=
  [⟨Rect.unit ![0, 0] S1x384.size inb_S1x384_S1x384_0_0, k0_pay16 x⟩]

theorem inbC (n : Fin 3) : ∀ a, (![0, 128 * n.val] : Fin 2 → ℕ) a + S1x128.size a ≤ S1x384.size a := by
  intro a; fin_cases a <;> simp <;> omega

/-- The store of one lane block's carried value. -/
def carryPiece (n : Fin 3) (v : FVec Ideal S1x128 .f32) : View.Piece (Elt Ideal) S1x384 .f32 :=
  ⟨Rect.unit (s := S1x384) ![0, 128 * n.val] S1x128.size (inbC n), v⟩

/-- One lane block of the carried values, read back. -/
def carryRead (n : Fin 3) (L : List (View.Piece (Elt Ideal) S1x384 .f32)) : Vec Ideal S1x128 .f32 :=
  arg17.view.readCov L (Rect.unit (s := S1x384) ![0, 128 * n.val] S1x128.size (inbC n)).toLoadRect

theorem carryRead_at (n : Fin 3) (L : List (View.Piece (Elt Ideal) S1x384 .f32)) (l : Fin 128) :
    carryRead arg17 n L (ix2 0 l) = View.canon L (ix2 0 (⟨128 * n.val + l.val, by omega⟩ : Fin 384)) := by
  unfold carryRead
  rw [View.readCov_eq_canon']
  dsimp only
  congr 1
  funext a
  apply Fin.ext
  fin_cases a <;> simp [LoadRect.idx, Rect.toLoadRect, Rect.unit, ix2]

/-- A carried value stored, read at its own lane. -/
theorem canon_carry_same (n : Fin 3) (v : FVec Ideal S1x128 .f32) (L : List (View.Piece (Elt Ideal) S1x384 .f32)) (l : Fin 128) :
    View.canon (carryPiece n v :: L) (ix2 0 (⟨128 * n.val + l.val, by omega⟩ : Fin 384)) = v (ix2 0 l) := by
  have e : (ix2 0 (⟨128 * n.val + l.val, by omega⟩ : Fin 384)) = (Rect.unit (s := S1x384) ![0, 128 * n.val] S1x128.size (inbC n)).emb (ix2 0 l) := by
    funext a
    apply Fin.ext
    rw [Rect.emb_apply]
    fin_cases a <;> simp [Rect.unit, ix2]
  rw [e]
  exact View.canon_cons_emb ..

/-- A carried value stored, read at another lane block. -/
theorem canon_carry_ne (n m : Fin 3) (h : n ≠ m) (v : FVec Ideal S1x128 .f32) (L : List (View.Piece (Elt Ideal) S1x384 .f32)) (l : Fin 128) :
    View.canon (carryPiece n v :: L) (ix2 0 (⟨128 * m.val + l.val, by omega⟩ : Fin 384))
      = View.canon L (ix2 0 (⟨128 * m.val + l.val, by omega⟩ : Fin 384)) := by
  apply View.canon_cons_of_not_mem
  unfold carryPiece
  rw [Rect.mem_set_unit]
  intro hm
  have m1 := hm 1
  simp [ix2] at m1
  apply h
  apply Fin.ext
  omega

theorem canon_h0L (x : Vec Ideal S1x1x384 .f32) (l : Fin 384) : View.canon (h0L x) (ix2 0 l) = x (ix3 0 0 l) := by
  have e : (ix2 0 l) = (Rect.unit (s := S1x384) ![0, 0] S1x384.size inb_S1x384_S1x384_0_0).emb (ix2 0 l) := by
    funext a
    apply Fin.ext
    fin_cases a <;> simp [Rect.emb_apply, ix2]
  refine (congrArg _ e).trans ((View.canon_cons_emb ..).trans ?_)
  unfold k0_pay16
  pointwise

/-- The three stores of a tile's carried values, read back. -/
theorem canon_carryL (C : Fin 3 → FVec Ideal S1x128 .f32) (L : List (View.Piece (Elt Ideal) S1x384 .f32)) (n : Fin 3) (l : Fin 128) :
    View.canon (carryL C ++ L) (ix2 0 (⟨128 * n.val + l.val, by omega⟩ : Fin 384)) = C n (ix2 0 l) := by
  have e : carryL C ++ L = carryPiece 2 (C 2) :: carryPiece 1 (C 1) :: carryPiece 0 (C 0) :: L := rfl
  rw [e]
  fin_cases n
  · exact (canon_carry_ne 2 0 (by decide) _ _ l).trans ((canon_carry_ne 1 0 (by decide) _ _ l).trans (canon_carry_same 0 _ _ l))
  · exact (canon_carry_ne 2 1 (by decide) _ _ l).trans (canon_carry_same 1 _ _ l)
  · exact canon_carry_same 2 _ _ l

theorem run_A (hc0 : cond0_0 i) (hc1 : ¬cond0_1 i) :
    ∃ (o : Fin 3 → Vec Ideal S1x128 .f32) (C : Fin 3 → FVec Ideal S1x128 .f32),
      IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).1 C
      ∧ (∀ n l, o n (ix2 0 l) = x8 (ix3 0 0 (⟨128 * n.val + l.val, by omega⟩ : Fin 384)))
      ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.1 = carryL C ++ h0L x8 := by
  have key : ∃ (v626 : FVec Ideal S64x384 .f32) (v643 : FVec Ideal S64x128 .f32) (v887 : FVec Ideal S1x128 .f32)
      (C0 C1 : FVec Ideal S1x128 .f32),
      (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).1 =
        tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (carryRead arg17 0 (h0L (arg11.view.readAt (Elt Ideal) (Rect.unit (s := S1x1x384) ![0, 0, 0] S1x1x384.size inb_S1x1x384_S1x1x384_0_0_0).toLoadRect (harg11.unread x8)))) (carryRead arg17 1 (carryPiece 0 C0 :: h0L (arg11.view.readAt (Elt Ideal) (Rect.unit (s := S1x1x384) ![0, 0, 0] S1x1x384.size inb_S1x1x384_S1x1x384_0_0_0).toLoadRect (harg11.unread x8)))) (carryRead arg17 2 (carryPiece 1 C1 :: carryPiece 0 C0 :: h0L (arg11.view.readAt (Elt Ideal) (Rect.unit (s := S1x1x384) ![0, 0, 0] S1x1x384.size inb_S1x1x384_S1x1x384_0_0_0).toLoadRect (harg11.unread x8)))) v887
      ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.1 = carryL (tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fun s => segA (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) (fun s => segB (arg6.view.readAt (Elt Ideal) (Rect.unit (s := S4x384) ![0, 0] S1x384.size inb_S4x384_S1x384_0_0).toLoadRect (harg6.unread x3)) (arg6.view.readAt (Elt Ideal) (Rect.unit (s := S4x384) ![1, 0] S1x384.size inb_S4x384_S1x384_1_0).toLoadRect (harg6.unread x3)) (arg6.view.readAt (Elt Ideal) (Rect.unit (s := S4x384) ![2, 0] S1x384.size inb_S4x384_S1x384_2_0).toLoadRect (harg6.unread x3)) (arg6.view.readAt (Elt Ideal) (Rect.unit (s := S4x384) ![3, 0] S1x384.size inb_S4x384_S1x384_3_0).toLoadRect (harg6.unread x3)) (arg7.view.readAt (Elt Ideal) (Rect.unit (s := S1x384) ![0, 0] S1x384.size inb_S1x384_S1x384_0_0).toLoadRect (harg7.unread x4)) (arg10.view.readAt (Elt Ideal) (Rect.unit (s := S1x384) ![0, 0] S1x384.size inb_S1x384_S1x384_0_0).toLoadRect (harg10.unread x7)) (arg8.view.readAt (Elt Ideal) (Rect.unit (s := S1x384x768) ![0, 0, 0] S1x384x768.size inb_S1x384x768_S1x384x768_0_0_0).toLoadRect (harg8.unread x5)) (arg9.view.readAt (Elt Ideal) (Rect.unit (s := S1x1x768) ![0, 0, 0] S1x1x768.size inb_S1x1x768_S1x1x768_0_0_0).toLoadRect (harg9.unread x6)) (padRows arg14 (padL i (arg3.view.readAt (Elt Ideal) (Rect.unit (s := S1x512x384) ![0, 0, 0] S1x512x384.size inb_S1x512x384_S1x512x384_0_0_0).toLoadRect (harg3.unread x0)) (arg4.view.readAt (Elt Ideal) (Rect.unit (s := S1x16x384) ![0, 0, 0] S1x16x384.size inb_S1x16x384_S1x16x384_0_0_0).toLoadRect (harg4.unread x1)) (arg5.view.readAt (Elt Ideal) (Rect.unit (s := S1x16x384) ![0, 0, 0] S1x16x384.size inb_S1x16x384_S1x16x384_0_0_0).toLoadRect (harg5.unread x2))) s)) ![(carryRead arg17 0 (h0L (arg11.view.readAt (Elt Ideal) (Rect.unit (s := S1x1x384) ![0, 0, 0] S1x1x384.size inb_S1x1x384_S1x1x384_0_0_0).toLoadRect (harg11.unread x8)))), (carryRead arg17 1 (carryPiece 0 C0 :: h0L (arg11.view.readAt (Elt Ideal) (Rect.unit (s := S1x1x384) ![0, 0, 0] S1x1x384.size inb_S1x1x384_S1x1x384_0_0_0).toLoadRect (harg11.unread x8)))), (carryRead arg17 2 (carryPiece 1 C1 :: carryPiece 0 C0 :: h0L (arg11.view.readAt (Elt Ideal) (Rect.unit (s := S1x1x384) ![0, 0, 0] S1x1x384.size inb_S1x1x384_S1x1x384_0_0_0).toLoadRect (harg11.unread x8))))]) ++ h0L (arg11.view.readAt (Elt Ideal) (Rect.unit (s := S1x1x384) ![0, 0, 0] S1x1x384.size inb_S1x1x384_S1x1x384_0_0_0).toLoadRect (harg11.unread x8)) := by
    unfold kernelRun0_A
    exact ⟨_, _, _, _, _, rfl, rfl⟩
  obtain ⟨v626, v643, v887, C0, C1, h1, h2⟩ := key
  rw [ld_whole arg3 harg3 x0 _ zero3, ld_whole arg4 harg4 x1 _ zero3, ld_whole arg5 harg5 x2 _ zero3, ld_whole arg7 harg7 x4 _ zero2,
    ld_whole arg8 harg8 x5 _ zero3, ld_whole arg9 harg9 x6 _ zero3, ld_whole arg10 harg10 x7 _ zero2, ld_whole arg11 harg11 x8 _ zero3] at h1 h2
  refine ⟨![(carryRead arg17 0 (h0L (x8))), (carryRead arg17 1 (carryPiece 0 C0 :: h0L (x8))), (carryRead arg17 2 (carryPiece 1 C1 :: carryPiece 0 C0 :: h0L (x8)))], _, ⟨v626, v643, v887, _, _, _, _, ?_, ?_, ?_, ?_, h1, rfl⟩, ?_, h2⟩
  · exact ld_tap arg6 harg6 x3 0 _
  · exact ld_tap arg6 harg6 x3 1 _
  · exact ld_tap arg6 harg6 x3 2 _
  · exact ld_tap arg6 harg6 x3 3 _
  · intro n l
    fin_cases n
    · exact (carryRead_at arg17 0 _ l).trans (canon_h0L x8 _)
    · exact (carryRead_at arg17 1 _ l).trans ((canon_carry_ne 0 1 (by decide) _ _ l).trans (canon_h0L x8 _))
    · exact (carryRead_at arg17 2 _ l).trans ((canon_carry_ne 1 2 (by decide) _ _ l).trans
        ((canon_carry_ne 0 2 (by decide) _ _ l).trans (canon_h0L x8 _)))

end

end Cert.LruB
-- ==== Proof.BGates.lean ====
/- The backward recurrence. A tile's padded block, convolution, gates, factors and inputs, read at a row and a lane. -/
module

public import proofs.«01_k».proof.Proof.BTileRun
public import proofs.«01_k».proof.Proof.Scan

@[expose] public section

set_option maxRecDepth 16384
set_option maxHeartbeats 1000000

noncomputable section

namespace Cert.LruB

open Idealize.ShloMosaic Idealize.ShloMosaic.TcCoe Cert.Kernel8Ideal Cert.Kernel8Ideal.Gen Cert.Lru

/-- The padded block at a row and a lane: the rows before and after the tile, zero outside the sequence. -/
def pad (i : grid0.Coords) (X0 : Vec Ideal S1x512x384 .bf16) (X1 X2 : Vec Ideal S1x16x384 .bf16) (r : ℕ) (l : Fin 384) : EReal :=
  if h : r < 16 then (if 15 - (i 2).val = 0 then 0 else X1 (ix3 0 ⟨r, h⟩ l))
  else if h : r < 528 then X0 (ix3 0 ⟨r - 16, by omega⟩ l)
  else if h : r < 544 then (if 15 - (i 2).val = 15 then 0 else X2 (ix3 0 ⟨r - 528, by omega⟩ l))
  else 0

theorem sel_eq {α : Type} (n : ℕ) (hn : n < 16) (m : ℕ) (hm : m < 16) (a b : α) :
    Scalar.select (Scalar.cmpi .eq (Scalar.subi 15#32 (BitVec.ofNat 32 n)) (BitVec.ofNat 32 m)) a b = if 15 - n = m then a else b := by
  interval_cases n <;> interval_cases m <;> rfl

theorem pay17_at (i : grid0.Coords) (x : Vec Ideal S1x16x384 .bf16) (r : Fin 16) (l : Fin 384) :
    k0_pay17 i x (ix2 r l) = if 15 - (i 2).val = 0 then 0 else x (ix3 0 r l) := by
  unfold k0_pay17
  have h := sel_eq (i 2).val (i 2).isLt 0 (by decide) (broadcast S16x384 (Scalar.ofBits (F := Ideal) .f32 0x00000000#32))
    (extf .f32 (shapeCast S16x384 x shapeCasts_S1x16x384_S16x384) bitsLt_bf16_f32)
  dsimp only
  rw [shapeCast_self, show (0#32 : BitVec 32) = BitVec.ofNat 32 0 from rfl, h]
  split <;> pointwise

theorem pay19_at (i : grid0.Coords) (x : Vec Ideal S1x16x384 .bf16) (r : Fin 16) (l : Fin 384) :
    k0_pay19 i x (ix2 r l) = if 15 - (i 2).val = 15 then 0 else x (ix3 0 r l) := by
  unfold k0_pay19
  have h := sel_eq (i 2).val (i 2).isLt 15 (by decide) (broadcast S16x384 (Scalar.ofBits (F := Ideal) .f32 0x00000000#32))
    (extf .f32 (shapeCast S16x384 x shapeCasts_S1x16x384_S16x384) bitsLt_bf16_f32)
  dsimp only
  rw [shapeCast_self, show (15#32 : BitVec 32) = BitVec.ofNat 32 15 from rfl, h]
  split <;> pointwise

theorem pay18_at (x : Vec Ideal S1x512x384 .bf16) (r : Fin 512) (l : Fin 384) : k0_pay18 x (ix2 r l) = x (ix3 0 r l) := by
  unfold k0_pay18
  pointwise

theorem canon_padL (i : grid0.Coords) (X0 : Vec Ideal S1x512x384 .bf16) (X1 X2 : Vec Ideal S1x16x384 .bf16) (r : Fin 544) (l : Fin 384) :
    View.canon (padL i X0 X1 X2) (ix2 r l) = pad i X0 X1 X2 r.val l := by
  unfold padL pad
  by_cases h1 : r.val < 16
  · rw [dif_pos h1, View.canon_cons_of_not_mem, View.canon_cons_of_not_mem]
    · have e : (ix2 r l) = (Rect.unit (s := S544x384) ![0, 0] S16x384.size inb_S544x384_S16x384_0_0).emb (ix2 ⟨r.val, h1⟩ l) := by
        funext a
        apply Fin.ext
        rw [Rect.emb_apply]
        fin_cases a <;> simp [Rect.unit, ix2]
      rw [e]
      exact (View.canon_cons_emb ..).trans (pay17_at i X1 _ l)
    · rw [Rect.mem_set_unit]
      intro hm
      have m0 := hm 0
      simp [ix2] at m0
      omega
    · rw [Rect.mem_set_unit]
      intro hm
      have m0 := hm 0
      simp [ix2] at m0
      omega
  · rw [dif_neg h1]
    by_cases h2 : r.val < 528
    · rw [dif_pos h2, View.canon_cons_of_not_mem]
      · have e : (ix2 r l) = (Rect.unit (s := S544x384) ![16, 0] S512x384.size inb_S544x384_S512x384_16_0).emb (ix2 ⟨r.val - 16, by omega⟩ l) := by
          funext a
          apply Fin.ext
          rw [Rect.emb_apply]
          fin_cases a <;> simp [Rect.unit, ix2]
          omega
        refine (congrArg _ e).trans ?_
        exact (View.canon_cons_emb ..).trans (pay18_at X0 _ l)
      · rw [Rect.mem_set_unit]
        intro hm
        have m0 := hm 0
        simp [ix2] at m0
        omega
    · rw [dif_neg h2, dif_pos r.isLt]
      have e : (ix2 r l) = (Rect.unit (s := S544x384) ![528, 0] S16x384.size inb_S544x384_S16x384_528_0).emb (ix2 ⟨r.val - 528, by omega⟩ l) := by
        funext a
        apply Fin.ext
        rw [Rect.emb_apply]
        fin_cases a <;> simp [Rect.unit, ix2]
        omega
      refine (congrArg _ e).trans ?_
      exact (View.canon_cons_emb ..).trans (pay19_at i X2 _ l)

theorem padRows_at (arg14 : Memref sig .tc .vmem S544x384 .f32) (i : grid0.Coords) (X0 : Vec Ideal S1x512x384 .bf16)
    (X1 X2 : Vec Ideal S1x16x384 .bf16) (s : Fin 8) (k : Fin 4) (j : Fin 64) (l : Fin 384) :
    padRows arg14 (padL i X0 X1 X2) s k (ix2 j l) = pad i X0 X1 X2 (15 + (64 * s.val + j.val) + k.val) l := by
  unfold padRows
  rw [View.readCov_eq_canon']
  have e : (Rect.unit (s := S544x384) ![15 + 64 * s.val + k.val, 0] S64x384.size (inbPad s k)).toLoadRect.idx (ix2 j l)
      = ix2 (⟨15 + (64 * s.val + j.val) + k.val, by omega⟩ : Fin 544) l := by
    funext a
    apply Fin.ext
    fin_cases a <;> simp [LoadRect.idx, Rect.toLoadRect, Rect.unit, ix2]
    omega
  exact (congrArg _ e).trans (canon_padL i X0 X1 X2 _ l)

section gates

variable (w0 w1 w2 w3 cb nla : Vec Ideal S1x384 .f32) (wg : Vec Ideal S1x384x768 .bf16) (bg : Vec Ideal S1x1x768 .f32)
  (x : Fin 4 → Vec Ideal S64x384 .f32)

/-- The convolution at a row and a lane. -/
def xcRow (j : Fin 64) (l : Fin 384) : EReal :=
  (((w0 (ix2 0 l) * x 0 (ix2 j l) + w1 (ix2 0 l) * x 1 (ix2 j l)) + w2 (ix2 0 l) * x 2 (ix2 j l)) + w3 (ix2 0 l) * x 3 (ix2 j l))
    + cb (ix2 0 l)

/-- The two gates before their logistic, side by side. -/
def gateRow (j : Fin 64) (l : Fin 768) : EReal :=
  (∑ k : Fin 384, xcRow w0 w1 w2 w3 cb x j k * wg (ix3 0 k l)) + bg (ix3 0 0 l)

theorem pay20_at (j : Fin 64) (l : Fin 384) :
    k0_pay20 w0 (x 0) w1 (x 1) w2 (x 2) w3 (x 3) cb (ix2 j l) = xcRow w0 w1 w2 w3 cb x j l := by
  unfold k0_pay20 xcRow
  pointwise

theorem pay21_at (j : Fin 64) (l : Fin 768) :
    k0_pay21 w0 (x 0) w1 (x 1) w2 (x 2) w3 (x 3) cb wg bg (ix2 j l) = gateRow w0 w1 w2 w3 cb wg bg x j l := by
  unfold k0_pay21 gateRow
  have h := fun k => pay20_at w0 w1 w2 w3 cb x j k
  generalize k0_pay20 w0 (x 0) w1 (x 1) w2 (x 2) w3 (x 3) cb = X at h ⊢
  pointwise
  simp only [h, zero_add]

theorem pay22_at (j : Fin 64) (l : Fin 384) :
    k0_pay22 w0 (x 0) w1 (x 1) w2 (x 2) w3 (x 3) cb wg bg (ix2 j l)
      = Ideal.logistic (gateRow w0 w1 w2 w3 cb wg bg x j ⟨l.val, by omega⟩) := by
  unfold k0_pay22
  rw [← pay21_at]
  generalize k0_pay21 w0 (x 0) w1 (x 1) w2 (x 2) w3 (x 3) cb wg bg = X
  pointwise

theorem pay23_at (j : Fin 64) (l : Fin 384) :
    k0_pay23 w0 (x 0) w1 (x 1) w2 (x 2) w3 (x 3) cb wg bg (ix2 j l)
      = gateRow w0 w1 w2 w3 cb wg bg x j ⟨384 + l.val, by omega⟩ := by
  unfold k0_pay23
  rw [← pay21_at]
  generalize k0_pay21 w0 (x 0) w1 (x 1) w2 (x 2) w3 (x 3) cb wg bg = X
  pointwise

theorem segA_at (j : Fin 64) (l : Fin 384) :
    segA w0 w1 w2 w3 cb nla wg bg x (ix2 j l)
      = Ideal.exp (nla (ix2 0 l) * Ideal.logistic (gateRow w0 w1 w2 w3 cb wg bg x j ⟨l.val, by omega⟩)) := by
  unfold segA
  rw [← pay22_at]
  generalize k0_pay22 w0 (x 0) w1 (x 1) w2 (x 2) w3 (x 3) cb wg bg = X
  unfold k0_pay25 k0_pay24
  pointwise

theorem segB_at (j : Fin 64) (l : Fin 384) :
    segB w0 w1 w2 w3 cb nla wg bg x (ix2 j l)
      = Ideal.sqrt ((0 - Ideal.tanh (nla (ix2 0 l) * Ideal.logistic (gateRow w0 w1 w2 w3 cb wg bg x j ⟨l.val, by omega⟩)))
          * (Ideal.exp (nla (ix2 0 l) * Ideal.logistic (gateRow w0 w1 w2 w3 cb wg bg x j ⟨l.val, by omega⟩))
            * Ideal.exp (nla (ix2 0 l) * Ideal.logistic (gateRow w0 w1 w2 w3 cb wg bg x j ⟨l.val, by omega⟩)) + 1))
        * (Ideal.logistic (gateRow w0 w1 w2 w3 cb wg bg x j ⟨384 + l.val, by omega⟩) * xcRow w0 w1 w2 w3 cb x j l) := by
  unfold segB
  rw [← pay22_at, ← pay23_at, ← pay20_at]
  generalize k0_pay22 w0 (x 0) w1 (x 1) w2 (x 2) w3 (x 3) cb wg bg = X
  generalize k0_pay23 w0 (x 0) w1 (x 1) w2 (x 2) w3 (x 3) cb wg bg = Y
  generalize k0_pay20 w0 (x 0) w1 (x 1) w2 (x 2) w3 (x 3) cb = Z
  unfold k0_pay26 k0_pay25 k0_pay24
  pointwise

end gates

end Cert.LruB
-- ==== Proof.BScanPays.lean ====
/- The backward recurrence. What one trip of the kernel's two counted loops stores and carries, read at an index. -/
module

public import proofs.«01_k».proof.Proof.Gen.Kernel8Ideal.Value
public import Idealize.ShloMosaic.Lib.Pointwise

@[expose] public section

set_option maxRecDepth 8192
set_option maxHeartbeats 4000000

noncomputable section

namespace Cert.LruB

open Idealize.ShloMosaic Idealize.ShloMosaic.TcCoe Cert.Kernel8Ideal Cert.Kernel8Ideal.Gen

section pays

variable (h p : FVec Ideal S8x128 .f32) (a b : Vec Ideal S1x1x8x128 .f32) (s : Fin 8) (l : Fin 128)

theorem pay5_at : k0_pay5 h a b (ix2 s l) = a (ix4 0 0 s l) * h (ix2 s l) + b (ix4 0 0 s l) := by
  unfold k0_pay5 k0_pay4
  pointwise

theorem pay10_at : k0_pay10 h a b (ix2 s l) = a (ix4 0 0 s l) * h (ix2 s l) + b (ix4 0 0 s l) := by
  unfold k0_pay10 k0_pay9
  pointwise

theorem pay138_at : k0_pay138 h a b (ix2 s l) = a (ix4 0 0 s l) * h (ix2 s l) + b (ix4 0 0 s l) := by
  unfold k0_pay138 k0_pay137
  pointwise

theorem pay6_at : k0_pay6 p a (ix2 s l) = a (ix4 0 0 s l) * p (ix2 s l) := by
  unfold k0_pay6 k0_pay4
  pointwise

theorem pay11_at : k0_pay11 p a (ix2 s l) = a (ix4 0 0 s l) * p (ix2 s l) := by
  unfold k0_pay11 k0_pay9
  pointwise

theorem pay139_at : k0_pay139 p a (ix2 s l) = a (ix4 0 0 s l) * p (ix2 s l) := by
  unfold k0_pay139 k0_pay137
  pointwise

theorem pay7_at : k0_pay7 h a b (ix4 0 0 s l) = k0_pay5 h a b (ix2 s l) := by
  unfold k0_pay7
  pointwise

theorem pay12_at : k0_pay12 h a b (ix4 0 0 s l) = k0_pay10 h a b (ix2 s l) := by
  unfold k0_pay12
  pointwise

theorem pay140_at : k0_pay140 h a b (ix4 0 0 s l) = k0_pay138 h a b (ix2 s l) := by
  unfold k0_pay140
  pointwise

theorem pay8_at : k0_pay8 p a (ix4 0 0 s l) = k0_pay6 p a (ix2 s l) := by
  unfold k0_pay8
  pointwise

theorem pay141_at : k0_pay141 p a (ix4 0 0 s l) = k0_pay139 p a (ix2 s l) := by
  unfold k0_pay141
  pointwise

theorem pay136_at : k0_pay136 p (ix4 0 0 s l) = p (ix2 s l) := by
  unfold k0_pay136
  pointwise

theorem pay176_at : k0_pay176 p (ix4 0 0 s l) = p (ix2 s l) := by
  unfold k0_pay176
  pointwise

theorem pay13_at : k0_pay13 h b a (ix4 0 0 s l) = b (ix4 0 0 s l) + a (ix4 0 0 s l) * h (ix2 s l) := by
  unfold k0_pay13
  pointwise

theorem pay14_at : k0_pay14 h b a (ix4 0 0 s l) = b (ix4 0 0 s l) + a (ix4 0 0 s l) * h (ix2 s l) := by
  unfold k0_pay14
  pointwise

theorem pay15_at : k0_pay15 h b a (ix2 s l) = b (ix4 0 0 s l) + a (ix4 0 0 s l) * h (ix2 s l) := by
  unfold k0_pay15
  pointwise

end pays

end Cert.LruB
-- ==== Proof.BScanLoop.lean ====
/- The backward recurrence. The two counted loops of the kernel's body as recurrences. The first walks the 64 rows of
   the eight row segments side by side: it carries the state of each segment started from zero and the product of its
   factors, and leaves both behind in place of the factors and inputs it read. The second adds to every state the
   product times the value the segment starts from. Both are read here at an index (lane block, row, segment, lane). -/
module

public import proofs.«01_k».proof.Proof.Gen.Kernel8Ideal.Value
public import proofs.«01_k».proof.Proof.Scan
public import proofs.«01_k».proof.Proof.BScanPays
public import Idealize.ShloMosaic.Lib.Pointwise

@[expose] public section

set_option maxRecDepth 8192
set_option maxHeartbeats 4000000

noncomputable section

namespace Cert.LruB

open Idealize.ShloMosaic Idealize.ShloMosaic.TcCoe Cert.Kernel8Ideal Cert.Kernel8Ideal.Gen Cert.Lru

/-- Reading behind one store of a row of all segments: the row's own payload at that row of that lane block, what was
   there before elsewhere. -/
theorem read_row {κ : Kind} {sp : Space} (v : View sig κ sp S3x64x8x128 .f32) (f : BufTy.Contents (Elt Ideal) v.ty)
    (L : List (View.Piece (Elt Ideal) S3x64x8x128 .f32)) (n k : ℕ) (off : Fin 4 → ℕ) (hoff : off = ![n, k, 0, 0])
    (inb : ∀ a, off a + S1x1x8x128.size a ≤ S3x64x8x128.size a) (P : Vec Ideal S1x1x8x128 .f32)
    (c : Fin 3) (j : Fin 64) (s : Fin 8) (l : Fin 128) :
    v.read (Elt Ideal) (v.writes (Elt Ideal) f (⟨Rect.unit (s := S3x64x8x128) off S1x1x8x128.size inb, P⟩ :: L)) (ix4 c j s l)
      = if c.val = n ∧ j.val = k then P (ix4 0 0 s l) else v.read (Elt Ideal) (v.writes (Elt Ideal) f L) (ix4 c j s l) := by
  subst hoff
  split
  · next h =>
    obtain ⟨h1, h2⟩ := h
    have e : ix4 c j s l = (Rect.unit (s := S3x64x8x128) ![n, k, 0, 0] S1x1x8x128.size inb).emb (ix4 0 0 s l) := by
      subst h1 h2
      funext a
      apply Fin.ext
      fin_cases a <;> simp [Rect.emb_apply, ix4]
    rw [e]
    exact View.read_writes_cons_emb ..
  · next h =>
    rw [View.writes_cons]
    apply View.read_slice_write_of_not_mem
    rw [Rect.map_emb_univ, Rect.mem_set_unit]
    intro hm
    apply h
    have m0 := hm 0
    have m1 := hm 1
    simp [ix4] at m0 m1
    omega

/-- The states and products one trip carries, per lane block. -/
abbrev Acc := FVec Ideal S8x128 .f32 × FVec Ideal S8x128 .f32 × FVec Ideal S8x128 .f32 × FVec Ideal S8x128 .f32
  × FVec Ideal S8x128 .f32 × FVec Ideal S8x128 .f32

/-- The segments' states of a lane block. -/
def hOf (a : Acc) : Fin 3 → FVec Ideal S8x128 .f32 := ![a.1, a.2.2.1, a.2.2.2.2.1]

/-- The segments' products of a lane block. -/
def pOf (a : Acc) : Fin 3 → FVec Ideal S8x128 .f32 := ![a.2.1, a.2.2.2.1, a.2.2.2.2.2]

/-- The row that stands `j` rows before the last one. -/
abbrev rv (j : Fin 64) : Fin 64 := ⟨63 - j.val, by omega⟩

/-- The row a trip of the first loop reads: the walk goes from the last row to the first. -/
abbrev row1 (k : Fin k0_t1_loop.trips) : Fin 64 := rv ⟨k.val, Nat.lt_of_lt_of_le k.isLt k0_t1_abs.2.1⟩

/-- The row a trip of the second loop reads. -/
abbrev row2 (k : Fin k0_t2_loop.trips) : Fin 64 := ⟨k.val, Nat.lt_of_lt_of_le k.isLt k0_t2_abs.2.1⟩

/-- A row of all segments, loaded from the buffer. -/
theorem ld_row {κ : Kind} {sp : Space} (v : View sig κ sp S3x64x8x128 .f32) (f : BufTy.Contents (Elt Ideal) v.ty)
    (n : Fin 3) (k : Fin 64) (off : Fin 4 → ℕ) (hoff : off = ![n.val, k.val, 0, 0])
    (inb : ∀ a, off a + S1x1x8x128.size a ≤ S3x64x8x128.size a) (s : Fin 8) (l : Fin 128) :
    v.readAt (Elt Ideal) (Rect.unit (s := S3x64x8x128) off S1x1x8x128.size inb).toLoadRect f (ix4 0 0 s l)
      = v.read (Elt Ideal) f (ix4 n k s l) := by
  subst hoff
  rw [View.readAt_apply]
  congr 1
  funext a
  apply Fin.ext
  fin_cases a <;> simp [LoadRect.idx, Rect.toLoadRect, Rect.unit, ix4]

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)

section first

variable (v626 : FVec Ideal S64x384 .f32) (v643 : FVec Ideal S64x128 .f32)

/-- One trip's new states. -/
theorem trip_h (k : Fin k0_t1_loop.trips) (acc : Acc) (f15 : BufTy.Contents (Elt Ideal) arg15.view.ty)
    (f16 : BufTy.Contents (Elt Ideal) arg16.view.ty) (n : Fin 3) (s : Fin 8) (l : Fin 128) :
    hOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
      = arg15.view.read (Elt Ideal) f15 (ix4 n (row1 k) s l) * hOf acc n (ix2 s l)
        + arg16.view.read (Elt Ideal) f16 (ix4 n (row1 k) s l) := by
  unfold tripR_k0_t1
  unfold trip_k0_t1
  fin_cases n
  · refine (pay5_at _ _ _ s l).trans ?_
    rw [ld_row _ _ 0 (row1 k) _ (k0_off1_eq k), ld_row _ _ 0 (row1 k) _ (k0_off1_eq k)]
    rfl
  · refine (pay10_at _ _ _ s l).trans ?_
    refine (congrArg₂ (fun x y => x * _ + y) (ld_row _ _ 1 (row1 k) _ (k0_off2_eq k) _ s l)
      (ld_row _ _ 1 (row1 k) _ (k0_off2_eq k) _ s l)).trans ?_
    rfl
  · refine (pay138_at _ _ _ s l).trans ?_
    refine (congrArg₂ (fun x y => x * _ + y) (ld_row _ _ 2 (row1 k) _ (k0_off3_eq k) _ s l)
      (ld_row _ _ 2 (row1 k) _ (k0_off3_eq k) _ s l)).trans ?_
    rfl

/-- One trip's new products. -/
theorem trip_p (k : Fin k0_t1_loop.trips) (acc : Acc) (f15 : BufTy.Contents (Elt Ideal) arg15.view.ty)
    (f16 : BufTy.Contents (Elt Ideal) arg16.view.ty) (n : Fin 3) (s : Fin 8) (l : Fin 128) :
    pOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
      = arg15.view.read (Elt Ideal) f15 (ix4 n (row1 k) s l) * pOf acc n (ix2 s l) := by
  unfold tripR_k0_t1
  unfold trip_k0_t1
  fin_cases n
  · refine (pay6_at _ _ s l).trans ?_
    rw [ld_row _ _ 0 (row1 k) _ (k0_off1_eq k)]
    rfl
  · refine (pay11_at _ _ s l).trans ?_
    refine (congrArg (fun x => x * _) (ld_row _ _ 1 (row1 k) _ (k0_off2_eq k) _ s l)).trans ?_
    rfl
  · refine (pay139_at _ _ s l).trans ?_
    refine (congrArg (fun x => x * _) (ld_row _ _ 2 (row1 k) _ (k0_off3_eq k) _ s l)).trans ?_
    rfl

/-- What one trip leaves in the buffer of inputs: its row holds the new states. -/
theorem trip_L16 (k : Fin k0_t1_loop.trips) (acc : Acc) (f15 : BufTy.Contents (Elt Ideal) arg15.view.ty)
    (f16 g : BufTy.Contents (Elt Ideal) arg16.view.ty) (n : Fin 3) (j : Fin 64) (s : Fin 8) (l : Fin 128) :
    arg16.view.read (Elt Ideal) (arg16.view.writes (Elt Ideal) g
        (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16).2) (ix4 n j s l)
      = if j.val = 63 - k.val then hOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
        else arg16.view.read (Elt Ideal) g (ix4 n j s l) := by
  unfold tripL_k0_t1 tripR_k0_t1
  unfold trip_k0_t1
  dsimp only
  rw [read_row _ _ _ 2 (63 - k.val) _ (k0_off3_eq k), read_row _ _ _ 1 (63 - k.val) _ (k0_off2_eq k), read_row _ _ _ 0 (63 - k.val) _ (k0_off1_eq k),
    View.writes_nil]
  by_cases h : j.val = 63 - k.val
  · simp only [h, and_true, if_true]
    fin_cases n
    · exact (if_neg (by decide)).trans ((if_neg (by decide)).trans ((if_pos (by decide)).trans (pay7_at _ _ _ s l)))
    · exact (if_neg (by decide)).trans ((if_pos (by decide)).trans (pay12_at _ _ _ s l))
    · exact (if_pos (by decide)).trans (pay140_at _ _ _ s l)
  · simp only [h, and_false, if_false]

/-- What one trip leaves in the buffer of factors: its row holds the new products. -/
theorem trip_L15 (k : Fin k0_t1_loop.trips) (acc : Acc) (f15 g : BufTy.Contents (Elt Ideal) arg15.view.ty)
    (f16 : BufTy.Contents (Elt Ideal) arg16.view.ty) (n : Fin 3) (j : Fin 64) (s : Fin 8) (l : Fin 128) :
    arg15.view.read (Elt Ideal) (arg15.view.writes (Elt Ideal) g
        (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16).1) (ix4 n j s l)
      = if j.val = 63 - k.val then pOf (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 k acc f15 f16) n (ix2 s l)
        else arg15.view.read (Elt Ideal) g (ix4 n j s l) := by
  unfold tripL_k0_t1 tripR_k0_t1
  unfold trip_k0_t1
  dsimp only
  rw [read_row _ _ _ 2 (63 - k.val) _ (k0_off3_eq k), read_row _ _ _ 1 (63 - k.val) _ (k0_off2_eq k), read_row _ _ _ 0 (63 - k.val) _ (k0_off1_eq k),
    View.writes_nil]
  by_cases h : j.val = 63 - k.val
  · simp only [h, and_true, if_true]
    fin_cases n
    · exact (if_neg (by decide)).trans ((if_neg (by decide)).trans ((if_pos (by decide)).trans (pay8_at _ _ s l)))
    · exact (if_neg (by decide)).trans ((if_pos (by decide)).trans (pay136_at _ s l))
    · exact (if_pos (by decide)).trans (pay141_at _ _ s l)
  · simp only [h, and_false, if_false]

/-- After `k` trips from zero states and unit products: the states are the recurrence's, the products the factors', and
    both are left behind in the rows walked. -/
theorem scan_after (G15 : BufTy.Contents (Elt Ideal) arg15.view.ty) (G16 : BufTy.Contents (Elt Ideal) arg16.view.ty)
    (a b : Fin 3 → Fin 8 → Fin 128 → ℕ → EReal)
    (ha : ∀ n (j : Fin 64) s l, arg15.view.read (Elt Ideal) G15 (ix4 n (rv j) s l) = a n s l j.val)
    (hb : ∀ n (j : Fin 64) s l, arg16.view.read (Elt Ideal) G16 (ix4 n (rv j) s l) = b n s l j.val)
    (init : Acc) (hh : ∀ n s l, hOf init n (ix2 s l) = 0) (hp : ∀ n s l, pOf init n (ix2 s l) = 1) :
    ∀ k, k ≤ k0_t1_loop.trips → (∀ n s l,
      hOf (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).1 n (ix2 s l) = rec (a n s l) (b n s l) 0 k
      ∧ pOf (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).1 n (ix2 s l) = fac (a n s l) k
      ∧ ∀ j : Fin 64,
        arg15.view.read (Elt Ideal) (arg15.view.writes (Elt Ideal) G15
            (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).2.1) (ix4 n (rv j) s l)
          = (if j.val < k then fac (a n s l) (j.val + 1) else a n s l j.val)
        ∧ arg16.view.read (Elt Ideal) (arg16.view.writes (Elt Ideal) G16
            (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k).2.2) (ix4 n (rv j) s l)
          = (if j.val < k then rec (a n s l) (b n s l) 0 (j.val + 1) else b n s l j.val))
  | 0, _, n, s, l => by
    rw [st_k0_t1_zero]
    refine ⟨hh n s l, hp n s l, fun j => ⟨?_, ?_⟩⟩
    · exact (ha n j s l).trans (by simp)
    · exact (hb n j s l).trans (by simp)
  | k + 1, hk, n, s, l => by
    have ih := scan_after G15 G16 a b ha hb init hh hp k (by omega) n s l
    obtain ⟨i1, i2, i3⟩ := ih
    have hs := st_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init ⟨k, hk⟩
    dsimp only at hs
    rw [hs]
    generalize hS : st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 G15 G16 init k = S at i1 i2 i3 ⊢
    have e15 := (i3 ⟨k, Nat.lt_of_lt_of_le hk k0_t1_abs.2.1⟩).1
    have e16 := (i3 ⟨k, Nat.lt_of_lt_of_le hk k0_t1_abs.2.1⟩).2
    simp only [lt_irrefl, if_false] at e15 e16
    have H := trip_h c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 (arg15.view.writes (Elt Ideal) G15 S.2.1) (arg16.view.writes (Elt Ideal) G16 S.2.2) n s l
    have P := trip_p c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 (arg15.view.writes (Elt Ideal) G15 S.2.1) (arg16.view.writes (Elt Ideal) G16 S.2.2) n s l
    rw [e15, e16, i1] at H
    rw [e15, i2] at P
    refine ⟨H, P, fun j => ⟨?_, ?_⟩⟩
    · refine (congrArg (fun z => arg15.view.read (Elt Ideal) z (ix4 n (rv j) s l)) (View.writes_append ..)).trans ?_
      refine (trip_L15 c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 _ _ _ n (rv j) s l).trans ?_
      rw [P, (i3 j).1]
      by_cases h : j.val = k
      · rw [if_pos (show (rv j).val = 63 - k by show 63 - j.val = _; omega), if_pos (by omega), h]; rfl
      · rw [if_neg (show ¬ (rv j).val = 63 - k by show ¬ 63 - j.val = _; have := j.isLt; have := Nat.lt_of_lt_of_le hk k0_t1_abs.2.1; omega)]
        by_cases h' : j.val < k
        · rw [if_pos h', if_pos (by omega)]
        · rw [if_neg h', if_neg (by omega)]
    · refine (congrArg (fun z => arg16.view.read (Elt Ideal) z (ix4 n (rv j) s l)) (View.writes_append ..)).trans ?_
      refine (trip_L16 c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 ⟨k, hk⟩ S.1 _ _ _ n (rv j) s l).trans ?_
      rw [H, (i3 j).2]
      by_cases h : j.val = k
      · rw [if_pos (show (rv j).val = 63 - k by show 63 - j.val = _; omega), if_pos (by omega), h]; rfl
      · rw [if_neg (show ¬ (rv j).val = 63 - k by show ¬ 63 - j.val = _; have := j.isLt; have := Nat.lt_of_lt_of_le hk k0_t1_abs.2.1; omega)]
        by_cases h' : j.val < k
        · rw [if_pos h', if_pos (by omega)]
        · rw [if_neg h', if_neg (by omega)]

end first

section second

variable (v729 v806 v883 : FVec Ideal S8x128 .f32) (v887 : FVec Ideal S1x128 .f32)
  (X15 : BufTy.Contents (Elt Ideal) arg15.view.ty)

/-- What one trip of the second loop leaves: its row of states, each moved by the product times its segment's start. -/
theorem trip_fix (k : Fin k0_t2_loop.trips) (f16 g : BufTy.Contents (Elt Ideal) arg16.view.ty)
    (n : Fin 3) (j : Fin 64) (s : Fin 8) (l : Fin 128) :
    arg16.view.read (Elt Ideal) (arg16.view.writes (Elt Ideal) g
        (tripL_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 X15 k f16)) (ix4 n j s l)
      = if j.val = k.val then arg16.view.read (Elt Ideal) f16 (ix4 n (row2 k) s l)
          + arg15.view.read (Elt Ideal) X15 (ix4 n (row2 k) s l) * (![v729, v806, v883] : Fin 3 → FVec Ideal S8x128 .f32) n (ix2 s l)
        else arg16.view.read (Elt Ideal) g (ix4 n j s l) := by
  unfold tripL_k0_t2
  unfold trip_k0_t2
  dsimp only
  rw [read_row _ _ _ 2 k _ (k0_off6_eq k), read_row _ _ _ 1 k _ (k0_off5_eq k), read_row _ _ _ 0 k _ (k0_off4_eq k),
    View.writes_nil]
  by_cases h : j.val = k.val
  · simp only [h, and_true, if_true]
    fin_cases n
    · refine (if_neg (by decide)).trans ((if_neg (by decide)).trans ((if_pos (by decide)).trans ((pay13_at _ _ _ s l).trans ?_)))
      rw [ld_row _ _ 0 (row2 k) _ (k0_off4_eq k), ld_row _ _ 0 (row2 k) _ (k0_off4_eq k)]
      rfl
    · refine (if_neg (by decide)).trans ((if_pos (by decide)).trans ((pay14_at _ _ _ s l).trans ?_))
      refine (congrArg₂ (fun x y => x + y * _) (ld_row _ _ 1 (row2 k) _ (k0_off5_eq k) _ s l)
        (ld_row _ _ 1 (row2 k) _ (k0_off5_eq k) _ s l)).trans ?_
      rfl
    · refine (if_pos (by decide)).trans ((pay176_at _ s l).trans ((pay15_at _ _ _ s l).trans ?_))
      refine (congrArg₂ (fun x y => x + y * _) (ld_row _ _ 2 (row2 k) _ (k0_off6_eq k) _ s l)
        (ld_row _ _ 2 (row2 k) _ (k0_off6_eq k) _ s l)).trans ?_
      rfl
  · simp only [h, and_false, if_false]

/-- After `k` trips of the second loop. -/
theorem fix_after (G16 : BufTy.Contents (Elt Ideal) arg16.view.ty) (n : Fin 3) (j : Fin 64) (s : Fin 8) (l : Fin 128) :
    ∀ k, k ≤ k0_t2_loop.trips →
      arg16.view.read (Elt Ideal) (arg16.view.writes (Elt Ideal) G16
          (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 X15 G16 k)) (ix4 n j s l)
        = if j.val < k then arg16.view.read (Elt Ideal) G16 (ix4 n j s l)
            + arg15.view.read (Elt Ideal) X15 (ix4 n j s l) * (![v729, v806, v883] : Fin 3 → FVec Ideal S8x128 .f32) n (ix2 s l)
          else arg16.view.read (Elt Ideal) G16 (ix4 n j s l)
  | 0, _ => by
    rw [if_neg (by omega)]; rfl
  | k + 1, hk => by
    have ih := fix_after G16 n j s l k (by omega)
    have hs := pb_k0_t2_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 X15 G16 ⟨k, hk⟩
    dsimp only at hs
    rw [hs, View.writes_append]
    refine (trip_fix c i arg3 harg3 arg4 harg4 arg5 harg5 arg6 harg6 arg7 harg7 arg8 harg8 arg9 harg9 arg10 harg10 arg11 harg11 arg12 harg12 arg13 harg13 arg14 harg14 arg15 harg15 arg16 harg16 arg17 harg17 v729 v806 v883 v887 X15 ⟨k, hk⟩ _ _ n j s l).trans ?_
    by_cases h : j.val = k
    · have e : row2 ⟨k, hk⟩ = j := Fin.ext h.symm
      rw [if_pos h, if_pos (by omega), e, ih, if_neg (by omega)]
    · rw [if_neg h, ih]
      by_cases h' : j.val < k
      · rw [if_pos h', if_pos (by omega)]
      · rw [if_neg h', if_neg (by omega)]

end second

end

end Cert.LruB
-- ==== Proof.BTileVal.lean ====
/- The backward recurrence. A tile's result, read at a row and a lane: the recurrence's state after that row. -/
module

public import proofs.«01_k».proof.Proof.BTileRun
public import proofs.«01_k».proof.Proof.BScanLoop
public import proofs.«01_k».proof.Proof.TileVal
public import proofs.«01_k».proof.Proof.Scan

@[expose] public section

set_option maxRecDepth 16384
set_option maxHeartbeats 1000000

noncomputable section

namespace Cert.LruB

open Idealize.ShloMosaic Idealize.ShloMosaic.TcCoe Cert.Kernel8Ideal Cert.Kernel8Ideal.Gen Cert.Lru

theorem cut_at (n : Fin 3) (v : FVec Ideal S64x384 .f32) (j : Fin 64) (l : Fin 128) :
    cut n v (ix4 0 j 0 l) = v (ix2 j (lane n l)) := by
  unfold cut
  pointwise

theorem pay2_at (v : Vec Ideal S1x64x1x128 .f32) (j : Fin 64) (l : Fin 128) : k0_pay2 v (ix3 0 j l) = v (ix4 0 j 0 l) := by
  unfold k0_pay2
  pointwise

theorem fillPiece_mem (V : Fin 8 → FVec Ideal S64x384 .f32) (n : Fin 3) (s : Fin 8) : fillPiece n s (V s) ∈ fill V := by
  unfold fill
  fin_cases n <;> fin_cases s <;> simp

theorem fill_mem (V : Fin 8 → FVec Ideal S64x384 .f32) {p} (hp : p ∈ fill V) : ∃ n s, p = fillPiece n s (V s) := by
  suffices h : ∀ p ∈ fill V, ∃ n s, p = fillPiece n s (V s) from h p hp
  clear hp p
  unfold fill
  simp only [List.forall_mem_cons]
  refine ⟨⟨2, 7, rfl⟩, ⟨1, 7, rfl⟩, ⟨0, 7, rfl⟩, ⟨2, 6, rfl⟩, ⟨1, 6, rfl⟩, ⟨0, 6, rfl⟩, ⟨2, 5, rfl⟩, ⟨1, 5, rfl⟩, ⟨0, 5, rfl⟩, ⟨2, 4, rfl⟩, ⟨1, 4, rfl⟩, ⟨0, 4, rfl⟩, ⟨2, 3, rfl⟩, ⟨1, 3, rfl⟩, ⟨0, 3, rfl⟩, ⟨2, 2, rfl⟩, ⟨1, 2, rfl⟩, ⟨0, 2, rfl⟩, ⟨2, 1, rfl⟩, ⟨1, 1, rfl⟩, ⟨0, 1, rfl⟩, ⟨2, 0, rfl⟩, ⟨1, 0, rfl⟩, ⟨0, 0, rfl⟩, by simp⟩

theorem canon_fill (V : Fin 8 → FVec Ideal S64x384 .f32) (n : Fin 3) (j : Fin 64) (s : Fin 8) (l : Fin 128) :
    View.canon (fill V) (ix4 n j s l) = V s (ix2 j (lane n l)) := by
  refine View.canon_apply_of_pieces (fun y : S3x64x8x128.Idx => V (y 2) (ix2 (y 1) (lane (y 0) (y 3)))) (fill V) ?_ (ix4 n j s l) ?_
  · intro p hp x
    obtain ⟨n, s, rfl⟩ := fill_mem V hp
    obtain ⟨u, j, w, l, rfl⟩ : ∃ (u : Fin 1) (j : Fin 64) (w : Fin 1) (l : Fin 128), x = ix4 u j w l := ⟨x 0, x 1, x 2, x 3, (ix4_eta x).symm⟩
    obtain rfl : u = 0 := Subsingleton.elim _ _
    obtain rfl : w = 0 := Subsingleton.elim _ _
    refine (cut_at n (V s) j l).trans ?_
    have e : (Rect.unit (s := S3x64x8x128) ![n.val, 0, s.val, 0] S1x64x1x128.size (inbFill n s)).emb (ix4 0 j 0 l) = ix4 n j s l := by
      funext a
      apply Fin.ext
      rw [Rect.emb_apply]
      fin_cases a <;> simp [Rect.unit, ix4]
    exact (congrArg (fun y : S3x64x8x128.Idx => V (y 2) (ix2 (y 1) (lane (y 0) (y 3)))) e).symm
  · refine ⟨_, fillPiece_mem V n s, ?_⟩
    show ix4 n j s l ∈ (Rect.unit (s := S3x64x8x128) ![n.val, 0, s.val, 0] S1x64x1x128.size (inbFill n s)).set
    rw [Rect.mem_set_unit]
    intro a
    fin_cases a <;> simp [ix4]

/-- The segment that stands `s` segments before the last one. -/
abbrev rvs (s : Fin 8) : Fin 8 := ⟨7 - s.val, by omega⟩

/-- The row of a tile that stands `r` rows before its last one. -/
abbrev rvr (r : Fin 512) : Fin 512 := ⟨511 - r.val, by omega⟩

theorem rvs_rvs (s : Fin 8) : rvs (rvs s) = s := Fin.ext (by simp; omega)

/-- A segment's start from the one after it. -/
theorem pay142_at (h p : FVec Ideal S8x128 .f32) (o : Vec Ideal S1x128 .f32) (l : Fin 128) :
    k0_pay142 h p o (ix2 0 l) = p (ix2 7 l) * o (ix2 0 l) + h (ix2 7 l) := by
  unfold k0_pay142
  pointwise

theorem pay144_at (h p : FVec Ideal S8x128 .f32) (o : Vec Ideal S1x128 .f32) (l : Fin 128) :
    k0_pay144 h p o (ix2 0 l) = p (ix2 6 l) * k0_pay142 h p o (ix2 0 l) + h (ix2 6 l) := by
  unfold k0_pay144
  generalize k0_pay142 h p o = X
  pointwise

theorem pay146_at (h p : FVec Ideal S8x128 .f32) (v : FVec Ideal S1x128 .f32) (l : Fin 128) :
    k0_pay146 h p v (ix2 0 l) = p (ix2 5 l) * v (ix2 0 l) + h (ix2 5 l) := by
  unfold k0_pay146
  pointwise

theorem pay147_at (h p : FVec Ideal S8x128 .f32) (v : FVec Ideal S1x128 .f32) (l : Fin 128) :
    k0_pay147 h p v (ix2 0 l) = p (ix2 4 l) * k0_pay146 h p v (ix2 0 l) + h (ix2 4 l) := by
  unfold k0_pay147
  generalize k0_pay146 h p v = X
  pointwise

theorem pay148_at (h p : FVec Ideal S8x128 .f32) (v : FVec Ideal S1x128 .f32) (l : Fin 128) :
    k0_pay148 h p v (ix2 0 l) = p (ix2 3 l) * k0_pay147 h p v (ix2 0 l) + h (ix2 3 l) := by
  unfold k0_pay148
  generalize k0_pay147 h p v = X
  pointwise

theorem pay149_at (h p : FVec Ideal S8x128 .f32) (v : FVec Ideal S1x128 .f32) (l : Fin 128) :
    k0_pay149 h p v (ix2 0 l) = p (ix2 2 l) * k0_pay148 h p v (ix2 0 l) + h (ix2 2 l) := by
  unfold k0_pay149
  generalize k0_pay148 h p v = X
  pointwise

theorem pay150_at (h p : FVec Ideal S8x128 .f32) (v : FVec Ideal S1x128 .f32) (l : Fin 128) :
    k0_pay150 h p v (ix2 0 l) = p (ix2 1 l) * k0_pay149 h p v (ix2 0 l) + h (ix2 1 l) := by
  unfold k0_pay150
  generalize k0_pay149 h p v = X
  pointwise

theorem pay152_at (h p : FVec Ideal S8x128 .f32) (v : FVec Ideal S1x128 .f32) (l : Fin 128) :
    k0_pay152 h p v (ix2 0 l) = p (ix2 0 l) * k0_pay150 h p v (ix2 0 l) + h (ix2 0 l) := by
  unfold k0_pay152
  generalize k0_pay150 h p v = X
  pointwise

theorem starts_rows (h p : FVec Ideal S8x128 .f32) (o : Vec Ideal S1x128 .f32) (s : Fin 8) (l : Fin 128) :
    starts h p o (ix2 (rvs s) l) = (![o (ix2 0 l), k0_pay142 h p o (ix2 0 l), k0_pay144 h p o (ix2 0 l), k0_pay146 h p (k0_pay144 h p o) (ix2 0 l),
      k0_pay147 h p (k0_pay144 h p o) (ix2 0 l), k0_pay148 h p (k0_pay144 h p o) (ix2 0 l), k0_pay149 h p (k0_pay144 h p o) (ix2 0 l),
      k0_pay150 h p (k0_pay144 h p o) (ix2 0 l)] : Fin 8 → EReal) s := by
  unfold starts k0_pay151 k0_pay145 k0_pay143
  generalize k0_pay150 h p (k0_pay144 h p o) = X7
  generalize k0_pay149 h p (k0_pay144 h p o) = X6
  generalize k0_pay148 h p (k0_pay144 h p o) = X5
  generalize k0_pay147 h p (k0_pay144 h p o) = X4
  generalize k0_pay146 h p (k0_pay144 h p o) = X3
  generalize k0_pay144 h p o = X2
  generalize k0_pay142 h p o = X1
  fin_cases s <;> pointwise <;> rfl

theorem starts_at (h p : FVec Ideal S8x128 .f32) (o : Vec Ideal S1x128 .f32) (s : Fin 8) (l : Fin 128) :
    starts h p o (ix2 (rvs s) l) = seg (fun s => h (ix2 (rvs s) l)) (fun s => p (ix2 (rvs s) l)) (o (ix2 0 l)) s.val := by
  rw [starts_rows]
  fin_cases s <;> simp [seg, pay142_at, pay144_at, pay146_at, pay147_at, pay148_at, pay149_at, pay150_at] <;> rfl

theorem ending_at (h p : FVec Ideal S8x128 .f32) (o : Vec Ideal S1x128 .f32) (l : Fin 128) :
    ending h p o (ix2 0 l) = seg (fun s => h (ix2 (rvs s) l)) (fun s => p (ix2 (rvs s) l)) (o (ix2 0 l)) 8 := by
  unfold ending k0_pay153
  simp [shapeCast_self, seg, pay142_at, pay144_at, pay146_at, pay147_at, pay148_at, pay149_at, pay150_at, pay152_at]
  rfl

theorem trips1 : Scf.trips k0_t1_loop.lb k0_t1_loop.ub k0_t1_loop.st = 64 := by decide
theorem trips2 : Scf.trips k0_t2_loop.lb k0_t2_loop.ub k0_t2_loop.st = 64 := by decide

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
variable (v626 : FVec Ideal S64x384 .f32) (v643 : FVec Ideal S64x128 .f32)

theorem scan_at (A B : Fin 8 → FVec Ideal S64x384 .f32) (α β : Fin 384 → ℕ → EReal)
    (hA : ∀ s j l, A (rvs s) (ix2 (rv j) l) = α l (64 * s.val + j.val)) (hB : ∀ s j l, B (rvs s) (ix2 (rv j) l) = β l (64 * s.val + j.val))
    (n : Fin 3) (s : Fin 8) (l : Fin 128) :
    hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n (ix2 (rvs s) l)
        = rec (fun j => α (lane n l) (64 * s.val + j)) (fun j => β (lane n l) (64 * s.val + j)) 0 64
      ∧ pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n (ix2 (rvs s) l) = fac (fun j => α (lane n l) (64 * s.val + j)) 64
      ∧ ∀ j : Fin 64,
        arg15.view.read (Elt Ideal) (arg15.view.writes (Elt Ideal) arg15.view.junk
            ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).2.1 ++ fill A)) (ix4 n (rv j) (rvs s) l)
          = fac (fun j => α (lane n l) (64 * s.val + j)) (j.val + 1)
        ∧ arg16.view.read (Elt Ideal) (arg16.view.writes (Elt Ideal) arg16.view.junk
            ((scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).2.2 ++ fill B)) (ix4 n (rv j) (rvs s) l)
          = rec (fun j => α (lane n l) (64 * s.val + j)) (fun j => β (lane n l) (64 * s.val + j)) 0 (j.val + 1) := by
  have h := scan_after c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (arg15.view.writes (Elt Ideal) arg15.view.junk (fill A))
    (arg16.view.writes (Elt Ideal) arg16.view.junk (fill B))
    (fun n s l j => α (lane n l) (64 * (rvs s).val + j)) (fun n s l j => β (lane n l) (64 * (rvs s).val + j))
    (fun n j s l => by rw [View.read_writes_junk_eq_canon, canon_fill, ← hA (rvs s) j, rvs_rvs])
    (fun n j s l => by rw [View.read_writes_junk_eq_canon, canon_fill, ← hB (rvs s) j, rvs_rvs])
    (k0_pay130, k0_pay131, k0_pay132, k0_pay133, k0_pay134, k0_pay135)
    (fun n s l => by
      unfold k0_pay130 k0_pay131 k0_pay132 k0_pay133 k0_pay134 k0_pay135
      fin_cases n <;> simp only [hOf] <;> exact (by pointwise))
    (fun n s l => by
      unfold k0_pay130 k0_pay131 k0_pay132 k0_pay133 k0_pay134 k0_pay135
      fin_cases n <;> simp only [pOf] <;> exact (by pointwise))
    (Scf.trips k0_t1_loop.lb k0_t1_loop.ub k0_t1_loop.st) le_rfl n (rvs s) l
  have ev : 7 - (7 - s.val) = s.val := by omega
  simp only [rvs_rvs, ev] at h
  obtain ⟨h1, h2, h3⟩ := h
  refine ⟨h1.trans (by rw [trips1]), h2.trans (by rw [trips1]), fun j => ?_⟩
  obtain ⟨h4, h5⟩ := h3 j
  refine ⟨?_, ?_⟩
  · rw [View.writes_append]
    refine h4.trans ?_
    rw [if_pos (by rw [trips1]; exact j.isLt)]
  · rw [View.writes_append]
    refine h5.trans ?_
    rw [if_pos (by rw [trips1]; exact j.isLt)]

theorem states_at (A B : Fin 8 → FVec Ideal S64x384 .f32) (α β : Fin 384 → ℕ → EReal)
    (hA : ∀ s j l, A (rvs s) (ix2 (rv j) l) = α l (64 * s.val + j.val)) (hB : ∀ s j l, B (rvs s) (ix2 (rv j) l) = β l (64 * s.val + j.val))
    (c0 c1 c2 : FVec Ideal S8x128 .f32) (v887 : FVec Ideal S1x128 .f32)
    (n : Fin 3) (j : Fin 64) (s : Fin 8) (l : Fin 128) :
    View.canon (states c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B) c0 c1 c2 v887) (ix4 n (rv j) (rvs s) l)
      = rec (fun j => α (lane n l) (64 * s.val + j)) (fun j => β (lane n l) (64 * s.val + j)) 0 (j.val + 1)
        + fac (fun j => α (lane n l) (64 * s.val + j)) (j.val + 1) * (![c0, c1, c2] : Fin 3 → FVec Ideal S8x128 .f32) n (ix2 (rvs s) l) := by
  obtain ⟨-, -, h3⟩ := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n s l
  obtain ⟨h4, h5⟩ := h3 j
  rw [← View.read_writes_junk_eq_canon arg16.view]
  unfold states
  rw [View.writes_append]
  refine (fix_after c i arg3 harg3 arg4 harg4 arg5 harg5 arg6 harg6 arg7 harg7 arg8 harg8 arg9 harg9 arg10 harg10 arg11 harg11 arg12 harg12 arg13 harg13 arg14 harg14 arg15 harg15 arg16 harg16 arg17 harg17 c0 c1 c2 v887 _ _ n (rv j) (rvs s) l (Scf.trips k0_t2_loop.lb k0_t2_loop.ub k0_t2_loop.st) le_rfl).trans ?_
  rw [if_pos (by rw [trips2]; exact (rv j).isLt), h4, h5]

end

theorem yPiece_mem (arg16 : Memref sig .tc .vmem S3x64x8x128 .f32) (L : List (View.Piece (Elt Ideal) S3x64x8x128 .f32)) (n : Fin 3) (s : Fin 8) :
    yPiece n s (yRead arg16 L n s) ∈ yOf arg16 L := by
  unfold yOf
  fin_cases n <;> fin_cases s <;> simp

theorem yOf_mem (arg16 : Memref sig .tc .vmem S3x64x8x128 .f32) (L : List (View.Piece (Elt Ideal) S3x64x8x128 .f32))
    {p} (hp : p ∈ yOf arg16 L) : ∃ n s, p = yPiece n s (yRead arg16 L n s) := by
  suffices h : ∀ p ∈ yOf arg16 L, ∃ n s, p = yPiece n s (yRead arg16 L n s) from h p hp
  clear hp p
  unfold yOf
  simp only [List.forall_mem_cons]
  refine ⟨⟨2, 7, rfl⟩, ⟨1, 7, rfl⟩, ⟨0, 7, rfl⟩, ⟨2, 6, rfl⟩, ⟨1, 6, rfl⟩, ⟨0, 6, rfl⟩, ⟨2, 5, rfl⟩, ⟨1, 5, rfl⟩, ⟨0, 5, rfl⟩, ⟨2, 4, rfl⟩, ⟨1, 4, rfl⟩, ⟨0, 4, rfl⟩, ⟨2, 3, rfl⟩, ⟨1, 3, rfl⟩, ⟨0, 3, rfl⟩, ⟨2, 2, rfl⟩, ⟨1, 2, rfl⟩, ⟨0, 2, rfl⟩, ⟨2, 1, rfl⟩, ⟨1, 1, rfl⟩, ⟨0, 1, rfl⟩, ⟨2, 0, rfl⟩, ⟨1, 0, rfl⟩, ⟨0, 0, rfl⟩, by simp⟩

theorem yRead_at (arg16 : Memref sig .tc .vmem S3x64x8x128 .f32) (L : List (View.Piece (Elt Ideal) S3x64x8x128 .f32)) (n : Fin 3) (s : Fin 8)
    (j : Fin 64) (l : Fin 128) : yRead arg16 L n s (ix4 0 j 0 l) = View.canon L (ix4 n j s l) := by
  unfold yRead
  rw [View.readCov_eq_canon']
  refine congrArg (View.canon L) ?_
  funext a
  apply Fin.ext
  fin_cases a <;> simp [LoadRect.idx, Rect.toLoadRect, Rect.unit, ix4]

theorem canon_yOf (arg16 : Memref sig .tc .vmem S3x64x8x128 .f32) (L : List (View.Piece (Elt Ideal) S3x64x8x128 .f32))
    (r : Fin 512) (q : Fin 384) :
    View.canon (yOf arg16 L) (ix3 0 r q)
      = View.canon L (ix4 (⟨q.val / 128, by omega⟩ : Fin 3) (⟨r.val % 64, by omega⟩ : Fin 64) (⟨r.val / 64, by omega⟩ : Fin 8) (⟨q.val % 128, by omega⟩ : Fin 128)) := by
  refine View.canon_apply_of_pieces (fun y : S1x512x384.Idx => View.canon L (ix4 (⟨(y 2).val / 128, by have : (y 2).val < 384 := (y 2).isLt; omega⟩ : Fin 3)
    (⟨(y 1).val % 64, by omega⟩ : Fin 64) (⟨(y 1).val / 64, by have : (y 1).val < 512 := (y 1).isLt; omega⟩ : Fin 8) (⟨(y 2).val % 128, by omega⟩ : Fin 128))) (yOf arg16 L) ?_ (ix3 0 r q) ?_
  · intro p hp x
    obtain ⟨n, s, rfl⟩ := yOf_mem arg16 L hp
    obtain ⟨u, j, l, rfl⟩ : ∃ (u : Fin 1) (j : Fin 64) (l : Fin 128), x = ix3 u j l := ⟨x 0, x 1, x 2, (ix3_eta x).symm⟩
    obtain rfl : u = 0 := Subsingleton.elim _ _
    refine Eq.trans (b := View.canon L (ix4 n j s l)) ((pay2_at (yRead arg16 L n s) j l).trans (yRead_at arg16 L n s j l)) ?_
    have e : (Rect.unit (s := S1x512x384) ![0, 64 * s.val, 128 * n.val] S1x64x128.size (inbY n s)).emb (ix3 0 j l)
        = ix3 0 (⟨64 * s.val + j.val, by omega⟩ : Fin 512) (lane n l) := by
      funext a
      apply Fin.ext
      rw [Rect.emb_apply]
      fin_cases a <;> simp [Rect.unit, ix3]
    refine Eq.trans ?_ (congrArg (fun y : S1x512x384.Idx => View.canon L (ix4 (⟨(y 2).val / 128, by have : (y 2).val < 384 := (y 2).isLt; omega⟩ : Fin 3)
      (⟨(y 1).val % 64, by omega⟩ : Fin 64) (⟨(y 1).val / 64, by have : (y 1).val < 512 := (y 1).isLt; omega⟩ : Fin 8) (⟨(y 2).val % 128, by omega⟩ : Fin 128))) e).symm
    refine congrArg (View.canon L) ?_
    funext a
    apply Fin.ext
    fin_cases a <;> simp [ix4, ix3] <;> omega
  · refine ⟨_, yPiece_mem arg16 L ⟨q.val / 128, by omega⟩ ⟨r.val / 64, by omega⟩, ?_⟩
    show ix3 0 r q ∈ (Rect.unit (s := S1x512x384) ![0, 64 * (r.val / 64), 128 * (q.val / 128)] S1x64x128.size (inbY ⟨q.val / 128, by omega⟩ ⟨r.val / 64, by omega⟩)).set
    rw [Rect.mem_set_unit]
    intro a
    fin_cases a <;> simp [ix3] <;> omega

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
variable (v626 : FVec Ideal S64x384 .f32) (v643 : FVec Ideal S64x128 .f32)

theorem tileC_at (A B : Fin 8 → FVec Ideal S64x384 .f32) (α β : Fin 384 → ℕ → EReal)
    (hA : ∀ s j l, A (rvs s) (ix2 (rv j) l) = α l (64 * s.val + j.val)) (hB : ∀ s j l, B (rvs s) (ix2 (rv j) l) = β l (64 * s.val + j.val))
    (hα : ∀ l, Tame (α l)) (o : Fin 3 → Vec Ideal S1x128 .f32) (n : Fin 3) (l : Fin 128) :
    tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B o n (ix2 0 l) = rec (α (lane n l)) (β (lane n l)) (o n (ix2 0 l)) 512 := by
  have h := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n
  have e : tileC c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B o n = ending (hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n)
      (pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (o n) := by
    fin_cases n <;> rfl
  rw [e, ending_at]
  simp only [fun s => (h s l).1, fun s => (h s l).2.1]
  exact Cert.Lru.seg_eq (α (lane n l)) (β (lane n l)) (hα _) _ 8 le_rfl

theorem tileY_at (A B : Fin 8 → FVec Ideal S64x384 .f32) (α β : Fin 384 → ℕ → EReal)
    (hA : ∀ s j l, A (rvs s) (ix2 (rv j) l) = α l (64 * s.val + j.val)) (hB : ∀ s j l, B (rvs s) (ix2 (rv j) l) = β l (64 * s.val + j.val))
    (hα : ∀ l, Tame (α l)) (o : Fin 3 → Vec Ideal S1x128 .f32) (v887 : FVec Ideal S1x128 .f32)
    (r : Fin 512) (n : Fin 3) (l : Fin 128) :
    View.canon (tileY c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B (o 0) (o 1) (o 2) v887) (ix3 0 (⟨511 - r.val, by omega⟩ : Fin 512) (lane n l))
      = rec (α (lane n l)) (β (lane n l)) (o n (ix2 0 l)) (r.val + 1) := by
  unfold tileY
  dsimp only
  rw [canon_yOf]
  have en : (⟨(lane n l).val / 128, by omega⟩ : Fin 3) = n := by apply Fin.ext; simp; omega
  have el : (⟨(lane n l).val % 128, by omega⟩ : Fin 128) = l := by apply Fin.ext; simp
  have er : (⟨(⟨511 - r.val, by omega⟩ : Fin 512).val % 64, by omega⟩ : Fin 64) = rv ⟨r.val % 64, by omega⟩ := by apply Fin.ext; simp; omega
  have et : (⟨(⟨511 - r.val, by omega⟩ : Fin 512).val / 64, by omega⟩ : Fin 8) = rvs ⟨r.val / 64, by omega⟩ := by apply Fin.ext; simp; omega
  rw [en, el, er, et, states_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB]
  have h := scan_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 A B α β hA hB n
  have es : (![starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.1 (o 0),
      starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.1 (o 1),
      starts (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.2.1 (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1.2.2.2.2.2 (o 2)] : Fin 3 → FVec Ideal S8x128 .f32) n
      = starts (hOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (pOf (scan c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 (fill A) (fill B)).1 n) (o n) := by
    fin_cases n <;> rfl
  rw [es, starts_at]
  simp only [fun s => (h s l).1, fun s => (h s l).2.1]
  rw [Cert.Lru.seg_eq (α (lane n l)) (β (lane n l)) (hα _) _ (r.val / 64) (by omega), ← rec_eq _ _ (fun k => hα _ _),
    ← rec_add (α (lane n l)) (β (lane n l))]
  congr 1
  omega

end

end Cert.LruB
-- ==== Proof.BStep.lean ====
/- The backward recurrence. What a grid point leaves in the result's block, the carried values and the last state,
   read at a row and a lane: the recurrence over the point's blocks of the arguments. -/
module

public import proofs.«01_k».proof.Proof.BGates
public import proofs.«01_k».proof.Proof.BTileVal

@[expose] public section

set_option maxRecDepth 16384
set_option maxHeartbeats 1000000

noncomputable section

namespace Cert.LruB

open Idealize.ShloMosaic Idealize.ShloMosaic.TcCoe Cert.Kernel8Ideal Cert.Kernel8Ideal.Gen Cert.Lru

section

variable (i : grid0.Coords) (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)

/-- A tile's convolution. -/
def xcT (r : ℕ) (l : Fin 384) : EReal :=
  (((x3 (ix2 0 l) * pad i x0 x1 x2 (15 + r) l + x3 (ix2 1 l) * pad i x0 x1 x2 (15 + r + 1) l)
    + x3 (ix2 2 l) * pad i x0 x1 x2 (15 + r + 2) l) + x3 (ix2 3 l) * pad i x0 x1 x2 (15 + r + 3) l) + x4 (ix2 0 l)

/-- A tile's gates before their logistic. -/
def gateT (r : ℕ) (l : Fin 768) : EReal :=
  (∑ k : Fin 384, xcT i x0 x1 x2 x3 x4 r k * x5 (ix3 0 k l)) + x6 (ix3 0 0 l)

/-- The logarithm of a tile's factors. -/
def logT (r : ℕ) (l : Fin 384) : EReal :=
  x7 (ix2 0 l) * Ideal.logistic (gateT i x0 x1 x2 x3 x4 x5 x6 r ⟨l.val, by omega⟩)

/-- A tile's factors. -/
def facT (l : Fin 384) (r : ℕ) : EReal := Ideal.exp (logT i x0 x1 x2 x3 x4 x5 x6 x7 r l)

/-- A tile's inputs. -/
def inpT (l : Fin 384) (r : ℕ) : EReal :=
  Ideal.sqrt ((0 - Ideal.tanh (logT i x0 x1 x2 x3 x4 x5 x6 x7 r l)) * (facT i x0 x1 x2 x3 x4 x5 x6 x7 l r * facT i x0 x1 x2 x3 x4 x5 x6 x7 l r + 1))
    * (Ideal.logistic (gateT i x0 x1 x2 x3 x4 x5 x6 r ⟨384 + l.val, by omega⟩) * xcT i x0 x1 x2 x3 x4 r l)

/-- A tile's factors from its last row to its first. -/
def facR (l : Fin 384) (k : ℕ) : EReal := facT i x0 x1 x2 x3 x4 x5 x6 x7 l (511 - k)

/-- A tile's inputs from its last row to its first. -/
def inpR (l : Fin 384) (k : ℕ) : EReal := inpT i x0 x1 x2 x3 x4 x5 x6 x7 l (511 - k)

theorem tame_facR (h7 : ∀ l, x7 (ix2 0 l) ≤ 0) (l : Fin 384) : Tame (facR i x0 x1 x2 x3 x4 x5 x6 x7 l) := by
  intro r
  refine ⟨exp_nonneg _, exp_ne_top ?_⟩
  exact EReal.mul_nonpos_iff.2 (Or.inr ⟨h7 l, logistic_nonneg _⟩)

variable (arg14 : Memref sig .tc .vmem S544x384 .f32) (w0 w1 w2 w3 : Vec Ideal S1x384 .f32)
  (e0 : ∀ l, w0 (ix2 0 l) = x3 (ix2 0 l)) (e1 : ∀ l, w1 (ix2 0 l) = x3 (ix2 1 l)) (e2 : ∀ l, w2 (ix2 0 l) = x3 (ix2 2 l))
  (e3 : ∀ l, w3 (ix2 0 l) = x3 (ix2 3 l))

include e0 e1 e2 e3

theorem xcRow_eq (s : Fin 8) (j : Fin 64) (l : Fin 384) :
    xcRow w0 w1 w2 w3 x4 (padRows arg14 (padL i x0 x1 x2) s) j l = xcT i x0 x1 x2 x3 x4 (64 * s.val + j.val) l := by
  unfold xcRow xcT
  rw [padRows_at, padRows_at, padRows_at, padRows_at, e0, e1, e2, e3]
  rfl

theorem gateRow_eq (s : Fin 8) (j : Fin 64) (l : Fin 768) :
    gateRow w0 w1 w2 w3 x4 x5 x6 (padRows arg14 (padL i x0 x1 x2) s) j l = gateT i x0 x1 x2 x3 x4 x5 x6 (64 * s.val + j.val) l := by
  unfold gateRow gateT
  simp only [xcRow_eq i x0 x1 x2 x3 x4 arg14 w0 w1 w2 w3 e0 e1 e2 e3]

theorem segA_eq (s : Fin 8) (j : Fin 64) (l : Fin 384) :
    segA w0 w1 w2 w3 x4 x7 x5 x6 (padRows arg14 (padL i x0 x1 x2) s) (ix2 j l)
      = facT i x0 x1 x2 x3 x4 x5 x6 x7 l (64 * s.val + j.val) := by
  rw [segA_at, gateRow_eq i x0 x1 x2 x3 x4 x5 x6 arg14 w0 w1 w2 w3 e0 e1 e2 e3]
  rfl

theorem segB_eq (s : Fin 8) (j : Fin 64) (l : Fin 384) :
    segB w0 w1 w2 w3 x4 x7 x5 x6 (padRows arg14 (padL i x0 x1 x2) s) (ix2 j l)
      = inpT i x0 x1 x2 x3 x4 x5 x6 x7 l (64 * s.val + j.val) := by
  rw [segB_at, gateRow_eq i x0 x1 x2 x3 x4 x5 x6 arg14 w0 w1 w2 w3 e0 e1 e2 e3,
    gateRow_eq i x0 x1 x2 x3 x4 x5 x6 arg14 w0 w1 w2 w3 e0 e1 e2 e3, xcRow_eq i x0 x1 x2 x3 x4 arg14 w0 w1 w2 w3 e0 e1 e2 e3]
  rfl

theorem segA_rev (s : Fin 8) (j : Fin 64) (l : Fin 384) :
    segA w0 w1 w2 w3 x4 x7 x5 x6 (padRows arg14 (padL i x0 x1 x2) (rvs s)) (ix2 (rv j) l)
      = facR i x0 x1 x2 x3 x4 x5 x6 x7 l (64 * s.val + j.val) := by
  rw [segA_eq i x0 x1 x2 x3 x4 x5 x6 x7 arg14 w0 w1 w2 w3 e0 e1 e2 e3]
  unfold facR
  refine congrArg (facT i x0 x1 x2 x3 x4 x5 x6 x7 l) ?_
  simp only
  omega

theorem segB_rev (s : Fin 8) (j : Fin 64) (l : Fin 384) :
    segB w0 w1 w2 w3 x4 x7 x5 x6 (padRows arg14 (padL i x0 x1 x2) (rvs s)) (ix2 (rv j) l)
      = inpR i x0 x1 x2 x3 x4 x5 x6 x7 l (64 * s.val + j.val) := by
  rw [segB_eq i x0 x1 x2 x3 x4 x5 x6 x7 arg14 w0 w1 w2 w3 e0 e1 e2 e3]
  unfold inpR
  refine congrArg (inpT i x0 x1 x2 x3 x4 x5 x6 x7 l) ?_
  simp only
  omega

end

section

variable (c : Dev nD) (i : grid0.Coords) (arg3 : Memref sig .tc .vmem S1x512x384 .bf16) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S4x384 .f32) (harg6 : arg6.IsWhole) (arg7 : Memref sig .tc .vmem S1x384 .f32) (harg7 : arg7.IsWhole) (arg8 : Memref sig .tc .vmem S1x384x768 .bf16) (harg8 : arg8.IsWhole) (arg9 : Memref sig .tc .vmem S1x1x768 .f32) (harg9 : arg9.IsWhole) (arg10 : Memref sig .tc .vmem S1x384 .f32) (harg10 : arg10.IsWhole) (arg11 : Memref sig .tc .vmem S1x1x384 .f32) (harg11 : arg11.IsWhole) (arg12 : Memref sig .tc .vmem S1x512x384 .bf16) (harg12 : arg12.IsWhole) (arg13 : Memref sig .tc .vmem S1x1x384 .f32) (harg13 : arg13.IsWhole) (arg14 : Memref sig .tc .vmem S544x384 .f32) (harg14 : arg14.IsWhole) (arg15 : Memref sig .tc .vmem S3x64x8x128 .f32) (harg15 : arg15.IsWhole) (arg16 : Memref sig .tc .vmem S3x64x8x128 .f32) (harg16 : arg16.IsWhole) (arg17 : Memref sig .tc .vmem S1x384 .f32) (harg17 : arg17.IsWhole)
  (x0 : Vec Ideal S1x512x384 .bf16) (x1 x2 : Vec Ideal S1x16x384 .bf16) (x3 : Vec Ideal S4x384 .f32)
  (x4 : Vec Ideal S1x384 .f32) (x5 : Vec Ideal S1x384x768 .bf16) (x6 : Vec Ideal S1x1x768 .f32) (x7 : Vec Ideal S1x384 .f32)
  (x8 : Vec Ideal S1x1x384 .f32) (xs3 : Vec Ideal S1x384 .f32) (h7 : ∀ l, x7 (ix2 0 l) ≤ 0)

include h7

theorem isTile_at {o : Fin 3 → Vec Ideal S1x128 .f32} {Y : List (View.Piece (Elt Ideal) S1x512x384 .bf16)} {C : Fin 3 → FVec Ideal S1x128 .f32}
    (h : IsTile c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 o Y C) (n : Fin 3) (l : Fin 128) :
    (∀ r : Fin 512, View.canon Y (ix3 0 (rvr r) (lane n l)) = rec (facR i x0 x1 x2 x3 x4 x5 x6 x7 (lane n l)) (inpR i x0 x1 x2 x3 x4 x5 x6 x7 (lane n l)) (o n (ix2 0 l)) (r.val + 1))
    ∧ C n (ix2 0 l) = rec (facR i x0 x1 x2 x3 x4 x5 x6 x7 (lane n l)) (inpR i x0 x1 x2 x3 x4 x5 x6 x7 (lane n l)) (o n (ix2 0 l)) 512 := by
  obtain ⟨v626, v643, v887, w0, w1, w2, w3, e0, e1, e2, e3, rfl, rfl⟩ := h
  refine ⟨fun r => ?_, ?_⟩
  · exact tileY_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 _ _ (facR i x0 x1 x2 x3 x4 x5 x6 x7) (inpR i x0 x1 x2 x3 x4 x5 x6 x7) (segA_rev i x0 x1 x2 x3 x4 x5 x6 x7 arg14 w0 w1 w2 w3 e0 e1 e2 e3)
      (segB_rev i x0 x1 x2 x3 x4 x5 x6 x7 arg14 w0 w1 w2 w3 e0 e1 e2 e3) (tame_facR i x0 x1 x2 x3 x4 x5 x6 x7 h7) o v887 r n l
  · exact tileC_at c i arg3 harg3 arg4 harg4 arg5 harg5 arg6 harg6 arg7 harg7 arg8 harg8 arg9 harg9 arg10 harg10 arg11 harg11 arg12 harg12 arg13 harg13 arg14 harg14 arg15 harg15 arg16 harg16 arg17 harg17 v626 v643 _ _ (facR i x0 x1 x2 x3 x4 x5 x6 x7) (inpR i x0 x1 x2 x3 x4 x5 x6 x7) (segA_rev i x0 x1 x2 x3 x4 x5 x6 x7 arg14 w0 w1 w2 w3 e0 e1 e2 e3)
      (segB_rev i x0 x1 x2 x3 x4 x5 x6 x7 arg14 w0 w1 w2 w3 e0 e1 e2 e3) (tame_facR i x0 x1 x2 x3 x4 x5 x6 x7 h7) o n l

omit h7 in
theorem exists_lane (q : Fin 384) : ∃ n l, q = lane n l :=
  ⟨⟨q.val / 128, by omega⟩, ⟨q.val % 128, by omega⟩, by apply Fin.ext; simp; omega⟩

theorem step_B (hc0 : ¬cond0_0 i) (hc1 : ¬cond0_1 i) (q : Fin 384) :
    (∀ r : Fin 512, out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 (rvr r) q) = rec (facR i x0 x1 x2 x3 x4 x5 x6 x7 q) (inpR i x0 x1 x2 x3 x4 x5 x6 x7 q) (xs3 (ix2 0 q)) (r.val + 1))
    ∧ sout0_B_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix2 0 q) = rec (facR i x0 x1 x2 x3 x4 x5 x6 x7 q) (inpR i x0 x1 x2 x3 x4 x5 x6 x7 q) (xs3 (ix2 0 q)) 512 := by
  obtain ⟨o, C, ht, ho, hC⟩ := run_B c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs3 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  refine ⟨fun r => ?_, ?_⟩
  · unfold out0_B_9
    rw [View.read_writes_junk_eq_canon]
    exact hY r
  · unfold sout0_B_3
    rw [View.read_writes_junk_eq_canon, hC]
    have := canon_carryL C [] n l
    rw [List.append_nil] at this
    exact this.trans hc

theorem step_C (hc0 : ¬cond0_0 i) (hc1 : cond0_1 i) (q : Fin 384) :
    (∀ r : Fin 512, out0_C_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 (rvr r) q) = rec (facR i x0 x1 x2 x3 x4 x5 x6 x7 q) (inpR i x0 x1 x2 x3 x4 x5 x6 x7 q) (xs3 (ix2 0 q)) (r.val + 1))
    ∧ sout0_C_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix2 0 q) = rec (facR i x0 x1 x2 x3 x4 x5 x6 x7 q) (inpR i x0 x1 x2 x3 x4 x5 x6 x7 q) (xs3 (ix2 0 q)) 512
    ∧ out0_C_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 (ix3 0 0 q) = rec (facR i x0 x1 x2 x3 x4 x5 x6 x7 q) (inpR i x0 x1 x2 x3 x4 x5 x6 x7 q) (xs3 (ix2 0 q)) 512 := by
  obtain ⟨o, C, ht, ho, hC, hT⟩ := run_C c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs3 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  have hcar := canon_carryL C [] n l
  rw [List.append_nil] at hcar
  refine ⟨fun r => ?_, ?_, ?_⟩
  · unfold out0_C_9
    rw [View.read_writes_junk_eq_canon]
    exact hY r
  · unfold sout0_C_3
    rw [View.read_writes_junk_eq_canon, hC]
    exact hcar.trans hc
  · unfold out0_C_10
    rw [View.read_writes_junk_eq_canon, hT, hC]
    have e : (ix3 0 0 (lane n l) : S1x1x384.Idx)
        = (Rect.unit (s := S1x1x384) ![0, 0, 0] S1x1x384.size inb_S1x1x384_S1x1x384_0_0_0).emb (ix3 0 0 (lane n l)) := by
      funext a
      apply Fin.ext
      rw [Rect.emb_apply]
      fin_cases a <;> simp [Rect.unit, ix3]
    refine (congrArg _ e).trans ((View.canon_cons_emb ..).trans ?_)
    have p2 : ∀ v : Vec Ideal S1x384 .f32, k0_pay3 v (ix3 0 0 (lane n l)) = v (ix2 0 (lane n l)) := by
      intro v
      unfold k0_pay3
      pointwise
    refine (p2 _).trans ?_
    rw [View.readCov_eq_canon']
    refine Eq.trans (congrArg (View.canon (carryL C)) ?_) (hcar.trans hc)
    funext a
    apply Fin.ext
    fin_cases a <;> simp [LoadRect.idx, Rect.toLoadRect, Rect.unit, ix2]

theorem step_A (hc0 : cond0_0 i) (hc1 : ¬cond0_1 i) (q : Fin 384) :
    (∀ r : Fin 512, out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix3 0 (rvr r) q) = rec (facR i x0 x1 x2 x3 x4 x5 x6 x7 q) (inpR i x0 x1 x2 x3 x4 x5 x6 x7 q) (x8 (ix3 0 0 q)) (r.val + 1))
    ∧ sout0_A_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix2 0 q) = rec (facR i x0 x1 x2 x3 x4 x5 x6 x7 q) (inpR i x0 x1 x2 x3 x4 x5 x6 x7 q) (x8 (ix3 0 0 q)) 512 := by
  obtain ⟨o, C, ht, ho, hC⟩ := run_A c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 hc0 hc1
  obtain ⟨n, l, rfl⟩ := exists_lane q
  obtain ⟨hY, hc⟩ := isTile_at c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 h7 ht n l
  rw [ho n l] at hY hc
  refine ⟨fun r => ?_, ?_⟩
  · unfold out0_A_9
    rw [View.read_writes_junk_eq_canon]
    exact hY r
  · unfold sout0_A_3
    rw [View.read_writes_junk_eq_canon, hC]
    exact (canon_carryL C (h0L x8) n l).trans hc

end

end Cert.LruB
-- ==== Proof.BCarry.lean ====
/- The backward recurrence. The recurrence over whole sequences, from the arrays the call reads, and what the grid
   points leave of it: by induction along the tiles of a sequence. -/
module

public import proofs.«01_k».proof.Proof.BBlocks
public import proofs.«01_k».proof.Proof.BStep
public import proofs.«01_k».proof.Proof.Carry

@[expose] public section

set_option maxRecDepth 16384
set_option maxHeartbeats 1000000

noncomputable section

namespace Cert.LruB

open Idealize.ShloMosaic Idealize.ShloMosaic.TcCoe Cert.Kernel8Ideal Cert.Kernel8Ideal.Gen
open Cert.Lru (rec rec_add rec_congr xpG xcG gateG logG facG inpG)

section

variable (m : (ℓ : Loc nD τ sig) → Buf (Elt Ideal) ℓ) (c : Dev nD)

/-- The factors, from the arrays as the call finds them. -/
abbrev facV (b : Fin 2) (g : Fin 8) (l : Fin 384) (n : ℕ) : EReal :=
  facG (V m c main_arg0) (V m c main_v2) (V m c main_v6) (V m c main_v34) (V m c main_v35) (V m c main_v14) b g l n
/-- The inputs, from the arrays as the call finds them. -/
abbrev inpV (b : Fin 2) (g : Fin 8) (l : Fin 384) (n : ℕ) : EReal :=
  inpG (V m c main_arg0) (V m c main_v2) (V m c main_v6) (V m c main_v34) (V m c main_v35) (V m c main_v14) b g l n
/-- The states after `n` steps from the sequence's end, from the arrays as the call finds them. -/
def recV (b : Fin 2) (g : Fin 8) (l : Fin 384) (n : ℕ) : EReal :=
  rec (fun k => facV m c b g l (8191 - k)) (fun k => inpV m c b g l (8191 - k)) (V m c main_v39 (ix3 b 0 (col g l))) n

variable (t : Fin cfg0.N)

theorem pad_at (r k : ℕ) (hr : r < 512) (hk : k < 4) (l : Fin 384) :
    pad (grid0.coords t) (X0_0 m c t) (X0_1 m c t) (X0_2 m c t) (15 + r + k) l
      = xpG (V m c main_arg0) (bOf t) (gOf t) l (512 * (tOf t).val + r + k) := by
  have ht : (tOf t).val < 16 := (tOf t).isLt
  have hc : 15 - (grid0.coords t 2).val = (tOf t).val := by rw [coords2]; rfl
  unfold pad xpG
  rw [hc]
  by_cases h1 : 15 + r + k < 16
  · rw [dif_pos h1]
    by_cases h0 : (tOf t).val = 0
    · rw [if_pos h0, dif_neg (by omega)]
    · rw [if_neg h0, dif_pos (by omega), X1_at m c t _ l h0]
      congr 3
      simp only
      omega
  · rw [dif_neg h1]
    by_cases h2 : 15 + r + k < 528
    · rw [dif_pos h2, dif_pos (by omega), X0_at m c t _ l]
      congr 3
      simp only
      omega
    · rw [dif_neg h2, dif_pos (by omega)]
      by_cases h0 : (tOf t).val = 15
      · rw [if_pos h0, dif_neg (by omega)]
      · rw [if_neg h0, dif_pos (by omega), X2_at m c t _ l h0]
        congr 3
        simp only
        omega

theorem xcT_at (r : ℕ) (hr : r < 512) (l : Fin 384) :
    xcT (grid0.coords t) (X0_0 m c t) (X0_1 m c t) (X0_2 m c t) (iblk m c 3 t) (iblk m c 4 t) r l
      = xcG (V m c main_arg0) (V m c main_v2) (V m c main_v6) (bOf t) (gOf t) (512 * (tOf t).val + r) l := by
  unfold xcT xcG
  rw [X3_at, X3_at, X3_at, X3_at, X4_at]
  have p0 := pad_at m c t r 0 hr (by omega) l
  have p1 := pad_at m c t r 1 hr (by omega) l
  have p2 := pad_at m c t r 2 hr (by omega) l
  have p3 := pad_at m c t r 3 hr (by omega) l
  rw [Nat.add_zero, Nat.add_zero] at p0
  rw [p0, p1, p2, p3]

theorem gateT_at (r : ℕ) (hr : r < 512) (l : Fin 768) :
    gateT (grid0.coords t) (X0_0 m c t) (X0_1 m c t) (X0_2 m c t) (iblk m c 3 t) (iblk m c 4 t) (iblk m c 5 t) (iblk m c 6 t) r l
      = gateG (V m c main_arg0) (V m c main_v2) (V m c main_v6) (V m c main_v34) (V m c main_v35) (bOf t) (gOf t) (512 * (tOf t).val + r) l := by
  unfold gateT gateG
  rw [X6_at]
  refine congrArg (· + _) (Finset.sum_congr rfl fun k _ => ?_)
  rw [xcT_at m c t r hr, X5_at]

theorem logT_at (r : ℕ) (hr : r < 512) (l : Fin 384) :
    logT (grid0.coords t) (X0_0 m c t) (X0_1 m c t) (X0_2 m c t) (iblk m c 3 t) (iblk m c 4 t) (iblk m c 5 t) (iblk m c 6 t) (iblk m c 7 t) r l
      = logG (V m c main_arg0) (V m c main_v2) (V m c main_v6) (V m c main_v34) (V m c main_v35) (V m c main_v14) (bOf t) (gOf t) (512 * (tOf t).val + r) l := by
  unfold logT logG
  rw [gateT_at m c t r hr, X7_at]

theorem facT_at (r : ℕ) (hr : r < 512) (l : Fin 384) :
    facT (grid0.coords t) (X0_0 m c t) (X0_1 m c t) (X0_2 m c t) (iblk m c 3 t) (iblk m c 4 t) (iblk m c 5 t) (iblk m c 6 t) (iblk m c 7 t) l r
      = facV m c (bOf t) (gOf t) l (512 * (tOf t).val + r) := by
  unfold facT facV facG
  rw [logT_at m c t r hr]

theorem inpT_at (r : ℕ) (hr : r < 512) (l : Fin 384) :
    inpT (grid0.coords t) (X0_0 m c t) (X0_1 m c t) (X0_2 m c t) (iblk m c 3 t) (iblk m c 4 t) (iblk m c 5 t) (iblk m c 6 t) (iblk m c 7 t) l r
      = inpV m c (bOf t) (gOf t) l (512 * (tOf t).val + r) := by
  unfold inpT inpV inpG
  rw [logT_at m c t r hr, facT_at m c t r hr, gateT_at m c t r hr, xcT_at m c t r hr]

theorem rec_tile (l : Fin 384) (o : EReal) (n : ℕ) (hn : n ≤ 512)
    (ho : o = recV m c (bOf t) (gOf t) l (512 * vOf t)) :
    rec (facR (grid0.coords t) (X0_0 m c t) (X0_1 m c t) (X0_2 m c t) (iblk m c 3 t) (iblk m c 4 t) (iblk m c 5 t) (iblk m c 6 t) (iblk m c 7 t) l)
      (inpR (grid0.coords t) (X0_0 m c t) (X0_1 m c t) (X0_2 m c t) (iblk m c 3 t) (iblk m c 4 t) (iblk m c 5 t) (iblk m c 6 t) (iblk m c 7 t) l) o n
      = recV m c (bOf t) (gOf t) l (512 * vOf t + n) := by
  rw [recV, rec_add]
  have e : ∀ k, k < n → 512 * (tOf t).val + (511 - k) = 8191 - (512 * vOf t + k) := by
    intro k hk
    simp only [tOf, vOf]
    omega
  exact rec_congr ho n (fun k hk => by rw [facR, facT_at m c t _ (by omega) l, e k hk])
    (fun k hk => by rw [inpR, inpT_at m c t _ (by omega) l, e k hk])

end

section

variable (m : (ℓ : Loc nD τ sig) → Buf (Elt Ideal) ℓ) (c : Dev nD)

/-- The scaled rates, as the call finds them. -/
def nlaV : Vec Ideal S1x3072 .f32 := V m c main_v14

/-- A grid point's block of the scaled rates. -/
def nlaB (t : Fin cfg0.N) : Vec Ideal S1x384 .f32 := iblk m c 7 t

variable (h7 : ∀ q, nlaV m c (ix2 0 q) ≤ 0)

/-- What a grid point leaves: its rows of the states, the state after its tile, and at a sequence's last tile the last
    state. -/
def Point (t : Fin cfg0.N) (q : Fin 384) : Prop :=
  (∀ r : Fin 512, (outsAt0 m c t.val t.isLt).1 (ix3 0 (rvr r) q) = recV m c (bOf t) (gOf t) q (512 * vOf t + (r.val + 1)))
    ∧ (outsAt0 m c t.val t.isLt).2.2 (ix2 0 q) = recV m c (bOf t) (gOf t) q (512 * vOf t + 512)
    ∧ (t.val % 16 = 15 → (outsAt0 m c t.val t.isLt).2.1 (ix3 0 0 q) = recV m c (bOf t) (gOf t) q (512 * vOf t + 512))

include h7

theorem nla_le (t : Fin cfg0.N) (l : Fin 384) : nlaB m c t (ix2 0 l) ≤ 0 := by
  have e : nlaB m c t (ix2 0 l) = nlaV m c (ix2 0 (col (gOf t) l)) := X7_at m c t l
  rw [e]
  exact h7 _

theorem point_A (t : Fin cfg0.N) (q : Fin 384) (h0 : t.val % 16 = 0) : Point m c t q := by
  have h1 : ¬t.val % 16 = 15 := by omega
  obtain ⟨s1, s2⟩ := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (nla_le m c h7 t) ((hcond0_0 t).mpr h0) (fun h => h1 ((hcond0_1 t).mp h)) q
  have ho : (iblk m c 8 t : Vec Ideal S1x1x384 .f32) (ix3 0 0 q) = recV m c (bOf t) (gOf t) q (512 * vOf t) := by
    have : vOf t = 0 := h0
    rw [this, X8_at]
    rfl
  unfold Point
  rw [outsAt0_A m c t h0 h1]
  dsimp only
  refine ⟨fun r => (s1 r).trans (rec_tile m c t q _ _ (by omega) ho), s2.trans (rec_tile m c t q _ _ le_rfl ho), fun h => absurd h h1⟩

theorem point_B (t : Fin cfg0.N) (q : Fin 384) (h0 : ¬t.val % 16 = 0) (h1 : ¬t.val % 16 = 15)
    (ho : (outsAt0 m c (t.val - 1) (Nat.lt_of_le_of_lt (Nat.sub_le _ _) t.isLt)).2.2 (ix2 0 q) = recV m c (bOf t) (gOf t) q (512 * vOf t)) :
    Point m c t q := by
  obtain ⟨s1, s2⟩ := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (nla_le m c h7 t)
    (fun h => h0 ((hcond0_0 t).mp h)) (fun h => h1 ((hcond0_1 t).mp h)) q
  unfold Point
  rw [outsAt0_B m c t h0 h1]
  dsimp only
  refine ⟨fun r => (s1 r).trans (rec_tile m c t q _ _ (by omega) ho), s2.trans (rec_tile m c t q _ _ le_rfl ho), fun h => absurd h h1⟩

theorem point_C (t : Fin cfg0.N) (q : Fin 384) (h0 : ¬t.val % 16 = 0) (h1 : t.val % 16 = 15)
    (ho : (outsAt0 m c (t.val - 1) (Nat.lt_of_le_of_lt (Nat.sub_le _ _) t.isLt)).2.2 (ix2 0 q) = recV m c (bOf t) (gOf t) q (512 * vOf t)) :
    Point m c t q := by
  obtain ⟨s1, s2, s3⟩ := step_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (nla_le m c h7 t)
    (fun h => h0 ((hcond0_0 t).mp h)) ((hcond0_1 t).mpr h1) q
  unfold Point
  rw [outsAt0_C m c t h0 h1]
  dsimp only
  refine ⟨fun r => (s1 r).trans (rec_tile m c t q _ _ (by omega) ho), s2.trans (rec_tile m c t q _ _ le_rfl ho), fun _ => ?_⟩
  rw [← rec_tile m c t q _ 512 le_rfl ho]
  exact s3

theorem point_nat (q : Fin 384) : ∀ n (hn : n < cfg0.N), Point m c ⟨n, hn⟩ q
  | 0, hn => point_A m c h7 ⟨0, hn⟩ q rfl
  | n + 1, hn => by
    by_cases h0 : (n + 1) % 16 = 0
    · exact point_A m c h7 ⟨n + 1, hn⟩ q h0
    · have ih := (point_nat q n (by omega)).2.1
      have ho : (outsAt0 m c n (by omega)).2.2 (ix2 0 q)
          = recV m c (bOf ⟨n + 1, hn⟩) (gOf ⟨n + 1, hn⟩) q (512 * vOf ⟨n + 1, hn⟩) := by
        have eb : bOf ⟨n + 1, hn⟩ = bOf ⟨n, by omega⟩ := by apply Fin.ext; simp only [bOf]; omega
        have eg : gOf ⟨n + 1, hn⟩ = gOf ⟨n, by omega⟩ := by apply Fin.ext; simp only [gOf]; omega
        have et : 512 * vOf ⟨n + 1, hn⟩ = 512 * vOf ⟨n, by omega⟩ + 512 := by simp only [vOf]; omega
        rw [eb, eg, et]
        exact ih
      by_cases h1 : (n + 1) % 16 = 15
      · exact point_C m c h7 ⟨n + 1, hn⟩ q h0 h1 ho
      · exact point_B m c h7 ⟨n + 1, hn⟩ q h0 h1 ho

theorem point (t : Fin cfg0.N) (q : Fin 384) : Point m c t q := point_nat m c h7 q t.val t.isLt

end

end Cert.LruB
-- ==== Proof.BArrays.lean ====
/- The backward recurrence. The two result arrays of the call: every state of the recurrence, and its last state. -/
module

public import proofs.«01_k».proof.Proof.BCarry

@[expose] public section

set_option maxRecDepth 16384
set_option maxHeartbeats 1000000

noncomputable section

namespace Cert.LruB

open Idealize.ShloMosaic Idealize.ShloMosaic.TcCoe Cert.Kernel8Ideal Cert.Kernel8Ideal.Gen

variable (m : (ℓ : Loc nD τ sig) → Buf (Elt Ideal) ℓ) (c : Dev nD)

/-- All states: that of row `t` is the one after the rows from `t` to the sequence's end. -/
def outY : Vec Ideal S2x8192x3072 .bf16 := fun y => recV m c (y 0) ⟨(y 2).val / 384, by have : (y 2).val < 3072 := (y 2).isLt; omega⟩ ⟨(y 2).val % 384, by omega⟩ (8191 - (y 1).val + 1)

/-- The last states. -/
def outH : Vec Ideal S2x1x3072 .f32 := fun y => recV m c (y 0) ⟨(y 2).val / 384, by have : (y 2).val < 3072 := (y 2).isLt; omega⟩ ⟨(y 2).val % 384, by omega⟩ 8192

theorem outY_col (b : Fin 2) (n : Fin 8192) (g : Fin 8) (q : Fin 384) : outY m c (ix3 b n (col g q)) = recV m c b g q (8191 - n.val + 1) := by
  unfold outY
  have e1 : (⟨(col g q).val / 384, by omega⟩ : Fin 8) = g := by apply Fin.ext; simp only; omega
  have e2 : (⟨(col g q).val % 384, by omega⟩ : Fin 384) = q := by apply Fin.ext; simp only; omega
  exact congrArg₂ (fun g q => recV m c b g q (8191 - n.val + 1)) e1 e2

theorem outH_col (b : Fin 2) (g : Fin 8) (q : Fin 384) : outH m c (ix3 b 0 (col g q)) = recV m c b g q 8192 := by
  unfold outH
  have e1 : (⟨(col g q).val / 384, by omega⟩ : Fin 8) = g := by apply Fin.ext; simp only; omega
  have e2 : (⟨(col g q).val % 384, by omega⟩ : Fin 384) = q := by apply Fin.ext; simp only; omega
  exact congrArg₂ (fun g q => recV m c b g q 8192) e1 e2

theorem emb9 (t : Fin cfg0.N) (r : Fin 512) (q : Fin 384) :
    ((cfg0.win 9).blk t).view.emb (ix3 0 r q) = ix3 (bOf t) (⟨512 * (tOf t).val + r.val, by have := (tOf t).isLt; omega⟩ : Fin 8192) (col (gOf t) q) := by
  obtain ⟨e0, e1, e2⟩ := index9 t
  funext a
  apply Fin.ext
  match a with
  | ⟨0, _⟩ => show win0_9.index t 0 * 1 + 1 * 0 = t.val / 128; omega
  | ⟨1, _⟩ => show win0_9.index t 1 * 512 + 1 * r.val = 512 * (15 - t.val % 16) + r.val; omega
  | ⟨2, _⟩ => show win0_9.index t 2 * 384 + 1 * q.val = 384 * (t.val / 16 % 8) + q.val; omega

theorem emb10 (t : Fin cfg0.N) (q : Fin 384) :
    ((cfg0.win 10).blk t).view.emb (ix3 0 0 q) = ix3 (bOf t) 0 (col (gOf t) q) := by
  obtain ⟨e0, e1, e2⟩ := index10 t
  funext a
  apply Fin.ext
  match a with
  | ⟨0, _⟩ => show win0_10.index t 0 * 1 + 1 * 0 = t.val / 128; omega
  | ⟨1, _⟩ => show win0_10.index t 1 * 1 + 1 * 0 = 0; omega
  | ⟨2, _⟩ => show win0_10.index t 2 * 384 + 1 * q.val = 384 * (t.val / 16 % 8) + q.val; omega

/-- The grid point of a sequence's tile and a group of channels. -/
def pt (b : Fin 2) (g : Fin 8) (k : Fin 16) : Fin cfg0.N := ⟨128 * b.val + 16 * g.val + (15 - k.val), by rw [show cfg0.N = 256 from N_0]; omega⟩

theorem bOf_pt (b : Fin 2) (g : Fin 8) (k : Fin 16) : bOf (pt b g k) = b := by apply Fin.ext; simp only [bOf, pt]; omega
theorem gOf_pt (b : Fin 2) (g : Fin 8) (k : Fin 16) : gOf (pt b g k) = g := by apply Fin.ext; simp only [gOf, pt]; omega
theorem tOf_pt (b : Fin 2) (g : Fin 8) (k : Fin 16) : tOf (pt b g k) = k := by apply Fin.ext; simp only [tOf, pt]; omega

theorem mem9 (t : Fin cfg0.N) (r : Fin 512) (q : Fin 384) :
    (ix3 (bOf t) (⟨512 * (tOf t).val + r.val, by have := (tOf t).isLt; omega⟩ : Fin 8192) (col (gOf t) q) : S2x8192x3072.Idx) ∈ ((cfg0.win 9).blk t).view.set := by
  have h := ((cfg0.win 9).blk t).view.emb_mem_set (ix3 0 r q)
  rw [emb9] at h
  exact h

theorem mem10 (t : Fin cfg0.N) (q : Fin 384) :
    (ix3 (bOf t) 0 (col (gOf t) q) : S2x1x3072.Idx) ∈ ((cfg0.win 10).blk t).view.set := by
  have h := ((cfg0.win 10).blk t).view.emb_mem_set (ix3 0 0 q)
  rw [emb10] at h
  exact h

theorem cover9 (p : Fin cfg0.N) (b : Fin 2) (n : Fin 8192) (q : Fin 3072) (hb : bOf p = b) (hg : (gOf p).val = q.val / 384)
    (ht : (tOf p).val = n.val / 512) : (ix3 b n q : S2x8192x3072.Idx) ∈ ((cfg0.win 9).blk p).view.set := by
  have hm := mem9 p ⟨n.val % 512, by omega⟩ ⟨q.val % 384, by omega⟩
  have en : (⟨512 * (tOf p).val + (⟨n.val % 512, by omega⟩ : Fin 512).val, by have := (tOf p).isLt; simp only; omega⟩ : Fin 8192) = n := by
    apply Fin.ext; simp only; omega
  have eq : col (gOf p) ⟨q.val % 384, by omega⟩ = q := by apply Fin.ext; simp only; omega
  rw [en, eq, hb] at hm
  exact hm

theorem cover10 (p : Fin cfg0.N) (b : Fin 2) (q : Fin 3072) (hb : bOf p = b) (hg : (gOf p).val = q.val / 384) :
    (ix3 b 0 q : S2x1x3072.Idx) ∈ ((cfg0.win 10).blk p).view.set := by
  have hm := mem10 p ⟨q.val % 384, by omega⟩
  have eq : col (gOf p) ⟨q.val % 384, by omega⟩ = q := by apply Fin.ext; simp only; omega
  rw [eq, hb] at hm
  exact hm

variable (h7 : ∀ q, nlaV m c (ix2 0 q) ≤ 0)

include h7

theorem flushed9_eq (t : Fin cfg0.N) : (dats m 0 c).flushed 9 t = ((cfg0.win 9).blk t).view.read (Elt Ideal) (outY m c) := by
  rw [Cert.Kernel8Ideal.Value.flushed9]
  funext j
  show (outsAt0 m c t.val t.isLt).1 j = outY m c (((cfg0.win 9).blk t).view.emb j)
  obtain ⟨u, r, q, rfl⟩ : ∃ (u : Fin 1) (r : Fin 512) (q : Fin 384), j = ix3 u r q := ⟨j 0, j 1, j 2, (ix3_eta (n0 := 1) (n1 := 512) (n2 := 384) j).symm⟩
  obtain rfl : u = 0 := Subsingleton.elim _ _
  rw [emb9, outY_col]
  have hp := (point m c h7 t q).1 (rvr r)
  have er : rvr (rvr r) = r := Fin.ext (by simp; omega)
  rw [er] at hp
  refine hp.trans (congrArg _ ?_)
  simp only [tOf, vOf]
  omega

theorem flushed10_eq (t : Fin cfg0.N) (hf : (cfg0.win 10).flush t = true) :
    (dats m 0 c).flushed 10 t = ((cfg0.win 10).blk t).view.read (Elt Ideal) (outH m c) := by
  have h15 : t.val % 16 = 15 := (flush0_10 t).mp hf
  rw [Cert.Kernel8Ideal.Value.flushed10]
  funext j
  show (outsAt0 m c t.val t.isLt).2.1 j = outH m c (((cfg0.win 10).blk t).view.emb j)
  obtain ⟨u, r, q, rfl⟩ : ∃ (u : Fin 1) (r : Fin 1) (q : Fin 384), j = ix3 u r q := ⟨j 0, j 1, j 2, (ix3_eta (n0 := 1) (n1 := 1) (n2 := 384) j).symm⟩
  obtain rfl : u = 0 := Subsingleton.elim _ _
  obtain rfl : r = 0 := Subsingleton.elim _ _
  rw [emb10, outH_col]
  refine ((point m c h7 t q).2.2 h15).trans ?_
  have : vOf t = 15 := h15
  rw [this]

theorem final9 : (dats m 0 c).arrAt 9 cfg0.N = outY m c :=
  (dats m 0 c).arrAt_eq_of_cover 9 (outY m c) (fun t _ => flushed9_eq m c h7 t) fun y => by
    obtain ⟨b, n, q, rfl⟩ : ∃ (b : Fin 2) (n : Fin 8192) (q : Fin 3072), y = ix3 b n q := ⟨y 0, y 1, y 2, (ix3_eta (n0 := 2) (n1 := 8192) (n2 := 3072) y).symm⟩
    refine ⟨pt b ⟨q.val / 384, by omega⟩ ⟨n.val / 512, by omega⟩, flush0_9 _, ?_⟩
    exact cover9 _ b n q (bOf_pt ..) (congrArg Fin.val (gOf_pt ..)) (congrArg Fin.val (tOf_pt ..))

theorem final10 : (dats m 0 c).arrAt 10 cfg0.N = outH m c :=
  (dats m 0 c).arrAt_eq_of_cover 10 (outH m c) (fun t hf => flushed10_eq m c h7 t hf) fun y => by
    obtain ⟨b, n, q, rfl⟩ : ∃ (b : Fin 2) (n : Fin 1) (q : Fin 3072), y = ix3 b n q := ⟨y 0, y 1, y 2, (ix3_eta (n0 := 2) (n1 := 1) (n2 := 3072) y).symm⟩
    obtain rfl : n = 0 := Subsingleton.elim _ _
    refine ⟨pt b ⟨q.val / 384, by omega⟩ 0, (flush0_10 _).mpr ?_, ?_⟩
    · simp only [pt]; omega
    exact cover10 _ b q (bOf_pt ..) (congrArg Fin.val (gOf_pt ..))

end Cert.LruB
-- ==== Proof.BHostRead.lean ====
/- The backward recurrence. The arrays that the host prepares before the call, as the operations that make them. -/
module

public import proofs.«01_k».proof.Proof.BCarry
public import proofs.«01_k».proof.Proof.HostArgs
public import Idealize.ShloMosaic.Lib.StableHlo.Run

@[expose] public section

set_option maxRecDepth 16384
set_option maxHeartbeats 4000000

noncomputable section

namespace Cert.LruB

open Idealize.ShloMosaic Idealize.ShloMosaic.TcCoe Cert.Kernel8Ideal Cert.Kernel8Ideal.Gen
open Cert.Lru (v2T v6T v34T v35T v39T rowT laT)

variable (m : (ℓ : Loc nD τ sig) → Buf (Elt Ideal) ℓ) (c : Dev nD)

theorem V_v2 : V m c main_v2 = v2T (m ((c : Thread nD τ).loc main_arg1)) := by
  show StableHlo.after _ _ (Proc.devRef .tc main_v2) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v6 : V m c main_v6 = v6T (rowT (m ((c : Thread nD τ).loc main_arg2))) := by
  show StableHlo.after _ _ (Proc.devRef .tc main_v6) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v14 : V m c main_v14 = v6T (laT (m ((c : Thread nD τ).loc main_arg5))) := by
  show StableHlo.after _ _ (Proc.devRef .tc main_v14) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  simp only [StableHlo.TRef.ofBuf_toBuf]
  unfold v6T laT Cert.Lru.spT rowT Cert.Lru.zpad
  dsimp only
  rfl

theorem V_v34 : V m c main_v34 = v34T (m ((c : Thread nD τ).loc main_arg3)) := by
  show StableHlo.after _ _ (Proc.devRef .tc main_v34) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v35 : V m c main_v35 = v35T (m ((c : Thread nD τ).loc main_arg4)) := by
  show StableHlo.after _ _ (Proc.devRef .tc main_v35) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem V_v39 : V m c main_v39 = v39T (m ((c : Thread nD τ).loc main_arg6)) := by
  show StableHlo.after _ _ (Proc.devRef .tc main_v39) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
    List.nil_append]
  after_results_simp
  rfl

theorem v14_nonpos (q : Fin 3072) : nlaV m c (ix2 0 q) ≤ 0 := by
  unfold nlaV
  rw [V_v14]
  have e : q = col ⟨q.val / 384, by omega⟩ ⟨q.val % 384, by omega⟩ := by
    apply Fin.ext; simp only; omega
  rw [e]
  refine (Cert.Lru.v6T_at _ _ _).trans_le ?_
  split_ifs with h
  · exact Cert.Lru.laT_nonpos _ _
  · exact le_rfl

end Cert.LruB
-- ==== Proof.BEqual.lean ====
/- The backward recurrence. The two programs' recurrences are one: the kernel's, over groups of 384 lanes, is the
   reference's in the lanes in use, and zero in the others. -/
module

public import proofs.«01_k».proof.Proof.BRefLoop
public import proofs.«01_k».proof.Proof.BArrays
public import proofs.«01_k».proof.Proof.BHostRead
public import proofs.«01_k».proof.Proof.Equal

@[expose] public section

set_option maxRecDepth 16384
set_option maxHeartbeats 1000000

noncomputable section

namespace Cert.LruB

open Idealize.ShloMosaic Idealize.ShloMosaic.TcCoe Cert.Kernel8Ideal Cert.Kernel8Ideal.Gen
open Cert.Lru (v2T v6T v34T v35T v39T rowT laT facG inpG rec rec_congr chan)

variable (m : (ℓ : Loc nD τ sig) → Buf (Elt Ideal) ℓ) (c : Dev nD)
variable (m' : (ℓ : Loc Cert.Reference8Ideal.nD Cert.Reference8Ideal.τ Cert.Reference8Ideal.sig) → Buf (Elt Ideal) ℓ) (c' : Dev Cert.Reference8Ideal.nD)

/-- The two runs start from the same arguments. -/
structure Same : Prop where
  e0 : m ((c : Thread nD τ).loc main_arg0) = Cert.LruRefB.A0 m' c'
  e1 : m ((c : Thread nD τ).loc main_arg1) = Cert.LruRefB.A1 m' c'
  e2 : m ((c : Thread nD τ).loc main_arg2) = Cert.LruRefB.A2 m' c'
  e3 : m ((c : Thread nD τ).loc main_arg3) = Cert.LruRefB.A3 m' c'
  e4 : m ((c : Thread nD τ).loc main_arg4) = Cert.LruRefB.A4 m' c'
  e5 : m ((c : Thread nD τ).loc main_arg5) = Cert.LruRefB.A5 m' c'
  e6 : m ((c : Thread nD τ).loc main_arg6) = Cert.LruRefB.A6 m' c'

variable {m c m' c'}

theorem recV_args (S : Same m c m' c') (b : Fin 2) (g : Fin 8) (l : Fin 384) (n : ℕ) :
    recV m c b g l n = rec (fun k => facG (Cert.LruRefB.A0 m' c') (v2T (Cert.LruRefB.A1 m' c')) (v6T (rowT (Cert.LruRefB.A2 m' c'))) (v34T (Cert.LruRefB.A3 m' c')) (v35T (Cert.LruRefB.A4 m' c')) (v6T (laT (Cert.LruRefB.A5 m' c'))) b g l (8191 - k))
      (fun k => inpG (Cert.LruRefB.A0 m' c') (v2T (Cert.LruRefB.A1 m' c')) (v6T (rowT (Cert.LruRefB.A2 m' c'))) (v34T (Cert.LruRefB.A3 m' c')) (v35T (Cert.LruRefB.A4 m' c')) (v6T (laT (Cert.LruRefB.A5 m' c'))) b g l (8191 - k))
      (v39T (Cert.LruRefB.A6 m' c') (ix3 b 0 (col g l))) n := by
  unfold recV facV inpV
  rw [V_main_arg0, V_v2, V_v6, V_v14, V_v34, V_v35, V_v39, S.e0, S.e1, S.e2, S.e3, S.e4, S.e5, S.e6]

theorem recV_eq (S : Same m c m' c') (b : Fin 2) (g : Fin 8) (l : Fin 384) (h : l.val < 352) (n : ℕ) :
    recV m c b g l n = Cert.LruRefB.recR m' c' b (chan g l h) n := by
  rw [recV_args S, Cert.Lru.v39T_at, dif_pos h]
  exact rec_congr rfl n (fun k _ => Cert.Lru.facG_eq _ _ _ _ _ _ b g (8191 - k) l h) (fun k _ => Cert.Lru.inpG_eq _ _ _ _ _ _ b g (8191 - k) l h)

theorem recV_zero (S : Same m c m' c') (b : Fin 2) (g : Fin 8) (l : Fin 384) (h : ¬ l.val < 352) (n : ℕ) :
    recV m c b g l n = 0 := by
  rw [recV_args S, Cert.Lru.v39T_at, dif_neg h]
  exact Cert.Lru.rec_zero _ _ (fun k => Cert.Lru.inpG_zero _ _ _ _ _ _ b g (8191 - k) l h) n

theorem lane_eq (S : Same m c m' c') (b : Fin 2) (g : Fin 8) (l : Fin 384) (n : ℕ) :
    recV m c b g l n = if h : (col g l).val % 384 < 352 then Cert.LruRefB.recR m' c' b (Cert.LruRef.ch (col g l) h) n else 0 := by
  have e1 : (col g l).val % 384 = l.val := by unfold col; simp only; omega
  have e2 : (col g l).val / 384 = g.val := by unfold col; simp only; omega
  by_cases h : l.val < 352
  · rw [dif_pos (by rw [e1]; exact h), recV_eq S b g l h]
    congr 1
    unfold chan Cert.LruRef.ch
    apply Fin.ext; simp only; rw [e1, e2]
  · rw [dif_neg (by rw [e1]; exact h), recV_zero S b g l h]

theorem col_split (q : Fin 3072) : q = col ⟨q.val / 384, by omega⟩ ⟨q.val % 384, by omega⟩ := by
  apply Fin.ext; unfold col; simp only; omega

theorem outY_eq (S : Same m c m' c') : outY m c = (Cert.LruRefB.states m' c' 8192).main_v74_5 := by
  funext y
  obtain ⟨b, t, q, rfl⟩ : ∃ b t q, y = ix3 b t q := ⟨y 0, y 1, y 2, (ix3_eta (n0 := 2) (n1 := 8192) (n2 := 3072) y).symm⟩
  refine Eq.trans ?_ (Cert.LruRefB.states_y m' c' 8192 le_rfl b t (Nat.zero_le _) q).symm
  rw [col_split q, outY_col]
  exact lane_eq S b _ _ _

theorem outH_eq (S : Same m c m' c') : outH m c = Cert.Reference8Ideal.Step.R_main_v78 (Cert.LruRefB.states m' c' 8192) := by
  funext y
  obtain ⟨b, t, q, rfl⟩ : ∃ b t q, y = ix3 b t q := ⟨y 0, y 1, y 2, (ix3_eta (n0 := 2) (n1 := 1) (n2 := 3072) y).symm⟩
  obtain rfl : t = 0 := Subsingleton.elim _ _
  refine Eq.trans ?_ (Cert.LruRefB.states_last m' c' b q).symm
  rw [col_split q, outH_col]
  exact lane_eq S b _ _ _

end Cert.LruB
-- ==== Proof.lean ====
/- The certificate: frames of the kernel at both instances and of the reference, and the equality of the two results at the
   ideal instance. -/
module

public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Step
public import proofs.«01_k».proof.Proof.Gen.Kernel8Ideal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.KernelIdeal.Value
public import proofs.«01_k».proof.Proof.Equal
public import proofs.«01_k».proof.Proof.FfnEqual
public import proofs.«01_k».proof.Proof.In3Equal
public import proofs.«01_k».proof.Proof.In4Equal
public import proofs.«01_k».proof.Proof.AoutEqual
public import proofs.«01_k».proof.Proof.BoutEqual
public import proofs.«01_k».proof.Proof.Wout
public import proofs.«01_k».proof.Proof.BEqual
public import Idealize.ShloMosaic.Lib.Quiescent
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts
  Cert.Kernel8.Gen.facts Cert.Kernel8Ideal.Gen.facts Cert.Reference8Ideal.Gen.facts

/-- The block-diagonal recurrence: the kernel's two results are the reference's. -/
theorem lru : Cert.algebraic_KernelIdeal_ReferenceIdeal := fun m ρ m' ρ' _ hm =>
    have S : ∀ c, Cert.Lru.Same m c m' c := fun c =>
      ⟨(hm c).1.symm, (hm c).2.1.symm, (hm c).2.2.1.symm, (hm c).2.2.2.1.symm, (hm c).2.2.2.2.1.symm, (hm c).2.2.2.2.2.1.symm, (hm c).2.2.2.2.2.2.symm⟩
    ⟨fun c => Cert.Lru.outY m c, fun c => Cert.Lru.outH m c,
      (θ_run Cert.KernelIdeal.defs _ _).mono
        (fun r h c => ⟨(h c).1.trans (Cert.Lru.final9 m c (Cert.Lru.v14_nonpos m c)), (h c).2.1.trans (Cert.Lru.final10 m c (Cert.Lru.v14_nonpos m c)), (h c).2.2⟩)
        (Cert.KernelIdeal.Value.run_blocks m ρ),
      (θ_run Cert.ReferenceIdeal.defs _ _).mono
        (fun r h c => ⟨(h c).1.trans (Cert.Lru.outY_eq (S c)).symm, (h c).2.1.trans (Cert.Lru.outH_eq (S c)).symm, (h c).2.2⟩)
        (Cert.RefSteps.run_iter m' ρ' (Cert.LruRef.states m') (fun _ => rfl) (fun _ _ => rfl))⟩

/-- The feed-forward call: the kernel's result is the reference's. -/
theorem ffn : Cert.algebraic_Kernel2Ideal_Reference2Ideal := fun m ρ m' ρ' _ hm =>
  ⟨fun c => Cert.Kernel2Ideal.Value.G9 m c, Cert.Kernel2Ideal.Value.run m ρ,
    (θ_run Cert.Reference2Ideal.defs _ _).mono
      (fun r h c => ⟨(h c).1.trans (Cert.Ffn.R_at m c m' c (hm c).1 (hm c).2.1 (hm c).2.2.1 (hm c).2.2.2.1 (hm c).2.2.2.2.1 (hm c).2.2.2.2.2.1 (hm c).2.2.2.2.2.2.1 (hm c).2.2.2.2.2.2.2).symm, (h c).2⟩)
      (Cert.Reference2Ideal.Value.run m' ρ')⟩

/-- The row-wise input projection: the kernel's result is the reference's. -/
theorem inRow : Cert.algebraic_Kernel3Ideal_Reference3Ideal := fun m ρ m' ρ' _ hm =>
  ⟨fun c => Cert.Kernel3Ideal.Value.G5 m c, Cert.Kernel3Ideal.Value.run m ρ,
    (θ_run Cert.Reference3Ideal.defs _ _).mono
      (fun r h c => ⟨(h c).1.trans (Cert.In3.R_at m c m' c (hm c).1 (hm c).2.1 (hm c).2.2.1 (hm c).2.2.2.1 (hm c).2.2.2.2).symm, (h c).2⟩)
      (Cert.Reference3Ideal.Value.run m' ρ')⟩

/-- The other input projection: the kernel's result is the reference's. -/
theorem inCol : Cert.algebraic_Kernel4Ideal_Reference4Ideal := fun m ρ m' ρ' _ hm =>
  ⟨fun c => Cert.Kernel4Ideal.Value.G5 m c, Cert.Kernel4Ideal.Value.run m ρ,
    (θ_run Cert.Reference4Ideal.defs _ _).mono
      (fun r h c => ⟨(h c).1.trans (Cert.In4.R_at m c m' c (hm c).1 (hm c).2.1 (hm c).2.2.1 (hm c).2.2.2.1 (hm c).2.2.2.2).symm, (h c).2⟩)
      (Cert.Reference4Ideal.Value.run m' ρ')⟩

/-- The gated output of the RG-LRU streams: the kernel's result is the reference's. -/
theorem outA : Cert.algebraic_Kernel5Ideal_Reference5Ideal := fun m ρ m' ρ' _ hm =>
  ⟨fun c => Cert.Kernel5Ideal.Value.G4 m c, Cert.Kernel5Ideal.Value.run m ρ,
    (θ_run Cert.Reference5Ideal.defs _ _).mono
      (fun r h c => ⟨(h c).1.trans (Cert.Aout.R_at m c _ _ _ _ (hm c).1 (hm c).2.1 (hm c).2.2.1 (hm c).2.2.2).symm, (h c).2⟩)
      (Cert.Reference5Ideal.Value.run m' ρ')⟩

/-- The gated output of the delta-rule streams, merged with the other branch: the kernel's result is the reference's. -/
theorem outB : Cert.algebraic_Kernel6Ideal_Reference6Ideal := fun m ρ m' ρ' _ hm =>
  ⟨fun c => Cert.Kernel6Ideal.Value.G9 m c, Cert.Kernel6Ideal.Value.run m ρ,
    (θ_run Cert.Reference6Ideal.defs _ _).mono
      (fun r h c => ⟨(h c).1.trans (Cert.Bout.R_at m c _ _ _ _ _ _ (hm c).1 (hm c).2.1 (hm c).2.2.1 (hm c).2.2.2.1 (hm c).2.2.2.2.1 (hm c).2.2.2.2.2).symm, (h c).2⟩)
      (Cert.Reference6Ideal.Value.run m' ρ')⟩

/-- The output projection with its gate and residual: the kernel's result is the reference's. -/
theorem outProj : Cert.algebraic_Kernel7Ideal_Reference7Ideal := fun m ρ m' ρ' _ hm =>
  ⟨fun c => Cert.Wout.out m c,
    (θ_run Cert.Kernel7Ideal.defs _ _).mono (fun r h c => ⟨(h c).1.trans (Cert.Wout.final4 m c), (h c).2⟩) (Cert.Kernel7Ideal.Value.run_blocks m ρ),
    (θ_run Cert.Reference7Ideal.defs _ _).mono
      (fun r h c => ⟨(h c).1.trans (Cert.Wout.R_at m c _ _ _ _ (hm c).1 (hm c).2.1 (hm c).2.2.1 (hm c).2.2.2).symm, (h c).2⟩)
      (Cert.Reference7Ideal.Value.run m' ρ')⟩

/-- The recurrence from the last time to the first: the kernel's two results are the reference's. -/
theorem lruBack : Cert.algebraic_Kernel8Ideal_Reference8Ideal := fun m ρ m' ρ' _ hm =>
    have S : ∀ c, Cert.LruB.Same m c m' c := fun c =>
      ⟨(hm c).1.symm, (hm c).2.1.symm, (hm c).2.2.1.symm, (hm c).2.2.2.1.symm, (hm c).2.2.2.2.1.symm, (hm c).2.2.2.2.2.1.symm, (hm c).2.2.2.2.2.2.symm⟩
    ⟨fun c => Cert.LruB.outY m c, fun c => Cert.LruB.outH m c,
      (θ_run Cert.Kernel8Ideal.defs _ _).mono
        (fun r h c => ⟨(h c).1.trans (Cert.LruB.final9 m c (Cert.LruB.v14_nonpos m c)), (h c).2.1.trans (Cert.LruB.final10 m c (Cert.LruB.v14_nonpos m c)), (h c).2.2⟩)
        (Cert.Kernel8Ideal.Value.run_blocks m ρ),
      (θ_run Cert.Reference8Ideal.defs _ _).mono
        (fun r h c => ⟨(h c).1.trans (Cert.LruB.outY_eq (S c)).symm, (h c).2.1.trans (Cert.LruB.outH_eq (S c)).symm, (h c).2.2⟩)
        (Cert.RefStepsB.run_iter m' ρ' (Cert.LruRefB.states m') (fun _ => rfl) (fun _ _ => rfl))⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2, Idealize.ShloMosaic.sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, Idealize.ShloMosaic.sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2.2, Idealize.ShloMosaic.sem_eq_zero_of_no_sems (by decide) r.2⟩) (Cert.Reference8Ideal.Value.run m ρ),
  trivial, lru, trivial, ffn, trivial, inRow, trivial, inCol, trivial, outA, trivial, outB, trivial, outProj, trivial, lruBack⟩

end Cert.Proof

end
